-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_MoeKernel [hPre_tables_in_range : Cert.Pre_tables_in_range.Facts] (m : (ℓ : Loc Cert.MoeKernel.nD Cert.MoeKernel.τ Cert.MoeKernel.sig) → Buf (Elt Bits) ℓ) : Prop :=
  ∀ c : Dev Cert.MoeKernel.nD,
    (Cert.Pre_tables_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5)) (m ((c.tc : Thread Cert.MoeKernel.nD Cert.MoeKernel.τ).loc Cert.MoeKernel.main_arg6))) = (fun _ => 1#1)

def Pre_MoeKernelIdeal [hPre_tables_in_range : Cert.Pre_tables_in_range.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_tables_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_tables_in_range [hPre_tables_in_range : Cert.Pre_tables_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tables_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojKernelIdeal_tables_of_heads [hPre_tables_of_heads : Cert.Pre_tables_of_heads.Facts] (m : (ℓ : Loc Cert.InprojKernelIdeal.nD Cert.InprojKernelIdeal.τ Cert.InprojKernelIdeal.sig) → Buf (Elt Ideal) ℓ) : Prop :=
  ∀ c : Dev Cert.InprojKernelIdeal.nD,
    (Cert.Pre_tables_of_heads.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8)) (m ((c.tc : Thread Cert.InprojKernelIdeal.nD Cert.InprojKernelIdeal.τ).loc Cert.InprojKernelIdeal.main_arg9)) (m ((c.tc : Thread Cert.InprojKernelIdeal.nD Cert.InprojKernelIdeal.τ).loc Cert.InprojKernelIdeal.main_arg10))).1 = (fun _ => 1#1)
    ∧ (Cert.Pre_tables_of_heads.fn (F := Ideal) (m ((c.tc : Thread Cert.InprojKernelIdeal.nD Cert.InprojKernelIdeal.τ).loc Cert.InprojKernelIdeal.main_arg0)) (m ((c.tc : Thread Cert.InprojKernelIdeal.nD Cert.InprojKernelIdeal.τ).loc Cert.InprojKernelIdeal.main_arg1)) (m ((c.tc : Thread Cert.InprojKernelIdeal.nD Cert.InprojKernelIdeal.τ).loc Cert.InprojKernelIdeal.main_arg2)) (m ((c.tc : Thread Cert.InprojKernelIdeal.nD Cert.InprojKernelIdeal.τ).loc Cert.InprojKernelIdeal.main_arg3)) (m ((c.tc : Thread Cert.InprojKernelIdeal.nD Cert.InprojKernelIdeal.τ).loc Cert.InprojKernelIdeal.main_arg4)) (m ((c.tc : Thread Cert.InprojKernelIdeal.nD Cert.InprojKernelIdeal.τ).loc Cert.InprojKernelIdeal.main_arg5)) (m ((c.tc : Thread Cert.InprojKernelIdeal.nD Cert.InprojKernelIdeal.τ).loc Cert.InprojKernelIdeal.main_arg6)) (m ((c.tc : Thread Cert.InprojKernelIdeal.nD Cert.InprojKernelIdeal.τ).loc Cert.InprojKernelIdeal.main_arg7)) (m ((c.tc : Thread Cert.InprojKernelIdeal.nD Cert.InprojKernelIdeal.τ).loc Cert.InprojKernelIdeal.main_arg8)) (m ((c.tc : Thread Cert.InprojKernelIdeal.nD Cert.InprojKernelIdeal.τ).loc Cert.InprojKernelIdeal.main_arg9)) (m ((c.tc : Thread Cert.InprojKernelIdeal.nD Cert.InprojKernelIdeal.τ).loc Cert.InprojKernelIdeal.main_arg10))).2 = (fun _ => 1#1)

def Pre_InprojReferenceIdeal (m : (ℓ : Loc Cert.InprojReferenceIdeal.nD Cert.InprojReferenceIdeal.τ Cert.InprojReferenceIdeal.sig) → Buf (Elt Ideal) ℓ) : Prop :=
  True

def Pre_InprojReferenceIdeal_tables_of_heads [hPre_tables_of_heads : Cert.Pre_tables_of_heads.Facts] (m : (ℓ : Loc Cert.InprojReferenceIdeal.nD Cert.InprojReferenceIdeal.τ Cert.InprojReferenceIdeal.sig) → Buf (Elt Ideal) ℓ) : Prop :=
  ∀ c : Dev Cert.InprojReferenceIdeal.nD,
    (Cert.Pre_tables_of_heads.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8)) (m ((c.tc : Thread Cert.InprojReferenceIdeal.nD Cert.InprojReferenceIdeal.τ).loc Cert.InprojReferenceIdeal.main_arg9)) (m ((c.tc : Thread Cert.InprojReferenceIdeal.nD Cert.InprojReferenceIdeal.τ).loc Cert.InprojReferenceIdeal.main_arg10))).1 = (fun _ => 1#1)
    ∧ (Cert.Pre_tables_of_heads.fn (F := Ideal) (m ((c.tc : Thread Cert.InprojReferenceIdeal.nD Cert.InprojReferenceIdeal.τ).loc Cert.InprojReferenceIdeal.main_arg0)) (m ((c.tc : Thread Cert.InprojReferenceIdeal.nD Cert.InprojReferenceIdeal.τ).loc Cert.InprojReferenceIdeal.main_arg1)) (m ((c.tc : Thread Cert.InprojReferenceIdeal.nD Cert.InprojReferenceIdeal.τ).loc Cert.InprojReferenceIdeal.main_arg2)) (m ((c.tc : Thread Cert.InprojReferenceIdeal.nD Cert.InprojReferenceIdeal.τ).loc Cert.InprojReferenceIdeal.main_arg3)) (m ((c.tc : Thread Cert.InprojReferenceIdeal.nD Cert.InprojReferenceIdeal.τ).loc Cert.InprojReferenceIdeal.main_arg4)) (m ((c.tc : Thread Cert.InprojReferenceIdeal.nD Cert.InprojReferenceIdeal.τ).loc Cert.InprojReferenceIdeal.main_arg5)) (m ((c.tc : Thread Cert.InprojReferenceIdeal.nD Cert.InprojReferenceIdeal.τ).loc Cert.InprojReferenceIdeal.main_arg6)) (m ((c.tc : Thread Cert.InprojReferenceIdeal.nD Cert.InprojReferenceIdeal.τ).loc Cert.InprojReferenceIdeal.main_arg7)) (m ((c.tc : Thread Cert.InprojReferenceIdeal.nD Cert.InprojReferenceIdeal.τ).loc Cert.InprojReferenceIdeal.main_arg8)) (m ((c.tc : Thread Cert.InprojReferenceIdeal.nD Cert.InprojReferenceIdeal.τ).loc Cert.InprojReferenceIdeal.main_arg9)) (m ((c.tc : Thread Cert.InprojReferenceIdeal.nD Cert.InprojReferenceIdeal.τ).loc Cert.InprojReferenceIdeal.main_arg10))).2 = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_OutprojKernel (m : (ℓ : Loc Cert.OutprojKernel.nD Cert.OutprojKernel.τ Cert.OutprojKernel.sig) → Buf (Elt Bits) ℓ) : Prop :=
  True

def Pre_OutprojKernelIdeal (m : (ℓ : Loc Cert.OutprojKernelIdeal.nD Cert.OutprojKernelIdeal.τ Cert.OutprojKernelIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_MoeKernel [hMoeKernel : Cert.MoeKernel.Facts] [hPre_tables_in_range : Cert.Pre_tables_in_range.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5)
      ∧ r.2.mem ((c.tc : Thread Cert.MoeKernel.nD Cert.MoeKernel.τ).loc Cert.MoeKernel.main_arg6) = m ((c.tc : Thread Cert.MoeKernel.nD Cert.MoeKernel.τ).loc Cert.MoeKernel.main_arg6))
      ∧ r.2.sem = fun _ => 0)

def quiescent_MoeKernelIdeal [hMoeKernelIdeal : Cert.MoeKernelIdeal.Facts] [hPre_tables_in_range : Cert.Pre_tables_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
      ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_MoeReferenceIdeal_pre_tables_in_range [hMoeReferenceIdeal : Cert.MoeReferenceIdeal.Facts] [hPre_tables_in_range : Cert.Pre_tables_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_tables_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7)
      ∧ r.2.mem ((c.tc : Thread Cert.FfnKernel.nD Cert.FfnKernel.τ).loc Cert.FfnKernel.main_arg8) = m ((c.tc : Thread Cert.FfnKernel.nD Cert.FfnKernel.τ).loc Cert.FfnKernel.main_arg8))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
      ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6)
      ∧ r.2.mem ((c.tc : Thread Cert.InprojKernel.nD Cert.InprojKernel.τ).loc Cert.InprojKernel.main_arg7) = m ((c.tc : Thread Cert.InprojKernel.nD Cert.InprojKernel.τ).loc Cert.InprojKernel.main_arg7)
      ∧ r.2.mem ((c.tc : Thread Cert.InprojKernel.nD Cert.InprojKernel.τ).loc Cert.InprojKernel.main_arg8) = m ((c.tc : Thread Cert.InprojKernel.nD Cert.InprojKernel.τ).loc Cert.InprojKernel.main_arg8)
      ∧ r.2.mem ((c.tc : Thread Cert.InprojKernel.nD Cert.InprojKernel.τ).loc Cert.InprojKernel.main_arg9) = m ((c.tc : Thread Cert.InprojKernel.nD Cert.InprojKernel.τ).loc Cert.InprojKernel.main_arg9)
      ∧ r.2.mem ((c.tc : Thread Cert.InprojKernel.nD Cert.InprojKernel.τ).loc Cert.InprojKernel.main_arg10) = m ((c.tc : Thread Cert.InprojKernel.nD Cert.InprojKernel.τ).loc Cert.InprojKernel.main_arg10))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
      ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8)
      ∧ r.2.mem ((c.tc : Thread Cert.InprojKernelIdeal.nD Cert.InprojKernelIdeal.τ).loc Cert.InprojKernelIdeal.main_arg9) = m ((c.tc : Thread Cert.InprojKernelIdeal.nD Cert.InprojKernelIdeal.τ).loc Cert.InprojKernelIdeal.main_arg9)
      ∧ r.2.mem ((c.tc : Thread Cert.InprojKernelIdeal.nD Cert.InprojKernelIdeal.τ).loc Cert.InprojKernelIdeal.main_arg10) = m ((c.tc : Thread Cert.InprojKernelIdeal.nD Cert.InprojKernelIdeal.τ).loc Cert.InprojKernelIdeal.main_arg10))
      ∧ r.2.sem = fun _ => 0)

def quiescent_InprojKernelIdeal_pre_tables_of_heads [hInprojKernelIdeal : Cert.InprojKernelIdeal.Facts] [hPre_tables_of_heads : Cert.Pre_tables_of_heads.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal_tables_of_heads m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
      ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
      ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8)
      ∧ r.2.mem ((c.tc : Thread Cert.InprojKernelIdeal.nD Cert.InprojKernelIdeal.τ).loc Cert.InprojKernelIdeal.main_arg9) = m ((c.tc : Thread Cert.InprojKernelIdeal.nD Cert.InprojKernelIdeal.τ).loc Cert.InprojKernelIdeal.main_arg9)
      ∧ r.2.mem ((c.tc : Thread Cert.InprojKernelIdeal.nD Cert.InprojKernelIdeal.τ).loc Cert.InprojKernelIdeal.main_arg10) = m ((c.tc : Thread Cert.InprojKernelIdeal.nD Cert.InprojKernelIdeal.τ).loc Cert.InprojKernelIdeal.main_arg10))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10))
      ∧ r.2.sem = fun _ => 0)

def quiescent_InprojReferenceIdeal_pre_tables_of_heads [hInprojReferenceIdeal : Cert.InprojReferenceIdeal.Facts] [hPre_tables_of_heads : Cert.Pre_tables_of_heads.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal_tables_of_heads m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5)
      ∧ r.2.mem ((c.tc : Thread Cert.SguKernel.nD Cert.SguKernel.τ).loc Cert.SguKernel.main_arg6) = m ((c.tc : Thread Cert.SguKernel.nD Cert.SguKernel.τ).loc Cert.SguKernel.main_arg6)
      ∧ r.2.mem ((c.tc : Thread Cert.SguKernel.nD Cert.SguKernel.τ).loc Cert.SguKernel.main_arg7) = m ((c.tc : Thread Cert.SguKernel.nD Cert.SguKernel.τ).loc Cert.SguKernel.main_arg7)
      ∧ r.2.mem ((c.tc : Thread Cert.SguKernel.nD Cert.SguKernel.τ).loc Cert.SguKernel.main_arg8) = m ((c.tc : Thread Cert.SguKernel.nD Cert.SguKernel.τ).loc Cert.SguKernel.main_arg8)
      ∧ r.2.mem ((c.tc : Thread Cert.SguKernel.nD Cert.SguKernel.τ).loc Cert.SguKernel.main_arg9) = m ((c.tc : Thread Cert.SguKernel.nD Cert.SguKernel.τ).loc Cert.SguKernel.main_arg9)
      ∧ r.2.mem ((c.tc : Thread Cert.SguKernel.nD Cert.SguKernel.τ).loc Cert.SguKernel.main_arg10) = m ((c.tc : Thread Cert.SguKernel.nD Cert.SguKernel.τ).loc Cert.SguKernel.main_arg10)
      ∧ r.2.mem ((c.tc : Thread Cert.SguKernel.nD Cert.SguKernel.τ).loc Cert.SguKernel.main_arg11) = m ((c.tc : Thread Cert.SguKernel.nD Cert.SguKernel.τ).loc Cert.SguKernel.main_arg11)
      ∧ r.2.mem ((c.tc : Thread Cert.SguKernel.nD Cert.SguKernel.τ).loc Cert.SguKernel.main_arg12) = m ((c.tc : Thread Cert.SguKernel.nD Cert.SguKernel.τ).loc Cert.SguKernel.main_arg12))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
      ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
      ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
      ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8)
      ∧ r.2.mem ((c.tc : Thread Cert.SguKernelIdeal.nD Cert.SguKernelIdeal.τ).loc Cert.SguKernelIdeal.main_arg9) = m ((c.tc : Thread Cert.SguKernelIdeal.nD Cert.SguKernelIdeal.τ).loc Cert.SguKernelIdeal.main_arg9)
      ∧ r.2.mem ((c.tc : Thread Cert.SguKernelIdeal.nD Cert.SguKernelIdeal.τ).loc Cert.SguKernelIdeal.main_arg10) = m ((c.tc : Thread Cert.SguKernelIdeal.nD Cert.SguKernelIdeal.τ).loc Cert.SguKernelIdeal.main_arg10)
      ∧ r.2.mem ((c.tc : Thread Cert.SguKernelIdeal.nD Cert.SguKernelIdeal.τ).loc Cert.SguKernelIdeal.main_arg11) = m ((c.tc : Thread Cert.SguKernelIdeal.nD Cert.SguKernelIdeal.τ).loc Cert.SguKernelIdeal.main_arg11)
      ∧ r.2.mem ((c.tc : Thread Cert.SguKernelIdeal.nD Cert.SguKernelIdeal.τ).loc Cert.SguKernelIdeal.main_arg12) = m ((c.tc : Thread Cert.SguKernelIdeal.nD Cert.SguKernelIdeal.τ).loc Cert.SguKernelIdeal.main_arg12))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5)
      ∧ r.2.mem ((c.tc : Thread Cert.SguReferenceIdeal.nD Cert.SguReferenceIdeal.τ).loc Cert.SguReferenceIdeal.main_arg6) = m ((c.tc : Thread Cert.SguReferenceIdeal.nD Cert.SguReferenceIdeal.τ).loc Cert.SguReferenceIdeal.main_arg6)
      ∧ r.2.mem ((c.tc : Thread Cert.SguReferenceIdeal.nD Cert.SguReferenceIdeal.τ).loc Cert.SguReferenceIdeal.main_arg7) = m ((c.tc : Thread Cert.SguReferenceIdeal.nD Cert.SguReferenceIdeal.τ).loc Cert.SguReferenceIdeal.main_arg7)
      ∧ r.2.mem ((c.tc : Thread Cert.SguReferenceIdeal.nD Cert.SguReferenceIdeal.τ).loc Cert.SguReferenceIdeal.main_arg8) = m ((c.tc : Thread Cert.SguReferenceIdeal.nD Cert.SguReferenceIdeal.τ).loc Cert.SguReferenceIdeal.main_arg8)
      ∧ r.2.mem ((c.tc : Thread Cert.SguReferenceIdeal.nD Cert.SguReferenceIdeal.τ).loc Cert.SguReferenceIdeal.main_arg9) = m ((c.tc : Thread Cert.SguReferenceIdeal.nD Cert.SguReferenceIdeal.τ).loc Cert.SguReferenceIdeal.main_arg9)
      ∧ r.2.mem ((c.tc : Thread Cert.SguReferenceIdeal.nD Cert.SguReferenceIdeal.τ).loc Cert.SguReferenceIdeal.main_arg10) = m ((c.tc : Thread Cert.SguReferenceIdeal.nD Cert.SguReferenceIdeal.τ).loc Cert.SguReferenceIdeal.main_arg10)
      ∧ r.2.mem ((c.tc : Thread Cert.SguReferenceIdeal.nD Cert.SguReferenceIdeal.τ).loc Cert.SguReferenceIdeal.main_arg11) = m ((c.tc : Thread Cert.SguReferenceIdeal.nD Cert.SguReferenceIdeal.τ).loc Cert.SguReferenceIdeal.main_arg11)
      ∧ r.2.mem ((c.tc : Thread Cert.SguReferenceIdeal.nD Cert.SguReferenceIdeal.τ).loc Cert.SguReferenceIdeal.main_arg12) = m ((c.tc : Thread Cert.SguReferenceIdeal.nD Cert.SguReferenceIdeal.τ).loc Cert.SguReferenceIdeal.main_arg12))
      ∧ r.2.sem = fun _ => 0)

def quiescent_OutprojKernel [hOutprojKernel : Cert.OutprojKernel.Facts] : Prop :=
  ∀ (m : (ℓ : Loc Cert.OutprojKernel.nD Cert.OutprojKernel.τ Cert.OutprojKernel.sig) → Buf (Elt Bits) ℓ) (g : Dev Cert.OutprojKernel.nD → PrngReg), Pre_OutprojKernel m →
    θ_run (Cert.OutprojKernel.defs (F := Bits)) (onTc (τ := Cert.OutprojKernel.τ) (Cert.OutprojKernel.main (F := Bits))) ⟨m, fun _ => 0, g⟩ (fun r => (∀ c : Dev Cert.OutprojKernel.nD,
      r.2.mem ((c.tc : Thread Cert.OutprojKernel.nD Cert.OutprojKernel.τ).loc Cert.OutprojKernel.main_arg0) = m ((c.tc : Thread Cert.OutprojKernel.nD Cert.OutprojKernel.τ).loc Cert.OutprojKernel.main_arg0)
      ∧ r.2.mem ((c.tc : Thread Cert.OutprojKernel.nD Cert.OutprojKernel.τ).loc Cert.OutprojKernel.main_arg1) = m ((c.tc : Thread Cert.OutprojKernel.nD Cert.OutprojKernel.τ).loc Cert.OutprojKernel.main_arg1)
      ∧ r.2.mem ((c.tc : Thread Cert.OutprojKernel.nD Cert.OutprojKernel.τ).loc Cert.OutprojKernel.main_arg2) = m ((c.tc : Thread Cert.OutprojKernel.nD Cert.OutprojKernel.τ).loc Cert.OutprojKernel.main_arg2)
      ∧ r.2.mem ((c.tc : Thread Cert.OutprojKernel.nD Cert.OutprojKernel.τ).loc Cert.OutprojKernel.main_arg3) = m ((c.tc : Thread Cert.OutprojKernel.nD Cert.OutprojKernel.τ).loc Cert.OutprojKernel.main_arg3)
      ∧ r.2.mem ((c.tc : Thread Cert.OutprojKernel.nD Cert.OutprojKernel.τ).loc Cert.OutprojKernel.main_arg4) = m ((c.tc : Thread Cert.OutprojKernel.nD Cert.OutprojKernel.τ).loc Cert.OutprojKernel.main_arg4)
      ∧ r.2.mem ((c.tc : Thread Cert.OutprojKernel.nD Cert.OutprojKernel.τ).loc Cert.OutprojKernel.main_arg5) = m ((c.tc : Thread Cert.OutprojKernel.nD Cert.OutprojKernel.τ).loc Cert.OutprojKernel.main_arg5)
      ∧ r.2.mem ((c.tc : Thread Cert.OutprojKernel.nD Cert.OutprojKernel.τ).loc Cert.OutprojKernel.main_arg6) = m ((c.tc : Thread Cert.OutprojKernel.nD Cert.OutprojKernel.τ).loc Cert.OutprojKernel.main_arg6)
      ∧ r.2.mem ((c.tc : Thread Cert.OutprojKernel.nD Cert.OutprojKernel.τ).loc Cert.OutprojKernel.main_arg7) = m ((c.tc : Thread Cert.OutprojKernel.nD Cert.OutprojKernel.τ).loc Cert.OutprojKernel.main_arg7)
      ∧ r.2.mem ((c.tc : Thread Cert.OutprojKernel.nD Cert.OutprojKernel.τ).loc Cert.OutprojKernel.main_arg8) = m ((c.tc : Thread Cert.OutprojKernel.nD Cert.OutprojKernel.τ).loc Cert.OutprojKernel.main_arg8)
      ∧ r.2.mem ((c.tc : Thread Cert.OutprojKernel.nD Cert.OutprojKernel.τ).loc Cert.OutprojKernel.main_arg9) = m ((c.tc : Thread Cert.OutprojKernel.nD Cert.OutprojKernel.τ).loc Cert.OutprojKernel.main_arg9))
      ∧ r.2.sem = fun _ => 0)

def quiescent_OutprojKernelIdeal [hOutprojKernelIdeal : Cert.OutprojKernelIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg), Pre_OutprojKernelIdeal m →
    θ_run (Cert.OutprojKernelIdeal.defs (F := Ideal)) (onTc (τ := Cert.OutprojKernelIdeal.τ) (Cert.OutprojKernelIdeal.main (F := Ideal))) ⟨m, fun _ => 0, g⟩ (fun r => (∀ c : Dev Cert.OutprojKernelIdeal.nD,
      r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
      ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
      ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
      ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
      ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
      ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
      ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
      ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7)
      ∧ r.2.mem ((c.tc : Thread Cert.OutprojKernelIdeal.nD Cert.OutprojKernelIdeal.τ).loc Cert.OutprojKernelIdeal.main_arg8) = m ((c.tc : Thread Cert.OutprojKernelIdeal.nD Cert.OutprojKernelIdeal.τ).loc Cert.OutprojKernelIdeal.main_arg8)
      ∧ r.2.mem ((c.tc : Thread Cert.OutprojKernelIdeal.nD Cert.OutprojKernelIdeal.τ).loc Cert.OutprojKernelIdeal.main_arg9) = m ((c.tc : Thread Cert.OutprojKernelIdeal.nD Cert.OutprojKernelIdeal.τ).loc Cert.OutprojKernelIdeal.main_arg9))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6)
      ∧ r.2.mem ((c.tc : Thread Cert.OutprojReferenceIdeal.nD Cert.OutprojReferenceIdeal.τ).loc Cert.OutprojReferenceIdeal.main_arg7) = m ((c.tc : Thread Cert.OutprojReferenceIdeal.nD Cert.OutprojReferenceIdeal.τ).loc Cert.OutprojReferenceIdeal.main_arg7)
      ∧ r.2.mem ((c.tc : Thread Cert.OutprojReferenceIdeal.nD Cert.OutprojReferenceIdeal.τ).loc Cert.OutprojReferenceIdeal.main_arg8) = m ((c.tc : Thread Cert.OutprojReferenceIdeal.nD Cert.OutprojReferenceIdeal.τ).loc Cert.OutprojReferenceIdeal.main_arg8)
      ∧ r.2.mem ((c.tc : Thread Cert.OutprojReferenceIdeal.nD Cert.OutprojReferenceIdeal.τ).loc Cert.OutprojReferenceIdeal.main_arg9) = m ((c.tc : Thread Cert.OutprojReferenceIdeal.nD Cert.OutprojReferenceIdeal.τ).loc Cert.OutprojReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_MoeKernel_MoeKernelIdeal : Prop :=
  True

def algebraic_MoeKernelIdeal_MoeReferenceIdeal_on_rows_in_use [hMoeKernelIdeal : Cert.MoeKernelIdeal.Facts] [hMoeReferenceIdeal : Cert.MoeReferenceIdeal.Facts] [hPre_tables_in_range : Cert.Pre_tables_in_range.Facts] [hOn_rows_in_use : Cert.On_rows_in_use.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)
      ∧ m' ((c.tc : Thread Cert.MoeReferenceIdeal.nD Cert.MoeReferenceIdeal.τ).loc Cert.MoeReferenceIdeal.main_arg6) = m ((c.tc : Thread Cert.MoeKernelIdeal.nD Cert.MoeKernelIdeal.τ).loc Cert.MoeKernelIdeal.main_arg6)) →
    ∃ (v0 : (c : Dev Cert.MoeKernelIdeal.nD) → Buf (Elt Ideal) ((c.tc : Thread Cert.MoeKernelIdeal.nD Cert.MoeKernelIdeal.τ).loc Cert.MoeKernelIdeal.main_v0)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          (∀ i : (⟨2, ![40960, 1024]⟩ : Shape).Idx, (Cert.On_rows_in_use.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6))) i = 1#1 → r.2.mem ((c.tc : Thread Cert.MoeKernelIdeal.nD Cert.MoeKernelIdeal.τ).loc Cert.MoeKernelIdeal.main_v0) i = v0 c i)
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
          ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          (∀ i : (⟨2, ![40960, 1024]⟩ : Shape).Idx, (Cert.On_rows_in_use.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6))) i = 1#1 → r.2.mem ((c.tc : Thread Cert.MoeReferenceIdeal.nD Cert.MoeReferenceIdeal.τ).loc Cert.MoeReferenceIdeal.main_v15) i = v0 c i)
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)
      ∧ m' ((c.tc : Thread Cert.FfnReferenceIdeal.nD Cert.FfnReferenceIdeal.τ).loc Cert.FfnReferenceIdeal.main_arg8) = m ((c.tc : Thread Cert.FfnKernelIdeal.nD Cert.FfnKernelIdeal.τ).loc Cert.FfnKernelIdeal.main_arg8)) →
    ∃ (v0 : (c : Dev Cert.FfnKernelIdeal.nD) → Buf (Elt Ideal) ((c.tc : Thread Cert.FfnKernelIdeal.nD Cert.FfnKernelIdeal.τ).loc Cert.FfnKernelIdeal.main_v0_0)) (v1 : (c : Dev Cert.FfnKernelIdeal.nD) → Buf (Elt Ideal) ((c.tc : Thread Cert.FfnKernelIdeal.nD Cert.FfnKernelIdeal.τ).loc Cert.FfnKernelIdeal.main_v0_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0_0) = v0 c
          ∧ r.2.mem ((c.tc : Thread Cert.FfnKernelIdeal.nD Cert.FfnKernelIdeal.τ).loc Cert.FfnKernelIdeal.main_v0_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7)
          ∧ r.2.mem ((c.tc : Thread Cert.FfnKernelIdeal.nD Cert.FfnKernelIdeal.τ).loc Cert.FfnKernelIdeal.main_arg8) = m ((c.tc : Thread Cert.FfnKernelIdeal.nD Cert.FfnKernelIdeal.τ).loc Cert.FfnKernelIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v34) = v0 c
          ∧ r.2.mem ((c.tc : Thread Cert.FfnReferenceIdeal.nD Cert.FfnReferenceIdeal.τ).loc Cert.FfnReferenceIdeal.main_v36) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_InprojKernel_InprojKernelIdeal : Prop :=
  True

def algebraic_InprojKernelIdeal_InprojReferenceIdeal_pre_tables_of_heads [hInprojKernelIdeal : Cert.InprojKernelIdeal.Facts] [hInprojReferenceIdeal : Cert.InprojReferenceIdeal.Facts] [hPre_tables_of_heads : Cert.Pre_tables_of_heads.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal_tables_of_heads m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)
      ∧ m' ((c.tc : Thread Cert.InprojReferenceIdeal.nD Cert.InprojReferenceIdeal.τ).loc Cert.InprojReferenceIdeal.main_arg7) = m ((c.tc : Thread Cert.InprojKernelIdeal.nD Cert.InprojKernelIdeal.τ).loc Cert.InprojKernelIdeal.main_arg7)
      ∧ m' ((c.tc : Thread Cert.InprojReferenceIdeal.nD Cert.InprojReferenceIdeal.τ).loc Cert.InprojReferenceIdeal.main_arg8) = m ((c.tc : Thread Cert.InprojKernelIdeal.nD Cert.InprojKernelIdeal.τ).loc Cert.InprojKernelIdeal.main_arg8)
      ∧ m' ((c.tc : Thread Cert.InprojReferenceIdeal.nD Cert.InprojReferenceIdeal.τ).loc Cert.InprojReferenceIdeal.main_arg9) = m ((c.tc : Thread Cert.InprojKernelIdeal.nD Cert.InprojKernelIdeal.τ).loc Cert.InprojKernelIdeal.main_arg9)
      ∧ m' ((c.tc : Thread Cert.InprojReferenceIdeal.nD Cert.InprojReferenceIdeal.τ).loc Cert.InprojReferenceIdeal.main_arg10) = m ((c.tc : Thread Cert.InprojKernelIdeal.nD Cert.InprojKernelIdeal.τ).loc Cert.InprojKernelIdeal.main_arg10)) →
    ∃ (v0 : (c : Dev Cert.InprojKernelIdeal.nD) → Buf (Elt Ideal) ((c.tc : Thread Cert.InprojKernelIdeal.nD Cert.InprojKernelIdeal.τ).loc Cert.InprojKernelIdeal.main_v0_0)) (v1 : (c : Dev Cert.InprojKernelIdeal.nD) → Buf (Elt Ideal) ((c.tc : Thread Cert.InprojKernelIdeal.nD Cert.InprojKernelIdeal.τ).loc Cert.InprojKernelIdeal.main_v0_1)) (v2 : (c : Dev Cert.InprojKernelIdeal.nD) → Buf (Elt Ideal) ((c.tc : Thread Cert.InprojKernelIdeal.nD Cert.InprojKernelIdeal.τ).loc Cert.InprojKernelIdeal.main_v0_2)) (v3 : (c : Dev Cert.InprojKernelIdeal.nD) → Buf (Elt Ideal) ((c.tc : Thread Cert.InprojKernelIdeal.nD Cert.InprojKernelIdeal.τ).loc Cert.InprojKernelIdeal.main_v0_3)) (v4 : (c : Dev Cert.InprojKernelIdeal.nD) → Buf (Elt Ideal) ((c.tc : Thread Cert.InprojKernelIdeal.nD Cert.InprojKernelIdeal.τ).loc Cert.InprojKernelIdeal.main_v0_4)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v0_0) = v0 c
          ∧ r.2.mem ((c.tc : Thread Cert.InprojKernelIdeal.nD Cert.InprojKernelIdeal.τ).loc Cert.InprojKernelIdeal.main_v0_1) = v1 c
          ∧ r.2.mem ((c.tc : Thread Cert.InprojKernelIdeal.nD Cert.InprojKernelIdeal.τ).loc Cert.InprojKernelIdeal.main_v0_2) = v2 c
          ∧ r.2.mem ((c.tc : Thread Cert.InprojKernelIdeal.nD Cert.InprojKernelIdeal.τ).loc Cert.InprojKernelIdeal.main_v0_3) = v3 c
          ∧ r.2.mem ((c.tc : Thread Cert.InprojKernelIdeal.nD Cert.InprojKernelIdeal.τ).loc Cert.InprojKernelIdeal.main_v0_4) = v4 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6)
          ∧ r.2.mem ((c.tc : Thread Cert.InprojKernelIdeal.nD Cert.InprojKernelIdeal.τ).loc Cert.InprojKernelIdeal.main_arg7) = m ((c.tc : Thread Cert.InprojKernelIdeal.nD Cert.InprojKernelIdeal.τ).loc Cert.InprojKernelIdeal.main_arg7)
          ∧ r.2.mem ((c.tc : Thread Cert.InprojKernelIdeal.nD Cert.InprojKernelIdeal.τ).loc Cert.InprojKernelIdeal.main_arg8) = m ((c.tc : Thread Cert.InprojKernelIdeal.nD Cert.InprojKernelIdeal.τ).loc Cert.InprojKernelIdeal.main_arg8)
          ∧ r.2.mem ((c.tc : Thread Cert.InprojKernelIdeal.nD Cert.InprojKernelIdeal.τ).loc Cert.InprojKernelIdeal.main_arg9) = m ((c.tc : Thread Cert.InprojKernelIdeal.nD Cert.InprojKernelIdeal.τ).loc Cert.InprojKernelIdeal.main_arg9)
          ∧ r.2.mem ((c.tc : Thread Cert.InprojKernelIdeal.nD Cert.InprojKernelIdeal.τ).loc Cert.InprojKernelIdeal.main_arg10) = m ((c.tc : Thread Cert.InprojKernelIdeal.nD Cert.InprojKernelIdeal.τ).loc Cert.InprojKernelIdeal.main_arg10))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v106) = v0 c
          ∧ r.2.mem ((c.tc : Thread Cert.InprojReferenceIdeal.nD Cert.InprojReferenceIdeal.τ).loc Cert.InprojReferenceIdeal.main_v107) = v1 c
          ∧ r.2.mem ((c.tc : Thread Cert.InprojReferenceIdeal.nD Cert.InprojReferenceIdeal.τ).loc Cert.InprojReferenceIdeal.main_v108) = v2 c
          ∧ r.2.mem ((c.tc : Thread Cert.InprojReferenceIdeal.nD Cert.InprojReferenceIdeal.τ).loc Cert.InprojReferenceIdeal.main_v109) = v3 c
          ∧ r.2.mem ((c.tc : Thread Cert.InprojReferenceIdeal.nD Cert.InprojReferenceIdeal.τ).loc Cert.InprojReferenceIdeal.main_v110) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)
      ∧ m' ((c.tc : Thread Cert.SguReferenceIdeal.nD Cert.SguReferenceIdeal.τ).loc Cert.SguReferenceIdeal.main_arg6) = m ((c.tc : Thread Cert.SguKernelIdeal.nD Cert.SguKernelIdeal.τ).loc Cert.SguKernelIdeal.main_arg6)
      ∧ m' ((c.tc : Thread Cert.SguReferenceIdeal.nD Cert.SguReferenceIdeal.τ).loc Cert.SguReferenceIdeal.main_arg7) = m ((c.tc : Thread Cert.SguKernelIdeal.nD Cert.SguKernelIdeal.τ).loc Cert.SguKernelIdeal.main_arg7)
      ∧ m' ((c.tc : Thread Cert.SguReferenceIdeal.nD Cert.SguReferenceIdeal.τ).loc Cert.SguReferenceIdeal.main_arg8) = m ((c.tc : Thread Cert.SguKernelIdeal.nD Cert.SguKernelIdeal.τ).loc Cert.SguKernelIdeal.main_arg8)
      ∧ m' ((c.tc : Thread Cert.SguReferenceIdeal.nD Cert.SguReferenceIdeal.τ).loc Cert.SguReferenceIdeal.main_arg9) = m ((c.tc : Thread Cert.SguKernelIdeal.nD Cert.SguKernelIdeal.τ).loc Cert.SguKernelIdeal.main_arg9)
      ∧ m' ((c.tc : Thread Cert.SguReferenceIdeal.nD Cert.SguReferenceIdeal.τ).loc Cert.SguReferenceIdeal.main_arg10) = m ((c.tc : Thread Cert.SguKernelIdeal.nD Cert.SguKernelIdeal.τ).loc Cert.SguKernelIdeal.main_arg10)
      ∧ m' ((c.tc : Thread Cert.SguReferenceIdeal.nD Cert.SguReferenceIdeal.τ).loc Cert.SguReferenceIdeal.main_arg11) = m ((c.tc : Thread Cert.SguKernelIdeal.nD Cert.SguKernelIdeal.τ).loc Cert.SguKernelIdeal.main_arg11)
      ∧ m' ((c.tc : Thread Cert.SguReferenceIdeal.nD Cert.SguReferenceIdeal.τ).loc Cert.SguReferenceIdeal.main_arg12) = m ((c.tc : Thread Cert.SguKernelIdeal.nD Cert.SguKernelIdeal.τ).loc Cert.SguKernelIdeal.main_arg12)) →
    ∃ (v0 : (c : Dev Cert.SguKernelIdeal.nD) → Buf (Elt Ideal) ((c.tc : Thread Cert.SguKernelIdeal.nD Cert.SguKernelIdeal.τ).loc Cert.SguKernelIdeal.main_v0_0)) (v1 : (c : Dev Cert.SguKernelIdeal.nD) → Buf (Elt Ideal) ((c.tc : Thread Cert.SguKernelIdeal.nD Cert.SguKernelIdeal.τ).loc Cert.SguKernelIdeal.main_v0_1)) (v2 : (c : Dev Cert.SguKernelIdeal.nD) → Buf (Elt Ideal) ((c.tc : Thread Cert.SguKernelIdeal.nD Cert.SguKernelIdeal.τ).loc Cert.SguKernelIdeal.main_v0_2)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v0_0) = v0 c
          ∧ r.2.mem ((c.tc : Thread Cert.SguKernelIdeal.nD Cert.SguKernelIdeal.τ).loc Cert.SguKernelIdeal.main_v0_1) = v1 c
          ∧ r.2.mem ((c.tc : Thread Cert.SguKernelIdeal.nD Cert.SguKernelIdeal.τ).loc Cert.SguKernelIdeal.main_v0_2) = v2 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5)
          ∧ r.2.mem ((c.tc : Thread Cert.SguKernelIdeal.nD Cert.SguKernelIdeal.τ).loc Cert.SguKernelIdeal.main_arg6) = m ((c.tc : Thread Cert.SguKernelIdeal.nD Cert.SguKernelIdeal.τ).loc Cert.SguKernelIdeal.main_arg6)
          ∧ r.2.mem ((c.tc : Thread Cert.SguKernelIdeal.nD Cert.SguKernelIdeal.τ).loc Cert.SguKernelIdeal.main_arg7) = m ((c.tc : Thread Cert.SguKernelIdeal.nD Cert.SguKernelIdeal.τ).loc Cert.SguKernelIdeal.main_arg7)
          ∧ r.2.mem ((c.tc : Thread Cert.SguKernelIdeal.nD Cert.SguKernelIdeal.τ).loc Cert.SguKernelIdeal.main_arg8) = m ((c.tc : Thread Cert.SguKernelIdeal.nD Cert.SguKernelIdeal.τ).loc Cert.SguKernelIdeal.main_arg8)
          ∧ r.2.mem ((c.tc : Thread Cert.SguKernelIdeal.nD Cert.SguKernelIdeal.τ).loc Cert.SguKernelIdeal.main_arg9) = m ((c.tc : Thread Cert.SguKernelIdeal.nD Cert.SguKernelIdeal.τ).loc Cert.SguKernelIdeal.main_arg9)
          ∧ r.2.mem ((c.tc : Thread Cert.SguKernelIdeal.nD Cert.SguKernelIdeal.τ).loc Cert.SguKernelIdeal.main_arg10) = m ((c.tc : Thread Cert.SguKernelIdeal.nD Cert.SguKernelIdeal.τ).loc Cert.SguKernelIdeal.main_arg10)
          ∧ r.2.mem ((c.tc : Thread Cert.SguKernelIdeal.nD Cert.SguKernelIdeal.τ).loc Cert.SguKernelIdeal.main_arg11) = m ((c.tc : Thread Cert.SguKernelIdeal.nD Cert.SguKernelIdeal.τ).loc Cert.SguKernelIdeal.main_arg11)
          ∧ r.2.mem ((c.tc : Thread Cert.SguKernelIdeal.nD Cert.SguKernelIdeal.τ).loc Cert.SguKernelIdeal.main_arg12) = m ((c.tc : Thread Cert.SguKernelIdeal.nD Cert.SguKernelIdeal.τ).loc Cert.SguKernelIdeal.main_arg12))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v116) = v0 c
          ∧ r.2.mem ((c.tc : Thread Cert.SguReferenceIdeal.nD Cert.SguReferenceIdeal.τ).loc Cert.SguReferenceIdeal.main_v81) = v1 c
          ∧ r.2.mem ((c.tc : Thread Cert.SguReferenceIdeal.nD Cert.SguReferenceIdeal.τ).loc Cert.SguReferenceIdeal.main_v115) = v2 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5)
          ∧ r.2.mem ((c.tc : Thread Cert.SguReferenceIdeal.nD Cert.SguReferenceIdeal.τ).loc Cert.SguReferenceIdeal.main_arg6) = m' ((c.tc : Thread Cert.SguReferenceIdeal.nD Cert.SguReferenceIdeal.τ).loc Cert.SguReferenceIdeal.main_arg6)
          ∧ r.2.mem ((c.tc : Thread Cert.SguReferenceIdeal.nD Cert.SguReferenceIdeal.τ).loc Cert.SguReferenceIdeal.main_arg7) = m' ((c.tc : Thread Cert.SguReferenceIdeal.nD Cert.SguReferenceIdeal.τ).loc Cert.SguReferenceIdeal.main_arg7)
          ∧ r.2.mem ((c.tc : Thread Cert.SguReferenceIdeal.nD Cert.SguReferenceIdeal.τ).loc Cert.SguReferenceIdeal.main_arg8) = m' ((c.tc : Thread Cert.SguReferenceIdeal.nD Cert.SguReferenceIdeal.τ).loc Cert.SguReferenceIdeal.main_arg8)
          ∧ r.2.mem ((c.tc : Thread Cert.SguReferenceIdeal.nD Cert.SguReferenceIdeal.τ).loc Cert.SguReferenceIdeal.main_arg9) = m' ((c.tc : Thread Cert.SguReferenceIdeal.nD Cert.SguReferenceIdeal.τ).loc Cert.SguReferenceIdeal.main_arg9)
          ∧ r.2.mem ((c.tc : Thread Cert.SguReferenceIdeal.nD Cert.SguReferenceIdeal.τ).loc Cert.SguReferenceIdeal.main_arg10) = m' ((c.tc : Thread Cert.SguReferenceIdeal.nD Cert.SguReferenceIdeal.τ).loc Cert.SguReferenceIdeal.main_arg10)
          ∧ r.2.mem ((c.tc : Thread Cert.SguReferenceIdeal.nD Cert.SguReferenceIdeal.τ).loc Cert.SguReferenceIdeal.main_arg11) = m' ((c.tc : Thread Cert.SguReferenceIdeal.nD Cert.SguReferenceIdeal.τ).loc Cert.SguReferenceIdeal.main_arg11)
          ∧ r.2.mem ((c.tc : Thread Cert.SguReferenceIdeal.nD Cert.SguReferenceIdeal.τ).loc Cert.SguReferenceIdeal.main_arg12) = m' ((c.tc : Thread Cert.SguReferenceIdeal.nD Cert.SguReferenceIdeal.τ).loc Cert.SguReferenceIdeal.main_arg12))

def preserves_OutprojKernel_OutprojKernelIdeal : Prop :=
  True

def algebraic_OutprojKernelIdeal_OutprojReferenceIdeal [hOutprojKernelIdeal : Cert.OutprojKernelIdeal.Facts] [hOutprojReferenceIdeal : Cert.OutprojReferenceIdeal.Facts] : Prop :=
  ∀ (m : (ℓ : Loc Cert.OutprojKernelIdeal.nD Cert.OutprojKernelIdeal.τ Cert.OutprojKernelIdeal.sig) → Buf (Elt Ideal) ℓ) (g : Dev Cert.OutprojKernelIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojKernelIdeal m →
    (∀ c : Dev Cert.OutprojKernelIdeal.nD,
      m' ((c.tc : Thread Cert.OutprojReferenceIdeal.nD Cert.OutprojReferenceIdeal.τ).loc Cert.OutprojReferenceIdeal.main_arg0) = m ((c.tc : Thread Cert.OutprojKernelIdeal.nD Cert.OutprojKernelIdeal.τ).loc Cert.OutprojKernelIdeal.main_arg0)
      ∧ m' ((c.tc : Thread Cert.OutprojReferenceIdeal.nD Cert.OutprojReferenceIdeal.τ).loc Cert.OutprojReferenceIdeal.main_arg1) = m ((c.tc : Thread Cert.OutprojKernelIdeal.nD Cert.OutprojKernelIdeal.τ).loc Cert.OutprojKernelIdeal.main_arg1)
      ∧ m' ((c.tc : Thread Cert.OutprojReferenceIdeal.nD Cert.OutprojReferenceIdeal.τ).loc Cert.OutprojReferenceIdeal.main_arg2) = m ((c.tc : Thread Cert.OutprojKernelIdeal.nD Cert.OutprojKernelIdeal.τ).loc Cert.OutprojKernelIdeal.main_arg2)
      ∧ m' ((c.tc : Thread Cert.OutprojReferenceIdeal.nD Cert.OutprojReferenceIdeal.τ).loc Cert.OutprojReferenceIdeal.main_arg3) = m ((c.tc : Thread Cert.OutprojKernelIdeal.nD Cert.OutprojKernelIdeal.τ).loc Cert.OutprojKernelIdeal.main_arg3)
      ∧ m' ((c.tc : Thread Cert.OutprojReferenceIdeal.nD Cert.OutprojReferenceIdeal.τ).loc Cert.OutprojReferenceIdeal.main_arg4) = m ((c.tc : Thread Cert.OutprojKernelIdeal.nD Cert.OutprojKernelIdeal.τ).loc Cert.OutprojKernelIdeal.main_arg4)
      ∧ m' ((c.tc : Thread Cert.OutprojReferenceIdeal.nD Cert.OutprojReferenceIdeal.τ).loc Cert.OutprojReferenceIdeal.main_arg5) = m ((c.tc : Thread Cert.OutprojKernelIdeal.nD Cert.OutprojKernelIdeal.τ).loc Cert.OutprojKernelIdeal.main_arg5)
      ∧ m' ((c.tc : Thread Cert.OutprojReferenceIdeal.nD Cert.OutprojReferenceIdeal.τ).loc Cert.OutprojReferenceIdeal.main_arg6) = m ((c.tc : Thread Cert.OutprojKernelIdeal.nD Cert.OutprojKernelIdeal.τ).loc Cert.OutprojKernelIdeal.main_arg6)
      ∧ m' ((c.tc : Thread Cert.OutprojReferenceIdeal.nD Cert.OutprojReferenceIdeal.τ).loc Cert.OutprojReferenceIdeal.main_arg7) = m ((c.tc : Thread Cert.OutprojKernelIdeal.nD Cert.OutprojKernelIdeal.τ).loc Cert.OutprojKernelIdeal.main_arg7)
      ∧ m' ((c.tc : Thread Cert.OutprojReferenceIdeal.nD Cert.OutprojReferenceIdeal.τ).loc Cert.OutprojReferenceIdeal.main_arg8) = m ((c.tc : Thread Cert.OutprojKernelIdeal.nD Cert.OutprojKernelIdeal.τ).loc Cert.OutprojKernelIdeal.main_arg8)
      ∧ m' ((c.tc : Thread Cert.OutprojReferenceIdeal.nD Cert.OutprojReferenceIdeal.τ).loc Cert.OutprojReferenceIdeal.main_arg9) = m ((c.tc : Thread Cert.OutprojKernelIdeal.nD Cert.OutprojKernelIdeal.τ).loc Cert.OutprojKernelIdeal.main_arg9)) →
    ∃ (v0 : (c : Dev Cert.OutprojKernelIdeal.nD) → Buf (Elt Ideal) ((c.tc : Thread Cert.OutprojKernelIdeal.nD Cert.OutprojKernelIdeal.τ).loc Cert.OutprojKernelIdeal.main_v0_0)) (v1 : (c : Dev Cert.OutprojKernelIdeal.nD) → Buf (Elt Ideal) ((c.tc : Thread Cert.OutprojKernelIdeal.nD Cert.OutprojKernelIdeal.τ).loc Cert.OutprojKernelIdeal.main_v0_1)),
      θ_run (Cert.OutprojKernelIdeal.defs (F := Ideal)) (onTc (τ := Cert.OutprojKernelIdeal.τ) (Cert.OutprojKernelIdeal.main (F := Ideal))) ⟨m, fun _ => 0, g⟩ (fun r => ∀ c : Dev Cert.OutprojKernelIdeal.nD,
          r.2.mem ((c.tc : Thread Cert.OutprojKernelIdeal.nD Cert.OutprojKernelIdeal.τ).loc Cert.OutprojKernelIdeal.main_v0_0) = v0 c
          ∧ r.2.mem ((c.tc : Thread Cert.OutprojKernelIdeal.nD Cert.OutprojKernelIdeal.τ).loc Cert.OutprojKernelIdeal.main_v0_1) = v1 c
          ∧ r.2.mem ((c.tc : Thread Cert.OutprojKernelIdeal.nD Cert.OutprojKernelIdeal.τ).loc Cert.OutprojKernelIdeal.main_arg0) = m ((c.tc : Thread Cert.OutprojKernelIdeal.nD Cert.OutprojKernelIdeal.τ).loc Cert.OutprojKernelIdeal.main_arg0)
          ∧ r.2.mem ((c.tc : Thread Cert.OutprojKernelIdeal.nD Cert.OutprojKernelIdeal.τ).loc Cert.OutprojKernelIdeal.main_arg1) = m ((c.tc : Thread Cert.OutprojKernelIdeal.nD Cert.OutprojKernelIdeal.τ).loc Cert.OutprojKernelIdeal.main_arg1)
          ∧ r.2.mem ((c.tc : Thread Cert.OutprojKernelIdeal.nD Cert.OutprojKernelIdeal.τ).loc Cert.OutprojKernelIdeal.main_arg2) = m ((c.tc : Thread Cert.OutprojKernelIdeal.nD Cert.OutprojKernelIdeal.τ).loc Cert.OutprojKernelIdeal.main_arg2)
          ∧ r.2.mem ((c.tc : Thread Cert.OutprojKernelIdeal.nD Cert.OutprojKernelIdeal.τ).loc Cert.OutprojKernelIdeal.main_arg3) = m ((c.tc : Thread Cert.OutprojKernelIdeal.nD Cert.OutprojKernelIdeal.τ).loc Cert.OutprojKernelIdeal.main_arg3)
          ∧ r.2.mem ((c.tc : Thread Cert.OutprojKernelIdeal.nD Cert.OutprojKernelIdeal.τ).loc Cert.OutprojKernelIdeal.main_arg4) = m ((c.tc : Thread Cert.OutprojKernelIdeal.nD Cert.OutprojKernelIdeal.τ).loc Cert.OutprojKernelIdeal.main_arg4)
          ∧ r.2.mem ((c.tc : Thread Cert.OutprojKernelIdeal.nD Cert.OutprojKernelIdeal.τ).loc Cert.OutprojKernelIdeal.main_arg5) = m ((c.tc : Thread Cert.OutprojKernelIdeal.nD Cert.OutprojKernelIdeal.τ).loc Cert.OutprojKernelIdeal.main_arg5)
          ∧ r.2.mem ((c.tc : Thread Cert.OutprojKernelIdeal.nD Cert.OutprojKernelIdeal.τ).loc Cert.OutprojKernelIdeal.main_arg6) = m ((c.tc : Thread Cert.OutprojKernelIdeal.nD Cert.OutprojKernelIdeal.τ).loc Cert.OutprojKernelIdeal.main_arg6)
          ∧ r.2.mem ((c.tc : Thread Cert.OutprojKernelIdeal.nD Cert.OutprojKernelIdeal.τ).loc Cert.OutprojKernelIdeal.main_arg7) = m ((c.tc : Thread Cert.OutprojKernelIdeal.nD Cert.OutprojKernelIdeal.τ).loc Cert.OutprojKernelIdeal.main_arg7)
          ∧ r.2.mem ((c.tc : Thread Cert.OutprojKernelIdeal.nD Cert.OutprojKernelIdeal.τ).loc Cert.OutprojKernelIdeal.main_arg8) = m ((c.tc : Thread Cert.OutprojKernelIdeal.nD Cert.OutprojKernelIdeal.τ).loc Cert.OutprojKernelIdeal.main_arg8)
          ∧ r.2.mem ((c.tc : Thread Cert.OutprojKernelIdeal.nD Cert.OutprojKernelIdeal.τ).loc Cert.OutprojKernelIdeal.main_arg9) = m ((c.tc : Thread Cert.OutprojKernelIdeal.nD Cert.OutprojKernelIdeal.τ).loc Cert.OutprojKernelIdeal.main_arg9))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v55) = v0 c
          ∧ r.2.mem ((c.tc : Thread Cert.OutprojReferenceIdeal.nD Cert.OutprojReferenceIdeal.τ).loc Cert.OutprojReferenceIdeal.main_v57) = v1 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6)
          ∧ r.2.mem ((c.tc : Thread Cert.OutprojReferenceIdeal.nD Cert.OutprojReferenceIdeal.τ).loc Cert.OutprojReferenceIdeal.main_arg7) = m' ((c.tc : Thread Cert.OutprojReferenceIdeal.nD Cert.OutprojReferenceIdeal.τ).loc Cert.OutprojReferenceIdeal.main_arg7)
          ∧ r.2.mem ((c.tc : Thread Cert.OutprojReferenceIdeal.nD Cert.OutprojReferenceIdeal.τ).loc Cert.OutprojReferenceIdeal.main_arg8) = m' ((c.tc : Thread Cert.OutprojReferenceIdeal.nD Cert.OutprojReferenceIdeal.τ).loc Cert.OutprojReferenceIdeal.main_arg8)
          ∧ r.2.mem ((c.tc : Thread Cert.OutprojReferenceIdeal.nD Cert.OutprojReferenceIdeal.τ).loc Cert.OutprojReferenceIdeal.main_arg9) = m' ((c.tc : Thread Cert.OutprojReferenceIdeal.nD Cert.OutprojReferenceIdeal.τ).loc Cert.OutprojReferenceIdeal.main_arg9))

def Claim : Prop :=
  ∃ (hKernel : Cert.Kernel.Facts) (hKernelIdeal : Cert.KernelIdeal.Facts) (hReferenceIdeal : Cert.ReferenceIdeal.Facts) (hMoeKernel : Cert.MoeKernel.Facts) (hMoeKernelIdeal : Cert.MoeKernelIdeal.Facts) (hMoeReferenceIdeal : Cert.MoeReferenceIdeal.Facts) (hFfnKernel : Cert.FfnKernel.Facts) (hFfnKernelIdeal : Cert.FfnKernelIdeal.Facts) (hFfnReferenceIdeal : Cert.FfnReferenceIdeal.Facts) (hInprojKernel : Cert.InprojKernel.Facts) (hInprojKernelIdeal : Cert.InprojKernelIdeal.Facts) (hInprojReferenceIdeal : Cert.InprojReferenceIdeal.Facts) (hSguKernel : Cert.SguKernel.Facts) (hSguKernelIdeal : Cert.SguKernelIdeal.Facts) (hSguReferenceIdeal : Cert.SguReferenceIdeal.Facts) (hOutprojKernel : Cert.OutprojKernel.Facts) (hOutprojKernelIdeal : Cert.OutprojKernelIdeal.Facts) (hOutprojReferenceIdeal : Cert.OutprojReferenceIdeal.Facts) (hPre_finite : Cert.Pre_finite.Facts) (hPre_tables_in_range : Cert.Pre_tables_in_range.Facts) (hPre_tables_of_heads : Cert.Pre_tables_of_heads.Facts) (hOn_rows_in_use : Cert.On_rows_in_use.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MoeKernel (hMoeKernel := hMoeKernel) (hPre_tables_in_range := hPre_tables_in_range)
    ∧ quiescent_MoeKernelIdeal (hMoeKernelIdeal := hMoeKernelIdeal) (hPre_tables_in_range := hPre_tables_in_range)
    ∧ quiescent_MoeReferenceIdeal (hMoeReferenceIdeal := hMoeReferenceIdeal)
    ∧ quiescent_MoeReferenceIdeal_pre_tables_in_range (hMoeReferenceIdeal := hMoeReferenceIdeal) (hPre_tables_in_range := hPre_tables_in_range)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InprojKernel (hInprojKernel := hInprojKernel)
    ∧ quiescent_InprojKernelIdeal (hInprojKernelIdeal := hInprojKernelIdeal)
    ∧ quiescent_InprojKernelIdeal_pre_tables_of_heads (hInprojKernelIdeal := hInprojKernelIdeal) (hPre_tables_of_heads := hPre_tables_of_heads)
    ∧ quiescent_InprojReferenceIdeal (hInprojReferenceIdeal := hInprojReferenceIdeal)
    ∧ quiescent_InprojReferenceIdeal_pre_tables_of_heads (hInprojReferenceIdeal := hInprojReferenceIdeal) (hPre_tables_of_heads := hPre_tables_of_heads)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_OutprojKernel (hOutprojKernel := hOutprojKernel)
    ∧ quiescent_OutprojKernelIdeal (hOutprojKernelIdeal := hOutprojKernelIdeal)
    ∧ quiescent_OutprojReferenceIdeal (hOutprojReferenceIdeal := hOutprojReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MoeKernel_MoeKernelIdeal
    ∧ algebraic_MoeKernelIdeal_MoeReferenceIdeal_on_rows_in_use (hMoeKernelIdeal := hMoeKernelIdeal) (hMoeReferenceIdeal := hMoeReferenceIdeal) (hPre_tables_in_range := hPre_tables_in_range) (hOn_rows_in_use := hOn_rows_in_use)
    ∧ preserves_FfnKernel_FfnKernelIdeal
    ∧ algebraic_FfnKernelIdeal_FfnReferenceIdeal (hFfnKernelIdeal := hFfnKernelIdeal) (hFfnReferenceIdeal := hFfnReferenceIdeal)
    ∧ preserves_InprojKernel_InprojKernelIdeal
    ∧ algebraic_InprojKernelIdeal_InprojReferenceIdeal_pre_tables_of_heads (hInprojKernelIdeal := hInprojKernelIdeal) (hInprojReferenceIdeal := hInprojReferenceIdeal) (hPre_tables_of_heads := hPre_tables_of_heads)
    ∧ preserves_SguKernel_SguKernelIdeal
    ∧ algebraic_SguKernelIdeal_SguReferenceIdeal (hSguKernelIdeal := hSguKernelIdeal) (hSguReferenceIdeal := hSguReferenceIdeal)
    ∧ preserves_OutprojKernel_OutprojKernelIdeal
    ∧ algebraic_OutprojKernelIdeal_OutprojReferenceIdeal (hOutprojKernelIdeal := hOutprojKernelIdeal) (hOutprojReferenceIdeal := hOutprojReferenceIdeal)
-- ==== On_rows_in_use.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960x1 : Shape := ⟨2, ![40960, 1]⟩
abbrev S1024 : Shape := ⟨1, ![1024]⟩
abbrev S1x1024 : Shape := ⟨2, ![1, 1024]⟩
abbrev S40x1 : Shape := ⟨2, ![40, 1]⟩
abbrev S40x1024 : Shape := ⟨2, ![40, 1024]⟩

class Facts : Prop where
  bcast_S1024_S1x1024_1 : S1024.BroadcastsInDim S1x1024 (![1] : Fin 1 → Fin S1x1024.rank)
  bcast_S40_S40x1_0 : S40.BroadcastsInDim S40x1 (![0] : Fin 1 → Fin S40x1.rank)
  bcast_S1x1024_S40x1024_0_1 : S1x1024.BroadcastsInDim S40x1024 (![0, 1] : Fin 2 → Fin S40x1024.rank)
  bcast_S40x1_S40x1024_0_1 : S40x1.BroadcastsInDim S40x1024 (![0, 1] : Fin 2 → Fin S40x1024.rank)
  shapeCasts_S40x1024_S40960x1 : S40x1024.ShapeCasts S40960x1
  bcast_S40960x1_S40960x1024_0_1 : S40960x1.BroadcastsInDim S40960x1024 (![0, 1] : Fin 2 → Fin S40960x1024.rank)

variable [Facts]

def fn {F : FTy → Type} [FloatOps F] (main_arg0 : IVec S40 32) (main_arg1 : IVec S40 32) (main_arg2 : FVec F S40960x1024 .f32) (main_arg3 : FVec F S8x1024x3584 .f32) (main_arg4 : FVec F S8x1024x3584 .f32) (main_arg5 : FVec F S8x3584x1024 .f32) (main_arg6 : FVec F S40960x1 .f32) : IVec S40960x1024 1 :=
  let main_v0 : IVec S1024 32 := iotaInDim S1024 32 0
  let main_v1 : IVec S1x1024 32 := broadcastInDim S1x1024 ![1] bcast_S1024_S1x1024_1 main_v0
  let main_v2 : IVec S40x1 32 := broadcastInDim S40x1 ![0] bcast_S40_S40x1_0 main_arg1
  let main_v3 : IVec S40x1024 32 := broadcastInDim S40x1024 ![0, 1] bcast_S1x1024_S40x1024_0_1 main_v1
  let main_v4 : IVec S40x1024 32 := broadcastInDim S40x1024 ![0, 1] bcast_S40x1_S40x1024_0_1 main_v2
  let main_v5 : IVec S40x1024 1 := cmpi .slt main_v3 main_v4
  let main_v6 : IVec S40960x1 1 := shapeCast S40960x1 main_v5 shapeCasts_S40x1024_S40960x1
  let main_v7 : IVec S40960x1024 1 := broadcastInDim S40960x1024 ![0, 1] bcast_S40960x1_S40960x1024_0_1 main_v6
  main_v7
-- ==== Pre_finite.lean ====
abbrev S1 : Shape := ⟨1, ![1]⟩
abbrev S8x2048x512 : Shape := ⟨3, ![8, 2048, 512]⟩
abbrev S8x256x512 : Shape := ⟨3, ![8, 256, 512]⟩
abbrev S1x128 : Shape := ⟨2, ![1, 128]⟩
abbrev S_ : Shape := ⟨0, ![]⟩

class Facts : Prop where
  bcast_S_S8x2048x512 : S_.BroadcastsInDim S8x2048x512 (![] : Fin 0 → Fin S8x2048x512.rank)
  bcast_S_S8x256x512 : S_.BroadcastsInDim S8x256x512 (![] : Fin 0 → Fin S8x256x512.rank)

variable [Facts]

def fn {F : FTy → Type} [FloatOps F] (main_arg0 : FVec F S1 .f32) (main_arg1 : FVec F S8x2048x512 .bf16) (main_arg2 : FVec F S8x256x512 .bf16) (main_arg3 : FVec F S8x2048x512 .bf16) (main_arg4 : FVec F S8x256x512 .bf16) (main_arg5 : FVec F S8x2048x512 .bf16) (main_arg6 : FVec F S1x128 .f32) : IVec S8x2048x512 1 × IVec S8x256x512 1 × IVec S8x2048x512 1 :=
  let main_v0 : FVec F S8x2048x512 .bf16 := Host.absf main_arg1
  let main_cst : FVec F S_ .bf16 := constant S_ .bf16 0x7F80#16
  let main_v1 : FVec F S8x2048x512 .bf16 := broadcastInDim S8x2048x512 ![] bcast_S_S8x2048x512 main_cst
  let main_v2 : IVec S8x2048x512 1 := cmpf .olt main_v0 main_v1
  let main_v3 : FVec F S8x256x512 .bf16 := Host.absf main_arg2
  let main_cst_0 : FVec F S_ .bf16 := constant S_ .bf16 0x7F80#16
  let main_v4 : FVec F S8x256x512 .bf16 := broadcastInDim S8x256x512 ![] bcast_S_S8x256x512 main_cst_0
  let main_v5 : IVec S8x256x512 1 := cmpf .olt main_v3 main_v4
  let main_v6 : FVec F S8x2048x512 .bf16 := Host.absf main_arg3
  let main_cst_1 : FVec F S_ .bf16 := constant S_ .bf16 0x7F80#16
  let main_v7 : FVec F S8x2048x512 .bf16 := broadcastInDim S8x2048x512 ![] bcast_S_S8x2048x512 main_cst_1
  let main_v8 : IVec S8x2048x512 1 := cmpf .olt main_v6 main_v7
  (main_v2, main_v5, main_v8)
-- ==== Pre_tables_in_range.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960x1 : Shape := ⟨2, ![40960, 1]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S40 32) (main_arg2 : FVec F S40960x1024 .f32) (main_arg3 : FVec F S8x1024x3584 .f32) (main_arg4 : FVec F S8x1024x3584 .f32) (main_arg5 : FVec F S8x3584x1024 .f32) (main_arg6 : FVec F S40960x1 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 0#32
  let main_v5 : IVec S40 32 := broadcastInDim S40 ![] bcast_S_S40 main_c_1
  let main_v6 : IVec S40 1 := cmpi .sge main_arg1 main_v5
  let main_v7 : IVec S40 1 := andi main_v4 main_v6
  let main_c_2 : IVec S_ 32 := constantI S_ 32 1024#32
  let main_v8 : IVec S40 32 := broadcastInDim S40 ![] bcast_S_S40 main_c_2
  let main_v9 : IVec S40 1 := cmpi .sle main_arg1 main_v8
  let main_v10 : IVec S40 1 := andi main_v7 main_v9
  main_v10
-- ==== Pre_tables_of_heads.lean ====
abbrev S16384x1024 : Shape := ⟨2, ![16384, 1024]⟩
abbrev S1x1024 : Shape := ⟨2, ![1, 1024]⟩
abbrev S8x1x1024 : Shape := ⟨3, ![8, 1, 1024]⟩
abbrev S1024x3072 : Shape := ⟨2, ![1024, 3072]⟩
abbrev S256x256 : Shape := ⟨2, ![256, 256]⟩
abbrev S1x256 : Shape := ⟨2, ![1, 256]⟩
abbrev S2048x128 : Shape := ⟨2, ![2048, 128]⟩
abbrev S256 : Shape := ⟨1, ![256]⟩
abbrev S256x1 : Shape := ⟨2, ![256, 1]⟩
abbrev S_ : Shape := ⟨0, ![]⟩
abbrev S128 : Shape := ⟨1, ![128]⟩
abbrev S1x128 : Shape := ⟨2, ![1, 128]⟩

class Facts : Prop where
  bcast_S256_S256x1_0 : S256.BroadcastsInDim S256x1 (![0] : Fin 1 → Fin S256x1.rank)
  bcast_S_S256x1 : S_.BroadcastsInDim S256x1 (![] : Fin 0 → Fin S256x1.rank)
  bcast_S256_S1x256_1 : S256.BroadcastsInDim S1x256 (![1] : Fin 1 → Fin S1x256.rank)
  bcast_S_S1x256 : S_.BroadcastsInDim S1x256 (![] : Fin 0 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S128_S1x128_1 : S128.BroadcastsInDim S1x128 (![1] : Fin 1 → Fin S1x128.rank)
  bcast_S_S1x128 : S_.BroadcastsInDim S1x128 (![] : Fin 0 → Fin S1x128.rank)
  bitsLt_bf16_f32 : FTy.bits .bf16 < FTy.bits .f32
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)

variable [Facts]

def fn_where {F : FTy → Type} [FloatOps F] (arg0 : IVec S1x128 1) (arg1 : FVec F S2048x128 .f32) (arg2 : FVec F S2048x128 .f32) : FVec F S2048x128 .f32 :=
  let v0 : IVec S2048x128 1 := broadcastInDim S2048x128 ![0, 1] bcast_S1x128_S2048x128_0_1 arg0
  let v1 : FVec F S2048x128 .f32 := select v0 arg1 arg2
  v1

def fn_part1 {F : FTy → Type} [FloatOps F] (main_v18 : IVec S256x256 1) (main_v19 : FVec F S2048x128 .f32) : IVec S256x256 1 × IVec S2048x128 1 :=
  let main_cst : FVec F S_ .f32 := constant S_ .f32 0x00000000#32
  let main_v20 : FVec F S2048x128 .f32 := broadcastInDim S2048x128 ![] bcast_S_S2048x128 main_cst
  let main_v21 : IVec S2048x128 1 := cmpf .oeq main_v19 main_v20
  (main_v18, main_v21)

def fn {F : FTy → Type} [FloatOps F] (main_arg0 : FVec F S16384x1024 .f32) (main_arg1 : FVec F S1x1024 .f32) (main_arg2 : FVec F S8x1x1024 .f32) (main_arg3 : FVec F S8x1x1024 .f32) (main_arg4 : FVec F S1024x3072 .bf16) (main_arg5 : FVec F S256x256 .bf16) (main_arg6 : FVec F S1x256 .f32) (main_arg7 : FVec F S1x256 .f32) (main_arg8 : FVec F S2048x128 .f32) (main_arg9 : FVec F S2048x128 .f32) (main_arg10 : FVec F S2048x128 .f32) : IVec S256x256 1 × IVec S2048x128 1 :=
  let main_v0 : IVec S256 32 := iotaInDim S256 32 0
  let main_v1 : IVec S256x1 32 := broadcastInDim S256x1 ![0] bcast_S256_S256x1_0 main_v0
  let main_c : IVec S_ 32 := constantI S_ 32 6#32
  let main_v2 : IVec S256x1 32 := broadcastInDim S256x1 ![] bcast_S_S256x1 main_c
  let main_v3 : IVec S256x1 32 := Host.shrsi main_v1 main_v2
  let main_v4 : IVec S1x256 32 := broadcastInDim S1x256 ![1] bcast_S256_S1x256_1 main_v0
  let main_c_0 : IVec S_ 32 := constantI S_ 32 6#32
  let main_v5 : IVec S1x256 32 := broadcastInDim S1x256 ![] bcast_S_S1x256 main_c_0
  let main_v6 : IVec S1x256 32 := Host.shrsi main_v4 main_v5
  let main_v7 : IVec S256x256 32 := broadcastInDim S256x256 ![0, 1] bcast_S256x1_S256x256_0_1 main_v3
  let main_v8 : IVec S256x256 32 := broadcastInDim S256x256 ![0, 1] bcast_S1x256_S256x256_0_1 main_v6
  let main_v9 : IVec S256x256 1 := cmpi .eq main_v7 main_v8
  let main_v10 : IVec S128 32 := iotaInDim S128 32 0
  let main_v11 : IVec S1x128 32 := broadcastInDim S1x128 ![1] bcast_S128_S1x128_1 main_v10
  let main_c_1 : IVec S_ 32 := constantI S_ 32 16#32
  let main_v12 : IVec S1x128 32 := broadcastInDim S1x128 ![] bcast_S_S1x128 main_c_1
  let main_v13 : IVec S1x128 32 := andi main_v11 main_v12
  let main_c_2 : IVec S_ 32 := constantI S_ 32 0#32
  let main_v14 : IVec S1x128 32 := broadcastInDim S1x128 ![] bcast_S_S1x128 main_c_2
  let main_v15 : IVec S1x128 1 := cmpi .eq main_v13 main_v14
  let main_v16 : FVec F S256x256 .f32 := (extf .f32 · bitsLt_bf16_f32) main_arg5
  let main_v17 : FVec F S256x256 .f32 := uitofp .f32 main_v9
  let main_v18 : IVec S256x256 1 := cmpf .oeq main_v16 main_v17
  let main_v19 : FVec F S2048x128 .f32 := fn_where (F := F) main_v15 main_arg10 main_arg9
  fn_part1 (F := F) main_v18 main_v19
-- ==== Kernel.lean ====
abbrev S1 : Shape := ⟨1, ![1]⟩
abbrev S8x2048x512 : Shape := ⟨3, ![8, 2048, 512]⟩
abbrev S8x256x512 : Shape := ⟨3, ![8, 256, 512]⟩
abbrev S1x128 : Shape := ⟨2, ![1, 128]⟩
abbrev S1x512x128 : Shape := ⟨3, ![1, 512, 128]⟩
abbrev S1x256x128 : Shape := ⟨3, ![1, 256, 128]⟩
abbrev S1x2048x128 : Shape := ⟨3, ![1, 2048, 128]⟩
abbrev S512x128 : Shape := ⟨2, ![512, 128]⟩
abbrev S256x128 : Shape := ⟨2, ![256, 128]⟩
abbrev S2048x128 : Shape := ⟨2, ![2048, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 13
  | .smem => 1
  | _ => 0

abbrev bufTy : (tb : Table) → Fin (tcTables nBuf tb) → BufTy
  | .hbm, ⟨0, _⟩ => ⟨S1, .f32⟩
  | .hbm, ⟨1, _⟩ => ⟨S8x2048x512, .bf16⟩
  | .hbm, ⟨2, _⟩ => ⟨S8x256x512, .bf16⟩
  | .hbm, ⟨3, _⟩ => ⟨S8x2048x512, .bf16⟩
  | .hbm, ⟨4, _⟩ => ⟨S8x256x512, .bf16⟩
  | .hbm, ⟨5, _⟩ => ⟨S8x2048x512, .bf16⟩
  | .hbm, ⟨6, _⟩ => ⟨S1x128, .f32⟩
  | .hbm, ⟨7, _⟩ => ⟨S8x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x128, .f32⟩
  | .local _ .vmem, ⟨11, _⟩ => ⟨S1x512x128, .bf16⟩
  | .local _ .vmem, ⟨12, _⟩ => ⟨S1x512x128, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S1 : Shape := ⟨1, ![1]⟩
abbrev S8x2048x512 : Shape := ⟨3, ![8, 2048, 512]⟩
abbrev S8x256x512 : Shape := ⟨3, ![8, 256, 512]⟩
abbrev S1x128 : Shape := ⟨2, ![1, 128]⟩
abbrev S8x2048x4x2x64 : Shape := ⟨5, ![8, 2048, 4, 2, 64]⟩
abbrev S8x2304x512 : Shape := ⟨3, ![8, 2304, 512]⟩
abbrev S8x2304x4x2x64 : Shape := ⟨5, ![8, 2304, 4, 2, 64]⟩
abbrev S8x2304x4x128 : Shape := ⟨4, ![8, 2304, 4, 128]⟩
abbrev S8x4x2x2048x2304 : Shape := ⟨5, ![8, 4, 2, 2048, 2304]⟩
abbrev S_ : Shape := ⟨0, ![]⟩
abbrev S8x4x2x2048 : Shape := ⟨4, ![8, 4, 2, 2048]⟩
abbrev S8x4x2x2048x1 : Shape := ⟨5, ![8, 4, 2, 2048, 1]⟩
abbrev S8x4x1x2048x2304 : Shape := ⟨5, ![8, 4, 1, 2048, 2304]⟩
abbrev S8x4x2048x2304 : Shape := ⟨4, ![8, 4, 2048, 2304]⟩
abbrev S1x1x1x1 : Shape := ⟨4, ![1, 1, 1, 1]⟩
abbrev S8x4x128x2048 : Shape := ⟨4, ![8, 4, 128, 2048]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S1, .f32⟩
  | .hbm, ⟨1, _⟩ => ⟨S8x2048x512, .bf16⟩
  | .hbm, ⟨2, _⟩ => ⟨S8x256x512, .bf16⟩
  | .hbm, ⟨3, _⟩ => ⟨S8x2048x512, .bf16⟩
  | .hbm, ⟨4, _⟩ => ⟨S8x256x512, .bf16⟩
  | .hbm, ⟨5, _⟩ => ⟨S8x2048x512, .bf16⟩
  | .hbm, ⟨6, _⟩ => ⟨S1x128, .f32⟩
  | .hbm, ⟨7, _⟩ => ⟨S8x2048x512, .f32⟩
  | .hbm, ⟨8, _⟩ => ⟨S8x2048x4x2x64, .f32⟩
  | .hbm, ⟨9, _⟩ => ⟨S8x2304x512, .bf16⟩
  | .hbm, ⟨10, _⟩ => ⟨S8x2304x512, .f32⟩
  | .hbm, ⟨11, _⟩ => ⟨S8x2304x4x2x64, .f32⟩
  | .hbm, ⟨12, _⟩ => ⟨S8x2304x512, .bf16⟩
  | .hbm, ⟨13, _⟩ => ⟨S8x2304x512, .f32⟩
  | .hbm, ⟨14, _⟩ => ⟨S8x2304x4x128, .f32⟩
  | .hbm, ⟨15, _⟩ => ⟨S8x4x2x2048x2304, .f32⟩
  | .hbm, ⟨16, _⟩ => ⟨S_, .f32⟩
  | .hbm, ⟨17, _⟩ => ⟨S8x4x2x2048, .f32⟩
  | .hbm, ⟨18, _⟩ => ⟨S_, .f32⟩
  | .hbm, ⟨19, _⟩ => ⟨S8x4x2x2048, .f32⟩
  | .hbm, ⟨20, _⟩ => ⟨S8x4x2x2048, .f32⟩
  | .hbm, ⟨21, _⟩ => ⟨S8x4x2x2048x1, .f32⟩
  | .hbm, ⟨22, _⟩ => ⟨S8x4x2x2048x2304, .f32⟩
  | .hbm, ⟨23, _⟩ => ⟨S8x4x2x2048x2304, .f32⟩
  | .hbm, ⟨24, _⟩ => ⟨S8x4x2x2048x2304, .f32⟩
  | .hbm, ⟨25, _⟩ => ⟨S_, .f32⟩
  | .hbm, ⟨26, _⟩ => ⟨S8x4x2x2048, .f32⟩
  | .hbm, ⟨27, _⟩ => ⟨S8x4x2x2048x1, .f32⟩
  | .hbm, ⟨28, _⟩ => ⟨S8x4x2x2048x2304, .f32⟩
  | .hbm, ⟨29, _⟩ => ⟨S8x4x2x2048x2304, .f32⟩
  | .hbm, ⟨30, _⟩ => ⟨S8x4x1x2048x2304, .f32⟩
  | .hbm, ⟨31, _⟩ => ⟨S8x4x2048x2304, .f32⟩
  | .hbm, ⟨32, _⟩ => ⟨S8x4x1x2048x2304, .f32⟩
  | .hbm, ⟨33, _⟩ => ⟨S8x4x2048x2304, .f32⟩
  | .hbm, ⟨34, _⟩ => ⟨S1x1x1x1, .f32⟩
  | .hbm, ⟨35, _⟩ => ⟨S8x4x2048x2304, .f32⟩
  | .hbm, ⟨36, _⟩ => ⟨S8x4x2048x2304, .f32⟩
  | .hbm, ⟨37, _⟩ => ⟨S8x4x2048x2304, .f32⟩
  | .hbm, ⟨38, _⟩ => ⟨S8x4x128x2048, .f32⟩
  | .hbm, ⟨39, _⟩ => ⟨S8x2048x4x128, .f32⟩
  | .hbm, ⟨40, _⟩ => ⟨S8x2048x4x128, .f32⟩
  | .hbm, ⟨41, _⟩ => ⟨S_, .f32⟩
  | .hbm, ⟨42, _⟩ => ⟨S8x2048x4, .f32⟩
  | .hbm, ⟨43, _⟩ => ⟨S8x2048x4x1, .f32⟩
  | .hbm, ⟨44, _⟩ => ⟨S_, .f32⟩
  | .hbm, ⟨45, _⟩ => ⟨S8x2048x4x1, .f32⟩
  | .hbm, ⟨46, _⟩ => ⟨S8x2048x4x1, .f32⟩
  | .hbm, ⟨47, _⟩ => ⟨S_, .f32⟩
  | .hbm, ⟨48, _⟩ => ⟨S8x2048x4x1, .f32⟩
  | .hbm, ⟨49, _⟩ => ⟨S8x2048x4x1, .f32⟩
  | .hbm, ⟨50, _⟩ => ⟨S8x2048x4x1, .f32⟩
  | .hbm, ⟨51, _⟩ => ⟨S8x2048x4x128, .f32⟩
  | .hbm, ⟨52, _⟩ => ⟨S8x2048x4x128, .f32⟩
  | .hbm, ⟨53, _⟩ => ⟨S128, .f32⟩
  | .hbm, ⟨54, _⟩ => ⟨S1x1x1x128, .f32⟩
  | .hbm, ⟨55, _⟩ => ⟨S8x2048x4x128, .f32⟩
  | .hbm, ⟨56, _⟩ => ⟨S8x2048x4x128, .f32⟩
  | .hbm, ⟨57, _⟩ => ⟨S_, .f32⟩
  | .hbm, ⟨58, _⟩ => ⟨S8x2048x4x128, .f32⟩
  | .hbm, ⟨59, _⟩ => ⟨S8x2048x4x128, .f32⟩
  | .hbm, ⟨60, _⟩ => ⟨S8x2048x512, .f32⟩
  | .hbm, ⟨61, _⟩ => ⟨S8x2048x512, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== MoeKernel.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960x1 : Shape := ⟨2, ![40960, 1]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩
abbrev S256x1024 : Shape := ⟨2, ![256, 1024]⟩
abbrev S256x512 : Shape := ⟨2, ![256, 512]⟩

abbrev nBuf : Space → Nat
  | .hbm => 6
  | .vmem => 17
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1, .f32⟩
  | .hbm, ⟨5, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x512, .bf16⟩
  | .local _ .vmem, ⟨14, _⟩ => ⟨S1024x512, .bf16⟩
  | .local _ .vmem, ⟨15, _⟩ => ⟨S512x1024, .bf16⟩
  | .local _ .vmem, ⟨16, _⟩ => ⟨S1024x1024, .f32⟩
  | .local _ .smem, ⟨0, _⟩ => ⟨S40, .i32⟩
  | .local _ .smem, ⟨1, _⟩ => ⟨S40, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32_26 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v48 : BitVec 32 := Scalar.subi v20 c0_i32_26
  let c1_i32_27 : BitVec 32 := 1#32
  let v50 : BitVec 32 := Scalar.divsi v48 c1_i32_27
  let v51 : BitVec 32 := Scalar.muli v50 c1_i32_27
  let v52 : BitVec 32 := Scalar.addi c0_i32_26 v51
  let c1_i32_28 : BitVec 32 := 1#32
  ⟨c0_i32_26, v52, c1_i32_28⟩
def k0_cond2 (v1 : BitVec 32) : BitVec 1 :=
  let c0_i32_8 : BitVec 32 := 0#32
  let v24 : BitVec 1 := Scalar.cmpi .sgt v1 c0_i32_8
  let v25 : BitVec 32 := Scalar.extui v24
  let c0_i32_9 : BitVec 32 := 0#32
  let v26 : BitVec 1 := Scalar.cmpi .ne v25 c0_i32_9
  v26

def k0_mult1 (v1 : BitVec 32) (k0_t1 : Fin (k0_t1_loop v1).trips) : BitVec 32 :=
  let c0_i32_26 : BitVec 32 := 0#32
  let c1_i32_28 : BitVec 32 := 1#32
  let arg15 : BitVec 32 := Scf.iv c0_i32_26 c1_i32_28 k0_t1
  let c256_i32_30 : BitVec 32 := 256#32
  let v53 : BitVec 32 := Scalar.muli arg15 c256_i32_30
  v53
def k0_off2 (v1 : BitVec 32) (k0_t1 : Fin (k0_t1_loop v1).trips) : Fin 2 → Nat :=
  let c0_i32_26 : BitVec 32 := 0#32
  let c1_i32_28 : BitVec 32 := 1#32
  let arg15 : BitVec 32 := Scf.iv c0_i32_26 c1_i32_28 k0_t1
  let c256_i32_30 : BitVec 32 := 256#32
  let v53 : BitVec 32 := Scalar.muli arg15 c256_i32_30
  let v54 : BitVec 32 := v53
  let v55 : Index := Scalar.indexCast v54
  let c0_31 : Index := 0#32
  ![v55.toNat, 0]
@[reducible] def k0_t2_loop (v1 : BitVec 32) : Scf.Loop 32 :=
  let c0_i32_26 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v48 : BitVec 32 := Scalar.subi v20 c0_i32_26
  let c1_i32_27 : BitVec 32 := 1#32
  let v50 : BitVec 32 := Scalar.divsi v48 c1_i32_27
  let v51 : BitVec 32 := Scalar.muli v50 c1_i32_27
  let v52 : BitVec 32 := Scalar.addi c0_i32_26 v51
  let v49 : BitVec 32 := Scalar.addi c0_i32_26 v48
  let c1_i32_29 : BitVec 32 := 1#32
  ⟨v52, v49, c1_i32_29⟩
def k0_mult2 (v1 : BitVec 32) (k0_t2 : Fin (k0_t2_loop v1).trips) : BitVec 32 :=
  let c0_i32_26 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v48 : BitVec 32 := Scalar.subi v20 c0_i32_26
  let c1_i32_27 : BitVec 32 := 1#32
  let v50 : BitVec 32 := Scalar.divsi v48 c1_i32_27
  let v51 : BitVec 32 := Scalar.muli v50 c1_i32_27
  let v52 : BitVec 32 := Scalar.addi c0_i32_26 v51
  let c1_i32_29 : BitVec 32 := 1#32
  let arg15 : BitVec 32 := Scf.iv v52 c1_i32_29 k0_t2
  let c256_i32_30 : BitVec 32 := 256#32
  let v53 : BitVec 32 := Scalar.muli arg15 c256_i32_30
  v53
def k0_off3 (v1 : BitVec 32) (k0_t2 : Fin (k0_t2_loop v1).trips) : Fin 2 → Nat :=
  let c0_i32_26 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v48 : BitVec 32 := Scalar.subi v20 c0_i32_26
  let c1_i32_27 : BitVec 32 := 1#32
  let v50 : BitVec 32 := Scalar.divsi v48 c1_i32_27
  let v51 : BitVec 32 := Scalar.muli v50 c1_i32_27
  let v52 : BitVec 32 := Scalar.addi c0_i32_26 v51
  let c1_i32_29 : BitVec 32 := 1#32
  let arg15 : BitVec 32 := Scf.iv v52 c1_i32_29 k0_t2
  let c256_i32_30 : BitVec 32 := 256#32
  let v53 : BitVec 32 := Scalar.muli arg15 c256_i32_30
  let v54 : BitVec 32 := v53
  let v55 : Index := Scalar.indexCast v54
  let c0_31 : Index := 0#32
  ![v55.toNat, 0]

def k0_chk1 (v1 : BitVec 32) : Prop :=
  (∀ (k0_h2 : k0_cond2 v1 = 1#1), (k0_t1_loop v1).OK) ∧
  (∀ k0_t1 : Fin (k0_t1_loop v1).trips, ∀ (k0_h2 : k0_cond2 v1 = 1#1), 256 ∣ (k0_mult1 v1 k0_t1).toNat) ∧
  (∀ k0_t1 : Fin (k0_t1_loop v1).trips, ∀ (k0_h2 : k0_cond2 v1 = 1#1), ∀ a, (k0_off2 v1 k0_t1) a + S256x1024.size a ≤ S1024x1024.size a) ∧
  (∀ (k0_h2 : k0_cond2 v1 = 1#1), (k0_t2_loop v1).OK) ∧
  (∀ k0_t2 : Fin (k0_t2_loop v1).trips, ∀ (k0_h2 : k0_cond2 v1 = 1#1), 256 ∣ (k0_mult2 v1 k0_t2).toNat) ∧
  (∀ k0_t2 : Fin (k0_t2_loop v1).trips, ∀ (k0_h2 : k0_cond2 v1 = 1#1), ∀ a, (k0_off3 v1 k0_t2) a + S256x1024.size a ≤ S1024x1024.size a)
theorem k0_t1_ok : ∀ (v1 : BitVec 32) (k0_hw1 : k0_chk1 v1), ∀ (k0_h2 : k0_cond2 v1 = 1#1), (k0_t1_loop v1).OK := fun v1 k0_hw1 k0_h2 => k0_hw1.1 k0_h2
theorem k0_mult1_dvd : ∀ (v1 : BitVec 32) (k0_hw1 : k0_chk1 v1) (k0_t1 : Fin (k0_t1_loop v1).trips), ∀ (k0_h2 : k0_cond2 v1 = 1#1), 256 ∣ (k0_mult1 v1 k0_t1).toNat := fun v1 k0_hw1 k0_t1 k0_h2 => k0_hw1.2.1 k0_t1 k0_h2
theorem k0_off2_inb : ∀ (v1 : BitVec 32) (k0_hw1 : k0_chk1 v1) (k0_t1 : Fin (k0_t1_loop v1).trips), ∀ (k0_h2 : k0_cond2 v1 = 1#1), ∀ a, (k0_off2 v1 k0_t1) a + S256x1024.size a ≤ S1024x1024.size a := fun v1 k0_hw1 k0_t1 k0_h2 => k0_hw1.2.2.1 k0_t1 k0_h2
theorem k0_t2_ok : ∀ (v1 : BitVec 32) (k0_hw1 : k0_chk1 v1), ∀ (k0_h2 : k0_cond2 v1 = 1#1), (k0_t2_loop v1).OK := fun v1 k0_hw1 k0_h2 => k0_hw1.2.2.2.1 k0_h2
theorem k0_mult2_dvd : ∀ (v1 : BitVec 32) (k0_hw1 : k0_chk1 v1) (k0_t2 : Fin (k0_t2_loop v1).trips), ∀ (k0_h2 : k0_cond2 v1 = 1#1), 256 ∣ (k0_mult2 v1 k0_t2).toNat := fun v1 k0_hw1 k0_t2 k0_h2 => k0_hw1.2.2.2.2.1 k0_t2 k0_h2
theorem k0_off3_inb : ∀ (v1 : BitVec 32) (k0_hw1 : k0_chk1 v1) (k0_t2 : Fin (k0_t2_loop v1).trips), ∀ (k0_h2 : k0_cond2 v1 = 1#1), ∀ a, (k0_off3 v1 k0_t2) a + S256x1024.size a ≤ S1024x1024.size a := fun v1 k0_hw1 k0_t2 k0_h2 => k0_hw1.2.2.2.2.2 k0_t2 k0_h2

def k0_cond3 (i : grid0.Coords) : BitVec 1 :=
  let arg1 : BitVec 32 := BitVec.ofNat 32 (i 1).val
  let c6_i32 : BitVec 32 := 6#32
  let v27 : BitVec 1 := Scalar.cmpi .eq arg1 c6_i32
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeReferenceIdeal.lean ====
abbrev S40 : Shape := ⟨1, ![40]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40960x1 : Shape := ⟨2, ![40960, 1]⟩
abbrev S40x1 : Shape := ⟨2, ![40, 1]⟩
abbrev S40x1024 : Shape := ⟨2, ![40, 1024]⟩
abbrev S40960 : Shape := ⟨1, ![40960]⟩
abbrev S1x8 : Shape := ⟨2, ![1, 8]⟩
abbrev S40960x8 : Shape := ⟨2, ![40960, 8]⟩
abbrev S40960x8x3584 : Shape := ⟨3, ![40960, 8, 3584]⟩
abbrev S_ : Shape := ⟨0, ![]⟩
abbrev S8x1024x40960 : Shape := ⟨3, ![8, 1024, 40960]⟩
abbrev S40960x8x1024 : Shape := ⟨3, ![40960, 8, 1024]⟩
abbrev S40960x8x1 : Shape := ⟨3, ![40960, 8, 1]⟩

abbrev nBuf : Space → Nat
  | .hbm => 37
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S40960x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40960x1, .f32⟩
  | .hbm, ⟨7, _⟩ => ⟨S40x1, .i32⟩
  | .hbm, ⟨8, _⟩ => ⟨S40x1024, .i32⟩
  | .hbm, ⟨9, _⟩ => ⟨S40960, .i32⟩
  | .hbm, ⟨10, _⟩ => ⟨S40960x1, .i32⟩
  | .hbm, ⟨11, _⟩ => ⟨S1x8, .i32⟩
  | .hbm, ⟨12, _⟩ => ⟨S40960x8, .i32⟩
  | .hbm, ⟨13, _⟩ => ⟨S40960x8, .i32⟩
  | .hbm, ⟨14, _⟩ => ⟨S40960x8, .i1⟩
  | .hbm, ⟨15, _⟩ => ⟨S40960x8, .f32⟩
  | .hbm, ⟨16, _⟩ => ⟨S40960x8, .f32⟩
  | .hbm, ⟨17, _⟩ => ⟨S40960x8, .f32⟩
  | .hbm, ⟨18, _⟩ => ⟨S40960x8x3584, .f32⟩
  | .hbm, ⟨19, _⟩ => ⟨S40960x8x3584, .f32⟩
  | .hbm, ⟨20, _⟩ => ⟨S40960x8x3584, .f32⟩
  | .hbm, ⟨21, _⟩ => ⟨S40960x8x3584, .f32⟩
  | .hbm, ⟨22, _⟩ => ⟨S_, .f32⟩
  | .hbm, ⟨23, _⟩ => ⟨S40960x8x3584, .f32⟩
  | .hbm, ⟨24, _⟩ => ⟨S40960x8x3584, .f32⟩
  | .hbm, ⟨25, _⟩ => ⟨S_, .f32⟩
  | .hbm, ⟨26, _⟩ => ⟨S40960x8x3584, .f32⟩
  | .hbm, ⟨27, _⟩ => ⟨S40960x8x3584, .f32⟩
  | .hbm, ⟨28, _⟩ => ⟨S40960x8x3584, .f32⟩
  | .hbm, ⟨29, _⟩ => ⟨S40960x8x3584, .f32⟩
  | .hbm, ⟨30, _⟩ => ⟨S8x1024x40960, .f32⟩
  | .hbm, ⟨31, _⟩ => ⟨S40960x8x1024, .f32⟩
  | .hbm, ⟨32, _⟩ => ⟨S40960x8x1, .f32⟩
  | .hbm, ⟨33, _⟩ => ⟨S40960x8x1024, .f32⟩
  | .hbm, ⟨34, _⟩ => ⟨S40960x8x1024, .f32⟩
  | .hbm, ⟨35, _⟩ => ⟨S_, .f32⟩
  | .hbm, ⟨36, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== FfnKernel.lean ====
abbrev S16384x1024 : Shape := ⟨2, ![16384, 1024]⟩
abbrev S1024x2816 : Shape := ⟨2, ![1024, 2816]⟩
abbrev S2816x1024 : Shape := ⟨2, ![2816, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512x2816 : Shape := ⟨2, ![512, 2816]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S8x1x1024, .f32⟩
  | .hbm, ⟨6, _⟩ => ⟨S1x1024, .f32⟩
  | .hbm, ⟨7, _⟩ => ⟨S8x1x1024, .f32⟩
  | .hbm, ⟨8, _⟩ => ⟨S8x1x1024, .f32⟩
  | .hbm, ⟨9, _⟩ => ⟨S16384x1024, .f32⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnReferenceIdeal.lean ====
abbrev S16384x1024 : Shape := ⟨2, ![16384, 1024]⟩
abbrev S1024x2816 : Shape := ⟨2, ![1024, 2816]⟩
abbrev S2816x1024 : Shape := ⟨2, ![2816, 1024]⟩
abbrev S8x1x1024 : Shape := ⟨3, ![8, 1, 1024]⟩
abbrev S1x1024 : Shape := ⟨2, ![1, 1024]⟩
abbrev S16384x2816 : Shape := ⟨2, ![16384, 2816]⟩
abbrev S_ : Shape := ⟨0, ![]⟩
abbrev S8x2048x1024 : Shape := ⟨3, ![8, 2048, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S16384x1024, .f32⟩
  | .hbm, ⟨5, _⟩ => ⟨S8x1x1024, .f32⟩
  | .hbm, ⟨6, _⟩ => ⟨S1x1024, .f32⟩
  | .hbm, ⟨7, _⟩ => ⟨S8x1x1024, .f32⟩
  | .hbm, ⟨8, _⟩ => ⟨S8x1x1024, .f32⟩
  | .hbm, ⟨9, _⟩ => ⟨S16384x1024, .f32⟩
  | .hbm, ⟨10, _⟩ => ⟨S1024x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S1024x2816, .f32⟩
  | .hbm, ⟨22, _⟩ => ⟨S16384x2816, .f32⟩
  | .hbm, ⟨23, _⟩ => ⟨S16384x2816, .f32⟩
  | .hbm, ⟨24, _⟩ => ⟨S2816x1024, .f32⟩
  | .hbm, ⟨25, _⟩ => ⟨S16384x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x1x1024, .f32⟩
  | .hbm, ⟨50, _⟩ => ⟨S8x1x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S16384x1024, .f32⟩
  | .hbm, ⟨56, _⟩ => ⟨S16384x1024, .f32⟩
  | .hbm, ⟨57, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== InprojKernel.lean ====
abbrev S16384x1024 : Shape := ⟨2, ![16384, 1024]⟩
abbrev S1x1024 : Shape := ⟨2, ![1, 1024]⟩
abbrev S8x1x1024 : Shape := ⟨3, ![8, 1, 1024]⟩
abbrev S1024x3072 : Shape := ⟨2, ![1024, 3072]⟩
abbrev S256x256 : Shape := ⟨2, ![256, 256]⟩
abbrev S1x256 : Shape := ⟨2, ![1, 256]⟩
abbrev S2048x128 : Shape := ⟨2, ![2048, 128]⟩
abbrev S16384x512 : Shape := ⟨2, ![16384, 512]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩

abbrev nBuf : Space → Nat
  | .hbm => 16
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S256x256, .bf16⟩
  | .hbm, ⟨6, _⟩ => ⟨S1x256, .f32⟩
  | .hbm, ⟨7, _⟩ => ⟨S1x256, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S16384x512, .bf16⟩
  | .hbm, ⟨12, _⟩ => ⟨S16384x512, .bf16⟩
  | .hbm, ⟨13, _⟩ => ⟨S16384x512, .bf16⟩
  | .hbm, ⟨14, _⟩ => ⟨S16384x512, .bf16⟩
  | .hbm, ⟨15, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S256x256, .bf16⟩
  | .local _ .vmem, ⟨9, _⟩ => ⟨S1x256, .f32⟩
  | .local _ .vmem, ⟨10, _⟩ => ⟨S1x256, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojReferenceIdeal.lean ====
abbrev S16384x1024 : Shape := ⟨2, ![16384, 1024]⟩
abbrev S1x1024 : Shape := ⟨2, ![1, 1024]⟩
abbrev S8x1x1024 : Shape := ⟨3, ![8, 1, 1024]⟩
abbrev S1024x3072 : Shape := ⟨2, ![1024, 3072]⟩
abbrev S256x256 : Shape := ⟨2, ![256, 256]⟩
abbrev S1x256 : Shape := ⟨2, ![1, 256]⟩
abbrev S2048x128 : Shape := ⟨2, ![2048, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x2048x3072 : Shape := ⟨3, ![8, 2048, 3072]⟩
abbrev S8x2048x512 : Shape := ⟨3, ![8, 2048, 512]⟩
abbrev S2048x1x2x64 : Shape := ⟨4, ![2048, 1, 2, 64]⟩
abbrev S8x2048x4x2x64 : Shape := ⟨5, ![8, 2048, 4, 2, 64]⟩
abbrev S8x2048x4x2 : Shape := ⟨4, ![8, 2048, 4, 2]⟩
abbrev S8x2048x4x2x1 : Shape := ⟨5, ![8, 2048, 4, 2, 1]⟩
abbrev S256 : Shape := ⟨1, ![256]⟩
abbrev S2x256 : Shape := ⟨2, ![2, 256]⟩
abbrev S512 : Shape := ⟨1, ![512]⟩
abbrev S4x2x64 : Shape := ⟨3, ![4, 2, 64]⟩
abbrev S1x1x4x2x64 : Shape := ⟨5, ![1, 1, 4, 2, 64]⟩
abbrev S8x2048x4x2x16 : Shape := ⟨5, ![8, 2048, 4, 2, 16]⟩
abbrev S1x2048x1x2x64 : Shape := ⟨5, ![1, 2048, 1, 2, 64]⟩
abbrev S16384x512 : Shape := ⟨2, ![16384, 512]⟩

abbrev nBuf : Space → Nat
  | .hbm => 133
  | .vmem => 0
  | .smem => 0
  | _ => 0

abbrev hbmTy0_0 (i : Nat) : BufTy := match i % 128 with
  | 0 => ⟨S16384x1024, .f32⟩
  | 1 => ⟨S1x1024, .f32⟩
  | 2 => ⟨S8x1x1024, .f32⟩
  | 3 => ⟨S8x1x1024, .f32⟩
  | 4 => ⟨S1024x3072, .bf16⟩
  | 5 => ⟨S256x256, .bf16⟩
  | 6 => ⟨S1x256, .f32⟩
  | 7 => ⟨S1x256, .f32⟩
  | 8 => ⟨S2048x128, .f32⟩
  | 9 => ⟨S2048x128, .f32⟩
  | 10 => ⟨S2048x128, .f32⟩
  | 11 => ⟨S8x2048x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1024, .f32⟩
  | 26 => ⟨S1x1x1024, .f32⟩
  | 27 => ⟨S8x2048x1024, .f32⟩
  | 28 => ⟨S8x2048x1024, .f32⟩
  | 29 => ⟨S_, .f32⟩
  | 30 => ⟨S8x1x1024, .f32⟩
  | 31 => ⟨S8x1x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S1024x3072, .f32⟩
  | 37 => ⟨S8x2048x3072, .f32⟩
  | 38 => ⟨S8x2048x512, .f32⟩
  | 39 => ⟨S8x2048x512, .f32⟩
  | 40 => ⟨S8x2048x512, .f32⟩
  | 41 => ⟨S8x2048x512, .f32⟩
  | 42 => ⟨S8x2048x512, .f32⟩
  | 43 => ⟨S8x2048x512, .f32⟩
  | 44 => ⟨S2048x1x2x64, .f32⟩
  | 45 => ⟨S2048x128, .f32⟩
  | 46 => ⟨S2048x1x2x64, .f32⟩
  | 47 => ⟨S8x2048x4x2x64, .f32⟩
  | 48 => ⟨S8x2048x4x2x64, .f32⟩
  | 49 => ⟨S_, .f32⟩
  | 50 => ⟨S8x2048x4x2, .f32⟩
  | 51 => ⟨S8x2048x4x2x1, .f32⟩
  | 52 => ⟨S_, .f32⟩
  | 53 => ⟨S8x2048x4x2x1, .f32⟩
  | 54 => ⟨S8x2048x4x2x1, .f32⟩
  | 55 => ⟨S_, .f32⟩
  | 56 => ⟨S8x2048x4x2x1, .f32⟩
  | 57 => ⟨S8x2048x4x2x1, .f32⟩
  | 58 => ⟨S8x2048x4x2x1, .f32⟩
  | 59 => ⟨S8x2048x4x2x64, .f32⟩
  | 60 => ⟨S8x2048x4x2x64, .f32⟩
  | 61 => ⟨S256, .f32⟩
  | 62 => ⟨S1x256, .f32⟩
  | 63 => ⟨S2x256, .f32⟩
  | 64 => ⟨S512, .f32⟩
  | 65 => ⟨S4x2x64, .f32⟩
  | 66 => ⟨S1x1x4x2x64, .f32⟩
  | 67 => ⟨S8x2048x4x2x64, .f32⟩
  | 68 => ⟨S8x2048x4x2x64, .f32⟩
  | 69 => ⟨S8x2048x4x2x16, .f32⟩
  | 70 => ⟨S8x2048x4x2x16, .f32⟩
  | 71 => ⟨S8x2048x4x2x16, .f32⟩
  | 72 => ⟨S8x2048x4x2x16, .f32⟩
  | 73 => ⟨S1x2048x1x2x64, .f32⟩
  | 74 => ⟨S8x2048x4x2x64, .f32⟩
  | 75 => ⟨S8x2048x4x2x64, .f32⟩
  | 76 => ⟨S8x2048x4x2x16, .f32⟩
  | 77 => ⟨S8x2048x4x2x16, .f32⟩
  | 78 => ⟨S8x2048x4x2x64, .f32⟩
  | 79 => ⟨S1x2048x1x2x64, .f32⟩
  | 80 => ⟨S8x2048x4x2x64, .f32⟩
  | 81 => ⟨S8x2048x4x2x64, .f32⟩
  | 82 => ⟨S8x2048x4x2x64, .f32⟩
  | 83 => ⟨S16384x512, .f32⟩
  | 84 => ⟨S_, .f32⟩
  | 85 => ⟨S16384x512, .f32⟩
  | 86 => ⟨S16384x512, .f32⟩
  | 87 => ⟨S8x2048x4x2x64, .f32⟩
  | 88 => ⟨S8x2048x4x2x64, .f32⟩
  | 89 => ⟨S_, .f32⟩
  | 90 => ⟨S8x2048x4x2, .f32⟩
  | 91 => ⟨S8x2048x4x2x1, .f32⟩
  | 92 => ⟨S_, .f32⟩
  | 93 => ⟨S8x2048x4x2x1, .f32⟩
  | 94 => ⟨S8x2048x4x2x1, .f32⟩
  | 95 => ⟨S_, .f32⟩
  | 96 => ⟨S8x2048x4x2x1, .f32⟩
  | 97 => ⟨S8x2048x4x2x1, .f32⟩
  | 98 => ⟨S8x2048x4x2x1, .f32⟩
  | 99 => ⟨S8x2048x4x2x64, .f32⟩
  | 100 => ⟨S8x2048x4x2x64, .f32⟩
  | 101 => ⟨S256, .f32⟩
  | 102 => ⟨S1x256, .f32⟩
  | 103 => ⟨S2x256, .f32⟩
  | 104 => ⟨S512, .f32⟩
  | 105 => ⟨S4x2x64, .f32⟩
  | 106 => ⟨S1x1x4x2x64, .f32⟩
  | 107 => ⟨S8x2048x4x2x64, .f32⟩
  | 108 => ⟨S8x2048x4x2x64, .f32⟩
  | 109 => ⟨S8x2048x4x2x16, .f32⟩
  | 110 => ⟨S8x2048x4x2x16, .f32⟩
  | 111 => ⟨S8x2048x4x2x16, .f32⟩
  | 112 => ⟨S8x2048x4x2x16, .f32⟩
  | 113 => ⟨S1x2048x1x2x64, .f32⟩
  | 114 => ⟨S8x2048x4x2x64, .f32⟩
  | 115 => ⟨S8x2048x4x2x64, .f32⟩
  | 116 => ⟨S8x2048x4x2x16, .f32⟩
  | 117 => ⟨S8x2048x4x2x16, .f32⟩
  | 118 => ⟨S8x2048x4x2x64, .f32⟩
  | 119 => ⟨S1x2048x1x2x64, .f32⟩
  | 120 => ⟨S8x2048x4x2x64, .f32⟩
  | 121 => ⟨S8x2048x4x2x64, .f32⟩
  | 122 => ⟨S8x2048x4x2x64, .f32⟩
  | 123 => ⟨S16384x512, .f32⟩
  | 124 => ⟨S16384x512, .f32⟩
  | 125 => ⟨S16384x512, .f32⟩
  | 126 => ⟨S8x2048x512, .f32⟩
  | 127 => ⟨S16384x512, .f32⟩
  | _ => ⟨S16384x1024, .f32⟩

abbrev hbmTy0_1 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_6 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_cst_8 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩

abbrev nD : Nat := 1
abbrev τ : Topo := Topo.v7x

variable {F : FTy → Type} [FloatOps F]
-- ==== SguKernel.lean ====
abbrev S16384x1024 : Shape := ⟨2, ![16384, 1024]⟩
abbrev S1024x2048 : Shape := ⟨2, ![1024, 2048]⟩
abbrev S1x1024 : Shape := ⟨2, ![1, 1024]⟩
abbrev S4x128x128 : Shape := ⟨3, ![4, 128, 128]⟩
abbrev S128x1024 : Shape := ⟨2, ![128, 1024]⟩
abbrev S1024x1024 : Shape := ⟨2, ![1024, 1024]⟩
abbrev S8x1x1024 : Shape := ⟨3, ![8, 1, 1024]⟩
abbrev S1024x128 : Shape := ⟨2, ![1024, 128]⟩
abbrev S16384x128 : Shape := ⟨2, ![16384, 128]⟩
abbrev S512x1024 : Shape := ⟨2, ![512, 1024]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S128x256 : Shape := ⟨2, ![128, 256]⟩
abbrev S1x128 : Shape := ⟨2, ![1, 128]⟩

abbrev nBuf : Space → Nat
  | .hbm => 16
  | .vmem => 25
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .bf16⟩
  | .hbm, ⟨2, _⟩ => ⟨S1x1024, .f32⟩
  | .hbm, ⟨3, _⟩ => ⟨S1x1024, .f32⟩
  | .hbm, ⟨4, _⟩ => ⟨S4x128x128, .bf16⟩
  | .hbm, ⟨5, _⟩ => ⟨S128x1024, .f32⟩
  | .hbm, ⟨6, _⟩ => ⟨S1024x1024, .bf16⟩
  | .hbm, ⟨7, _⟩ => ⟨S16384x1024, .f32⟩
  | .hbm, ⟨8, _⟩ => ⟨S8x1x1024, .f32⟩
  | .hbm, ⟨9, _⟩ => ⟨S1x1024, .f32⟩
  | .hbm, ⟨10, _⟩ => ⟨S8x1x1024, .f32⟩
  | .hbm, ⟨11, _⟩ => ⟨S8x1x1024, .f32⟩
  | .hbm, ⟨12, _⟩ => ⟨S1024x128, .bf16⟩
  | .hbm, ⟨13, _⟩ => ⟨S16384x1024, .f32⟩
  | .hbm, ⟨14, _⟩ => ⟨S16384x1024, .f32⟩
  | .hbm, ⟨15, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x1024, .f32⟩
  | .local _ .vmem, ⟨4, _⟩ => ⟨S1x1024, .f32⟩
  | .local _ .vmem, ⟨5, _⟩ => ⟨S4x128x128, .bf16⟩
  | .local _ .vmem, ⟨6, _⟩ => ⟨S128x1024, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x128, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x128, .f32⟩
  | .local _ .vmem, ⟨23, _⟩ => ⟨S512x128, .f32⟩
  | .local _ .vmem, ⟨24, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== SguReferenceIdeal.lean ====
abbrev S16384x1024 : Shape := ⟨2, ![16384, 1024]⟩
abbrev S1024x2048 : Shape := ⟨2, ![1024, 2048]⟩
abbrev S1x1024 : Shape := ⟨2, ![1, 1024]⟩
abbrev S4x128x128 : Shape := ⟨3, ![4, 128, 128]⟩
abbrev S128x1024 : Shape := ⟨2, ![128, 1024]⟩
abbrev S1024x1024 : Shape := ⟨2, ![1024, 1024]⟩
abbrev S8x1x1024 : Shape := ⟨3, ![8, 1, 1024]⟩
abbrev S1024x128 : Shape := ⟨2, ![1024, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1024 : Shape := ⟨1, ![1024]⟩
abbrev S128x128x4x256 : Shape := ⟨4, ![128, 128, 4, 256]⟩
abbrev S4x128x256x128 : Shape := ⟨4, ![4, 128, 256, 128]⟩
abbrev S128x4x256 : Shape := ⟨3, ![128, 4, 256]⟩
abbrev S1x128x4x256 : Shape := ⟨4, ![1, 128, 4, 256]⟩
abbrev S8x2048x1024 : Shape := ⟨3, ![8, 2048, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x8 : Shape := ⟨2, ![1024, 8]⟩
abbrev S16384x8 : Shape := ⟨2, ![16384, 8]⟩
abbrev S8 : Shape := ⟨1, ![8]⟩
abbrev S1x8 : Shape := ⟨2, ![1, 8]⟩
abbrev S16384x4 : Shape := ⟨2, ![16384, 4]⟩
abbrev S16384x128 : Shape := ⟨2, ![16384, 128]⟩

abbrev nBuf : Space → Nat
  | .hbm => 163
  | .vmem => 0
  | .smem => 0
  | _ => 0

abbrev hbmTy0_0 (i : Nat) : BufTy := match i % 128 with
  | 0 => ⟨S16384x1024, .bf16⟩
  | 1 => ⟨S1024x2048, .bf16⟩
  | 2 => ⟨S1x1024, .f32⟩
  | 3 => ⟨S1x1024, .f32⟩
  | 4 => ⟨S4x128x128, .bf16⟩
  | 5 => ⟨S128x1024, .f32⟩
  | 6 => ⟨S1024x1024, .bf16⟩
  | 7 => ⟨S16384x1024, .f32⟩
  | 8 => ⟨S8x1x1024, .f32⟩
  | 9 => ⟨S1x1024, .f32⟩
  | 10 => ⟨S8x1x1024, .f32⟩
  | 11 => ⟨S8x1x1024, .f32⟩
  | 12 => ⟨S1024x128, .bf16⟩
  | 13 => ⟨S16384x1024, .f32⟩
  | 14 => ⟨S1024x2048, .f32⟩
  | 15 => ⟨S16384x2048, .f32⟩
  | 16 => ⟨S16384x2048, .f32⟩
  | 17 => ⟨S16384x2048, .f32⟩
  | 18 => ⟨S_, .f32⟩
  | 19 => ⟨S16384x2048, .f32⟩
  | 20 => ⟨S16384x2048, .f32⟩
  | 21 => ⟨S16384x2048, .f32⟩
  | 22 => ⟨S_, .f32⟩
  | 23 => ⟨S16384x2048, .f32⟩
  | 24 => ⟨S16384x2048, .f32⟩
  | 25 => ⟨S16384x2048, .f32⟩
  | 26 => ⟨S_, .f32⟩
  | 27 => ⟨S16384x2048, .f32⟩
  | 28 => ⟨S16384x2048, .f32⟩
  | 29 => ⟨S_, .f32⟩
  | 30 => ⟨S16384x2048, .f32⟩
  | 31 => ⟨S16384x2048, .f32⟩
  | 32 => ⟨S16384x2048, .f32⟩
  | 33 => ⟨S16384x1024, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S16384x1024, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x1024, .f32⟩
  | 51 => ⟨S16384x1024, .f32⟩
  | 52 => ⟨S_, .f32⟩
  | 53 => ⟨S16384x1, .f32⟩
  | 54 => ⟨S16384x1, .f32⟩
  | 55 => ⟨S16384x1, .f32⟩
  | 56 => ⟨S16384x1024, .f32⟩
  | 57 => ⟨S16384x1024, .f32⟩
  | 58 => ⟨S1024, .f32⟩
  | 59 => ⟨S1x1024, .f32⟩
  | 60 => ⟨S16384x1024, .f32⟩
  | 61 => ⟨S16384x1024, .f32⟩
  | 62 => ⟨S1024, .f32⟩
  | 63 => ⟨S1x1024, .f32⟩
  | 64 => ⟨S16384x1024, .f32⟩
  | 65 => ⟨S16384x1024, .f32⟩
  | 66 => ⟨S4x128x128, .f32⟩
  | 67 => ⟨S128x128x4x256, .f32⟩
  | 68 => ⟨S4x128x256x128, .f32⟩
  | 69 => ⟨S128x128x4x256, .f32⟩
  | 70 => ⟨S128x4x256, .f32⟩
  | 71 => ⟨S1x128x4x256, .f32⟩
  | 72 => ⟨S128x128x4x256, .f32⟩
  | 73 => ⟨S128x128x4x256, .f32⟩
  | 74 => ⟨S16384x1024, .f32⟩
  | 75 => ⟨S16384x1024, .f32⟩
  | 76 => ⟨S1024x1024, .f32⟩
  | 77 => ⟨S16384x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S8x2048x1024, .f32⟩
  | 84 => ⟨S_, .f32⟩
  | 85 => ⟨S8x2048, .f32⟩
  | 86 => ⟨S8x2048x1, .f32⟩
  | 87 => ⟨S_, .f32⟩
  | 88 => ⟨S8x2048x1, .f32⟩
  | 89 => ⟨S8x2048x1, .f32⟩
  | 90 => ⟨S_, .f32⟩
  | 91 => ⟨S8x2048x1, .f32⟩
  | 92 => ⟨S8x2048x1, .f32⟩
  | 93 => ⟨S8x2048x1, .f32⟩
  | 94 => ⟨S8x2048x1024, .f32⟩
  | 95 => ⟨S8x2048x1024, .f32⟩
  | 96 => ⟨S1024, .f32⟩
  | 97 => ⟨S1x1x1024, .f32⟩
  | 98 => ⟨S8x2048x1024, .f32⟩
  | 99 => ⟨S8x2048x1024, .f32⟩
  | 100 => ⟨S_, .f32⟩
  | 101 => ⟨S8x1x1024, .f32⟩
  | 102 => ⟨S8x1x1024, .f32⟩
  | 103 => ⟨S8x2048x1024, .f32⟩
  | 104 => ⟨S8x2048x1024, .f32⟩
  | 105 => ⟨S8x2048x1024, .f32⟩
  | 106 => ⟨S8x2048x1024, .f32⟩
  | 107 => ⟨S16384x1024, .f32⟩
  | 108 => ⟨S1024x8, .bf16⟩
  | 109 => ⟨S1024x8, .f32⟩
  | 110 => ⟨S16384x8, .f32⟩
  | 111 => ⟨S8, .f32⟩
  | 112 => ⟨S_, .f32⟩
  | 113 => ⟨S16384, .f32⟩
  | 114 => ⟨S16384x1, .f32⟩
  | 115 => ⟨S16384x8, .f32⟩
  | 116 => ⟨S16384x8, .i1⟩
  | 117 => ⟨S_, .f32⟩
  | 118 => ⟨S_, .f32⟩
  | 119 => ⟨S16384x8, .f32⟩
  | 120 => ⟨S16384x8, .f32⟩
  | 121 => ⟨S16384x8, .f32⟩
  | 122 => ⟨S_, .f32⟩
  | 123 => ⟨S16384, .f32⟩
  | 124 => ⟨S16384x1, .f32⟩
  | 125 => ⟨S1x8, .f32⟩
  | 126 => ⟨S16384x8, .f32⟩
  | 127 => ⟨S16384x8, .f32⟩
  | _ => ⟨S16384x1024, .bf16⟩

abbrev hbmTy0_1 (i : Nat) : BufTy := match i % 128 with
  | 0 => ⟨S16384x8, .i1⟩
  | 1 => ⟨S_, .f32⟩
  | 2 => ⟨S_, .f32⟩
  | 3 => ⟨S16384x8, .f32⟩
  | 4 => ⟨S16384x8, .f32⟩
  | 5 => ⟨S_, .f32⟩
  | 6 => ⟨S16384, .f32⟩
  | 7 => ⟨S16384x1, .f32⟩
  | 8 => ⟨S16384x8, .f32⟩
  | 9 => ⟨S16384x8, .i1⟩
  | 10 => ⟨S_, .f32⟩
  | 11 => ⟨S_, .f32⟩
  | 12 => ⟨S16384x8, .f32⟩
  | 13 => ⟨S16384x8, .f32⟩
  | 14 => ⟨S16384x8, .f32⟩
  | 15 => ⟨S_, .f32⟩
  | 16 => ⟨S16384, .f32⟩
  | 17 => ⟨S16384x1, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x4, .f32⟩
  | 31 => ⟨S_, .i32⟩
  | 32 => ⟨S_, .f32⟩
  | 33 => ⟨S16384x128, .f32⟩
  | 34 => ⟨S16384x1024, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v90 : Ref sig .tc := ⟨.hbm, 121, rfl⟩
abbrev main_cst_14 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_15 : Ref sig .tc := ⟨.hbm, 129, rfl⟩
abbrev main_call1_v0 : Ref sig .tc := ⟨.hbm, 130, rfl⟩
abbrev main_call1_v1 : Ref sig .tc := ⟨.hbm, 131, rfl⟩
abbrev main_v97 : Ref sig .tc := ⟨.hbm, 132, rfl⟩
abbrev main_cst_16 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_17 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v102 : Ref sig .tc := ⟨.hbm, 142, rfl⟩
abbrev main_cst_18 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_19 : Ref sig .tc := ⟨.hbm, 148, rfl⟩
abbrev main_v107 : Ref sig .tc := ⟨.hbm, 149, rfl⟩
abbrev main_v108 : Ref sig .tc := ⟨.hbm, 150, rfl⟩
abbrev main_cst_20 : Ref sig .tc := ⟨.hbm, 151, rfl⟩
abbrev main_v109 : Ref sig .tc := ⟨.hbm, 152, rfl⟩
abbrev main_v110 : Ref sig .tc := ⟨.hbm, 153, rfl⟩
abbrev main_cst_21 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c : Ref sig .tc := ⟨.hbm, 159, rfl⟩
abbrev main_call3_v0 : Ref sig .tc := ⟨.hbm, 160, rfl⟩
abbrev main_v115 : Ref sig .tc := ⟨.hbm, 161, rfl⟩
abbrev main_v116 : Ref sig .tc := ⟨.hbm, 162, rfl⟩

abbrev nD : Nat := 1
abbrev τ : Topo := Topo.v7x

variable {F : FTy → Type} [FloatOps F]
-- ==== OutprojKernel.lean ====
abbrev S16384x512 : Shape := ⟨2, ![16384, 512]⟩
abbrev S3x512 : Shape := ⟨2, ![3, 512]⟩
abbrev S1024x1024 : Shape := ⟨2, ![1024, 1024]⟩
abbrev S16384x1024 : Shape := ⟨2, ![16384, 1024]⟩
abbrev S8x1x1024 : Shape := ⟨3, ![8, 1, 1024]⟩
abbrev S1x1024 : Shape := ⟨2, ![1, 1024]⟩
abbrev S512x512 : Shape := ⟨2, ![512, 512]⟩
abbrev S8x512 : Shape := ⟨2, ![8, 512]⟩
abbrev S512x1024 : Shape := ⟨2, ![512, 1024]⟩
abbrev S1x1x1024 : Shape := ⟨3, ![1, 1, 1024]⟩
abbrev S1x512 : Shape := ⟨2, ![1, 512]⟩
abbrev S512x1 : Shape := ⟨2, ![512, 1]⟩
abbrev S512 : Shape := ⟨1, ![512]⟩

abbrev nBuf : Space → Nat
  | .hbm => 12
  | .vmem => 25
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S3x512, .f32⟩
  | .hbm, ⟨4, _⟩ => ⟨S1024x1024, .bf16⟩
  | .hbm, ⟨5, _⟩ => ⟨S16384x1024, .f32⟩
  | .hbm, ⟨6, _⟩ => ⟨S8x1x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S16384x1024, .f32⟩
  | .hbm, ⟨11, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S8x512, .bf16⟩
  | .local _ .vmem, ⟨7, _⟩ => ⟨S8x512, .bf16⟩
  | .local _ .vmem, ⟨8, _⟩ => ⟨S8x512, .bf16⟩
  | .local _ .vmem, ⟨9, _⟩ => ⟨S8x512, .bf16⟩
  | .local _ .vmem, ⟨10, _⟩ => ⟨S3x512, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutprojReferenceIdeal.lean ====
abbrev S16384x512 : Shape := ⟨2, ![16384, 512]⟩
abbrev S3x512 : Shape := ⟨2, ![3, 512]⟩
abbrev S1024x1024 : Shape := ⟨2, ![1024, 1024]⟩
abbrev S16384x1024 : Shape := ⟨2, ![16384, 1024]⟩
abbrev S8x1x1024 : Shape := ⟨3, ![8, 1, 1024]⟩
abbrev S1x1024 : Shape := ⟨2, ![1, 1024]⟩
abbrev S8x2048x512 : Shape := ⟨3, ![8, 2048, 512]⟩
abbrev S_ : Shape := ⟨0, ![]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S8x2048x1024 : Shape := ⟨3, ![8, 2048, 1024]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S3x512, .f32⟩
  | .hbm, ⟨4, _⟩ => ⟨S1024x1024, .bf16⟩
  | .hbm, ⟨5, _⟩ => ⟨S16384x1024, .f32⟩
  | .hbm, ⟨6, _⟩ => ⟨S8x1x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S16384x512, .f32⟩
  | .hbm, ⟨11, _⟩ => ⟨S8x2048x512, .f32⟩
  | .hbm, ⟨12, _⟩ => ⟨S_, .i32⟩
  | .hbm, ⟨13, _⟩ => ⟨S_, .f32⟩
  | .hbm, ⟨14, _⟩ => ⟨S8x2050x512, .f32⟩
  | .hbm, ⟨15, _⟩ => ⟨S8x2048x512, .f32⟩
  | .hbm, ⟨16, _⟩ => ⟨S1x512, .f32⟩
  | .hbm, ⟨17, _⟩ => ⟨S512, .f32⟩
  | .hbm, ⟨18, _⟩ => ⟨S1x1x512, .f32⟩
  | .hbm, ⟨19, _⟩ => ⟨S8x2048x512, .f32⟩
  | .hbm, ⟨20, _⟩ => ⟨S8x2048x512, .f32⟩
  | .hbm, ⟨21, _⟩ => ⟨S8x2048x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S8x2048x512, .f32⟩
  | .hbm, ⟨33, _⟩ => ⟨S8x2048x512, .f32⟩
  | .hbm, ⟨34, _⟩ => ⟨S8x2048x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S8x2048x1024, .f32⟩
  | .hbm, ⟨68, _⟩ => ⟨S8x2048x1024, .f32⟩
  | .hbm, ⟨69, _⟩ => ⟨S8x2048x1024, .f32⟩
  | .hbm, ⟨70, _⟩ => ⟨S8x2048x1024, .f32⟩
  | .hbm, ⟨71, _⟩ => ⟨S16384x1024, .f32⟩
  | .hbm, ⟨72, _⟩ => ⟨S16384x1024, .f32⟩
  | .hbm, ⟨73, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_cst_0 : Ref sig .tc := ⟨.hbm, 51, rfl⟩
abbrev main_v38 : Ref sig .tc := ⟨.hbm, 52, rfl⟩
abbrev main_v39 : Ref sig .tc := ⟨.hbm, 53, rfl⟩
abbrev main_cst_1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Proof.AttnMath.lean ====
/- The mathematics of one row of differential attention, over plain functions: no array, no program. -/
module

public import Idealize.ShloMosaic.Lib.Pointwise
public import Idealize.ShloMosaic.PureOps.Ideal

@[expose] public section

noncomputable section

namespace Cert.Proof.AttnMath

open Idealize.ShloMosaic

/-- Minus infinity, the start of every row maximum. -/
def low : EReal := Ideal.ofBits .f32 0xFF800000#32

theorem low_eq : low = ⊥ := by simp [low, Ideal.ofBits, Ideal.ieee]

/-- The larger of the two parts' maxima: the maximum of a row of context scores and of latent scores. -/
def top (sc : Fin 256 → EReal) (sl : Fin 2048 → EReal) : EReal :=
  max (Finset.univ.fold max low sc) (Finset.univ.fold max low sl)

/-- The row sum of the exponentials, shifted by the row maximum, over both parts. -/
def mass (sc : Fin 256 → EReal) (sl : Fin 2048 → EReal) : EReal :=
  (∑ k, Ideal.exp (sc k - top sc sl)) + ∑ k, Ideal.exp (sl k - top sc sl)

/-- The difference of the two softmax maps at one score of each (`a` of the first row, `b` of the second), the second
    weighted by `lam`. -/
def weight (lam : EReal) (sc₀ : Fin 256 → EReal) (sl₀ : Fin 2048 → EReal) (sc₁ : Fin 256 → EReal) (sl₁ : Fin 2048 → EReal)
    (a b : EReal) : EReal :=
  Ideal.div (Ideal.exp (a - top sc₀ sl₀)) (mass sc₀ sl₀) - lam * Ideal.div (Ideal.exp (b - top sc₁ sl₁)) (mass sc₁ sl₁)

/-- A row of attention: the values, weighted, summed over the context keys and over the latent keys. -/
def row (lam : EReal) (sc₀ : Fin 256 → EReal) (sl₀ : Fin 2048 → EReal) (sc₁ : Fin 256 → EReal) (sl₁ : Fin 2048 → EReal)
    (vc : Fin 256 → EReal) (vl : Fin 2048 → EReal) : EReal :=
  (∑ k, weight lam sc₀ sl₀ sc₁ sl₁ (sc₀ k) (sc₁ k) * vc k) + ∑ k, weight lam sc₀ sl₀ sc₁ sl₁ (sl₀ k) (sl₁ k) * vl k

/-- A maximum over 2304 keys is the larger of the maxima over the first 256 and over the other 2048. -/
theorem fold_max_split (b : EReal) (f : Fin 2304 → EReal) :
    Finset.univ.fold max b f
      = max (Finset.univ.fold max b fun k : Fin 256 => f ⟨k.val, by omega⟩)
          (Finset.univ.fold max b fun k : Fin 2048 => f ⟨256 + k.val, by omega⟩) := by
  refine eq_of_forall_ge_iff fun c => ?_
  simp only [Finset.fold_max_le, max_le_iff, Finset.mem_univ, true_implies]
  refine ⟨fun ⟨h, g⟩ => ⟨⟨h, fun k => g _⟩, h, fun k => g _⟩, fun ⟨⟨h, g⟩, _, g'⟩ => ⟨h, fun k => ?_⟩⟩
  by_cases hk : k.val < 256
  · exact g ⟨k.val, hk⟩
  · have e : k = ⟨256 + (k.val - 256), by omega⟩ := Fin.ext (by simp only; omega)
    rw [e]; exact g' ⟨k.val - 256, by omega⟩

/-- A sum over 2304 keys is the sum over the first 256 and the sum over the other 2048. -/
theorem sum_split (f : Fin 2304 → EReal) :
    ∑ k, f k = (∑ k : Fin 256, f ⟨k.val, by omega⟩) + ∑ k : Fin 2048, f ⟨256 + k.val, by omega⟩ :=
  Fin.sum_univ_add (M := EReal) (a := 256) (b := 2048) f

/-- A row divided by its root mean square, times the gain, times the factor 0.8. -/
def normed (o g : Fin 128 → EReal) (e : Fin 128) : EReal :=
  o e * Ideal.rsqrt (Ideal.div (∑ x, o x * o x) (Ideal.ofBits .f32 0x43000000#32) + Ideal.ofBits .f32 0x358637BD#32) * g e
    * Ideal.ofBits .f32 0x3F4CCCCD#32

/-- Equal rows and gains give equal results. -/
theorem normed_congr {o o' g g' : Fin 128 → EReal} (ho : ∀ x, o x = o' x) (hg : ∀ x, g x = g' x) (e : Fin 128) : normed o g e = normed o' g' e := by
  rw [funext ho, funext hg]

/-- Equal scores and values give equal rows. -/
theorem row_congr {l l' : EReal} {a a' c c' v v' : Fin 256 → EReal} {b b' d d' w w' : Fin 2048 → EReal} (hl : l = l') (ha : a = a') (hb : b = b')
    (hc : c = c') (hd : d = d') (hv : ∀ j, v j = v' j) (hw : ∀ j, w j = w' j) : row l a b c d v w = row l' a' b' c' d' v' w' := by
  rw [hl, ha, hb, hc, hd, funext hv, funext hw]

/-- A maximum that starts at `b` is not changed by taking the larger of it and `b`. -/
theorem max_fold {n : ℕ} (b : EReal) (f : Fin n → EReal) : max b (Finset.univ.fold max b f) = Finset.univ.fold max b f :=
  max_eq_right (Finset.le_fold_max (b := b) (c := b) |>.2 (.inl le_rfl))

/-- The exponential is never negative. -/
theorem exp_nonneg (x : EReal) : 0 ≤ Ideal.exp x := by
  induction x with
  | bot => simp
  | top => simp
  | coe r => rw [Ideal.exp_coe]; exact_mod_cast (Real.exp_pos r).le

/-- The exponential of anything above minus infinity is positive. -/
theorem exp_pos {x : EReal} (h : x ≠ ⊥) : 0 < Ideal.exp x := by
  induction x with
  | bot => exact absurd rfl h
  | top => simp
  | coe r => rw [Ideal.exp_coe]; exact_mod_cast Real.exp_pos r

/-- A row of finite scores has a positive sum of exponentials. -/
theorem mass_ne_zero (sc : Fin 256 → EReal) (sl : Fin 2048 → EReal) (hc : ∀ k, ∃ r : ℝ, sc k = r) (hl : ∀ k, ∃ r : ℝ, sl k = r) :
    mass sc sl ≠ 0 := by
  have ht : top sc sl < ⊤ := by
    unfold top
    rw [low_eq, max_lt_iff]
    constructor <;> rw [Finset.fold_max_lt] <;> refine ⟨bot_lt_top, fun k _ => ?_⟩
    · obtain ⟨r, e⟩ := hc k; rw [e]; exact EReal.coe_lt_top r
    · obtain ⟨r, e⟩ := hl k; rw [e]; exact EReal.coe_lt_top r
  have h0 : 0 < Ideal.exp (sc 0 - top sc sl) := by
    refine exp_pos ?_
    obtain ⟨r, e⟩ := hc 0
    rw [e]
    generalize top sc sl = t at ht
    induction t with
    | bot => simp
    | top => exact absurd rfl ht.ne
    | coe s => rw [← EReal.coe_sub]; exact EReal.coe_ne_bot _
  refine ne_of_gt ?_
  calc (0 : EReal) < Ideal.exp (sc 0 - top sc sl) := h0
    _ ≤ ∑ k, Ideal.exp (sc k - top sc sl) :=
        Finset.single_le_sum (f := fun k => Ideal.exp (sc k - top sc sl)) (fun k _ => exp_nonneg _) (Finset.mem_univ 0)
    _ ≤ mass sc sl := le_add_of_nonneg_right (Finset.sum_nonneg fun k _ => exp_nonneg _)

/-- Where both row sums are not zero, a product with the two reciprocals is the difference of the two quotients. -/
theorem weight_of_reciprocals (lam : EReal) (sc₀ : Fin 256 → EReal) (sl₀ : Fin 2048 → EReal) (sc₁ : Fin 256 → EReal)
    (sl₁ : Fin 2048 → EReal) (h₀ : mass sc₀ sl₀ ≠ 0) (h₁ : mass sc₁ sl₁ ≠ 0) (a b : EReal) :
    Ideal.exp (a - top sc₀ sl₀) * Ideal.div 1 (mass sc₀ sl₀)
        - Ideal.exp (b - top sc₁ sl₁) * (Ideal.div 1 (mass sc₁ sl₁) * lam)
      = weight lam sc₀ sl₀ sc₁ sl₁ a b := by
  unfold weight Ideal.div
  rw [if_neg h₀, if_neg h₀, if_neg h₁, if_neg h₁, one_mul, one_mul]
  congr 1
  rw [← mul_assoc, mul_comm lam]

/-- A sum of products of finite numbers is finite. -/
theorem sum_real {n : ℕ} (f g : Fin n → EReal) (hf : ∀ d, ∃ r : ℝ, f d = r) (hg : ∀ d, ∃ r : ℝ, g d = r) :
    ∃ r : ℝ, ∑ d, f d * g d = r := by
  choose a ha using hf
  choose b hb using hg
  refine ⟨∑ d, a d * b d, ?_⟩
  simp only [ha, hb, ← EReal.coe_mul]
  exact Finset.induction_on (motive := fun s => ∑ d ∈ s, ((a d * b d : ℝ) : EReal) = ((∑ d ∈ s, a d * b d : ℝ) : EReal))
    Finset.univ (by simp) fun d s hd ih => by rw [Finset.sum_insert hd, Finset.sum_insert hd, ih, EReal.coe_add]

end Cert.Proof.AttnMath

end
-- ==== Proof.AttnPre.lean ====
/- What the precondition of the attention says: the queries and both arrays of keys are finite. -/
module

public import proofs.«01_k».proof.Defs
public import proofs.«01_k».proof.Proof.AttnMath

@[expose] public section

set_option maxRecDepth 16384

noncomputable section

namespace Cert.Proof.AttnPre

open Idealize.ShloMosaic Idealize.ShloMosaic.TcCoe Idealize.SL.Sem

/-- A number whose absolute value lies below plus infinity is finite. -/
theorem finite_of_lt (x : EReal) (h : FloatOps.cmpf (F := Ideal) (φ := .bf16) .olt (FloatOps.hostAbsf x) (Ideal.ofBits .bf16 0x7F80#16) = 1#1) :
    ∃ a : ℝ, x = (a : EReal) := by
  have t : Ideal.ofBits .bf16 0x7F80#16 = ⊤ := by simp [Ideal.ofBits, Ideal.ieee]
  rw [t] at h
  induction x with
  | bot => exact absurd h (by simp [FloatOps.cmpf, Ideal.cmp, FloatOps.hostAbsf, FloatOps.absf])
  | top => exact absurd h (by simp [FloatOps.cmpf, Ideal.cmp, FloatOps.hostAbsf, FloatOps.absf])
  | coe a => exact ⟨a, rfl⟩

variable [hp : Cert.Pre_finite.Facts]
variable (a0 : FVec Ideal Cert.Pre_finite.S1 .f32) (a1 : FVec Ideal Cert.Pre_finite.S8x2048x512 .bf16) (a2 : FVec Ideal Cert.Pre_finite.S8x256x512 .bf16)
  (a3 : FVec Ideal Cert.Pre_finite.S8x2048x512 .bf16) (a4 : FVec Ideal Cert.Pre_finite.S8x256x512 .bf16)
  (a5 : FVec Ideal Cert.Pre_finite.S8x2048x512 .bf16) (a6 : FVec Ideal Cert.Pre_finite.S1x128 .f32)

/-- All ones: the queries are finite. -/
theorem queries (h : (Cert.Pre_finite.fn (F := Ideal) a0 a1 a2 a3 a4 a5 a6).1 = fun _ => 1#1) (i : Cert.Pre_finite.S8x2048x512.Idx) : ∃ r : ℝ, a1 i = (r : EReal) :=
  finite_of_lt (a1 i) (congrFun h i)

/-- … the context keys are. -/
theorem ctx_keys (h : (Cert.Pre_finite.fn (F := Ideal) a0 a1 a2 a3 a4 a5 a6).2.1 = fun _ => 1#1) (i : Cert.Pre_finite.S8x256x512.Idx) : ∃ r : ℝ, a2 i = (r : EReal) :=
  finite_of_lt (a2 i) (congrFun h i)

/-- … and the latent keys are. -/
theorem lat_keys (h : (Cert.Pre_finite.fn (F := Ideal) a0 a1 a2 a3 a4 a5 a6).2.2 = fun _ => 1#1) (i : Cert.Pre_finite.S8x2048x512.Idx) : ∃ r : ℝ, a3 i = (r : EReal) :=
  finite_of_lt (a3 i) (congrFun h i)

end Cert.Proof.AttnPre

end
-- ==== Proof.AttnBody.lean ====
/- What one grid point of the attention computes, of the blocks it reads. -/
module

public import proofs.«01_k».proof.Proof.Gen.KernelIdeal.Skeleton
public import proofs.«01_k».proof.Proof.AttnMath

@[expose] public section

set_option maxRecDepth 16384

noncomputable section

namespace Cert.Proof.AttnBody

open Idealize.ShloMosaic Idealize.ShloMosaic.TcCoe Idealize.SL.Sem
open Cert.KernelIdeal Cert.KernelIdeal.Gen Cert.Proof.AttnMath

/-- The queries of one component, the other's lanes zero, against the context keys. -/
def scoreC (q : FVec Ideal S512x128 .bf16) (kc : FVec Ideal S256x128 .bf16) : FVec Ideal S512x256 .f32 :=
  matmul (F := Ideal) dot_S512x128_S256x128_S512x256_1_1_0_0_n_n none q kc (constant S512x256 .f32 0x00000000#32)

/-- … and against the latent keys. -/
def scoreL (q : FVec Ideal S512x128 .bf16) (k : FVec Ideal S2048x128 .bf16) : FVec Ideal S512x2048 .f32 :=
  matmul (F := Ideal) dot_S512x128_S2048x128_S512x2048_1_1_0_0_n_n none q k (constant S512x2048 .f32 0x00000000#32)

/-- The maximum of each row over both parts. -/
def rowMax (s : FVec Ideal S512x256 .f32) (t : FVec Ideal S512x2048 .f32) : FVec Ideal S512x1 .f32 :=
  maximumf (F := Ideal) (shapeCast S512x1 (multiReduction (F := Ideal) .maximumf [1] S512 s 0xFF800000#32 reduces_S512x256_S512 (.inl rfl) rfl) shapeCasts_S512_S512x1)
    (shapeCast S512x1 (multiReduction (F := Ideal) .maximumf [1] S512 t 0xFF800000#32 reduces_S512x2048_S512 (.inl rfl) rfl) shapeCasts_S512_S512x1)

/-- The exponentials of the context scores, shifted by the row maximum. -/
def expC (s : FVec Ideal S512x256 .f32) (m : FVec Ideal S512x1 .f32) : FVec Ideal S512x256 .f32 :=
  exp (F := Ideal) (subf (F := Ideal) s (broadcastTo S512x256 m broadcasts_S512x1_S512x256))

/-- … and of the latent scores. -/
def expL (s : FVec Ideal S512x2048 .f32) (m : FVec Ideal S512x1 .f32) : FVec Ideal S512x2048 .f32 :=
  exp (F := Ideal) (subf (F := Ideal) s (broadcastTo S512x2048 m broadcasts_S512x1_S512x2048))

/-- One over each row's sum of exponentials. -/
def rowInv (s : FVec Ideal S512x256 .f32) (t : FVec Ideal S512x2048 .f32) : FVec Ideal S512x1 .f32 :=
  divf (F := Ideal) (broadcast S512x1 (Scalar.ofBits (F := Ideal) .f32 0x3F800000#32))
    (addf (F := Ideal) (shapeCast S512x1 (multiReduction (F := Ideal) .add [1] S512 s 0x00000000#32 reduces_S512x256_S512 (.inl rfl) rfl) shapeCasts_S512_S512x1)
      (shapeCast S512x1 (multiReduction (F := Ideal) .add [1] S512 t 0x00000000#32 reduces_S512x2048_S512 (.inl rfl) rfl) shapeCasts_S512_S512x1))

/-- The difference of the two maps over the context. -/
def diffC (p₀ : FVec Ideal S512x256 .f32) (r₀ : FVec Ideal S512x1 .f32) (p₁ : FVec Ideal S512x256 .f32) (r₁ : FVec Ideal S512x1 .f32) :
    FVec Ideal S512x256 .f32 :=
  subf (F := Ideal) (mulf (F := Ideal) p₀ (broadcastTo S512x256 r₀ broadcasts_S512x1_S512x256))
    (mulf (F := Ideal) p₁ (broadcastTo S512x256 r₁ broadcasts_S512x1_S512x256))

/-- … and over the latents. -/
def diffL (p₀ : FVec Ideal S512x2048 .f32) (r₀ : FVec Ideal S512x1 .f32) (p₁ : FVec Ideal S512x2048 .f32) (r₁ : FVec Ideal S512x1 .f32) :
    FVec Ideal S512x2048 .f32 :=
  subf (F := Ideal) (mulf (F := Ideal) p₀ (broadcastTo S512x2048 r₀ broadcasts_S512x1_S512x2048))
    (mulf (F := Ideal) p₁ (broadcastTo S512x2048 r₁ broadcasts_S512x1_S512x2048))

/-- The weighted values, both parts added. -/
def weighted (w : FVec Ideal S512x256 .f32) (x : FVec Ideal S512x2048 .f32) (vc : FVec Ideal S1x256x128 .bf16) (v : FVec Ideal S1x2048x128 .bf16) :
    FVec Ideal S512x128 .f32 :=
  addf (F := Ideal)
    (matmul (F := Ideal) dot_S512x256_S256x128_S512x128_1_0_0_1_n_n none (truncf (F := Ideal) .bf16 w bitsLt_bf16_f32)
      (shapeCast S256x128 vc shapeCasts_S1x256x128_S256x128) (constant S512x128 .f32 0x00000000#32))
    (matmul (F := Ideal) dot_S512x2048_S2048x128_S512x128_1_0_0_1_n_n none (truncf (F := Ideal) .bf16 x bitsLt_bf16_f32)
      (shapeCast S2048x128 v shapeCasts_S1x2048x128_S2048x128) (constant S512x128 .f32 0x00000000#32))

/-- The queries of the second component. -/
def second (q z : FVec Ideal S512x128 .bf16) (mask : IVec S1x128 1) : FVec Ideal S512x128 .bf16 :=
  select (broadcastTo S512x128 mask broadcasts_S1x128_S512x128) q z

/-- The first component's row maximum. -/
theorem pay8 (v0 : Vec Ideal S1x512x128 .bf16) (v3 : Vec Ideal S1x256x128 .bf16) (v5 : Vec Ideal S1x2048x128 .bf16) :
    k0_pay8 (F := Ideal) v0 v3 v5 = rowMax (k0_pay6 v0 v3) (k0_pay7 v0 v5) := rfl

/-- The first component's scores, context. -/
theorem pay6 (v0 : Vec Ideal S1x512x128 .bf16) (v3 : Vec Ideal S1x256x128 .bf16) :
    k0_pay6 (F := Ideal) v0 v3 = scoreC (k0_pay5 v0) (k0_pay3 v3) := rfl

/-- The first component's scores, latents. -/
theorem pay7 (v0 : Vec Ideal S1x512x128 .bf16) (v5 : Vec Ideal S1x2048x128 .bf16) :
    k0_pay7 (F := Ideal) v0 v5 = scoreL (k0_pay5 v0) (k0_pay4 v5) := rfl

/-- Its exponentials, context. -/
theorem pay9 (v0 : Vec Ideal S1x512x128 .bf16) (v3 : Vec Ideal S1x256x128 .bf16) (v5 : Vec Ideal S1x2048x128 .bf16) :
    k0_pay9 (F := Ideal) v0 v3 v5 = expC (k0_pay6 v0 v3) (k0_pay8 v0 v3 v5) := rfl

/-- Its exponentials, latents. -/
theorem pay10 (v0 : Vec Ideal S1x512x128 .bf16) (v3 : Vec Ideal S1x256x128 .bf16) (v5 : Vec Ideal S1x2048x128 .bf16) :
    k0_pay10 (F := Ideal) v0 v3 v5 = expL (k0_pay7 v0 v5) (k0_pay8 v0 v3 v5) := rfl

/-- Its reciprocal row sum. -/
theorem pay11 (v0 : Vec Ideal S1x512x128 .bf16) (v3 : Vec Ideal S1x256x128 .bf16) (v5 : Vec Ideal S1x2048x128 .bf16) :
    k0_pay11 (F := Ideal) v0 v3 v5 = rowInv (k0_pay9 v0 v3 v5) (k0_pay10 v0 v3 v5) := rfl

/-- The second component by the same steps, and the weighted values. -/
theorem pay14 (v1 : FVec Ideal S512x128 .bf16) (v4 : FVec Ideal S256x128 .bf16) (v6 : FVec Ideal S2048x128 .bf16)
    (v22 : FVec Ideal S512x256 .f32) (v25 : FVec Ideal S512x2048 .f32) (v32 : FVec Ideal S512x1 .f32) (v35 : FVec Ideal S512x128 .bf16) (v36 : IVec S1x128 1)
    (v59 : Elt Ideal .f32) (v74 : Vec Ideal S1x256x128 .bf16) (v77 : Vec Ideal S1x2048x128 .bf16)
    (s : FVec Ideal S512x256 .f32) (t : FVec Ideal S512x2048 .f32) (m : FVec Ideal S512x1 .f32)
    (hs : scoreC (second v1 v35 v36) v4 = s) (ht : scoreL (second v1 v35 v36) v6 = t) (hm : rowMax s t = m) :
    k0_pay14 (F := Ideal) v1 v4 v6 v22 v25 v32 v35 v36 v59 v74 v77
      = weighted (diffC v22 v32 (expC s m) (mulf (F := Ideal) (rowInv (expC s m) (expL t m)) (broadcast S512x1 v59)))
          (diffL v25 v32 (expL t m) (mulf (F := Ideal) (rowInv (expC s m) (expL t m)) (broadcast S512x1 v59))) v74 v77 := by
  subst hs ht hm; rfl

/-- Which lanes lie below the middle. -/
theorem below (x : Fin 128) : IntOp.cmpi .slt (BitVec.ofNat 32 x.val) 64#32 = if x.val < 64 then 1#1 else 0#1 := by
  revert x; decide

/-- Which lanes lie at or above the middle. -/
theorem above (x : Fin 128) : IntOp.cmpi .sge (BitVec.ofNat 32 x.val) 64#32 = if 64 ≤ x.val then 1#1 else 0#1 := by
  revert x; decide

/-- The first component keeps the lower lanes. -/
theorem first_lane (v0 : Vec Ideal S1x512x128 .bf16) (r : Fin 512) (x : Fin 128) :
    k0_pay5 (F := Ideal) v0 (ix2 r x) = if x.val < 64 then v0 (ix3 0 r x) else 0 := by
  pointwise [k0_pay5, k0_pay2]
  rw [below]
  split <;> rfl

/-- The second keeps the upper lanes. -/
theorem second_lane (v0 : Vec Ideal S1x512x128 .bf16) (r : Fin 512) (x : Fin 128) :
    second (k0_pay2 (F := Ideal) v0) (k0_pay12 (F := Ideal)) k0_pay13 (ix2 r x) = if 64 ≤ x.val then v0 (ix3 0 r x) else 0 := by
  pointwise [second, k0_pay2, k0_pay12, k0_pay13]
  rw [above]
  split <;> rfl

/-- A score against a context key, over all 128 lanes. -/
theorem scoreC_at (q : FVec Ideal S512x128 .bf16) (kc : FVec Ideal S256x128 .bf16) (r : Fin 512) (j : Fin 256) :
    scoreC q kc (ix2 r j) = ∑ x : Fin 128, q (ix2 r x) * kc (ix2 j x) := by
  pointwise [scoreC]

/-- A score against a latent key. -/
theorem scoreL_at (q : FVec Ideal S512x128 .bf16) (kc : FVec Ideal S2048x128 .bf16) (r : Fin 512) (j : Fin 2048) :
    scoreL q kc (ix2 r j) = ∑ x : Fin 128, q (ix2 r x) * kc (ix2 j x) := by
  pointwise [scoreL]

/-- The context keys are the block read. -/
theorem keysC_at (v3 : Vec Ideal S1x256x128 .bf16) (j : Fin 256) (x : Fin 128) : k0_pay3 (F := Ideal) v3 (ix2 j x) = v3 (ix3 0 j x) := by
  pointwise [k0_pay3]

/-- The latent keys are the block read. -/
theorem keysL_at (v5 : Vec Ideal S1x2048x128 .bf16) (j : Fin 2048) (x : Fin 128) : k0_pay4 (F := Ideal) v5 (ix2 j x) = v5 (ix3 0 j x) := by
  pointwise [k0_pay4]

/-- The row maximum is the larger of the two. -/
theorem rowMax_at (s : FVec Ideal S512x256 .f32) (t : FVec Ideal S512x2048 .f32) (r : Fin 512) :
    rowMax s t (ix2 r 0) = top (fun j => s (ix2 r j)) (fun j => t (ix2 r j)) := by
  pointwise [rowMax, top, low]

/-- One exponential, context. -/
theorem expC_at (s : FVec Ideal S512x256 .f32) (m : FVec Ideal S512x1 .f32) (r : Fin 512) (j : Fin 256) :
    expC s m (ix2 r j) = Ideal.exp (s (ix2 r j) - m (ix2 r 0)) := by
  pointwise [expC]

/-- One exponential, latents. -/
theorem expL_at (s : FVec Ideal S512x2048 .f32) (m : FVec Ideal S512x1 .f32) (r : Fin 512) (j : Fin 2048) :
    expL s m (ix2 r j) = Ideal.exp (s (ix2 r j) - m (ix2 r 0)) := by
  pointwise [expL]

/-- One difference, context. -/
theorem diffC_at (p₀ : FVec Ideal S512x256 .f32) (r₀ : FVec Ideal S512x1 .f32) (p₁ : FVec Ideal S512x256 .f32) (r₁ : FVec Ideal S512x1 .f32)
    (r : Fin 512) (j : Fin 256) :
    diffC p₀ r₀ p₁ r₁ (ix2 r j) = p₀ (ix2 r j) * r₀ (ix2 r 0) - p₁ (ix2 r j) * r₁ (ix2 r 0) := by
  pointwise [diffC]

/-- One difference, latents. -/
theorem diffL_at (p₀ : FVec Ideal S512x2048 .f32) (r₀ : FVec Ideal S512x1 .f32) (p₁ : FVec Ideal S512x2048 .f32) (r₁ : FVec Ideal S512x1 .f32)
    (r : Fin 512) (j : Fin 2048) :
    diffL p₀ r₀ p₁ r₁ (ix2 r j) = p₀ (ix2 r j) * r₀ (ix2 r 0) - p₁ (ix2 r j) * r₁ (ix2 r 0) := by
  pointwise [diffL]

/-- One reciprocal. -/
theorem rowInv_at (s : FVec Ideal S512x256 .f32) (t : FVec Ideal S512x2048 .f32) (r : Fin 512) :
    rowInv s t (ix2 r 0) = Ideal.div 1 ((∑ j : Fin 256, s (ix2 r j)) + ∑ j : Fin 2048, t (ix2 r j)) := by
  pointwise [rowInv]

/-- One lane of the weighted values. -/
theorem weighted_at (w : FVec Ideal S512x256 .f32) (x : FVec Ideal S512x2048 .f32) (vc : FVec Ideal S1x256x128 .bf16) (v : FVec Ideal S1x2048x128 .bf16)
    (r : Fin 512) (e : Fin 128) :
    weighted w x vc v (ix2 r e) = (∑ j : Fin 256, w (ix2 r j) * vc (ix3 0 j e)) + ∑ j : Fin 2048, x (ix2 r j) * v (ix3 0 j e) := by
  pointwise [weighted]

/-- What is stored: the row over its root mean square, with the gain and 0.8. -/
theorem stored_at (o : FVec Ideal S512x128 .f32) (g : Vec Ideal S1x128 .f32) (r : Fin 512) (e : Fin 128) :
    k0_pay1 (F := Ideal) o g (ix3 0 r e) = normed (fun x => o (ix2 r x)) (fun x => g (ix2 0 x)) e := by
  pointwise [k0_pay1, normed]
  simp only [mul_assoc]

variable (x0 : Elt Ideal .f32) (q : Vec Ideal S1x512x128 .bf16) (kc : Vec Ideal S1x256x128 .bf16) (k : Vec Ideal S1x2048x128 .bf16)
  (vc : Vec Ideal S1x256x128 .bf16) (v : Vec Ideal S1x2048x128 .bf16) (g : Vec Ideal S1x128 .f32)

/-- A row of scores of one component against the context keys of the block. -/
def bc (c : Fin 2) (r : Fin 512) (j : Fin 256) : EReal :=
  ∑ x : Fin 64, q (ix3 0 r ⟨c.val * 64 + x.val, by omega⟩) * kc (ix3 0 j ⟨c.val * 64 + x.val, by omega⟩)

/-- A row of scores of one component against the latent keys of the block. -/
def bl (c : Fin 2) (r : Fin 512) (j : Fin 2048) : EReal :=
  ∑ x : Fin 64, q (ix3 0 r ⟨c.val * 64 + x.val, by omega⟩) * k (ix3 0 j ⟨c.val * 64 + x.val, by omega⟩)

/-- A sum over 128 lanes of which the upper half is zero. -/
theorem lower_half (f g : Fin 128 → EReal) :
    ∑ x : Fin 128, (if x.val < 64 then f x else 0) * g x = ∑ x : Fin 64, f ⟨x.val, by omega⟩ * g ⟨x.val, by omega⟩ := by
  refine (Fin.sum_univ_add (M := EReal) (a := 64) (b := 64) _).trans ?_
  rw [Finset.sum_eq_zero (s := Finset.univ (α := Fin 64)) (f := fun i => (if (Fin.natAdd 64 i : Fin (64 + 64)).val < 64 then f (Fin.natAdd 64 i) else 0) * g (Fin.natAdd 64 i)) ?_, add_zero]
  · refine Finset.sum_congr rfl fun x _ => ?_
    rw [if_pos (show (Fin.castAdd 64 x).val < 64 from x.isLt)]
    rfl
  · intro x _
    rw [if_neg (by simp), zero_mul]

/-- A sum over 128 lanes of which the lower half is zero. -/
theorem upper_half (f g : Fin 128 → EReal) :
    ∑ x : Fin 128, (if 64 ≤ x.val then f x else 0) * g x = ∑ x : Fin 64, f ⟨64 + x.val, by omega⟩ * g ⟨64 + x.val, by omega⟩ := by
  refine (Fin.sum_univ_add (M := EReal) (a := 64) (b := 64) _).trans ?_
  rw [Finset.sum_eq_zero (s := Finset.univ (α := Fin 64)) (f := fun i => (if 64 ≤ (Fin.castAdd 64 i : Fin (64 + 64)).val then f (Fin.castAdd 64 i) else 0) * g (Fin.castAdd 64 i)) ?_, zero_add]
  · refine Finset.sum_congr rfl fun x _ => ?_
    rw [if_pos (by simp)]
    rfl
  · intro x _
    rw [if_neg (by have := x.isLt; simp only [Fin.val_castAdd]; omega), zero_mul]

/-- The first component's score at a context key, over its 64 lanes. -/
theorem first_ctx (r : Fin 512) (j : Fin 256) : scoreC (k0_pay5 (F := Ideal) q) (k0_pay3 kc) (ix2 r j) = bc q kc 0 r j := by
  rw [scoreC_at]
  simp only [first_lane, keysC_at]
  rw [lower_half (fun x => q (ix3 0 r x)) (fun x => kc (ix3 0 j x))]
  refine Finset.sum_congr rfl fun x _ => ?_
  congr 3 <;> exact Fin.ext (by show x.val = 0 * 64 + x.val; omega)

/-- … at a latent key. -/
theorem first_lat (r : Fin 512) (j : Fin 2048) : scoreL (k0_pay5 (F := Ideal) q) (k0_pay4 k) (ix2 r j) = bl q k 0 r j := by
  rw [scoreL_at]
  simp only [first_lane, keysL_at]
  rw [lower_half (fun x => q (ix3 0 r x)) (fun x => k (ix3 0 j x))]
  refine Finset.sum_congr rfl fun x _ => ?_
  congr 3 <;> exact Fin.ext (by show x.val = 0 * 64 + x.val; omega)

/-- The second component's score at a context key. -/
theorem second_ctx (r : Fin 512) (j : Fin 256) :
    scoreC (second (k0_pay2 (F := Ideal) q) (k0_pay12 (F := Ideal)) k0_pay13) (k0_pay3 kc) (ix2 r j) = bc q kc 1 r j := by
  rw [scoreC_at]
  simp only [second_lane, keysC_at]
  rw [upper_half (fun x => q (ix3 0 r x)) (fun x => kc (ix3 0 j x))]
  refine Finset.sum_congr rfl fun x _ => ?_
  congr 3 <;> exact Fin.ext (by show 64 + x.val = 1 * 64 + x.val; omega)

/-- … at a latent key. -/
theorem second_lat (r : Fin 512) (j : Fin 2048) :
    scoreL (second (k0_pay2 (F := Ideal) q) (k0_pay12 (F := Ideal)) k0_pay13) (k0_pay4 k) (ix2 r j) = bl q k 1 r j := by
  rw [scoreL_at]
  simp only [second_lane, keysL_at]
  rw [upper_half (fun x => q (ix3 0 r x)) (fun x => k (ix3 0 j x))]
  refine Finset.sum_congr rfl fun x _ => ?_
  congr 3 <;> exact Fin.ext (by show 64 + x.val = 1 * 64 + x.val; omega)

/-- One over the row sum, of rows of scores given as functions. -/
theorem inverse_at (s : FVec Ideal S512x256 .f32) (t : FVec Ideal S512x2048 .f32) (r : Fin 512) (sc : Fin 256 → EReal) (sl : Fin 2048 → EReal)
    (hs : ∀ j, s (ix2 r j) = sc j) (ht : ∀ j, t (ix2 r j) = sl j) :
    rowInv (expC s (rowMax s t)) (expL t (rowMax s t)) (ix2 r 0) = Ideal.div 1 (mass sc sl) := by
  rw [rowInv_at]
  simp only [expC_at, expL_at, rowMax_at, hs, ht]
  rfl

/-- The block that a grid point stores, of the blocks it reads. -/
def stored : Vec Ideal S1x512x128 .bf16 :=
  k0_pay1 (F := Ideal) (k0_pay14 (F := Ideal) (k0_pay2 q) (k0_pay3 kc) (k0_pay4 k) (k0_pay9 q kc k) (k0_pay10 q kc k) (k0_pay11 q kc k) k0_pay12 k0_pay13 x0 vc v) g

/-- One row of the attention's product, one lane, of finite queries and keys. -/
theorem row_at (hq : ∀ i, ∃ a : ℝ, q i = a) (hkc : ∀ i, ∃ a : ℝ, kc i = a) (hk : ∀ i, ∃ a : ℝ, k i = a) (r : Fin 512) (e : Fin 128) :
    k0_pay14 (F := Ideal) (k0_pay2 q) (k0_pay3 kc) (k0_pay4 k) (k0_pay9 q kc k) (k0_pay10 q kc k) (k0_pay11 q kc k) k0_pay12 k0_pay13 x0 vc v (ix2 r e)
      = row x0 (bc q kc 0 r) (bl q k 0 r) (bc q kc 1 r) (bl q k 1 r) (fun j => vc (ix3 0 j e)) (fun j => v (ix3 0 j e)) := by
  have h₀ : mass (bc q kc 0 r) (bl q k 0 r) ≠ 0 :=
    mass_ne_zero _ _ (fun j => sum_real _ _ (fun _ => hq _) fun _ => hkc _) fun j => sum_real _ _ (fun _ => hq _) fun _ => hk _
  have h₁ : mass (bc q kc 1 r) (bl q k 1 r) ≠ 0 :=
    mass_ne_zero _ _ (fun j => sum_real _ _ (fun _ => hq _) fun _ => hkc _) fun j => sum_real _ _ (fun _ => hq _) fun _ => hk _
  rw [pay14 _ _ _ _ _ _ _ _ _ _ _ _ _ _ rfl rfl rfl, pay11, pay9, pay10, pay8, pay6, pay7, weighted_at]
  unfold row
  have inv (s : FVec Ideal S512x1 .f32) : mulf (F := Ideal) s (broadcast S512x1 x0) (ix2 r 0) = s (ix2 r 0) * x0 := rfl
  congr 1 <;> refine Finset.sum_congr rfl fun j _ => ?_
  · rw [diffC_at, inv, inverse_at _ _ r _ _ (fun j => first_ctx q kc r j) (fun j => first_lat q k r j),
      inverse_at _ _ r _ _ (fun j => second_ctx q kc r j) (fun j => second_lat q k r j), expC_at, expC_at, rowMax_at, rowMax_at]
    simp only [first_ctx, first_lat, second_ctx, second_lat]
    rw [← weight_of_reciprocals x0 _ _ _ _ h₀ h₁]
  · rw [diffL_at, inv, inverse_at _ _ r _ _ (fun j => first_ctx q kc r j) (fun j => first_lat q k r j),
      inverse_at _ _ r _ _ (fun j => second_ctx q kc r j) (fun j => second_lat q k r j), expL_at, expL_at, rowMax_at, rowMax_at]
    simp only [first_ctx, first_lat, second_ctx, second_lat]
    rw [← weight_of_reciprocals x0 _ _ _ _ h₀ h₁]

/-- The stored block at a row and a lane. -/
theorem stored_row (hq : ∀ i, ∃ a : ℝ, q i = a) (hkc : ∀ i, ∃ a : ℝ, kc i = a) (hk : ∀ i, ∃ a : ℝ, k i = a) (r : Fin 512) (e : Fin 128) :
    stored x0 q kc k vc v g (ix3 0 r e)
      = normed (fun x => row x0 (bc q kc 0 r) (bl q k 0 r) (bc q kc 1 r) (bl q k 1 r) (fun j => vc (ix3 0 j x)) (fun j => v (ix3 0 j x)))
          (fun x => g (ix2 0 x)) e := by
  unfold stored
  rw [stored_at]
  simp only [row_at x0 q kc k vc v hq hkc hk]

end Cert.Proof.AttnBody

end
-- ==== Proof.AttnRun.lean ====
/- The attention kernel's result array at an index, as a function of its argument arrays. -/
module

public import proofs.«01_k».proof.Proof.Gen.KernelIdeal.Value
public import proofs.«01_k».proof.Proof.AttnBody

@[expose] public section

set_option maxRecDepth 16384

noncomputable section

namespace Cert.Proof.AttnRun

open Idealize.ShloMosaic Idealize.ShloMosaic.TcCoe Idealize.SL.Sem
open Cert.KernelIdeal Cert.KernelIdeal.Gen Cert.KernelIdeal.Value Cert.Proof.AttnMath Cert.Proof.AttnBody

theorem hz3 : (![0, 0, 0] : Fin 3 → Nat) = fun _ => 0 := funext fun a => by fin_cases a <;> rfl
theorem hz2 : (![0, 0] : Fin 2 → Nat) = fun _ => 0 := funext fun a => by fin_cases a <;> rfl

/-- The one piece that the body stores is the whole block, at the payload of the blocks read. -/
theorem out_eq (c : Dev nD) (i : grid0.Coords) (a3 : Memref sig .tc .smem S1 .f32) (h3 : a3.IsWhole)
    (a4 : Memref sig .tc .vmem S1x512x128 .bf16) (h4 : a4.IsWhole) (a5 : Memref sig .tc .vmem S1x256x128 .bf16) (h5 : a5.IsWhole)
    (a6 : Memref sig .tc .vmem S1x2048x128 .bf16) (h6 : a6.IsWhole) (a7 : Memref sig .tc .vmem S1x256x128 .bf16) (h7 : a7.IsWhole)
    (a8 : Memref sig .tc .vmem S1x2048x128 .bf16) (h8 : a8.IsWhole) (a9 : Memref sig .tc .vmem S1x128 .f32) (h9 : a9.IsWhole)
    (a10 : Memref sig .tc .vmem S1x512x128 .bf16) (h10 : a10.IsWhole)
    (x0 : Vec Ideal S1 .f32) (x1 : Vec Ideal S1x512x128 .bf16) (x2 : Vec Ideal S1x256x128 .bf16) (x3 : Vec Ideal S1x2048x128 .bf16)
    (x4 : Vec Ideal S1x256x128 .bf16) (x5 : Vec Ideal S1x2048x128 .bf16) (x6 : Vec Ideal S1x128 .f32) :
    out0_A_7 (F := Ideal) c i a3 h3 a4 h4 a5 h5 a6 h6 a7 h7 a8 h8 a9 h9 a10 h10 x0 x1 x2 x3 x4 x5 x6
      = stored (x0 (ix1 0)) x1 x2 x3 x4 x5 x6 := by
  have e1 : View.readAt (Elt Ideal) a4.view (Rect.unit (s := S1x512x128) ![0, 0, 0] S1x512x128.size inb_S1x512x128_S1x512x128_0_0_0).toLoadRect (h4.unread x1) = x1 := by
    rw [View.readAt_eq_ld, h4.read_unread, View.ld_unit_zero hz3]
  have e2 : View.readAt (Elt Ideal) a5.view (Rect.unit (s := S1x256x128) ![0, 0, 0] S1x256x128.size inb_S1x256x128_S1x256x128_0_0_0).toLoadRect (h5.unread x2) = x2 := by
    rw [View.readAt_eq_ld, h5.read_unread, View.ld_unit_zero hz3]
  have e3 : View.readAt (Elt Ideal) a6.view (Rect.unit (s := S1x2048x128) ![0, 0, 0] S1x2048x128.size inb_S1x2048x128_S1x2048x128_0_0_0).toLoadRect (h6.unread x3) = x3 := by
    rw [View.readAt_eq_ld, h6.read_unread, View.ld_unit_zero hz3]
  have e4 : View.readAt (Elt Ideal) a7.view (Rect.unit (s := S1x256x128) ![0, 0, 0] S1x256x128.size inb_S1x256x128_S1x256x128_0_0_0).toLoadRect (h7.unread x4) = x4 := by
    rw [View.readAt_eq_ld, h7.read_unread, View.ld_unit_zero hz3]
  have e5 : View.readAt (Elt Ideal) a8.view (Rect.unit (s := S1x2048x128) ![0, 0, 0] S1x2048x128.size inb_S1x2048x128_S1x2048x128_0_0_0).toLoadRect (h8.unread x5) = x5 := by
    rw [View.readAt_eq_ld, h8.read_unread, View.ld_unit_zero hz3]
  have e6 : View.readAt (Elt Ideal) a9.view (Rect.unit (s := S1x128) ![0, 0] S1x128.size inb_S1x128_S1x128_0_0).toLoadRect (h9.unread x6) = x6 := by
    rw [View.readAt_eq_ld, h9.read_unread, View.ld_unit_zero hz2]
  have e0 (z) : View.readAt (Elt Ideal) a3.view (Rect.unit (s := S1) ![0] S1.size inb_S1_S1_0).toLoadRect (h3.unread x0) z = x0 (ix1 0) := by
    rw [View.readAt_eq_ld, h3.read_unread]
    exact congrArg x0 (funext fun a => by match a with | ⟨0, _⟩ => exact Subsingleton.elim (α := Fin 1) _ _)
  unfold out0_A_7
  rw [View.read_writes_junk_eq_canon]
  refine Eq.trans (b := View.canon ([⟨Rect.unit ![0, 0, 0] S1x512x128.size inb_S1x512x128_S1x512x128_0_0_0,
    stored (View.readAt (Elt Ideal) a3.view (Rect.unit (s := S1) ![0] S1.size inb_S1_S1_0).toLoadRect (h3.unread x0) _)
      (View.readAt (Elt Ideal) a4.view (Rect.unit (s := S1x512x128) ![0, 0, 0] S1x512x128.size inb_S1x512x128_S1x512x128_0_0_0).toLoadRect (h4.unread x1))
      (View.readAt (Elt Ideal) a5.view (Rect.unit (s := S1x256x128) ![0, 0, 0] S1x256x128.size inb_S1x256x128_S1x256x128_0_0_0).toLoadRect (h5.unread x2))
      (View.readAt (Elt Ideal) a6.view (Rect.unit (s := S1x2048x128) ![0, 0, 0] S1x2048x128.size inb_S1x2048x128_S1x2048x128_0_0_0).toLoadRect (h6.unread x3))
      (View.readAt (Elt Ideal) a7.view (Rect.unit (s := S1x256x128) ![0, 0, 0] S1x256x128.size inb_S1x256x128_S1x256x128_0_0_0).toLoadRect (h7.unread x4))
      (View.readAt (Elt Ideal) a8.view (Rect.unit (s := S1x2048x128) ![0, 0, 0] S1x2048x128.size inb_S1x2048x128_S1x2048x128_0_0_0).toLoadRect (h8.unread x5))
      (View.readAt (Elt Ideal) a9.view (Rect.unit (s := S1x128) ![0, 0] S1x128.size inb_S1x128_S1x128_0_0).toLoadRect (h9.unread x6))⟩] :
      List (View.Piece (Elt Ideal) S1x512x128 .bf16))) rfl ?_
  rw [View.canon_unit_zero hz3, e0, e1, e2, e3, e4, e5, e6]

variable (m : (ℓ : Loc nD τ sig) → Buf (Elt Ideal) ℓ)

/-- The block of each window at a grid point: batch `t / 16`, head `t / 4 % 4`, query tile `t % 4`. -/
theorem at_out : ∀ t : Fin cfg0.N, win0_7.index t (0 : Fin 3) = t.val / 16 ∧ win0_7.index t (1 : Fin 3) = t.val % 4 ∧ win0_7.index t (2 : Fin 3) = t.val / 4 % 4 :=
  (by decide +kernel : ∀ t : Fin grid0.N, _)
theorem at_q : ∀ t : Fin cfg0.N, win0_1.index t (0 : Fin 3) = t.val / 16 ∧ win0_1.index t (1 : Fin 3) = t.val % 4 ∧ win0_1.index t (2 : Fin 3) = t.val / 4 % 4 :=
  (by decide +kernel : ∀ t : Fin grid0.N, _)
theorem at_kc : ∀ t : Fin cfg0.N, win0_2.index t (0 : Fin 3) = t.val / 16 ∧ win0_2.index t (1 : Fin 3) = 0 ∧ win0_2.index t (2 : Fin 3) = t.val / 4 % 4 :=
  (by decide +kernel : ∀ t : Fin grid0.N, _)
theorem at_k : ∀ t : Fin cfg0.N, win0_3.index t (0 : Fin 3) = t.val / 16 ∧ win0_3.index t (1 : Fin 3) = 0 ∧ win0_3.index t (2 : Fin 3) = t.val / 4 % 4 :=
  (by decide +kernel : ∀ t : Fin grid0.N, _)
theorem at_vc : ∀ t : Fin cfg0.N, win0_4.index t (0 : Fin 3) = t.val / 16 ∧ win0_4.index t (1 : Fin 3) = 0 ∧ win0_4.index t (2 : Fin 3) = t.val / 4 % 4 :=
  (by decide +kernel : ∀ t : Fin grid0.N, _)
theorem at_v : ∀ t : Fin cfg0.N, win0_5.index t (0 : Fin 3) = t.val / 16 ∧ win0_5.index t (1 : Fin 3) = 0 ∧ win0_5.index t (2 : Fin 3) = t.val / 4 % 4 :=
  (by decide +kernel : ∀ t : Fin grid0.N, _)
theorem at_g : ∀ t : Fin cfg0.N, win0_6.index t (0 : Fin 2) = 0 ∧ win0_6.index t (1 : Fin 2) = 0 :=
  (by decide +kernel : ∀ t : Fin grid0.N, _)
theorem at_lam : ∀ t : Fin cfg0.N, win0_0.index t (0 : Fin 1) = 0 := (by decide +kernel : ∀ t : Fin grid0.N, _)

/-- The grid has 128 points. -/
theorem points (t : Fin cfg0.N) : t.val < 128 := t.isLt

theorem lam_at (c : Dev nD) (t : Fin cfg0.N) : iblk m c 0 t (ix1 0) = V m c main_arg0 (ix1 0) := by
  show V m c main_arg0 (((cfg0.win 0).blk t).view.emb (ix1 0)) = _
  exact congrArg _ (funext fun a => by match a with | ⟨0, _⟩ => exact Subsingleton.elim (α := Fin 1) _ _)

theorem q_at (c : Dev nD) (t : Fin cfg0.N) (r : Fin 512) (x : Fin 128) :
    iblk m c 1 t (ix3 0 r x) = V m c main_arg1 (ix3 ⟨t.val / 16, by have := points t; omega⟩ ⟨t.val % 4 * 512 + r.val, by omega⟩ ⟨t.val / 4 % 4 * 128 + x.val, by omega⟩) := by
  obtain ⟨e0, e1, e2⟩ := at_q t
  show V m c main_arg1 (((cfg0.win 1).blk t).view.emb (ix3 0 r x)) = _
  refine congrArg _ (funext fun a => Fin.ext ?_)
  match a with
  | ⟨0, _⟩ => show win0_1.index t (0 : Fin 3) * 1 + 1 * 0 = t.val / 16; omega
  | ⟨1, _⟩ => show win0_1.index t (1 : Fin 3) * 512 + 1 * r.val = t.val % 4 * 512 + r.val; omega
  | ⟨2, _⟩ => show win0_1.index t (2 : Fin 3) * 128 + 1 * x.val = t.val / 4 % 4 * 128 + x.val; omega

theorem kc_at (c : Dev nD) (t : Fin cfg0.N) (r : Fin 256) (x : Fin 128) :
    iblk m c 2 t (ix3 0 r x) = V m c main_arg2 (ix3 ⟨t.val / 16, by have := points t; omega⟩ r ⟨t.val / 4 % 4 * 128 + x.val, by omega⟩) := by
  obtain ⟨e0, e1, e2⟩ := at_kc t
  show V m c main_arg2 (((cfg0.win 2).blk t).view.emb (ix3 0 r x)) = _
  refine congrArg _ (funext fun a => Fin.ext ?_)
  match a with
  | ⟨0, _⟩ => show win0_2.index t (0 : Fin 3) * 1 + 1 * 0 = t.val / 16; omega
  | ⟨1, _⟩ => show win0_2.index t (1 : Fin 3) * 256 + 1 * r.val = r.val; omega
  | ⟨2, _⟩ => show win0_2.index t (2 : Fin 3) * 128 + 1 * x.val = t.val / 4 % 4 * 128 + x.val; omega

theorem k_at (c : Dev nD) (t : Fin cfg0.N) (r : Fin 2048) (x : Fin 128) :
    iblk m c 3 t (ix3 0 r x) = V m c main_arg3 (ix3 ⟨t.val / 16, by have := points t; omega⟩ r ⟨t.val / 4 % 4 * 128 + x.val, by omega⟩) := by
  obtain ⟨e0, e1, e2⟩ := at_k t
  show V m c main_arg3 (((cfg0.win 3).blk t).view.emb (ix3 0 r x)) = _
  refine congrArg _ (funext fun a => Fin.ext ?_)
  match a with
  | ⟨0, _⟩ => show win0_3.index t (0 : Fin 3) * 1 + 1 * 0 = t.val / 16; omega
  | ⟨1, _⟩ => show win0_3.index t (1 : Fin 3) * 2048 + 1 * r.val = r.val; omega
  | ⟨2, _⟩ => show win0_3.index t (2 : Fin 3) * 128 + 1 * x.val = t.val / 4 % 4 * 128 + x.val; omega

theorem vc_at (c : Dev nD) (t : Fin cfg0.N) (r : Fin 256) (x : Fin 128) :
    iblk m c 4 t (ix3 0 r x) = V m c main_arg4 (ix3 ⟨t.val / 16, by have := points t; omega⟩ r ⟨t.val / 4 % 4 * 128 + x.val, by omega⟩) := by
  obtain ⟨e0, e1, e2⟩ := at_vc t
  show V m c main_arg4 (((cfg0.win 4).blk t).view.emb (ix3 0 r x)) = _
  refine congrArg _ (funext fun a => Fin.ext ?_)
  match a with
  | ⟨0, _⟩ => show win0_4.index t (0 : Fin 3) * 1 + 1 * 0 = t.val / 16; omega
  | ⟨1, _⟩ => show win0_4.index t (1 : Fin 3) * 256 + 1 * r.val = r.val; omega
  | ⟨2, _⟩ => show win0_4.index t (2 : Fin 3) * 128 + 1 * x.val = t.val / 4 % 4 * 128 + x.val; omega

theorem v_at (c : Dev nD) (t : Fin cfg0.N) (r : Fin 2048) (x : Fin 128) :
    iblk m c 5 t (ix3 0 r x) = V m c main_arg5 (ix3 ⟨t.val / 16, by have := points t; omega⟩ r ⟨t.val / 4 % 4 * 128 + x.val, by omega⟩) := by
  obtain ⟨e0, e1, e2⟩ := at_v t
  show V m c main_arg5 (((cfg0.win 5).blk t).view.emb (ix3 0 r x)) = _
  refine congrArg _ (funext fun a => Fin.ext ?_)
  match a with
  | ⟨0, _⟩ => show win0_5.index t (0 : Fin 3) * 1 + 1 * 0 = t.val / 16; omega
  | ⟨1, _⟩ => show win0_5.index t (1 : Fin 3) * 2048 + 1 * r.val = r.val; omega
  | ⟨2, _⟩ => show win0_5.index t (2 : Fin 3) * 128 + 1 * x.val = t.val / 4 % 4 * 128 + x.val; omega

theorem g_at (c : Dev nD) (t : Fin cfg0.N) (x : Fin 128) : iblk m c 6 t (ix2 0 x) = V m c main_arg6 (ix2 0 x) := by
  obtain ⟨e0, e1⟩ := at_g t
  show V m c main_arg6 (((cfg0.win 6).blk t).view.emb (ix2 0 x)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * x.val = x.val; omega

/-- Where a row and a lane of the output block of a point lie in the result. -/
theorem out_at (t : Fin cfg0.N) (r : Fin 512) (x : Fin 128) :
    ((cfg0.win 7).blk t).view.emb (ix3 0 r x) = ix3 ⟨t.val / 16, by have := points t; omega⟩ ⟨t.val % 4 * 512 + r.val, by omega⟩ ⟨t.val / 4 % 4 * 128 + x.val, by omega⟩ := by
  obtain ⟨e0, e1, e2⟩ := at_out t
  refine (funext fun a => Fin.ext ?_)
  match a with
  | ⟨0, _⟩ => show win0_7.index t (0 : Fin 3) * 1 + 1 * 0 = t.val / 16; omega
  | ⟨1, _⟩ => show win0_7.index t (1 : Fin 3) * 512 + 1 * r.val = t.val % 4 * 512 + r.val; omega
  | ⟨2, _⟩ => show win0_7.index t (2 : Fin 3) * 128 + 1 * x.val = t.val / 4 % 4 * 128 + x.val; omega

/-- What the result array holds in the block of a point, of finite queries and keys. -/
theorem block (c : Dev nD) (hq : ∀ i, ∃ a : ℝ, V m c main_arg1 i = (a : EReal)) (hkc : ∀ i, ∃ a : ℝ, V m c main_arg2 i = (a : EReal))
    (hk : ∀ i, ∃ a : ℝ, V m c main_arg3 i = (a : EReal)) (t : Fin cfg0.N) (r : Fin 512) (e : Fin 128) :
    (dats m 0 c).arrAt 7 cfg0.N (ix3 ⟨t.val / 16, by have := points t; omega⟩ ⟨t.val % 4 * 512 + r.val, by omega⟩ ⟨t.val / 4 % 4 * 128 + e.val, by omega⟩)
      = normed (fun x => row (iblk m c 0 t (ix1 0)) (bc (iblk m c 1 t) (iblk m c 2 t) 0 r) (bl (iblk m c 1 t) (iblk m c 3 t) 0 r)
          (bc (iblk m c 1 t) (iblk m c 2 t) 1 r) (bl (iblk m c 1 t) (iblk m c 3 t) 1 r)
          (fun j => iblk m c 4 t (ix3 0 j x)) (fun j => iblk m c 5 t (ix3 0 j x))) (fun x => iblk m c 6 t (ix2 0 x)) e := by
  have h := congrFun (blocks7 m c t (flush0_7 t)) (ix3 0 r e)
  rw [flushed7_A, out_eq] at h
  rw [← out_at]
  refine Eq.trans h ?_
  exact stored_row (iblk m c 0 t (ix1 0)) (iblk m c 1 t) (iblk m c 2 t) (iblk m c 3 t) (iblk m c 4 t) (iblk m c 5 t) (iblk m c 6 t)
    (fun i => hq _) (fun i => hkc _) (fun i => hk _) r e

end Cert.Proof.AttnRun

end
-- ==== Proof.AttnRef.lean ====
/- What the reference of the attention computes, one operation or two at a time. -/
module

public import proofs.«01_k».proof.Proof.Gen.ReferenceIdeal.Read
public import proofs.«01_k».proof.Proof.AttnMath

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.ReferenceIdeal.Read Cert.Proof.AttnMath

variable (lam : FVec Ideal S1 .f32) (q : FVec Ideal S8x2048x512 .bf16) (kc : FVec Ideal S8x256x512 .bf16)
  (k : FVec Ideal S8x2048x512 .bf16) (vc : FVec Ideal S8x256x512 .bf16) (v : FVec Ideal S8x2048x512 .bf16)
  (g : FVec Ideal S1x128 .f32)

/-- A score against a context key. -/
def sc (b : Fin 8) (h : Fin 4) (c : Fin 2) (i : Fin 2048) (j : Fin 256) : EReal :=
  ∑ x : Fin 64, q (ix3 b i ⟨h.val * 128 + c.val * 64 + x.val, by omega⟩) * kc (ix3 b j ⟨h.val * 128 + c.val * 64 + x.val, by omega⟩)

/-- The reference's score at a context key is the product over the 64 lanes of one component. -/
theorem score_ctx (b : Fin 8) (h : Fin 4) (c : Fin 2) (i : Fin 2048) (j : Fin 256) :
    val_main_v8 (F := Ideal) q kc k (ix5 b h c i ⟨j.val, by omega⟩) = sc q kc b h c i j := by
  pointwise [val_main_v8, val_main_v1, val_main_v0, val_main_v4, val_main_v3, val_main_v2, sc]

/-- A score against a latent key. -/
def sl (b : Fin 8) (h : Fin 4) (c : Fin 2) (i : Fin 2048) (j : Fin 2048) : EReal :=
  ∑ x : Fin 64, q (ix3 b i ⟨h.val * 128 + c.val * 64 + x.val, by omega⟩) * k (ix3 b j ⟨h.val * 128 + c.val * 64 + x.val, by omega⟩)

/-- The reference's score at a latent key, which stands after the 256 context keys. -/
theorem score_lat (b : Fin 8) (h : Fin 4) (c : Fin 2) (i : Fin 2048) (j : Fin 2048) :
    val_main_v8 (F := Ideal) q kc k (ix5 b h c i ⟨256 + j.val, by omega⟩) = sl q k b h c i j := by
  pointwise [val_main_v8, val_main_v1, val_main_v0, val_main_v4, val_main_v3, val_main_v2, sl]

/-- The exponential of a score, shifted by its row's maximum. -/
theorem exp_at (b : Fin 8) (h : Fin 4) (c : Fin 2) (i : Fin 2048) (j : Fin 2304) :
    val_main_v15 (F := Ideal) q kc k (ix5 b h c i j)
      = Ideal.exp (val_main_v8 (F := Ideal) q kc k (ix5 b h c i j) - val_main_v11 (F := Ideal) q kc k (ix4 b h c i)) := by
  pointwise [val_main_v15, val_main_v14, val_main_v13, val_main_v12]

/-- The row sum of the exponentials. -/
theorem sum_at (b : Fin 8) (h : Fin 4) (c : Fin 2) (i : Fin 2048) :
    val_main_v16 (F := Ideal) q kc k (ix4 b h c i) = ∑ x : Fin 2304, val_main_v15 (F := Ideal) q kc k (ix5 b h c i x) := by
  pointwise [val_main_v16, val_main_cst_1]

/-- One softmax weight. -/
theorem soft_at (b : Fin 8) (h : Fin 4) (c : Fin 2) (i : Fin 2048) (j : Fin 2304) :
    val_main_v19 (F := Ideal) q kc k (ix5 b h c i j)
      = Ideal.div (val_main_v15 (F := Ideal) q kc k (ix5 b h c i j)) (val_main_v16 (F := Ideal) q kc k (ix4 b h c i)) := by
  pointwise [val_main_v19, val_main_v18, val_main_v17]

/-- The host's maximum along the last axis, as a maximum over the keys. -/
theorem host_max (s : FVec Ideal S8x4x2x2048x2304 .f32) (y : FVec Ideal S_ .f32) (b : Fin 8) (h : Fin 4) (c : Fin 2) (i : Fin 2048) :
    Host.reduce FloatOps.maximumf s y reducesTo_S8x4x2x2048x2304_S8x4x2x2048_d4 h_S_ (ix4 b h c i)
      = Finset.univ.fold max (y (Shape.Idx.first h_S_)) (fun j : Fin 2304 => s (ix5 b h c i j)) := by
  have hr : S8x4x2x2048x2304.Reduces [4] S8x4x2x2048 := by decide
  rw [Host.reduce_eq_fold_single FloatOps.maximumf s _ reducesTo_S8x4x2x2048x2304_S8x4x2x2048_d4 hr h_S_]
  show Finset.univ.fold max (y (Shape.Idx.first h_S_)) (fun j : Fin 2304 => s (hr.lift (ix4 b h c i) j)) = _
  refine congrArg (fun w => Finset.univ.fold max (y (Shape.Idx.first h_S_)) w) (funext fun j => congrArg s ?_)
  funext a
  match a with
  | ⟨0, _⟩ => rfl
  | ⟨1, _⟩ => rfl
  | ⟨2, _⟩ => rfl
  | ⟨3, _⟩ => rfl
  | ⟨4, _⟩ => rfl

/-- The row maximum over all 2304 keys. -/
theorem max_at (b : Fin 8) (h : Fin 4) (c : Fin 2) (i : Fin 2048) :
    val_main_v11 (F := Ideal) q kc k (ix4 b h c i)
      = Finset.univ.fold max low (fun j : Fin 2304 => val_main_v8 (F := Ideal) q kc k (ix5 b h c i j)) := by
  have e : val_main_v9 (F := Ideal) q kc k (ix4 b h c i)
      = Finset.univ.fold max low (fun j : Fin 2304 => val_main_v8 (F := Ideal) q kc k (ix5 b h c i j)) := by
    unfold val_main_v9
    generalize val_main_v8 (F := Ideal) q kc k = s
    exact host_max s _ b h c i
  rw [val_main_v11_apply, e]
  show max (val_main_v10 (F := Ideal) (ix4 b h c i)) _ = _
  rw [val_main_v10_apply]
  exact max_fold low _

/-- The first softmax map. -/
theorem first_at (b : Fin 8) (h : Fin 4) (i : Fin 2048) (j : Fin 2304) :
    val_main_v21 (F := Ideal) q kc k (ix4 b h i j) = val_main_v19 (F := Ideal) q kc k (ix5 b h 0 i j) := by
  rw [val_main_v21_apply, val_main_v20_apply]
  refine congrArg _ (funext fun a => ?_)
  match a with
  | ⟨0, _⟩ => exact Fin.ext (by show (((b.val * 4 + h.val) * 2048 + i.val) * 2304 + j.val) / 18874368 = b.val; omega)
  | ⟨1, _⟩ => exact Fin.ext (by show (((b.val * 4 + h.val) * 2048 + i.val) * 2304 + j.val) / 4718592 % 4 = h.val; omega)
  | ⟨2, _⟩ => rfl
  | ⟨3, _⟩ => exact Fin.ext (by show (((b.val * 4 + h.val) * 2048 + i.val) * 2304 + j.val) / 2304 % 2048 = i.val; omega)
  | ⟨4, _⟩ => exact Fin.ext (by show (((b.val * 4 + h.val) * 2048 + i.val) * 2304 + j.val) % 2304 = j.val; omega)

/-- The second softmax map. -/
theorem second_at (b : Fin 8) (h : Fin 4) (i : Fin 2048) (j : Fin 2304) :
    val_main_v23 (F := Ideal) q kc k (ix4 b h i j) = val_main_v19 (F := Ideal) q kc k (ix5 b h 1 i j) := by
  rw [val_main_v23_apply, val_main_v22_apply]
  refine congrArg _ (funext fun a => ?_)
  match a with
  | ⟨0, _⟩ => exact Fin.ext (by show (((b.val * 4 + h.val) * 2048 + i.val) * 2304 + j.val) / 18874368 = b.val; omega)
  | ⟨1, _⟩ => exact Fin.ext (by show (((b.val * 4 + h.val) * 2048 + i.val) * 2304 + j.val) / 4718592 % 4 = h.val; omega)
  | ⟨2, _⟩ => rfl
  | ⟨3, _⟩ => exact Fin.ext (by show (((b.val * 4 + h.val) * 2048 + i.val) * 2304 + j.val) / 2304 % 2048 = i.val; omega)
  | ⟨4, _⟩ => exact Fin.ext (by show (((b.val * 4 + h.val) * 2048 + i.val) * 2304 + j.val) % 2304 = j.val; omega)

/-- The difference of the two maps. -/
theorem diff_at (b : Fin 8) (h : Fin 4) (i : Fin 2048) (j : Fin 2304) :
    val_main_v27 (F := Ideal) lam q kc k (ix4 b h i j)
      = val_main_v19 (F := Ideal) q kc k (ix5 b h 0 i j) - lam (ix1 0) * val_main_v19 (F := Ideal) q kc k (ix5 b h 1 i j) := by
  rw [val_main_v27_apply, val_main_v26_apply, first_at, second_at, val_main_v25_apply, val_main_v24_apply]
  refine congrArg (fun l => _ - lam l * _) (funext fun a => ?_)
  match a with
  | ⟨0, _⟩ => rfl

/-- The product with the values, split at the end of the context. -/
theorem product_at (b : Fin 8) (h : Fin 4) (i : Fin 2048) (j : Fin 128) :
    val_main_v29 (F := Ideal) lam q kc k vc v (ix4 b i h j) = (∑ x : Fin 256, vc (ix3 b x ⟨h.val * 128 + j.val, by omega⟩) * val_main_v27 (F := Ideal) lam q kc k (ix4 b h i ⟨x.val, by omega⟩)) +
      ∑ x : Fin 2048, v (ix3 b x ⟨h.val * 128 + j.val, by omega⟩) * val_main_v27 (F := Ideal) lam q kc k (ix4 b h i ⟨256 + x.val, by omega⟩) := by
  pointwise [val_main_v29, val_main_v28, val_main_v7, val_main_v6, val_main_v5]

/-- The sum of squares of a row of one head. -/
theorem squares_at (b : Fin 8) (h : Fin 4) (i : Fin 2048) :
    val_main_v31 (F := Ideal) lam q kc k vc v (ix3 b i h) = ∑ x : Fin 128, val_main_v29 (F := Ideal) lam q kc k vc v (ix4 b i h x) * val_main_v29 (F := Ideal) lam q kc k vc v (ix4 b i h x) := by
  have z : (val_main_cst_2 (F := Ideal)) (Shape.Idx.first h_S_) = 0 := by pointwise [val_main_cst_2]
  rw [val_main_v31_apply, z, zero_add]
  refine Finset.sum_congr rfl fun x _ => ?_
  have e : idx_main_v31 (ix3 b i h) x = ix4 b i h x := funext fun a => match a with | ⟨0, _⟩ => rfl | ⟨1, _⟩ => rfl | ⟨2, _⟩ => rfl | ⟨3, _⟩ => rfl
  rw [e, val_main_v30_apply]
  rfl

/-- The reciprocal root mean square. -/
theorem rms_at (b : Fin 8) (h : Fin 4) (i : Fin 2048) :
    val_main_v37 (F := Ideal) lam q kc k vc v (ix4 b i h 0) =
      Ideal.rsqrt (Ideal.div (val_main_v31 (F := Ideal) lam q kc k vc v (ix3 b i h)) (Ideal.ofBits FTy.f32 0x43000000#32) +
          Ideal.ofBits FTy.f32 0x358637BD#32) := by
  pointwise [val_main_v37, val_main_v36, val_main_v35, val_main_cst_4, val_main_v34, val_main_v33, val_main_cst_3, val_main_v32]

/-- The row divided by its root mean square. -/
theorem normed_at (b : Fin 8) (h : Fin 4) (i : Fin 2048) (j : Fin 128) :
    val_main_v39 (F := Ideal) lam q kc k vc v (ix4 b i h j) = val_main_v29 (F := Ideal) lam q kc k vc v (ix4 b i h j) *
      val_main_v37 (F := Ideal) lam q kc k vc v (ix4 b i h 0) := by
  have e : idx_main_v38 (ix4 b i h j) = ix4 b i h 0 := funext fun a => match a with | ⟨0, _⟩ => rfl | ⟨1, _⟩ => rfl | ⟨2, _⟩ => rfl | ⟨3, _⟩ => rfl
  rw [val_main_v39_apply, val_main_v38_apply, e]
  rfl

/-- The gain and the factor 0.8. -/
theorem gained_at (b : Fin 8) (h : Fin 4) (i : Fin 2048) (e : Fin 128) :
    val_main_v45 (F := Ideal) lam q kc k vc v g (ix4 b i h e) = val_main_v39 (F := Ideal) lam q kc k vc v (ix4 b i h e) * g (ix2 0 e) * Ideal.ofBits FTy.f32 0x3F4CCCCD#32 := by
  rw [val_main_v45_apply, val_main_v44_apply, val_main_v43_apply, val_main_v42_apply, val_main_v41_apply, val_main_v40_apply]
  have e' : idx_main_v40 (idx_main_v41 (idx_main_v42 (ix4 b i h e))) = ix2 0 e := funext fun a => match a with
    | ⟨0, _⟩ => rfl
    | ⟨1, _⟩ => Fin.ext (by show e.val % 128 = e.val; omega)
  rw [e']
  rfl

/-- The heads side by side. -/
theorem heads_at (b : Fin 8) (h : Fin 4) (i : Fin 2048) (e : Fin 128) :
    val_main_v47 (F := Ideal) lam q kc k vc v g (ix3 b i ⟨h.val * 128 + e.val, by omega⟩) = val_main_v45 (F := Ideal) lam q kc k vc v g (ix4 b i h e) := by
  pointwise [val_main_v47, val_main_v46]

/-- The row maximum is the larger of the two parts' maxima. -/
theorem top_at (b : Fin 8) (h : Fin 4) (c : Fin 2) (i : Fin 2048) :
    val_main_v11 (F := Ideal) q kc k (ix4 b h c i) = top (sc q kc b h c i) (sl q k b h c i) := by
  rw [max_at, fold_max_split]
  unfold top
  congr 2 <;> funext j
  · exact score_ctx q kc k b h c i j
  · exact score_lat q kc k b h c i j

/-- The row sum is the sum of the two parts' sums. -/
theorem mass_at (b : Fin 8) (h : Fin 4) (c : Fin 2) (i : Fin 2048) :
    val_main_v16 (F := Ideal) q kc k (ix4 b h c i) = mass (sc q kc b h c i) (sl q k b h c i) := by
  rw [sum_at, sum_split]
  unfold mass
  congr 1 <;> refine Finset.sum_congr rfl fun j _ => ?_
  · rw [exp_at, score_ctx, top_at]
  · rw [exp_at, score_lat, top_at]

/-- The difference of the maps at a context key. -/
theorem weight_ctx (b : Fin 8) (h : Fin 4) (i : Fin 2048) (j : Fin 256) :
    val_main_v27 (F := Ideal) lam q kc k (ix4 b h i ⟨j.val, by omega⟩)
      = weight (lam (ix1 0)) (sc q kc b h 0 i) (sl q k b h 0 i) (sc q kc b h 1 i) (sl q k b h 1 i) (sc q kc b h 0 i j) (sc q kc b h 1 i j) := by
  rw [diff_at, soft_at, soft_at, exp_at, exp_at, score_ctx, score_ctx, top_at, top_at, mass_at, mass_at]
  rfl

/-- The difference of the maps at a latent key. -/
theorem weight_lat (b : Fin 8) (h : Fin 4) (i : Fin 2048) (j : Fin 2048) :
    val_main_v27 (F := Ideal) lam q kc k (ix4 b h i ⟨256 + j.val, by omega⟩)
      = weight (lam (ix1 0)) (sc q kc b h 0 i) (sl q k b h 0 i) (sc q kc b h 1 i) (sl q k b h 1 i) (sl q k b h 0 i j) (sl q k b h 1 i j) := by
  rw [diff_at, soft_at, soft_at, exp_at, exp_at, score_lat, score_lat, top_at, top_at, mass_at, mass_at]
  rfl

/-- A row of attention: head `h` of batch `b` at query `i`, one lane. -/
def att (b : Fin 8) (h : Fin 4) (i : Fin 2048) (e : Fin 128) : EReal :=
  row (lam (ix1 0)) (sc q kc b h 0 i) (sl q k b h 0 i) (sc q kc b h 1 i) (sl q k b h 1 i)
    (fun j => vc (ix3 b j ⟨h.val * 128 + e.val, by omega⟩)) (fun j => v (ix3 b j ⟨h.val * 128 + e.val, by omega⟩))

/-- The reference's product with the values is that row. -/
theorem att_at (b : Fin 8) (h : Fin 4) (i : Fin 2048) (e : Fin 128) :
    val_main_v29 (F := Ideal) lam q kc k vc v (ix4 b i h e) = att lam q kc k vc v b h i e := by
  rw [product_at]
  unfold att row
  congr 1 <;> refine Finset.sum_congr rfl fun j _ => ?_
  · rw [weight_ctx, mul_comm]
  · rw [weight_lat, mul_comm]

/-- The reference's result: the row, normalised, with the gain and the factor 0.8. -/
theorem result (b : Fin 8) (h : Fin 4) (i : Fin 2048) (e : Fin 128) :
    val_main_v47 (F := Ideal) lam q kc k vc v g (ix3 b i ⟨h.val * 128 + e.val, by omega⟩)
      = normed (att lam q kc k vc v b h i) (fun x => g (ix2 0 x)) e := by
  rw [heads_at, gained_at, normed_at, rms_at, squares_at]
  simp only [att_at]
  rfl

end Cert.Proof.AttnRef

end
-- ==== Proof.AttnEq.lean ====
/- The attention kernel and its reference give the same array, of finite queries and keys. -/
module

public import proofs.«01_k».proof.Proof.AttnRun
public import proofs.«01_k».proof.Proof.AttnRef

@[expose] public section

set_option maxRecDepth 16384

noncomputable section

namespace Cert.Proof.AttnEq

open Idealize.ShloMosaic Idealize.ShloMosaic.TcCoe Idealize.SL.Sem
open Cert.KernelIdeal Cert.KernelIdeal.Gen Cert.KernelIdeal.Value Cert.Proof.AttnMath Cert.Proof.AttnBody Cert.Proof.AttnRun

variable (m : (ℓ : Loc nD τ sig) → Buf (Elt Ideal) ℓ) (c : Dev nD)

/-- The reference's result of the kernel's argument arrays. -/
def target : FVec Ideal S8x2048x512 .bf16 :=
  Cert.ReferenceIdeal.Read.val_main_v47 (F := Ideal) (V m c main_arg0) (V m c main_arg1) (V m c main_arg2) (V m c main_arg3) (V m c main_arg4)
    (V m c main_arg5) (V m c main_arg6)

/-- A row of scores of the block is the row of scores of the array, context keys. -/
theorem ctx_eq (t : Fin cfg0.N) (b : Fin 8) (h : Fin 4) (i : Fin 2048) (r : Fin 512) (hb : t.val / 16 = b.val) (hh : t.val / 4 % 4 = h.val)
    (hi : t.val % 4 * 512 + r.val = i.val) (x : Fin 2) :
    bc (iblk m c 1 t) (iblk m c 2 t) x r = Cert.Proof.AttnRef.sc (V m c main_arg1) (V m c main_arg2) b h x i := by
  funext j
  refine Finset.sum_congr rfl fun d _ => ?_
  rw [q_at, kc_at]
  congr 2
  · congr 1 <;> exact Fin.ext (by simp only; omega)
  · congr 1 <;> exact Fin.ext (by simp only; omega)

/-- … and latent keys. -/
theorem lat_eq (t : Fin cfg0.N) (b : Fin 8) (h : Fin 4) (i : Fin 2048) (r : Fin 512) (hb : t.val / 16 = b.val) (hh : t.val / 4 % 4 = h.val)
    (hi : t.val % 4 * 512 + r.val = i.val) (x : Fin 2) :
    bl (iblk m c 1 t) (iblk m c 3 t) x r = Cert.Proof.AttnRef.sl (V m c main_arg1) (V m c main_arg3) b h x i := by
  funext j
  refine Finset.sum_congr rfl fun d _ => ?_
  rw [q_at, k_at]
  congr 2
  · congr 1 <;> exact Fin.ext (by simp only; omega)
  · congr 1 <;> exact Fin.ext (by simp only; omega)

/-- The two arrays at an index. -/
theorem at_index (hq : ∀ i, ∃ a : ℝ, V m c main_arg1 i = (a : EReal)) (hkc : ∀ i, ∃ a : ℝ, V m c main_arg2 i = (a : EReal))
    (hk : ∀ i, ∃ a : ℝ, V m c main_arg3 i = (a : EReal)) (b : Fin 8) (i : Fin 2048) (h : Fin 4) (e : Fin 128) :
    (dats m 0 c).arrAt 7 cfg0.N (ix3 b i ⟨h.val * 128 + e.val, by omega⟩) = target m c (ix3 b i ⟨h.val * 128 + e.val, by omega⟩) := by
  have ht : b.val * 16 + h.val * 4 + i.val / 512 < 128 := by omega
  have H := block m c hq hkc hk ⟨b.val * 16 + h.val * 4 + i.val / 512, ht⟩ ⟨i.val % 512, by omega⟩ e
  generalize hT : (⟨b.val * 16 + h.val * 4 + i.val / 512, ht⟩ : Fin cfg0.N) = t at H
  have hv : t.val = b.val * 16 + h.val * 4 + i.val / 512 := by rw [← hT]
  generalize hR : (⟨i.val % 512, by omega⟩ : Fin 512) = r at H
  have hr : r.val = i.val % 512 := by rw [← hR]
  have hb : t.val / 16 = b.val := by omega
  have hh : t.val / 4 % 4 = h.val := by omega
  have hi : t.val % 4 * 512 + r.val = i.val := by omega
  have p : (ix3 ⟨t.val / 16, by have := points t; omega⟩ ⟨t.val % 4 * 512 + r.val, by omega⟩ ⟨t.val / 4 % 4 * 128 + e.val, by omega⟩ : S8x2048x512.Idx)
      = ix3 b i ⟨h.val * 128 + e.val, by omega⟩ := by
    congr 1 <;> exact Fin.ext (by simp only; omega)
  rw [p] at H
  refine H.trans (Eq.trans ?_ (Cert.Proof.AttnRef.result (V m c main_arg0) (V m c main_arg1) (V m c main_arg2) (V m c main_arg3) (V m c main_arg4)
    (V m c main_arg5) (V m c main_arg6) b h i e).symm)
  refine normed_congr (fun x => ?_) (fun x => g_at m c t x) e
  unfold Cert.Proof.AttnRef.att
  refine row_congr (lam_at m c t) (ctx_eq m c t b h i r hb hh hi 0) (lat_eq m c t b h i r hb hh hi 0) (ctx_eq m c t b h i r hb hh hi 1)
    (lat_eq m c t b h i r hb hh hi 1) (fun j => ?_) fun j => ?_
  · refine (vc_at m c t j x).trans (congrArg (V m c main_arg4) ?_)
    congr 1 <;> exact Fin.ext (by simp only; omega)
  · refine (v_at m c t j x).trans (congrArg (V m c main_arg5) ?_)
    congr 1 <;> exact Fin.ext (by simp only; omega)

/-- The kernel's result array is the reference's. -/
theorem final (hq : ∀ i, ∃ a : ℝ, V m c main_arg1 i = (a : EReal)) (hkc : ∀ i, ∃ a : ℝ, V m c main_arg2 i = (a : EReal))
    (hk : ∀ i, ∃ a : ℝ, V m c main_arg3 i = (a : EReal)) : (dats m 0 c).arrAt 7 cfg0.N = target m c := by
  funext i
  have h2 : (i 2).val < 512 := (i 2).isLt
  have p : i = ix3 (i 0) (i 1) ⟨(⟨(i 2).val / 128, by omega⟩ : Fin 4).val * 128 + (⟨(i 2).val % 128, by omega⟩ : Fin 128).val, by simp only; omega⟩ := by
    funext a
    match a with
    | ⟨0, _⟩ => rfl
    | ⟨1, _⟩ => rfl
    | ⟨2, _⟩ => exact Fin.ext (by show (i 2).val = (i 2).val / 128 * 128 + (i 2).val % 128; omega)
  rw [p]
  exact at_index m c hq hkc hk _ _ _ _

end Cert.Proof.AttnEq

end
-- ==== Proof.AttnClaim.lean ====
/- The claims of the attention: that it runs, and that it computes its reference. -/
module

public import proofs.«01_k».proof.Proof.AttnPre
public import proofs.«01_k».proof.Proof.AttnEq
public import proofs.«01_k».proof.Proof.Gen.Kernel.Frame
public import proofs.«01_k».proof.Proof.Gen.ReferenceIdeal.Run
public import proofs.«01_k».proof.Proof.Gen.Pre_finite
public import Idealize.ShloMosaic.Lib.Claim

@[expose] public section

set_option maxRecDepth 16384

noncomputable section

namespace Cert.Proof.AttnClaim

open Idealize.ShloMosaic Idealize.ShloMosaic.TcCoe Idealize.SL.Sem

/-- The kernel as it is runs, at the bit-exact numbers. -/
theorem kernel : Cert.quiescent_Kernel (hKernel := Cert.Kernel.Gen.facts) := fun m ρ _ => Cert.Kernel.Gen.frame m ρ

/-- The kernel runs at the ideal numbers. -/
theorem ideal : Cert.quiescent_KernelIdeal (hKernelIdeal := Cert.KernelIdeal.Gen.facts) := fun m ρ _ => Cert.KernelIdeal.Gen.frame m ρ

/-- … also under the precondition. -/
theorem ideal_finite : Cert.quiescent_KernelIdeal_pre_finite (hKernelIdeal := Cert.KernelIdeal.Gen.facts) (hPre_finite := Cert.Pre_finite.Gen.facts) :=
  fun m ρ _ => Cert.KernelIdeal.Gen.frame m ρ

/-- The reference runs. -/
theorem reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run m ρ)

/-- … also under the precondition. -/
theorem reference_finite : Cert.quiescent_ReferenceIdeal_pre_finite (hReferenceIdeal := Cert.ReferenceIdeal.Gen.facts) (hPre_finite := Cert.Pre_finite.Gen.facts) := by
  intro m ρ _
  exact (θ_run Cert.ReferenceIdeal.defs _ _).mono (fun r h => ⟨fun c => (h c).2, sem_eq_zero_of_no_sems (by decide) r.2⟩)
    (Cert.ReferenceIdeal.Value.run m ρ)

/-- The kernel computes its reference, of finite queries and keys. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · run_from Cert.ReferenceIdeal.Value.run m' g'
    rw [Cert.ReferenceIdeal.Read.val_main_v47_eq]
    obtain ⟨h0, h1, h2, h3, h4, h5, h6⟩ := hagree c
    rw [h0, h1, h2, h3, h4, h5, h6]
    letI := Cert.Pre_finite.Gen.facts
    exact (AttnEq.final m c (AttnPre.queries _ _ _ _ _ _ _ (hpre c).1) (AttnPre.ctx_keys _ _ _ _ _ _ _ (hpre c).2.1)
      (AttnPre.lat_keys _ _ _ _ _ _ _ (hpre c).2.2)).symm

end Cert.Proof.AttnClaim

end
-- ==== Proof.MoeWords.lean ====
/- What the expert kernel computes of a tile's row count: how many sub-blocks it runs, and where each begins. -/
module

public import proofs.«01_k».proof.Proof.Gen.MoeKernelIdeal
public import Idealize.ShloMosaic.Lib.Affine

@[expose] public section

set_option maxRecDepth 16384

noncomputable section

namespace Cert.MoeKernelIdeal.Words

open Idealize.ShloMosaic Cert.MoeKernelIdeal

/-- Every side condition of the sub-block loop holds of a row count from 0 to 1024. -/
theorem chk : ∀ n : Fin 1025, k0_chk1 (BitVec.ofNat 32 n.val) := by decide +kernel

/-- The loop over whole sub-blocks runs ⌈n / 256⌉ times. -/
theorem trips : ∀ n : Fin 1025, (k0_t1_loop (BitVec.ofNat 32 n.val)).trips = (n.val + 255) / 256 := by decide +kernel

/-- The loop of the remainder runs not at all. -/
theorem trips_rest : ∀ n : Fin 1025, (k0_t2_loop (BitVec.ofNat 32 n.val)).trips = 0 := by decide +kernel

/-- Sub-block k begins at row 256 k. -/
theorem off : ∀ (n : Fin 1025) (k : Fin (k0_t1_loop (BitVec.ofNat 32 n.val)).trips), k0_off2 (BitVec.ofNat 32 n.val) k = ![256 * k.val, 0] := by decide +kernel

/-- A word between 0 and 1024 is such a number. -/
theorem word (v : BitVec 32) (h0 : IntOp.cmpi .sge v 0#32 = 1#1) (h1 : IntOp.cmpi .sle v 1024#32 = 1#1) : ∃ n : Fin 1025, v = BitVec.ofNat 32 n.val := by
  have a := IntOp.cmpi_sge.mp h0
  have b := IntOp.cmpi_sle.mp h1
  have z : (0#32 : BitVec 32).toInt = 0 := by decide
  have k : (1024#32 : BitVec 32).toInt = 1024 := by decide
  rw [z] at a
  rw [k] at b
  have hv : v.toNat ≤ 1024 := by
    rw [BitVec.toInt_eq_toNat_cond] at a b
    split at a <;> split at b <;> omega
  exact ⟨⟨v.toNat, by omega⟩, by simp⟩

end Cert.MoeKernelIdeal.Words

end
-- ==== Proof.MoePre.lean ====
/- What the experts' precondition and mask say of the tables, entry by entry. -/
module

public import proofs.«01_k».proof.Pre_tables_in_range
public import proofs.«01_k».proof.On_rows_in_use
public import proofs.«01_k».proof.Proof.MoeWords
public import Idealize.ShloMosaic.Lib.Pointwise

@[expose] public section

set_option maxRecDepth 16384

noncomputable section

namespace Cert.Proof.MoePre

open Idealize.ShloMosaic Idealize.ShloMosaic.TcCoe Idealize.SL.Sem

/-- Both of two bits are set. -/
theorem both : ∀ a b : BitVec 1, IntOp.andi a b = 1#1 → a = 1#1 ∧ b = 1#1 := by decide

/-- A word from 0 up and below 8 is a number below 8. -/
theorem small (v : BitVec 32) (h0 : IntOp.cmpi .sge v 0#32 = 1#1) (h1 : IntOp.cmpi .slt v 8#32 = 1#1) : v.toNat < 8 := by
  have a := IntOp.cmpi_sge.mp h0
  have b := IntOp.cmpi_slt.mp h1
  have z : (0#32 : BitVec 32).toInt = 0 := by decide
  have k : (8#32 : BitVec 32).toInt = 8 := by decide
  rw [z] at a
  rw [k] at b
  rw [BitVec.toInt_eq_toNat_cond] at a b
  split at a <;> split at b <;> omega

section
variable {F : FTy → Type} [FloatOps F] [hp : Cert.Pre_tables_in_range.Facts]
variable (a0 a1 : IVec Cert.Pre_tables_in_range.S40 32) (a2 : FVec F Cert.Pre_tables_in_range.S40960x1024 .f32)
  (a3 a4 : FVec F Cert.Pre_tables_in_range.S8x1024x3584 .f32) (a5 : FVec F Cert.Pre_tables_in_range.S8x3584x1024 .f32)
  (a6 : FVec F Cert.Pre_tables_in_range.S40960x1 .f32)

/-- All ones, read at one tile. -/
theorem bits (h : Cert.Pre_tables_in_range.fn (F := F) a0 a1 a2 a3 a4 a5 a6 = fun _ => 1#1) (i : Cert.Pre_tables_in_range.S40.Idx) :
    IntOp.andi (IntOp.andi (IntOp.andi (IntOp.cmpi .sge (a0 i) 0#32) (IntOp.cmpi .slt (a0 i) 8#32)) (IntOp.cmpi .sge (a1 i) 0#32))
      (IntOp.cmpi .sle (a1 i) 1024#32) = 1#1 := congrFun h i

/-- Each tile names one of the 8 experts. -/
theorem expert (h : Cert.Pre_tables_in_range.fn (F := F) a0 a1 a2 a3 a4 a5 a6 = fun _ => 1#1) (i : Cert.Pre_tables_in_range.S40.Idx) : (a0 i).toNat < 8 := by
  have b := (both _ _ (both _ _ (both _ _ (bits a0 a1 a2 a3 a4 a5 a6 h i)).1).1)
  exact small _ b.1 b.2

/-- Each tile holds a number of rows between 0 and 1024. -/
theorem count (h : Cert.Pre_tables_in_range.fn (F := F) a0 a1 a2 a3 a4 a5 a6 = fun _ => 1#1) (i : Cert.Pre_tables_in_range.S40.Idx) :
    ∃ n : Fin 1025, a1 i = BitVec.ofNat 32 n.val := by
  have b := both _ _ (bits a0 a1 a2 a3 a4 a5 a6 h i)
  exact Cert.MoeKernelIdeal.Words.word _ (both _ _ b.1).2 b.2
end

section
variable [hm : Cert.On_rows_in_use.Facts]
variable (a0 a1 : IVec Cert.On_rows_in_use.S40 32) (a2 : FVec Ideal Cert.On_rows_in_use.S40960x1024 .f32)
  (a3 a4 : FVec Ideal Cert.On_rows_in_use.S8x1024x3584 .f32) (a5 : FVec Ideal Cert.On_rows_in_use.S8x3584x1024 .f32)
  (a6 : FVec Ideal Cert.On_rows_in_use.S40960x1 .f32)

/-- A row below 1024 and a count up to 1024 compare as numbers. -/
theorem below (r : Fin 1024) (n : Fin 1025) (h : IntOp.cmpi .slt (BitVec.ofNat 32 r.val) (BitVec.ofNat 32 n.val) = 1#1) : r.val < n.val := by
  have b := IntOp.cmpi_slt.mp h
  have hr := r.isLt
  have hn := n.isLt
  rw [BitVec.toInt_eq_toNat_cond, BitVec.toInt_eq_toNat_cond, BitVec.toNat_ofNat, BitVec.toNat_ofNat] at b
  split at b <;> split at b <;> omega

/-- The mask at a row: whether the row's place in its tile is below the tile's count. -/
theorem mask_at (p : Fin 40960) (e : Fin 1024) : Cert.On_rows_in_use.fn (F := Ideal) a0 a1 a2 a3 a4 a5 a6 (ix2 p e)
    = IntOp.cmpi .slt (BitVec.ofNat 32 (p.val % 1024)) (a1 (ix1 ⟨p.val / 1024, by omega⟩)) := by
  unfold Cert.On_rows_in_use.fn
  pointwise

/-- A row of the mask lies among the rows in use of its tile. -/
theorem in_use (p : Fin 40960) (e : Fin 1024) (n : Fin 1025) (hn : a1 (ix1 ⟨p.val / 1024, by omega⟩) = BitVec.ofNat 32 n.val)
    (h : Cert.On_rows_in_use.fn (F := Ideal) a0 a1 a2 a3 a4 a5 a6 (ix2 p e) = 1#1) : p.val % 1024 < n.val :=
  below ⟨p.val % 1024, Nat.mod_lt _ (by omega)⟩ n (by rw [← hn, ← mask_at a0 a1 a2 a3 a4 a5 a6 p e]; exact h)
end

end Cert.Proof.MoePre

end
-- ==== Proof.MoeMath.lean ====
/- The mathematics of one row of an expert: over plain functions, no array, no program. -/
module

public import Idealize.ShloMosaic.Lib.Pointwise
public import Idealize.ShloMosaic.PureOps.Ideal

@[expose] public section

noncomputable section

namespace Cert.Proof.MoeMath

open Idealize.ShloMosaic

/-- z over 1 + exp(-z), written as the product with the reciprocal. -/
def silu (z : EReal) : EReal := z * Ideal.div 1 (1 + Ideal.exp (-z))

/-- One hidden lane of a row x: the gate lane through silu, times the up lane. -/
def hidden (x g u : Fin 1024 → EReal) : EReal := silu (∑ q, x q * g q) * ∑ q, x q * u q

/-- What the hidden lanes of block j (512 of 3584) add to an output lane whose down weights are w. -/
def part (x : Fin 1024 → EReal) (g u : Fin 1024 → Fin 3584 → EReal) (w : Fin 3584 → EReal) (j : Fin 7) : EReal :=
  ∑ f : Fin 512, hidden x (fun q => g q ⟨j.val * 512 + f.val, by omega⟩) (fun q => u q ⟨j.val * 512 + f.val, by omega⟩)
    * w ⟨j.val * 512 + f.val, by omega⟩

/-- An output lane of a row: all hidden lanes against the down weights. -/
def lane (x : Fin 1024 → EReal) (g u : Fin 1024 → Fin 3584 → EReal) (w : Fin 3584 → EReal) : EReal :=
  ∑ f : Fin 3584, hidden x (fun q => g q f) (fun q => u q f) * w f

/-- The seven blocks of hidden lanes are all of them. -/
theorem lane_eq (x : Fin 1024 → EReal) (g u : Fin 1024 → Fin 3584 → EReal) (w : Fin 3584 → EReal) :
    lane x g u w = ∑ j : Fin 7, part x g u w j :=
  Fin.sum_univ_tiles (M := EReal) 7 512 rfl fun f => hidden x (fun q => g q f) (fun q => u q f) * w f

/-- The running sum over the blocks before j. -/
def upto (x : Fin 1024 → EReal) (g u : Fin 1024 → Fin 3584 → EReal) (w : Fin 3584 → EReal) (j : ℕ) : EReal :=
  ∑ i ∈ Finset.range j, if h : i < 7 then part x g u w ⟨i, h⟩ else 0

theorem upto_zero (x : Fin 1024 → EReal) (g u : Fin 1024 → Fin 3584 → EReal) (w : Fin 3584 → EReal) : upto x g u w 0 = 0 := by
  simp [upto]

theorem upto_succ (x : Fin 1024 → EReal) (g u : Fin 1024 → Fin 3584 → EReal) (w : Fin 3584 → EReal) (j : Fin 7) :
    upto x g u w (j.val + 1) = upto x g u w j.val + part x g u w j := by
  unfold upto
  rw [Finset.sum_range_succ, dif_pos j.isLt]

theorem upto_all (x : Fin 1024 → EReal) (g u : Fin 1024 → Fin 3584 → EReal) (w : Fin 3584 → EReal) : upto x g u w 7 = lane x g u w := by
  rw [lane_eq]
  unfold upto
  rw [Finset.sum_range]
  exact Finset.sum_congr rfl fun i _ => dif_pos i.isLt

end Cert.Proof.MoeMath

end
-- ==== Proof.MoeRef.lean ====
/- What the reference of the experts computes: every expert's lane of a row, of which the row's gate keeps its own
   expert's. -/
module

public import proofs.«01_k».proof.Proof.Gen.MoeReferenceIdeal.Read
public import proofs.«01_k».proof.Proof.MoeMath
public import Idealize.ShloMosaic.Lib.Pointwise
public import Idealize.ShloMosaic.Lib.Affine

@[expose] public section

set_option maxRecDepth 16384

noncomputable section

namespace Cert.Proof.MoeRef

open Idealize.ShloMosaic Idealize.ShloMosaic.TcCoe Idealize.SL.Sem
open Cert.MoeReferenceIdeal Cert.MoeReferenceIdeal.Gen Cert.MoeReferenceIdeal.Read Cert.Proof.MoeMath

variable (te : IVec S40 32) (x : FVec Ideal S40960x1024 .f32) (wg wu : FVec Ideal S8x1024x3584 .f32)
  (wd : FVec Ideal S8x3584x1024 .f32) (g : FVec Ideal S40960x1 .f32)

theorem gate_lane (p : Fin 40960) (k : Fin 8) (f : Fin 3584) :
    val_main_v6 (F := Ideal) x wg (ix3 p k f) = ∑ q : Fin 1024, x (ix2 p q) * wg (ix3 k q f) := by
  rw [val_main_v6_apply]
  refine Finset.sum_congr rfl fun q _ => congrArg₂ (· * ·) (congrArg x (funext fun a => ?_)) (congrArg wg (funext fun a => ?_))
  · match a with
    | ⟨0, _⟩ => rfl
    | ⟨1, _⟩ => rfl
  · match a with
    | ⟨0, _⟩ => rfl
    | ⟨1, _⟩ => rfl
    | ⟨2, _⟩ => rfl

theorem up_lane (p : Fin 40960) (k : Fin 8) (f : Fin 3584) :
    val_main_v7 (F := Ideal) x wu (ix3 p k f) = ∑ q : Fin 1024, x (ix2 p q) * wu (ix3 k q f) := gate_lane x wu p k f

/-- The product with the logistic is silu. -/
theorem silu_lane (i : S40960x8x3584.Idx) : val_main_v8 (F := Ideal) x wg i = silu (val_main_v6 (F := Ideal) x wg i) := by
  rw [val_main_v8_apply, val_main_call1_v5_apply, val_main_call1_v4_apply, val_main_call1_v3_apply, val_main_call1_v2_apply, val_main_call1_v1_apply,
    val_main_call1_v0_apply]
  generalize val_main_v6 (F := Ideal) x wg i = z
  rw [show val_main_call1_cst (F := Ideal) _ = 1 by pointwise [val_main_call1_cst], show val_main_call1_cst_0 (F := Ideal) _ = 1 by pointwise [val_main_call1_cst_0]]
  rfl

/-- A hidden lane of a row at one expert. -/
theorem hidden_lane (p : Fin 40960) (k : Fin 8) (f : Fin 3584) : val_main_v9 (F := Ideal) x wg wu (ix3 p k f)
    = hidden (fun q => x (ix2 p q)) (fun q => wg (ix3 k q f)) (fun q => wu (ix3 k q f)) := by
  rw [val_main_v9_apply, silu_lane, gate_lane, up_lane]
  rfl

/-- An expert's output lane of a row. -/
theorem expert_lane (p : Fin 40960) (k : Fin 8) (e : Fin 1024) : val_main_v11 (F := Ideal) x wg wu wd (ix3 p k e)
    = lane (fun q => x (ix2 p q)) (fun q f => wg (ix3 k q f)) (fun q f => wu (ix3 k q f)) (fun f => wd (ix3 k f e)) := by
  rw [val_main_v11_apply, val_main_v10_apply]
  unfold lane
  refine Finset.sum_congr rfl fun f _ => ?_
  rw [mul_comm]
  refine congrArg₂ (· * ·) (Eq.trans (congrArg _ (funext fun a => ?_)) (hidden_lane x wg wu p k f)) (congrArg wd (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- Whether expert k is the row's: the word of its tile against k. -/
theorem chosen (p : Fin 40960) (k : Fin 8) : val_main_v3 (F := Ideal) te (ix2 p k)
    = (FloatOps.uitofp .f32 (IntOp.cmpi .eq (te (ix1 ⟨p.val / 1024, by omega⟩)) (BitVec.ofNat 32 k.val)) : Ideal .f32) := by
  rw [val_main_v3_apply, val_main_call0_v4_apply, val_main_call0_v2_apply, val_main_call0_v0_apply, val_main_v2_apply, val_main_v1_apply, val_main_v0_apply,
    val_main_call0_v3_apply, val_main_call0_v1_apply]
  refine congrArg (fun w => (FloatOps.uitofp .f32 (IntOp.cmpi .eq w (BitVec.ofNat 32 k.val)) : Ideal .f32)) (congrArg te (funext fun a => ?_))
  match a with
  | ⟨0, _⟩ => rfl

/-- One term of the sum over the experts. -/
theorem term (p : Fin 40960) (k : Fin 8) (e : Fin 1024) : val_main_v14 (F := Ideal) te x wg wu wd g (ix3 p k e)
    = (val_main_v3 (F := Ideal) te (ix2 p k) * g (ix2 p 0))
      * lane (fun q => x (ix2 p q)) (fun q f => wg (ix3 k q f)) (fun q f => wu (ix3 k q f)) (fun f => wd (ix3 k f e)) := by
  rw [val_main_v14_apply, val_main_v13_apply, val_main_v12_apply, val_main_v5_apply, val_main_v4_apply, expert_lane]
  refine congrArg (fun w : EReal => w * _) (congrArg₂ (fun a b : EReal => a * b) (congrArg _ (funext fun a => ?_)) (congrArg g (funext fun a => ?_)))
  · match a with
    | ⟨0, _⟩ => rfl
    | ⟨1, _⟩ => rfl
  · match a with
    | ⟨0, _⟩ => rfl
    | ⟨1, _⟩ => rfl

/-- A word below 8 equals the word of a number below 8 only at that number. -/
theorem only (w : BitVec 32) (hw : w.toNat < 8) (k : Fin 8) :
    (FloatOps.uitofp .f32 (IntOp.cmpi .eq w (BitVec.ofNat 32 k.val)) : Ideal .f32) = if k = ⟨w.toNat, hw⟩ then (1 : EReal) else 0 := by
  have hk := k.isLt
  by_cases h : k = ⟨w.toNat, hw⟩
  · have e : w = BitVec.ofNat 32 k.val := by rw [h]; simp
    rw [if_pos h, ← e]
    simp [IntOp.cmpi, FloatOps.uitofp]
  · have e : w ≠ BitVec.ofNat 32 k.val := fun e => h (Fin.ext (by
      have := congrArg BitVec.toNat e
      rw [BitVec.toNat_ofNat] at this
      show k.val = w.toNat
      omega))
    rw [if_neg h]
    simp [IntOp.cmpi, FloatOps.uitofp, e]

/-- The reference's result at a row whose tile names an expert: that expert's lane times the row's gate. -/
theorem result (p : Fin 40960) (e : Fin 1024) (hte : (te (ix1 ⟨p.val / 1024, by omega⟩)).toNat < 8) :
    val_main_v15 (F := Ideal) te x wg wu wd g (ix2 p e)
      = lane (fun q => x (ix2 p q)) (fun q f => wg (ix3 ⟨(te (ix1 ⟨p.val / 1024, by omega⟩)).toNat, hte⟩ q f))
          (fun q f => wu (ix3 ⟨(te (ix1 ⟨p.val / 1024, by omega⟩)).toNat, hte⟩ q f))
          (fun f => wd (ix3 ⟨(te (ix1 ⟨p.val / 1024, by omega⟩)).toNat, hte⟩ f e)) * g (ix2 p 0) := by
  rw [val_main_v15_apply, show val_main_cst (F := Ideal) _ = 0 by pointwise [val_main_cst], zero_add]
  have hix (k : Fin 8) : idx_main_v15 (ix2 p e) k = ix3 p k e := funext fun a => match a with
    | ⟨0, _⟩ => rfl
    | ⟨1, _⟩ => rfl
    | ⟨2, _⟩ => rfl
  simp only [hix, term, chosen, only _ hte]
  rw [Finset.sum_eq_single (⟨(te (ix1 ⟨p.val / 1024, by omega⟩)).toNat, hte⟩ : Fin 8)]
  · rw [if_pos rfl, one_mul, mul_comm]
  · intro k _ hk
    rw [if_neg hk, zero_mul, zero_mul]
  · exact fun h => absurd (Finset.mem_univ _) h

end Cert.Proof.MoeRef

end
-- ==== Proof.MoeTables.lean ====
/- The experts' kernel's tables: which words its index maps and its body read, and the side conditions that tables in
   range meet. -/
module

public import proofs.«01_k».proof.Proof.Gen.MoeKernelIdeal.Frame
public import proofs.«01_k».proof.Proof.MoePre

@[expose] public section

set_option maxRecDepth 16384

noncomputable section

namespace Cert.Proof.MoeTables

open Idealize.ShloMosaic Idealize.ShloMosaic.TcCoe Idealize.SL.Sem
open Cert.MoeKernelIdeal Cert.MoeKernelIdeal.Gen

variable {F : FTy → Type} [FloatOps F]

/-- A tile's number as an index. -/
theorem cast : ∀ j : Fin 40, (Scalar.indexCast (BitVec.ofNat 32 j.val)).toNat = j.val := by decide

/-- The one entry of a table that a grid point names: its tile's. -/
theorem entry (i : grid0.Coords) (z : S1.Idx) : (Rect.unit (s := S40) (k0_off1 i) S1.size (k0_off1_inb i)).emb z = ix1 (i 0) := by
  refine funext fun a => Fin.ext ?_
  match a with
  | ⟨0, _⟩ =>
    have hz : (z 0).val < 1 := (z 0).isLt
    show (Scalar.indexCast (BitVec.ofNat 32 (i 0).val)).toNat + 1 * (z 0).val = (i 0).val
    exact (congrArg₂ (· + 1 * ·) (cast (i 0)) (Nat.lt_one_iff.mp hz)).trans (by omega)

/-- The block index chosen is one of the 7. -/
theorem chosen : ∀ (b : BitVec 1) (j : Fin 7), (Scalar.select b (BitVec.ofNat 32 j.val) 6#32).toNat < 7 := by decide

/-- The word of a number from 1 up to 1024 is positive. -/
theorem positive (n : Fin 1025) (h : 0 < n.val) : Scalar.cmpi .sgt (BitVec.ofNat 32 n.val) 0#32 = 1#1 := by
  refine IntOp.cmpi_sgt.mpr ?_
  have hn := n.isLt
  have z : (0#32 : BitVec 32).toInt = 0 := by decide
  rw [z, BitVec.toInt_eq_toNat_cond, BitVec.toNat_ofNat]
  split <;> omega

/-- Where the tile has rows the block index is the point's own. -/
theorem own (n : Fin 1025) (h : 0 < n.val) (j : Fin 7) :
    (Scalar.select (Scalar.cmpi .sgt (BitVec.ofNat 32 n.val) 0#32) (BitVec.ofNat 32 j.val) 6#32).toNat = j.val := by
  rw [positive n h]
  revert j; decide

/-- Where the tile has rows the body works. -/
theorem works (i : grid0.Coords) (n : Fin 1025) (h : 0 < n.val) : cond0_1 i (BitVec.ofNat 32 n.val) := by
  have p := positive n h
  show Scalar.cmpi .ne (Scalar.extui (Scalar.cmpi .sgt (BitVec.ofNat 32 n.val) 0#32) : BitVec 32) 0#32 = 1#1
  rw [p]
  decide

variable (m : (ℓ : Loc nD τ sig) → Buf (Elt F) ℓ)

/-- What the body reads of the second table at a grid point: the number of its tile's rows. -/
theorem rows_word (i : grid0.Coords) (z : S1.Idx) :
    tbM0_1.view.readAt (Elt F) (Rect.unit (s := S40) (k0_off1 i) S1.size (k0_off1_inb i)).toLoadRect (tbl m 1) z = m ((0 : Dev nD).tc.loc main_arg1) (ix1 (i 0)) :=
  congrArg (m ((0 : Dev nD).tc.loc main_arg1)) (entry i z)

/-- What the index maps read of the first table: the tile's expert. -/
theorem expert_word (i : grid0.Coords) :
    (tbl m).at 0 (Rect.unit (s := S40) (k0_off1 i) S1.size (k0_off1_inb i)) numel1_S1 = m ((0 : Dev nD).tc.loc main_arg0) (ix1 (i 0)) :=
  congrArg (m ((0 : Dev nD).tc.loc main_arg0)) (entry i _)

theorem count_word (i : grid0.Coords) :
    (tbl m).at 1 (Rect.unit (s := S40) (k0_off1 i) S1.size (k0_off1_inb i)) numel1_S1 = m ((0 : Dev nD).tc.loc main_arg1) (ix1 (i 0)) :=
  congrArg (m ((0 : Dev nD).tc.loc main_arg1)) (entry i _)

variable (hte : ∀ i : Fin 40, (m ((0 : Dev nD).tc.loc main_arg0) (ix1 i) : BitVec 32).toNat < 8)
  (hnv : ∀ i : Fin 40, ∃ n : Fin 1025, m ((0 : Dev nD).tc.loc main_arg1) (ix1 i) = BitVec.ofNat 32 n.val)

include hte in
/-- Of experts in range every block lies inside its array. -/
theorem ok : Ok m := by
  have hb (i : grid0.Coords) := hte (i 0)
  refine ⟨fun i => ⟨fun a => ?_, .inl rfl⟩, fun i => ⟨fun a => ?_, .inl rfl⟩, fun i => ⟨fun a => ?_, .inl rfl⟩⟩
  · match a with
    | ⟨0, _⟩ =>
      show (((tbl m).at 0 (Rect.unit (s := S40) (k0_off1 i) S1.size (k0_off1_inb i)) numel1_S1 : BitVec 32).toNat + 1) * 1 ≤ 8
      rw [expert_word]; have := hb i; omega
    | ⟨1, _⟩ => show (0 + 1) * 1024 ≤ 1024; omega
    | ⟨2, _⟩ => show ((Scalar.select _ (BitVec.ofNat 32 (i 1).val) 6#32).toNat + 1) * 512 ≤ 7 * 512; exact Nat.mul_le_mul_right 512 (chosen _ (i 1))
  · match a with
    | ⟨0, _⟩ =>
      show (((tbl m).at 0 (Rect.unit (s := S40) (k0_off1 i) S1.size (k0_off1_inb i)) numel1_S1 : BitVec 32).toNat + 1) * 1 ≤ 8
      rw [expert_word]; have := hb i; omega
    | ⟨1, _⟩ => show (0 + 1) * 1024 ≤ 1024; omega
    | ⟨2, _⟩ => show ((Scalar.select _ (BitVec.ofNat 32 (i 1).val) 6#32).toNat + 1) * 512 ≤ 7 * 512; exact Nat.mul_le_mul_right 512 (chosen _ (i 1))
  · match a with
    | ⟨0, _⟩ =>
      show (((tbl m).at 0 (Rect.unit (s := S40) (k0_off1 i) S1.size (k0_off1_inb i)) numel1_S1 : BitVec 32).toNat + 1) * 1 ≤ 8
      rw [expert_word]; have := hb i; omega
    | ⟨1, _⟩ => show ((Scalar.select _ (BitVec.ofNat 32 (i 1).val) 6#32).toNat + 1) * 512 ≤ 7 * 512; exact Nat.mul_le_mul_right 512 (chosen _ (i 1))
    | ⟨2, _⟩ => show (0 + 1) * 1024 ≤ 1024; omega

include hnv in
/-- Of counts in range every trip of the body's loop stays inside the tile. -/
theorem hyps (hO : Ok m) : Hyps m hO := Hyps.of (fun c t => by
  obtain ⟨n, hn⟩ := hnv (grid0.coords t 0)
  refine (congrArg k0_chk1 ((rows_word m (grid0.coords t) _).trans hn)).mpr ?_
  exact Cert.MoeKernelIdeal.Words.chk n)

end Cert.Proof.MoeTables

end
-- ==== Proof.MoeBody.lean ====
/- What the expert kernel stores, of the values it reads: the converted blocks, one sub-block's step, the gated result. -/
module

public import proofs.«01_k».proof.Proof.Gen.MoeKernelIdeal.Skeleton
public import proofs.«01_k».proof.Proof.MoeMath

@[expose] public section

set_option maxRecDepth 16384

noncomputable section

namespace Cert.Proof.MoeBody

open Idealize.ShloMosaic Idealize.ShloMosaic.TcCoe Idealize.SL.Sem
open Cert.MoeKernelIdeal Cert.MoeKernelIdeal.Gen Cert.Proof.MoeMath

/-- What one block of 512 hidden lanes adds to lane e of a row x. -/
def step (x : Fin 1024 → EReal) (g u : FVec Ideal S1024x512 .bf16) (d : FVec Ideal S512x1024 .bf16) (e : Fin 1024) : EReal :=
  ∑ f : Fin 512, hidden x (fun q => g (ix2 q f)) (fun q => u (ix2 q f)) * d (ix2 f e)

/-- The gate or up lanes of a sub-block of rows. -/
def lanes (x : FVec Ideal S256x1024 .bf16) (g : FVec Ideal S1024x512 .bf16) : FVec Ideal S256x512 .f32 :=
  matmul (F := Ideal) dot_S256x1024_S1024x512_S256x512_1_0_0_1_n_n none x g (constant S256x512 .f32 0x00000000#32)

/-- The hidden lanes of those. -/
def hid (a b : FVec Ideal S256x512 .f32) : FVec Ideal S256x512 .bf16 :=
  truncf (F := Ideal) .bf16 (mulf (F := Ideal) (mulf (F := Ideal) a (divf (F := Ideal) (broadcast S256x512 (Scalar.ofBits (F := Ideal) .f32 0x3F800000#32))
    (addf (F := Ideal) (broadcast S256x512 (Scalar.ofBits (F := Ideal) .f32 0x3F800000#32))
      (exp (F := Ideal) (subf (F := Ideal) (broadcast S256x512 (Scalar.ofBits (F := Ideal) .f32 0x00000000#32)) a))))) b) bitsLt_bf16_f32

/-- The running sum with their share added. -/
def added (h : FVec Ideal S256x512 .bf16) (a : FVec Ideal S256x1024 .f32) (d : FVec Ideal S512x1024 .bf16) : FVec Ideal S256x1024 .f32 :=
  shapeCast S256x1024 (addf (F := Ideal) a (matmul (F := Ideal) dot_S256x512_S512x1024_S256x1024_1_0_0_1_n_n none h d (constant S256x1024 .f32 0x00000000#32)))
    shapeCasts_S256x1024_S256x1024

theorem pay6 (x : Vec Ideal S256x1024 .bf16) (g u : Vec Ideal S1024x512 .bf16) (a : Vec Ideal S256x1024 .f32) (d : Vec Ideal S512x1024 .bf16) :
    k0_pay6 (F := Ideal) x g u a d = added (hid (lanes x g) (lanes x u)) a d := rfl

theorem lanes_at (x : FVec Ideal S256x1024 .bf16) (g : FVec Ideal S1024x512 .bf16) (r : Fin 256) (f : Fin 512) :
    lanes x g (ix2 r f) = ∑ q : Fin 1024, x (ix2 r q) * g (ix2 q f) := by
  pointwise [lanes]

theorem hid_at (a b : FVec Ideal S256x512 .f32) (r : Fin 256) (f : Fin 512) : hid a b (ix2 r f) = silu (a (ix2 r f)) * b (ix2 r f) := by
  rw [show silu (a (ix2 r f)) = a (ix2 r f) * Ideal.div 1 (1 + Ideal.exp (0 - a (ix2 r f))) by rw [zero_sub]; rfl]
  pointwise [hid]

theorem added_at (h : FVec Ideal S256x512 .bf16) (a : FVec Ideal S256x1024 .f32) (d : FVec Ideal S512x1024 .bf16) (r : Fin 256) (e : Fin 1024) :
    added h a d (ix2 r e) = a (ix2 r e) + ∑ f : Fin 512, h (ix2 r f) * d (ix2 f e) := by
  pointwise [added]

/-- A sub-block's step adds the block's share to each of its rows. -/
theorem pay6_at (x : Vec Ideal S256x1024 .bf16) (g u : Vec Ideal S1024x512 .bf16) (a : Vec Ideal S256x1024 .f32) (d : Vec Ideal S512x1024 .bf16)
    (r : Fin 256) (e : Fin 1024) : k0_pay6 (F := Ideal) x g u a d (ix2 r e) = a (ix2 r e) + step (fun q => x (ix2 r q)) g u d e := by
  rw [pay6, added_at]
  refine congrArg _ (Finset.sum_congr rfl fun f _ => ?_)
  rw [hid_at, lanes_at, lanes_at]
  rfl

/-- The row block is kept as read. -/
theorem pay1_at (x : Vec Ideal S1024x1024 .f32) (r e : Fin 1024) : k0_pay1 (F := Ideal) x (ix2 r e) = x (ix2 r e) := by
  pointwise [k0_pay1]

/-- The running sum begins at zero. -/
theorem pay2_at (r e : Fin 1024) : k0_pay2 (F := Ideal) (ix2 r e) = 0 := by
  pointwise [k0_pay2]

/-- The gate block is kept as read. -/
theorem pay3_at (g : Vec Ideal S1x1024x512 .f32) (q : Fin 1024) (f : Fin 512) : k0_pay3 (F := Ideal) g (ix2 q f) = g (ix3 0 q f) := by
  pointwise [k0_pay3]

/-- … the up block. -/
theorem pay4_at (g : Vec Ideal S1x1024x512 .f32) (q : Fin 1024) (f : Fin 512) : k0_pay4 (F := Ideal) g (ix2 q f) = g (ix3 0 q f) := by
  pointwise [k0_pay4]

/-- … and the down block. -/
theorem pay5_at (g : Vec Ideal S1x512x1024 .f32) (f : Fin 512) (e : Fin 1024) : k0_pay5 (F := Ideal) g (ix2 f e) = g (ix3 0 f e) := by
  pointwise [k0_pay5]

/-- The result is the running sum times the row's gate. -/
theorem pay8_at (a : Vec Ideal S1024x1024 .f32) (g : Vec Ideal S1024x1 .f32) (r e : Fin 1024) :
    k0_pay8 (F := Ideal) a g (ix2 r e) = a (ix2 r e) * g (ix2 r 0) := by
  pointwise [k0_pay8]

end Cert.Proof.MoeBody

end
-- ==== Proof.MoeLoop.lean ====
/- The loop over a tile's sub-blocks: what the running sum holds after its trips. -/
module

public import proofs.«01_k».proof.Proof.Gen.MoeKernelIdeal.Loops
public import proofs.«01_k».proof.Proof.MoeBody
public import proofs.«01_k».proof.Proof.MoeWords
public import Idealize.ShloMosaic.Lib.VecWindow
public import Idealize.ShloMosaic.Lib.WritesUnit

@[expose] public section

set_option maxRecDepth 16384

noncomputable section

namespace Cert.Proof.MoeLoop

open Idealize.ShloMosaic Idealize.ShloMosaic.TcCoe Idealize.ShloMosaic.Tactic Idealize.SL.Sem
open Cert.MoeKernelIdeal Cert.MoeKernelIdeal.Gen Cert.Proof.MoeMath Cert.Proof.MoeBody

/-- A trip stores one piece: its sub-block's rows, the step applied to what is read of them. -/
theorem trip_eq (𝒱 : Variants) (c : Dev nD) (bd : Option 𝒱.V) (i : grid0.Coords) (arg2 : Memref sig .tc .smem S40 .i32) (harg2 : arg2.IsWhole) (arg3 : Memref sig .tc .smem S40 .i32) (harg3 : arg3.IsWhole) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (v1 : Elt Ideal .i32) (k0_hw1 : k0_chk1 v1) (k0_h2 : k0_cond2 v1 = 1#1) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (k : Fin (k0_t1_loop v1).trips) (f_arg14 : BufTy.Contents (Elt Ideal) arg14.view.ty) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 k0_hw1 k0_h2 X_arg10 X_arg11 X_arg12 X_arg13 k f_arg14 = [⟨(Rect.unit (s := S1024x1024) (k0_off2 v1 k) S256x1024.size (k0_off2_inb v1 k0_hw1 k k0_h2)),
      k0_pay6 (arg10.view.readAt (Elt Ideal) (Rect.unit (s := S1024x1024) (k0_off2 v1 k) S256x1024.size (k0_off2_inb v1 k0_hw1 k k0_h2)).toLoadRect X_arg10)
        (arg11.view.readAt (Elt Ideal) (Rect.unit (s := S1024x512) ![0, 0] S1024x512.size inb_S1024x512_S1024x512_0_0).toLoadRect X_arg11)
        (arg12.view.readAt (Elt Ideal) (Rect.unit (s := S1024x512) ![0, 0] S1024x512.size inb_S1024x512_S1024x512_0_0).toLoadRect X_arg12)
        (arg14.view.readAt (Elt Ideal) (Rect.unit (s := S1024x1024) (k0_off2 v1 k) S256x1024.size (k0_off2_inb v1 k0_hw1 k k0_h2)).toLoadRect f_arg14)
        (arg13.view.readAt (Elt Ideal) (Rect.unit (s := S512x1024) ![0, 0] S512x1024.size inb_S512x1024_S512x1024_0_0).toLoadRect X_arg13)⟩] := by
  unfold tripL_k0_t1 trip_k0_t1
  rfl

/-- After k trips the rows of the first k sub-blocks have the block's share added, the others are as before. -/
theorem loop (𝒱 : Variants) (c : Dev nD) (bd : Option 𝒱.V) (i : grid0.Coords) (arg2 : Memref sig .tc .smem S40 .i32) (harg2 : arg2.IsWhole) (arg3 : Memref sig .tc .smem S40 .i32) (harg3 : arg3.IsWhole) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (v1 : Elt Ideal .i32) (k0_hw1 : k0_chk1 v1) (k0_h2 : k0_cond2 v1 = 1#1) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (G : BufTy.Contents (Elt Ideal) arg14.view.ty)
    (n : Fin 1025) (hv : v1 = BitVec.ofNat 32 n.val) (k : ℕ) (hk : k ≤ (k0_t1_loop v1).trips) (r e : Fin 1024) :
    arg14.view.read (Elt Ideal) (arg14.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 k0_hw1 k0_h2 X_arg10 X_arg11 X_arg12 X_arg13 G k)) (ix2 r e)
      = if r.val < 256 * k then arg14.view.read (Elt Ideal) G (ix2 r e)
          + step (fun q => arg10.view.read (Elt Ideal) X_arg10 (ix2 r q)) (arg11.view.read (Elt Ideal) X_arg11) (arg12.view.read (Elt Ideal) X_arg12)
            (arg13.view.read (Elt Ideal) X_arg13) e
        else arg14.view.read (Elt Ideal) G (ix2 r e) := by
  induction k generalizing r with
  | zero => rw [if_neg (by omega)]; rfl
  | succ k ih =>
    have hoff : k0_off2 v1 ⟨k, hk⟩ = ![256 * k, 0] := by subst hv; exact Cert.MoeKernelIdeal.Words.off n ⟨k, hk⟩
    have ih := fun r => ih (Nat.le_of_succ_le hk) r
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 v1 k0_hw1 k0_h2 X_arg10 X_arg11 X_arg12 X_arg13 G ⟨k, hk⟩, trip_eq, List.singleton_append]
    generalize pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 v1 k0_hw1 k0_h2 X_arg10 X_arg11 X_arg12 X_arg13 G k = L at ih ⊢
    by_cases h : 256 * k ≤ r.val ∧ r.val < 256 * k + 256
    · have hp : ∀ q : Fin 1024, (Rect.unit (s := S1024x1024) (k0_off2 v1 ⟨k, hk⟩) S256x1024.size (k0_off2_inb v1 k0_hw1 ⟨k, hk⟩ k0_h2)).toLoadRect.idx
          (ix2 (⟨r.val - 256 * k, by omega⟩ : Fin 256) q) = ix2 r q := fun q => funext fun a => Fin.ext (by
        match a with
        | ⟨0, _⟩ => show k0_off2 v1 ⟨k, hk⟩ 0 + 1 * (r.val - 256 * k) = r.val; rw [hoff]; show 256 * k + 1 * (r.val - 256 * k) = r.val; omega
        | ⟨1, _⟩ => show k0_off2 v1 ⟨k, hk⟩ 1 + 1 * q.val = q.val; rw [hoff]; show 0 + 1 * q.val = q.val; omega)
      refine (View.read_writes_cons_rows_of_mem (d := S1024x1024.size) arg14.view G _ _ L (ix2 r e) (ix2 (⟨r.val - 256 * k, by omega⟩ : Fin 256) e) hoff
        (by show r.val = 256 * k + (r.val - 256 * k); omega) rfl).trans ?_
      rw [pay6_at, if_pos (by omega)]
      rw [View.readAt_full, View.readAt_full, View.readAt_full, View.readAt_apply, hp, ih, if_neg (by omega)]
      refine congrArg _ (congrArg (fun x => step x _ _ _ e) (funext fun q => ?_))
      rw [View.readAt_apply, hp]
    · rw [View.read_writes_cons_rows_of_not_mem (d := S1024x1024.size) (W := 256) arg14.view G _ _ L (ix2 r e) hoff rfl (by show r.val < 256 * k ∨ 256 * k + 256 ≤ r.val; omega), ih]
      by_cases h' : r.val < 256 * k
      · rw [if_pos h', if_pos (by omega)]
      · rw [if_neg h', if_neg (by omega)]

end Cert.Proof.MoeLoop

end
-- ==== Proof.MoeCase.lean ====
/- What a grid point of the expert kernel leaves: the rows kept, the running sum, the gated result. -/
module

public import proofs.«01_k».proof.Proof.Gen.MoeKernelIdeal.Frame
public import proofs.«01_k».proof.Proof.MoeLoop

@[expose] public section

set_option maxRecDepth 16384

noncomputable section

namespace Cert.Proof.MoeCase

open Idealize.ShloMosaic Idealize.ShloMosaic.TcCoe Idealize.ShloMosaic.Tactic Idealize.SL.Sem
open Cert.MoeKernelIdeal Cert.MoeKernelIdeal.Gen Cert.Proof.MoeMath Cert.Proof.MoeBody

/-- A load of a whole gate or up block reads the block. -/
theorem whole_g (a : Memref sig .tc .vmem S1x1024x512 .f32) (h : a.IsWhole) (x : Vec Ideal S1x1024x512 .f32) :
    a.view.readAt (Elt Ideal) (Rect.unit (s := S1x1024x512) ![0, 0, 0] S1x1024x512.size inb_S1x1024x512_S1x1024x512_0_0_0).toLoadRect (h.unread x) = x := by
  rw [View.readAt_full, h.read_unread]

/-- … of a whole down block. -/
theorem whole_d (a : Memref sig .tc .vmem S1x512x1024 .f32) (h : a.IsWhole) (x : Vec Ideal S1x512x1024 .f32) :
    a.view.readAt (Elt Ideal) (Rect.unit (s := S1x512x1024) ![0, 0, 0] S1x512x1024.size inb_S1x512x1024_S1x512x1024_0_0_0).toLoadRect (h.unread x) = x := by
  rw [View.readAt_full, h.read_unread]

/-- … of a whole block of rows. -/
theorem whole_x (a : Memref sig .tc .vmem S1024x1024 .f32) (h : a.IsWhole) (x : Vec Ideal S1024x1024 .f32) :
    a.view.readAt (Elt Ideal) (Rect.unit (s := S1024x1024) ![0, 0] S1024x1024.size inb_S1024x1024_S1024x1024_0_0).toLoadRect (h.unread x) = x := by
  rw [View.readAt_full, h.read_unread]

/-- … of a whole column of gates. -/
theorem whole_w (a : Memref sig .tc .vmem S1024x1 .f32) (h : a.IsWhole) (x : Vec Ideal S1024x1 .f32) :
    a.view.readAt (Elt Ideal) (Rect.unit (s := S1024x1) ![0, 0] S1024x1.size inb_S1024x1_S1024x1_0_0).toLoadRect (h.unread x) = x := by
  rw [View.readAt_full, h.read_unread]

/-- The remainder's loop runs not at all. -/
theorem none_left (v : BitVec 32) (n : Fin 1025) (hn : v = BitVec.ofNat 32 n.val) : (k0_t2_loop v).trips = 0 := by
  subst hn; exact Cert.MoeKernelIdeal.Words.trips_rest n

/-- The sub-blocks run reach every row in use. -/
theorem all_rows (v : BitVec 32) (n : Fin 1025) (hn : v = BitVec.ofNat 32 n.val) (r : Fin 1024) (hr : r.val < n.val) : r.val < 256 * (k0_t1_loop v).trips := by
  subst hn; rw [Cert.MoeKernelIdeal.Words.trips n]; omega

/-- The pieces a later block's point (case C) stores into the running sum: the loop's, over the sum carried in. -/
theorem pieces_C (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : ¬cond0_0 i) (hc2 : ¬cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (xs0 : Vec Ideal S1024x1024 .bf16) (xs4 : Vec Ideal S1024x1024 .f32) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) :
    ∃ (X11 : BufTy.Contents (Elt Ideal) arg11.view.ty) (X12 : BufTy.Contents (Elt Ideal) arg12.view.ty) (X13 : BufTy.Contents (Elt Ideal) arg13.view.ty),
      (kernelRun0_C (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1).2.2.1
        = pb_k0_t2 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (arg14.view.writes (Elt Ideal) (harg14.unread xs4) (pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (harg14.unread xs4) (k0_t1_loop (tbM0_1.view.readAt (Elt Ideal) (Rect.unit (s := S40) (k0_off1 i) S1.size (k0_off1_inb i)).toLoadRect xt1 (Shape.Idx.first (numel1_S1.symm ▸ Nat.one_pos)))).trips)) (k0_t2_loop (tbM0_1.view.readAt (Elt Ideal) (Rect.unit (s := S40) (k0_off1 i) S1.size (k0_off1_inb i)).toLoadRect xt1 (Shape.Idx.first (numel1_S1.symm ▸ Nat.one_pos)))).trips
          ++ pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (harg14.unread xs4) (k0_t1_loop (tbM0_1.view.readAt (Elt Ideal) (Rect.unit (s := S40) (k0_off1 i) S1.size (k0_off1_inb i)).toLoadRect xt1 (Shape.Idx.first (numel1_S1.symm ▸ Nat.one_pos)))).trips
      ∧ arg11.view.read (Elt Ideal) X11 = k0_pay3 x1 ∧ arg12.view.read (Elt Ideal) X12 = k0_pay4 x2 ∧ arg13.view.read (Elt Ideal) X13 = k0_pay5 x3 := by
  unfold kernelRun0_C
  exact ⟨_, _, _, rfl, (View.read_writes_full arg11.view _ _ _ []).trans (congrArg k0_pay3 (whole_g arg5 harg5 x1)),
    (View.read_writes_full arg12.view _ _ _ []).trans (congrArg k0_pay4 (whole_g arg6 harg6 x2)),
    (View.read_writes_full arg13.view _ _ _ []).trans (congrArg k0_pay5 (whole_d arg7 harg7 x3))⟩

/-- A later block's point (case C) adds the block's share to the rows in use. -/
theorem acc_C (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : ¬cond0_0 i) (hc2 : ¬cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (xs0 : Vec Ideal S1024x1024 .bf16) (xs4 : Vec Ideal S1024x1024 .f32) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) (n : Fin 1025) (hn : (tbM0_1.view.readAt (Elt Ideal) (Rect.unit (s := S40) (k0_off1 i) S1.size (k0_off1_inb i)).toLoadRect xt1 (Shape.Idx.first (numel1_S1.symm ▸ Nat.one_pos))) = BitVec.ofNat 32 n.val) (r e : Fin 1024) (hr : r.val < n.val) :
    sout0_C_4 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1 (ix2 r e)
      = xs4 (ix2 r e) + step (fun q => xs0 (ix2 r q)) (k0_pay3 x1) (k0_pay4 x2) (k0_pay5 x3) e := by
  obtain ⟨X11, X12, X13, hL, e1, e2, e3⟩ := pieces_C c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1
  unfold sout0_C_4
  rw [hL, none_left _ n hn, pb_k0_t2, List.nil_append]
  rw [MoeLoop.loop Variants.none c none i tbM0_0 htbM0_0 tbM0_1 htbM0_1 arg4 harg4 arg5 harg5 arg6 harg6 arg7 harg7 arg8 harg8 arg9 harg9 arg10 harg10 arg11 harg11 arg12 harg12 arg13 harg13 arg14 harg14 _ k0_hw1 hc1 _ X11 X12 X13 _ n hn _ (le_refl _) r e,
    if_pos (all_rows _ n hn r hr), harg14.read_unread, harg10.read_unread, e1, e2, e3]

/-- The pieces a later block's point (case E) stores into the running sum: the loop's, over the sum carried in. -/
theorem pieces_E (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : ¬cond0_0 i) (hc2 : cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (xs0 : Vec Ideal S1024x1024 .bf16) (xs4 : Vec Ideal S1024x1024 .f32) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) :
    ∃ (X11 : BufTy.Contents (Elt Ideal) arg11.view.ty) (X12 : BufTy.Contents (Elt Ideal) arg12.view.ty) (X13 : BufTy.Contents (Elt Ideal) arg13.view.ty),
      (kernelRun0_E (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1).2.2.1
        = pb_k0_t2 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (arg14.view.writes (Elt Ideal) (harg14.unread xs4) (pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (harg14.unread xs4) (k0_t1_loop (tbM0_1.view.readAt (Elt Ideal) (Rect.unit (s := S40) (k0_off1 i) S1.size (k0_off1_inb i)).toLoadRect xt1 (Shape.Idx.first (numel1_S1.symm ▸ Nat.one_pos)))).trips)) (k0_t2_loop (tbM0_1.view.readAt (Elt Ideal) (Rect.unit (s := S40) (k0_off1 i) S1.size (k0_off1_inb i)).toLoadRect xt1 (Shape.Idx.first (numel1_S1.symm ▸ Nat.one_pos)))).trips
          ++ pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 (harg10.unread xs0) X11 X12 X13 (harg14.unread xs4) (k0_t1_loop (tbM0_1.view.readAt (Elt Ideal) (Rect.unit (s := S40) (k0_off1 i) S1.size (k0_off1_inb i)).toLoadRect xt1 (Shape.Idx.first (numel1_S1.symm ▸ Nat.one_pos)))).trips
      ∧ arg11.view.read (Elt Ideal) X11 = k0_pay3 x1 ∧ arg12.view.read (Elt Ideal) X12 = k0_pay4 x2 ∧ arg13.view.read (Elt Ideal) X13 = k0_pay5 x3 := by
  unfold kernelRun0_E
  exact ⟨_, _, _, rfl, (View.read_writes_full arg11.view _ _ _ []).trans (congrArg k0_pay3 (whole_g arg5 harg5 x1)),
    (View.read_writes_full arg12.view _ _ _ []).trans (congrArg k0_pay4 (whole_g arg6 harg6 x2)),
    (View.read_writes_full arg13.view _ _ _ []).trans (congrArg k0_pay5 (whole_d arg7 harg7 x3))⟩

/-- A later block's point (case E) adds the block's share to the rows in use. -/
theorem acc_E (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : ¬cond0_0 i) (hc2 : cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (xs0 : Vec Ideal S1024x1024 .bf16) (xs4 : Vec Ideal S1024x1024 .f32) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) (n : Fin 1025) (hn : (tbM0_1.view.readAt (Elt Ideal) (Rect.unit (s := S40) (k0_off1 i) S1.size (k0_off1_inb i)).toLoadRect xt1 (Shape.Idx.first (numel1_S1.symm ▸ Nat.one_pos))) = BitVec.ofNat 32 n.val) (r e : Fin 1024) (hr : r.val < n.val) :
    sout0_E_4 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1 (ix2 r e)
      = xs4 (ix2 r e) + step (fun q => xs0 (ix2 r q)) (k0_pay3 x1) (k0_pay4 x2) (k0_pay5 x3) e := by
  obtain ⟨X11, X12, X13, hL, e1, e2, e3⟩ := pieces_E c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1
  unfold sout0_E_4
  rw [hL, none_left _ n hn, pb_k0_t2, List.nil_append]
  rw [MoeLoop.loop Variants.none c none i tbM0_0 htbM0_0 tbM0_1 htbM0_1 arg4 harg4 arg5 harg5 arg6 harg6 arg7 harg7 arg8 harg8 arg9 harg9 arg10 harg10 arg11 harg11 arg12 harg12 arg13 harg13 arg14 harg14 _ k0_hw1 hc1 _ X11 X12 X13 _ n hn _ (le_refl _) r e,
    if_pos (all_rows _ n hn r hr), harg14.read_unread, harg10.read_unread, e1, e2, e3]

/-- The last block's point stores the running sum times the gates. -/
theorem out_E (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : ¬cond0_0 i) (hc2 : cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (xs0 : Vec Ideal S1024x1024 .bf16) (xs4 : Vec Ideal S1024x1024 .f32) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) :
    out0_E_5 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1 = k0_pay8 (sout0_E_4 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1) x4 := by
  have hL : (kernelRun0_E (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1).1
      = [⟨Rect.unit (s := S1024x1024) ![0, 0] S1024x1024.size inb_S1024x1024_S1024x1024_0_0,
          k0_pay8 (arg14.view.readAt (Elt Ideal) (Rect.unit (s := S1024x1024) ![0, 0] S1024x1024.size inb_S1024x1024_S1024x1024_0_0).toLoadRect
              (arg14.view.writes (Elt Ideal) (harg14.unread xs4) (kernelRun0_E (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 xs0 xs4 hc1 k0_hw1).2.2.1))
            (arg8.view.readAt (Elt Ideal) (Rect.unit (s := S1024x1) ![0, 0] S1024x1.size inb_S1024x1_S1024x1_0_0).toLoadRect (harg8.unread x4))⟩] := by
    unfold kernelRun0_E; rfl
  refine (congrArg (fun L => VO0_5.read (Elt Ideal) (VO0_5.writes (Elt Ideal) VO0_5.junk L)) hL).trans ?_
  refine (View.read_writes_full VO0_5 _ _ _ []).trans ?_
  rw [View.readAt_full, whole_w]
  rfl

/-- The store that sets the running sum to zero. -/
def zeros : List (View.Piece (Elt Ideal) S1024x1024 .f32) :=
  [⟨Rect.unit (s := S1024x1024) ![0, 0] S1024x1024.size inb_S1024x1024_S1024x1024_0_0, k0_pay2 (F := Ideal)⟩]

/-- The first block's point (case A): the rows kept, and the pieces stored into the running sum, the loop's over zeros. -/
theorem pieces_A (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : cond0_0 i) (hc2 : ¬cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) :
    ∃ (X10 : BufTy.Contents (Elt Ideal) arg10.view.ty) (X11 : BufTy.Contents (Elt Ideal) arg11.view.ty) (X12 : BufTy.Contents (Elt Ideal) arg12.view.ty) (X13 : BufTy.Contents (Elt Ideal) arg13.view.ty),
      (kernelRun0_A (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 hc1 k0_hw1).2.2.1
        = pb_k0_t2 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 X10 X11 X12 X13 (arg14.view.writes (Elt Ideal) arg14.view.junk (pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 X10 X11 X12 X13 (arg14.view.writes (Elt Ideal) arg14.view.junk zeros) (k0_t1_loop (tbM0_1.view.readAt (Elt Ideal) (Rect.unit (s := S40) (k0_off1 i) S1.size (k0_off1_inb i)).toLoadRect xt1 (Shape.Idx.first (numel1_S1.symm ▸ Nat.one_pos)))).trips ++ zeros)) (k0_t2_loop (tbM0_1.view.readAt (Elt Ideal) (Rect.unit (s := S40) (k0_off1 i) S1.size (k0_off1_inb i)).toLoadRect xt1 (Shape.Idx.first (numel1_S1.symm ▸ Nat.one_pos)))).trips
          ++ (pb_k0_t1 (F := Ideal) Variants.none c none i tbM0_0 htbM0_0 tbM0_1 htbM0_1 arg4 harg4 arg5 harg5 arg6 harg6 arg7 harg7 arg8 harg8 arg9 harg9 arg10 harg10 arg11 harg11 arg12 harg12 arg13 harg13 arg14 harg14 (tbM0_1.view.readAt (Elt Ideal) (Rect.unit (s := S40) (k0_off1 i) S1.size (k0_off1_inb i)).toLoadRect xt1 (Shape.Idx.first (numel1_S1.symm ▸ Nat.one_pos))) k0_hw1 hc1 X10 X11 X12 X13 (arg14.view.writes (Elt Ideal) arg14.view.junk zeros) (k0_t1_loop (tbM0_1.view.readAt (Elt Ideal) (Rect.unit (s := S40) (k0_off1 i) S1.size (k0_off1_inb i)).toLoadRect xt1 (Shape.Idx.first (numel1_S1.symm ▸ Nat.one_pos)))).trips ++ zeros)
      ∧ arg10.view.read (Elt Ideal) X10 = k0_pay1 x0 ∧ arg11.view.read (Elt Ideal) X11 = k0_pay3 x1 ∧ arg12.view.read (Elt Ideal) X12 = k0_pay4 x2 ∧ arg13.view.read (Elt Ideal) X13 = k0_pay5 x3 := by
  unfold kernelRun0_A
  exact ⟨_, _, _, _, rfl, (View.read_writes_full arg10.view _ _ _ []).trans (congrArg k0_pay1 (whole_x arg4 harg4 x0)), (View.read_writes_full arg11.view _ _ _ []).trans (congrArg k0_pay3 (whole_g arg5 harg5 x1)),
    (View.read_writes_full arg12.view _ _ _ []).trans (congrArg k0_pay4 (whole_g arg6 harg6 x2)),
    (View.read_writes_full arg13.view _ _ _ []).trans (congrArg k0_pay5 (whole_d arg7 harg7 x3))⟩

/-- The first block's point keeps the rows. -/
theorem rows_A (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : cond0_0 i) (hc2 : ¬cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) : sout0_A_0 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 hc1 k0_hw1 = k0_pay1 x0 := by
  have hL : (kernelRun0_A (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 hc1 k0_hw1).2.1
      = [⟨Rect.unit (s := S1024x1024) ![0, 0] S1024x1024.size inb_S1024x1024_S1024x1024_0_0,
          k0_pay1 (arg4.view.readAt (Elt Ideal) (Rect.unit (s := S1024x1024) ![0, 0] S1024x1024.size inb_S1024x1024_S1024x1024_0_0).toLoadRect (harg4.unread x0))⟩] := by
    unfold kernelRun0_A; rfl
  unfold sout0_A_0
  rw [hL, View.read_writes_full, whole_x]

/-- … and leaves the block's share as the running sum of the rows in use. -/
theorem acc_A (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x1024 .f32) (harg14 : arg14.IsWhole) (hc0 : cond0_0 i) (hc2 : ¬cond0_2 i)
    (x0 : Vec Ideal S1024x1024 .f32) (x1 : Vec Ideal S1x1024x512 .f32) (x2 : Vec Ideal S1x1024x512 .f32) (x3 : Vec Ideal S1x512x1024 .f32) (x4 : Vec Ideal S1024x1 .f32) (xt0 : TbBuf0 (F := Ideal) c tbM0_0) (xt1 : TbBuf0 (F := Ideal) c tbM0_1) (hc1 : cond0_1 i (tbM0_1.view.readAt (Elt Ideal) (Rect.unit (s := S40) (k0_off1 i) S1.size (k0_off1_inb i)).toLoadRect xt1 (Shape.Idx.first (numel1_S1.symm ▸ Nat.one_pos)))) (k0_hw1 : k0_chk1 (tbM0_1.view.readAt (Elt Ideal) (Rect.unit (s := S40) (k0_off1 i) S1.size (k0_off1_inb i)).toLoadRect xt1 (Shape.Idx.first (numel1_S1.symm ▸ Nat.one_pos)))) (n : Fin 1025) (hn : (tbM0_1.view.readAt (Elt Ideal) (Rect.unit (s := S40) (k0_off1 i) S1.size (k0_off1_inb i)).toLoadRect xt1 (Shape.Idx.first (numel1_S1.symm ▸ Nat.one_pos))) = BitVec.ofNat 32 n.val) (r e : Fin 1024) (hr : r.val < n.val) :
    sout0_A_4 (F := Ideal) c i arg4 harg4 arg5 harg5 arg6 harg6 arg7 harg7 arg8 harg8 arg9 harg9 arg10 harg10 arg11 harg11 arg12 harg12 arg13 harg13 arg14 harg14 hc0 hc2 x0 x1 x2 x3 x4 xt0 xt1 hc1 k0_hw1 (ix2 r e) = step (fun q => x0 (ix2 r q)) (k0_pay3 x1) (k0_pay4 x2) (k0_pay5 x3) e := by
  obtain ⟨X10, X11, X12, X13, hL, e0, e1, e2, e3⟩ := pieces_A c i arg4 harg4 arg5 harg5 arg6 harg6 arg7 harg7 arg8 harg8 arg9 harg9 arg10 harg10 arg11 harg11 arg12 harg12 arg13 harg13 arg14 harg14 hc0 hc2 x0 x1 x2 x3 x4 xt0 xt1 hc1 k0_hw1
  unfold sout0_A_4
  rw [hL, none_left _ n hn, pb_k0_t2, List.nil_append, View.read_writes_junk_eq_canon, ← View.read_writes_junk_eq_canon arg14.view, View.writes_append]
  rw [MoeLoop.loop Variants.none c none i tbM0_0 htbM0_0 tbM0_1 htbM0_1 arg4 harg4 arg5 harg5 arg6 harg6 arg7 harg7 arg8 harg8 arg9 harg9 arg10 harg10 arg11 harg11 arg12 harg12 arg13 harg13 arg14 harg14 _ k0_hw1 hc1 _ X11 X12 X13 _ n hn _ (le_refl _) r e,
    if_pos (all_rows _ n hn r hr), e0, e1, e2, e3]
  unfold zeros
  rw [View.read_writes_full, pay2_at, zero_add]
  exact congrArg (fun x => step x _ _ _ e) (funext fun q => pay1_at x0 r q)

end Cert.Proof.MoeCase

end
-- ==== Proof.MoeRun.lean ====
/- The experts' kernel point by point: the blocks that each point is handed, what the running sum holds after it, and
   what the last point of a tile stores. -/
module

public import proofs.«01_k».proof.Proof.MoeTables
public import proofs.«01_k».proof.Proof.MoeCase
public import proofs.«01_k».proof.Proof.MoeMath

@[expose] public section

set_option maxRecDepth 16384

noncomputable section

namespace Cert.Proof.MoeRun

open Idealize.ShloMosaic Idealize.ShloMosaic.TcCoe Idealize.SL.Sem
open Cert.MoeKernelIdeal Cert.MoeKernelIdeal.Gen Cert.Proof.MoeMath Cert.Proof.MoeBody Cert.Proof.MoeTables

variable (m : (ℓ : Loc nD τ sig) → Buf (Elt Ideal) ℓ)

/-- The tile and the block of hidden lanes of a point. -/
theorem point : ∀ t : Fin grid0.N, (grid0.coords t 0).val = t.val / 7 ∧ (grid0.coords t 1).val = t.val % 7 := by decide +kernel

theorem at_x : ∀ t : Fin grid0.N, cc0_transform_0 (grid0.coords t) 0 = t.val / 7 ∧ cc0_transform_0 (grid0.coords t) 1 = 0 := by decide +kernel
theorem at_gate : ∀ t : Fin grid0.N, cc0_transform_4 (grid0.coords t) 0 = t.val / 7 ∧ cc0_transform_4 (grid0.coords t) 1 = 0 := by decide +kernel
theorem at_out : ∀ t : Fin grid0.N, cc0_transform_5 (grid0.coords t) 0 = t.val / 7 ∧ cc0_transform_5 (grid0.coords t) 1 = 0 := by decide +kernel

theorem points (t : Fin grid0.N) : t.val < 280 := t.isLt

/-- A point's tile. -/
def tile (t : Fin grid0.N) : Fin 40 := ⟨t.val / 7, by have := points t; omega⟩
/-- A point's block of hidden lanes. -/
def blk (t : Fin grid0.N) : Fin 7 := ⟨t.val % 7, Nat.mod_lt _ (by omega)⟩

theorem tile_eq (t : Fin grid0.N) : grid0.coords t 0 = tile t := Fin.ext (point t).1
theorem blk_eq (t : Fin grid0.N) : grid0.coords t 1 = blk t := Fin.ext (point t).2

/-- The rows of a point's tile. -/
theorem x_at (hO : Ok m) (c : Dev nD) (t : Fin grid0.N) (r q : Fin 1024) :
    iblk m hO c 0 t (ix2 r q) = m ((0 : Dev nD).tc.loc main_arg2) (ix2 ⟨(tile t).val * 1024 + r.val, by have := (tile t).isLt; omega⟩ q) := by
  obtain rfl : c = 0 := Subsingleton.elim _ _
  obtain ⟨e0, e1⟩ := at_x t
  show V m 0 main_arg2 ((((cfgM m hO).win 0).blk t).view.emb (ix2 r q)) = _
  refine congrArg _ (funext fun a => Fin.ext ?_)
  match a with
  | ⟨0, _⟩ => show cc0_transform_0 (grid0.coords t) 0 * 1024 + 1 * r.val = t.val / 7 * 1024 + r.val; omega
  | ⟨1, _⟩ => show cc0_transform_0 (grid0.coords t) 1 * 1024 + 1 * q.val = q.val; omega

/-- The gates of a point's tile. -/
theorem gate_at (hO : Ok m) (c : Dev nD) (t : Fin grid0.N) (r : Fin 1024) :
    iblk m hO c 4 t (ix2 r 0) = m ((0 : Dev nD).tc.loc main_arg6) (ix2 ⟨(tile t).val * 1024 + r.val, by have := (tile t).isLt; omega⟩ 0) := by
  obtain rfl : c = 0 := Subsingleton.elim _ _
  obtain ⟨e0, e1⟩ := at_gate t
  show V m 0 main_arg6 ((((cfgM m hO).win 4).blk t).view.emb (ix2 r 0)) = _
  refine congrArg _ (funext fun a => Fin.ext ?_)
  match a with
  | ⟨0, _⟩ => show cc0_transform_4 (grid0.coords t) 0 * 1024 + 1 * r.val = t.val / 7 * 1024 + r.val; omega
  | ⟨1, _⟩ => show cc0_transform_4 (grid0.coords t) 1 * 1 + 1 * 0 = 0; omega

/-- Where a row and a lane of the output block of a point lie in the result. -/
theorem out_at (hO : Ok m) (t : Fin grid0.N) (r e : Fin 1024) :
    (((cfgM m hO).win 5).blk t).view.emb (ix2 r e) = ix2 ⟨(tile t).val * 1024 + r.val, by have := (tile t).isLt; omega⟩ e := by
  obtain ⟨e0, e1⟩ := at_out t
  refine funext fun a => Fin.ext ?_
  match a with
  | ⟨0, _⟩ => show cc0_transform_5 (grid0.coords t) 0 * 1024 + 1 * r.val = t.val / 7 * 1024 + r.val; omega
  | ⟨1, _⟩ => show cc0_transform_5 (grid0.coords t) 1 * 1024 + 1 * e.val = e.val; omega

variable (hte : ∀ i : Fin 40, (m ((0 : Dev nD).tc.loc main_arg0) (ix1 i) : BitVec 32).toNat < 8)

/-- The expert of a tile. -/
def te (i : Fin 40) : Fin 8 := ⟨(m ((0 : Dev nD).tc.loc main_arg0) (ix1 i) : BitVec 32).toNat, hte i⟩

/-- The block of the weights of a point whose tile has rows: its expert's, at its own block of hidden lanes. -/
theorem at_wg (t : Fin grid0.N) (n : Fin 1025) (hn : m ((0 : Dev nD).tc.loc main_arg1) (ix1 (tile t)) = BitVec.ofNat 32 n.val) (h : 0 < n.val) :
    cc0_transform_1 k0_off1_inb numel1_S1 (tbl m) (grid0.coords t) 0 = (te m hte (tile t)).val
      ∧ cc0_transform_1 k0_off1_inb numel1_S1 (tbl m) (grid0.coords t) 1 = 0
      ∧ cc0_transform_1 k0_off1_inb numel1_S1 (tbl m) (grid0.coords t) 2 = (blk t).val := by
  refine ⟨?_, rfl, ?_⟩
  · show ((tbl m).at 0 (Rect.unit (s := S40) (k0_off1 (grid0.coords t)) S1.size (k0_off1_inb (grid0.coords t))) numel1_S1 : BitVec 32).toNat = _
    rw [expert_word, tile_eq]; rfl
  · show (Scalar.select (Scalar.cmpi .sgt ((tbl m).at 1 (Rect.unit (s := S40) (k0_off1 (grid0.coords t)) S1.size (k0_off1_inb (grid0.coords t))) numel1_S1 : BitVec 32) 0#32) (BitVec.ofNat 32 (grid0.coords t 1).val) 6#32).toNat = _
    rw [count_word, tile_eq, hn, own n h (grid0.coords t 1), blk_eq]

theorem at_wd (t : Fin grid0.N) (n : Fin 1025) (hn : m ((0 : Dev nD).tc.loc main_arg1) (ix1 (tile t)) = BitVec.ofNat 32 n.val) (h : 0 < n.val) :
    cc0_transform_3 k0_off1_inb numel1_S1 (tbl m) (grid0.coords t) 0 = (te m hte (tile t)).val
      ∧ cc0_transform_3 k0_off1_inb numel1_S1 (tbl m) (grid0.coords t) 1 = (blk t).val
      ∧ cc0_transform_3 k0_off1_inb numel1_S1 (tbl m) (grid0.coords t) 2 = 0 :=
  ⟨(at_wg m hte t n hn h).1, (at_wg m hte t n hn h).2.2, rfl⟩

theorem wg_at (hO : Ok m) (c : Dev nD) (t : Fin grid0.N) (n : Fin 1025) (hn : m ((0 : Dev nD).tc.loc main_arg1) (ix1 (tile t)) = BitVec.ofNat 32 n.val)
    (h : 0 < n.val) (q : Fin 1024) (f : Fin 512) : iblk m hO c 1 t (ix3 0 q f)
      = m ((0 : Dev nD).tc.loc main_arg3) (ix3 (te m hte (tile t)) q ⟨(blk t).val * 512 + f.val, by have := (blk t).isLt; omega⟩) := by
  obtain rfl : c = 0 := Subsingleton.elim _ _
  obtain ⟨e0, e1, e2⟩ := at_wg m hte t n hn h
  show V m 0 main_arg3 ((((cfgM m hO).win 1).blk t).view.emb (ix3 0 q f)) = _
  refine congrArg _ (funext fun a => Fin.ext ?_)
  match a with
  | ⟨0, _⟩ => show cc0_transform_1 k0_off1_inb numel1_S1 (tbl m) (grid0.coords t) 0 * 1 + 1 * 0 = (te m hte (tile t)).val; omega
  | ⟨1, _⟩ => show cc0_transform_1 k0_off1_inb numel1_S1 (tbl m) (grid0.coords t) 1 * 1024 + 1 * q.val = q.val; omega
  | ⟨2, _⟩ => show cc0_transform_1 k0_off1_inb numel1_S1 (tbl m) (grid0.coords t) 2 * 512 + 1 * f.val = (blk t).val * 512 + f.val; omega

theorem wu_at (hO : Ok m) (c : Dev nD) (t : Fin grid0.N) (n : Fin 1025) (hn : m ((0 : Dev nD).tc.loc main_arg1) (ix1 (tile t)) = BitVec.ofNat 32 n.val)
    (h : 0 < n.val) (q : Fin 1024) (f : Fin 512) : iblk m hO c 2 t (ix3 0 q f)
      = m ((0 : Dev nD).tc.loc main_arg4) (ix3 (te m hte (tile t)) q ⟨(blk t).val * 512 + f.val, by have := (blk t).isLt; omega⟩) := by
  obtain rfl : c = 0 := Subsingleton.elim _ _
  obtain ⟨e0, e1, e2⟩ := at_wg m hte t n hn h
  show V m 0 main_arg4 ((((cfgM m hO).win 2).blk t).view.emb (ix3 0 q f)) = _
  refine congrArg _ (funext fun a => Fin.ext ?_)
  match a with
  | ⟨0, _⟩ => show cc0_transform_1 k0_off1_inb numel1_S1 (tbl m) (grid0.coords t) 0 * 1 + 1 * 0 = (te m hte (tile t)).val; omega
  | ⟨1, _⟩ => show cc0_transform_1 k0_off1_inb numel1_S1 (tbl m) (grid0.coords t) 1 * 1024 + 1 * q.val = q.val; omega
  | ⟨2, _⟩ => show cc0_transform_1 k0_off1_inb numel1_S1 (tbl m) (grid0.coords t) 2 * 512 + 1 * f.val = (blk t).val * 512 + f.val; omega

theorem wd_at (hO : Ok m) (c : Dev nD) (t : Fin grid0.N) (n : Fin 1025) (hn : m ((0 : Dev nD).tc.loc main_arg1) (ix1 (tile t)) = BitVec.ofNat 32 n.val)
    (h : 0 < n.val) (f : Fin 512) (e : Fin 1024) : iblk m hO c 3 t (ix3 0 f e)
      = m ((0 : Dev nD).tc.loc main_arg5) (ix3 (te m hte (tile t)) ⟨(blk t).val * 512 + f.val, by have := (blk t).isLt; omega⟩ e) := by
  obtain rfl : c = 0 := Subsingleton.elim _ _
  obtain ⟨e0, e1, e2⟩ := at_wd m hte t n hn h
  show V m 0 main_arg5 ((((cfgM m hO).win 3).blk t).view.emb (ix3 0 f e)) = _
  refine congrArg _ (funext fun a => Fin.ext ?_)
  match a with
  | ⟨0, _⟩ => show cc0_transform_3 k0_off1_inb numel1_S1 (tbl m) (grid0.coords t) 0 * 1 + 1 * 0 = (te m hte (tile t)).val; omega
  | ⟨1, _⟩ => show cc0_transform_3 k0_off1_inb numel1_S1 (tbl m) (grid0.coords t) 1 * 512 + 1 * f.val = (blk t).val * 512 + f.val; omega
  | ⟨2, _⟩ => show cc0_transform_3 k0_off1_inb numel1_S1 (tbl m) (grid0.coords t) 2 * 1024 + 1 * e.val = e.val; omega

/-! A tile's row and its expert's weights. -/
def X (i : Fin 40) (r q : Fin 1024) : EReal := m ((0 : Dev nD).tc.loc main_arg2) (ix2 ⟨i.val * 1024 + r.val, by omega⟩ q)
def G (i : Fin 40) (q : Fin 1024) (f : Fin 3584) : EReal := m ((0 : Dev nD).tc.loc main_arg3) (ix3 (te m hte i) q f)
def U (i : Fin 40) (q : Fin 1024) (f : Fin 3584) : EReal := m ((0 : Dev nD).tc.loc main_arg4) (ix3 (te m hte i) q f)
def W (i : Fin 40) (e : Fin 1024) (f : Fin 3584) : EReal := m ((0 : Dev nD).tc.loc main_arg5) (ix3 (te m hte i) f e)

/-- What a point adds to a row: its block's share. -/
theorem share (hO : Ok m) (c : Dev nD) (t : Fin grid0.N) (n : Fin 1025) (hn : m ((0 : Dev nD).tc.loc main_arg1) (ix1 (tile t)) = BitVec.ofNat 32 n.val)
    (h : 0 < n.val) (x : Fin 1024 → EReal) (e : Fin 1024) :
    step x (k0_pay3 (F := Ideal) (iblk m hO c 1 t)) (k0_pay4 (F := Ideal) (iblk m hO c 2 t)) (k0_pay5 (F := Ideal) (iblk m hO c 3 t)) e
      = part x (G m hte (tile t)) (U m hte (tile t)) (W m hte (tile t) e) (blk t) := by
  unfold step part
  refine Finset.sum_congr rfl fun f _ => ?_
  refine congrArg₂ (· * ·) (congrArg₂ (hidden x) (funext fun q => ?_) (funext fun q => ?_)) ?_
  · exact (pay3_at _ q f).trans (wg_at m hte hO c t n hn h q f)
  · exact (pay4_at _ q f).trans (wu_at m hte hO c t n hn h q f)
  · exact (pay5_at _ f e).trans (wd_at m hte hO c t n hn h f e)

variable (hO : Ok m) (hH : Hyps m hO) (c : Dev nD)

theorem word (t : Fin grid0.N) (n : Fin 1025) (hn : m ((0 : Dev nD).tc.loc main_arg1) (ix1 (tile t)) = BitVec.ofNat 32 n.val) (z : S1.Idx) :
    tbM0_1.view.readAt (Elt Ideal) (Rect.unit (s := S40) (k0_off1 (grid0.coords t)) S1.size (k0_off1_inb (grid0.coords t))).toLoadRect (tbl m 1) z = BitVec.ofNat 32 n.val := by
  rw [rows_word, tile_eq, hn]

/-- After a tile's first point: its rows, -/
theorem first_rows (t : Fin grid0.N) (n : Fin 1025) (hn : m ((0 : Dev nD).tc.loc main_arg1) (ix1 (tile t)) = BitVec.ofNat 32 n.val)
    (h : 0 < n.val) (h0 : t.val % 7 = 0) (r q : Fin 1024) : (outsAt0 m hO hH c t.val t.isLt).2.1 (ix2 r q) = X m (tile t) r q := by
  rw [outsAt0_A m hO hH c t h0 (by rw [word m t n hn]; exact works _ n h) (by omega)]
  dsimp only
  refine (congrFun (MoeCase.rows_A ..) (ix2 r q)).trans ?_
  exact (pay1_at _ r q).trans (x_at m hO c t r q)

/-- … and the first block's share. -/
theorem first_sum (t : Fin grid0.N) (n : Fin 1025) (hn : m ((0 : Dev nD).tc.loc main_arg1) (ix1 (tile t)) = BitVec.ofNat 32 n.val)
    (h : 0 < n.val) (h0 : t.val % 7 = 0) (r e : Fin 1024) (hr : r.val < n.val) : (outsAt0 m hO hH c t.val t.isLt).2.2 (ix2 r e)
      = part (X m (tile t) r) (G m hte (tile t)) (U m hte (tile t)) (W m hte (tile t) e) (blk t) := by
  rw [outsAt0_A m hO hH c t h0 (by rw [word m t n hn]; exact works _ n h) (by omega)]
  dsimp only
  refine (MoeCase.acc_A (n := n) (hn := word m t n hn _) (hr := hr) ..).trans ?_
  refine Eq.trans (congrArg (fun x => step x _ _ _ e) (funext fun q => x_at m hO c t r q)) ?_
  exact share m hte hO c t n hn h _ e

/-- A later point keeps the rows, -/
theorem later_rows (t : Fin grid0.N) (n : Fin 1025) (hn : m ((0 : Dev nD).tc.loc main_arg1) (ix1 (tile t)) = BitVec.ofNat 32 n.val)
    (h : 0 < n.val) (h0 : ¬t.val % 7 = 0) (r q : Fin 1024) :
    (outsAt0 m hO hH c t.val t.isLt).2.1 (ix2 r q) = (outsAt0 m hO hH c (t.val - 1) (Nat.lt_of_le_of_lt (Nat.sub_le _ _) t.isLt)).2.1 (ix2 r q) := by
  by_cases h2 : t.val % 7 = 6
  · rw [outsAt0_E m hO hH c t h0 (by rw [word m t n hn]; exact works _ n h) h2]; rfl
  · rw [outsAt0_C m hO hH c t h0 (by rw [word m t n hn]; exact works _ n h) h2]; rfl

/-- … and adds its block's share. -/
theorem later_sum (t : Fin grid0.N) (n : Fin 1025) (hn : m ((0 : Dev nD).tc.loc main_arg1) (ix1 (tile t)) = BitVec.ofNat 32 n.val)
    (h : 0 < n.val) (h0 : ¬t.val % 7 = 0) (r e : Fin 1024) (hr : r.val < n.val) : (outsAt0 m hO hH c t.val t.isLt).2.2 (ix2 r e)
      = (outsAt0 m hO hH c (t.val - 1) (Nat.lt_of_le_of_lt (Nat.sub_le _ _) t.isLt)).2.2 (ix2 r e)
        + part (fun q => (outsAt0 m hO hH c (t.val - 1) (Nat.lt_of_le_of_lt (Nat.sub_le _ _) t.isLt)).2.1 (ix2 r q)) (G m hte (tile t)) (U m hte (tile t))
          (W m hte (tile t) e) (blk t) := by
  by_cases h2 : t.val % 7 = 6
  · rw [outsAt0_E m hO hH c t h0 (by rw [word m t n hn]; exact works _ n h) h2]
    dsimp only
    refine (MoeCase.acc_E (n := n) (hn := word m t n hn _) (hr := hr) ..).trans ?_
    exact congrArg (_ + ·) (share m hte hO c t n hn h _ e)
  · rw [outsAt0_C m hO hH c t h0 (by rw [word m t n hn]; exact works _ n h) h2]
    dsimp only
    refine (MoeCase.acc_C (n := n) (hn := word m t n hn _) (hr := hr) ..).trans ?_
    exact congrArg (_ + ·) (share m hte hO c t n hn h _ e)

/-- The last point of a tile stores the running sum times the gates. -/
theorem last_out (t : Fin grid0.N) (n : Fin 1025) (hn : m ((0 : Dev nD).tc.loc main_arg1) (ix1 (tile t)) = BitVec.ofNat 32 n.val)
    (h : 0 < n.val) (h2 : t.val % 7 = 6) (r e : Fin 1024) : (outsAt0 m hO hH c t.val t.isLt).1 (ix2 r e)
      = (outsAt0 m hO hH c t.val t.isLt).2.2 (ix2 r e) * m ((0 : Dev nD).tc.loc main_arg6) (ix2 ⟨(tile t).val * 1024 + r.val, by have := (tile t).isLt; omega⟩ 0) := by
  rw [outsAt0_E m hO hH c t (by omega) (by rw [word m t n hn]; exact works _ n h) h2]
  dsimp only
  refine (congrFun (MoeCase.out_E ..) (ix2 r e)).trans ?_
  refine (pay8_at _ _ r e).trans ?_
  exact congrArg (fun g : EReal => (_ : EReal) * g) (gate_at m hO c t r)

end Cert.Proof.MoeRun

end
-- ==== Proof.MoeTile.lean ====
/- The experts' kernel tile by tile: after its block j a row in use holds the first j + 1 shares, and the result array
   holds, at a row in use, all seven of them times the row's gate. -/
module

public import proofs.«01_k».proof.Proof.MoeRun

@[expose] public section

set_option maxRecDepth 16384

noncomputable section

namespace Cert.Proof.MoeTile

open Idealize.ShloMosaic Idealize.ShloMosaic.TcCoe Idealize.SL.Sem
open Cert.MoeKernelIdeal Cert.MoeKernelIdeal.Gen Cert.Proof.MoeMath Cert.Proof.MoeRun

variable (m : (ℓ : Loc nD τ sig) → Buf (Elt Ideal) ℓ)
  (hte : ∀ i : Fin 40, (m ((0 : Dev nD).tc.loc main_arg0) (ix1 i) : BitVec 32).toNat < 8)
  (hO : Ok m) (hH : Hyps m hO) (c : Dev nD)

/-- The point of a tile's block. -/
def pt (i : Fin 40) (j : ℕ) (hj : j < 7) : Fin grid0.N := ⟨7 * i.val + j, by have : grid0.N = 280 := N_0; omega⟩

theorem tile_pt (i : Fin 40) (j : ℕ) (hj : j < 7) : tile (pt i j hj) = i := Fin.ext (by show (7 * i.val + j) / 7 = i.val; omega)
theorem blk_pt (i : Fin 40) (j : ℕ) (hj : j < 7) : blk (pt i j hj) = ⟨j, hj⟩ := Fin.ext (by show (7 * i.val + j) % 7 = j; omega)

/-- After block j of a tile: its rows, and at the rows in use the shares of the blocks up to j. -/
theorem after (i : Fin 40) (n : Fin 1025) (hn : m ((0 : Dev nD).tc.loc main_arg1) (ix1 i) = BitVec.ofNat 32 n.val) (r : Fin 1024) (hr : r.val < n.val) :
    ∀ (j : ℕ) (hj : j < 7),
      (∀ q, (outsAt0 m hO hH c (pt i j hj).val (pt i j hj).isLt).2.1 (ix2 r q) = X m i r q)
        ∧ ∀ e, (outsAt0 m hO hH c (pt i j hj).val (pt i j hj).isLt).2.2 (ix2 r e) = upto (X m i r) (G m hte i) (U m hte i) (W m hte i e) (j + 1)
  | 0, hj => by
    have hn' : m ((0 : Dev nD).tc.loc main_arg1) (ix1 (tile (pt i 0 hj))) = BitVec.ofNat 32 n.val := by rw [tile_pt]; exact hn
    have h0 : (pt i 0 hj).val % 7 = 0 := by show (7 * i.val + 0) % 7 = 0; omega
    refine ⟨fun q => ?_, fun e => ?_⟩
    · rw [first_rows m hO hH c _ n hn' (by omega) h0 r q, tile_pt]
    · rw [first_sum m hte hO hH c _ n hn' (by omega) h0 r e hr, tile_pt, blk_pt]
      refine Eq.trans ?_ (upto_succ _ _ _ _ ⟨0, hj⟩).symm
      show _ = upto _ _ _ _ 0 + _
      rw [upto_zero, zero_add]
  | j + 1, hj => by
    have hj' : j < 7 := by omega
    obtain ⟨h1, h2⟩ := after i n hn r hr j hj'
    have hn' : m ((0 : Dev nD).tc.loc main_arg1) (ix1 (tile (pt i (j + 1) hj))) = BitVec.ofNat 32 n.val := by rw [tile_pt]; exact hn
    have h0 : ¬(pt i (j + 1) hj).val % 7 = 0 := by show ¬(7 * i.val + (j + 1)) % 7 = 0; omega
    have hx (q : Fin 1024) : (outsAt0 m hO hH c ((pt i (j + 1) hj).val - 1) (Nat.lt_of_le_of_lt (Nat.sub_le _ _) (pt i (j + 1) hj).isLt)).2.1 (ix2 r q)
        = X m i r q := h1 q
    refine ⟨fun q => ?_, fun e => ?_⟩
    · rw [later_rows m hO hH c _ n hn' (by omega) h0 r q]
      exact hx q
    · rw [later_sum m hte hO hH c _ n hn' (by omega) h0 r e hr, tile_pt, blk_pt, funext hx]
      refine Eq.trans ?_ (upto_succ _ _ _ _ ⟨j + 1, hj⟩).symm
      exact congrArg (· + _) (h2 e)

/-- What the tile's last point leaves in the output block, at a row in use. -/
theorem stored (i : Fin 40) (n : Fin 1025) (hn : m ((0 : Dev nD).tc.loc main_arg1) (ix1 i) = BitVec.ofNat 32 n.val) (r : Fin 1024) (hr : r.val < n.val)
    (e : Fin 1024) : (outsAt0 m hO hH c (pt i 6 (by omega)).val (pt i 6 (by omega)).isLt).1 (ix2 r e)
      = lane (X m i r) (G m hte i) (U m hte i) (W m hte i e) * m ((0 : Dev nD).tc.loc main_arg6) (ix2 ⟨i.val * 1024 + r.val, by omega⟩ 0) := by
  have hn' : m ((0 : Dev nD).tc.loc main_arg1) (ix1 (tile (pt i 6 (by omega)))) = BitVec.ofNat 32 n.val := by rw [tile_pt]; exact hn
  have h2 : (pt i 6 (by omega)).val % 7 = 6 := by show (7 * i.val + 6) % 7 = 6; omega
  rw [last_out m hO hH c _ n hn' (by omega) h2 r e, (after m hte hO hH c i n hn r hr 6 (by omega)).2 e, upto_all]
  simp only [tile_pt]

/-- Two points that write the result back write different tiles' rows. -/
theorem apart (t t' : Fin (cfgM m hO).N) (hf : ((cfgM m hO).win 5).flush t = true) (hf' : ((cfgM m hO).win 5).flush t' = true)
    (h : ((cfgM m hO).win 5).index t = ((cfgM m hO).win 5).index t') : t = t' := by
  have a := (flush0_5 (adm m hO) t).mp hf
  have b := (flush0_5 (adm m hO) t').mp hf'
  have e' : cc0_transform_5 (grid0.coords t) = cc0_transform_5 (grid0.coords t') := h
  have e := congrFun e' 0
  rw [(at_out t).1, (at_out t').1] at e
  exact Fin.ext (by omega)

/-- … so their blocks share no index. -/
theorem disjoint (t t' : Fin (cfgM m hO).N) (hf : ((cfgM m hO).win 5).flush t = true) (hf' : ((cfgM m hO).win 5).flush t' = true) (hne : t ≠ t') :
    Disjoint (((cfgM m hO).win 5).blk t).view.set (((cfgM m hO).win 5).blk t').view.set :=
  ((cfgM m hO).win 5).disjoint_blk (fun q => hne (apart m hO t t' hf hf' q)) rfl

/-- The block of the result that a point writes back is what the point left in its buffer. -/
theorem block (t : Fin (cfgM m hO).N) (hf : ((cfgM m hO).win 5).flush t = true) :
    (((cfgM m hO).win 5).blk t).view.read (Elt Ideal) ((dats m hO hH 0 c).arrAt 5 (cfgM m hO).N) = (dats m hO hH 0 c).flushed 5 t :=
  (dats m hO hH 0 c).read_blk_arrAt_eq_flushed 5 (disjoint m hO) (cfgM m hO).N t t.isLt hf

/-- The block of the result that a tile's last point writes back is what that point leaves there. -/
theorem written (t : Fin (cfgM m hO).N) (hf : ((cfgM m hO).win 5).flush t = true) (r e : Fin 1024) :
    (dats m hO hH 0 c).arrAt 5 (cfgM m hO).N ((((cfgM m hO).win 5).blk t).view.emb (ix2 r e)) = (outsAt0 m hO hH c t.val t.isLt).1 (ix2 r e) := by
  have h := block m hO hH c t hf
  have f : (dats m hO hH 0 c).flushed 5 t = ((cfgM m hO).win 5).cut (grid0.coords t) (outsAt0 m hO hH c t.val t.isLt).1 := by
    show ((cfgM m hO).win 5).cut (grid0.coords t) ((dats m hO hH 0 c).after 5 t) = _
    rw [after0_5]
  rw [f] at h
  generalize (dats m hO hH 0 c).arrAt 5 (cfgM m hO).N = A at h ⊢
  generalize (outsAt0 m hO hH c t.val t.isLt).1 = B at h ⊢
  exact congrFun h (ix2 r e)

/-- The result array at a row in use: the expert's lane times the gate. -/
theorem final (i : Fin 40) (n : Fin 1025) (hn : m ((0 : Dev nD).tc.loc main_arg1) (ix1 i) = BitVec.ofNat 32 n.val) (r : Fin 1024) (hr : r.val < n.val)
    (e : Fin 1024) : (dats m hO hH 0 c).arrAt 5 (cfgM m hO).N (ix2 ⟨i.val * 1024 + r.val, by omega⟩ e)
      = lane (X m i r) (G m hte i) (U m hte i) (W m hte i e) * m ((0 : Dev nD).tc.loc main_arg6) (ix2 ⟨i.val * 1024 + r.val, by omega⟩ 0) := by
  have h := written m hO hH c (pt i 6 (by omega)) ((flush0_5 (adm m hO) _).mpr (by show (7 * i.val + 6) % 7 = 6; omega)) r e
  rw [out_at, stored m hte hO hH c i n hn r hr e] at h
  simp only [tile_pt] at h
  exact h

end Cert.Proof.MoeTile

end
-- ==== Proof.MoeClaim.lean ====
/- The claims of the experts: that they run, and that they compute their reference on the rows in use. -/
module

public import proofs.«01_k».proof.Defs
public import proofs.«01_k».proof.Proof.MoePre
public import proofs.«01_k».proof.Proof.MoeRef
public import proofs.«01_k».proof.Proof.MoeTile
public import proofs.«01_k».proof.Proof.MoeTablesBits
public import proofs.«01_k».proof.Proof.Gen.MoeReferenceIdeal.Run
public import proofs.«01_k».proof.Proof.Gen.Pre_tables_in_range
public import proofs.«01_k».proof.Proof.Gen.On_rows_in_use
public import Idealize.ShloMosaic.Lib.Claim

@[expose] public section

set_option maxRecDepth 16384

noncomputable section

namespace Cert.Proof.MoeClaim

open Idealize.ShloMosaic Idealize.ShloMosaic.TcCoe Idealize.SL.Sem

/-- The experts as they are run, at the bit-exact numbers, of tables in range. -/
theorem kernel : Cert.quiescent_MoeKernel (hMoeKernel := Cert.MoeKernel.Gen.facts) (hPre_tables_in_range := Cert.Pre_tables_in_range.Gen.facts) :=
  fun m ρ hpre =>
    letI := Cert.Pre_tables_in_range.Gen.facts
    have hO := MoeTablesBits.ok m (fun i => MoePre.expert _ _ _ _ _ _ _ (hpre 0) (ix1 i))
    Cert.MoeKernel.Gen.frame m ρ hO (MoeTablesBits.hyps m (fun i => MoePre.count _ _ _ _ _ _ _ (hpre 0) (ix1 i)) hO)

/-- The experts run at the ideal numbers, of tables in range. -/
theorem ideal : Cert.quiescent_MoeKernelIdeal (hMoeKernelIdeal := Cert.MoeKernelIdeal.Gen.facts) (hPre_tables_in_range := Cert.Pre_tables_in_range.Gen.facts) :=
  fun m ρ hpre =>
    letI := Cert.Pre_tables_in_range.Gen.facts
    have hO := MoeTables.ok m (fun i => MoePre.expert _ _ _ _ _ _ _ (hpre 0) (ix1 i))
    Cert.MoeKernelIdeal.Gen.frame m ρ hO (MoeTables.hyps m (fun i => MoePre.count _ _ _ _ _ _ _ (hpre 0) (ix1 i)) hO)

/-- The reference runs. -/
theorem reference : Cert.quiescent_MoeReferenceIdeal (hMoeReferenceIdeal := Cert.MoeReferenceIdeal.Gen.facts) := by
  intro m ρ _
  exact (θ_run Cert.MoeReferenceIdeal.defs _ _).mono (fun r h => ⟨fun c => (h c).2, sem_eq_zero_of_no_sems (by decide) r.2⟩)
    (Cert.MoeReferenceIdeal.Value.run m ρ)

/-- … also of tables in range. -/
theorem reference_in_range : Cert.quiescent_MoeReferenceIdeal_pre_tables_in_range (hMoeReferenceIdeal := Cert.MoeReferenceIdeal.Gen.facts)
    (hPre_tables_in_range := Cert.Pre_tables_in_range.Gen.facts) := by
  intro m ρ _
  exact (θ_run Cert.MoeReferenceIdeal.defs _ _).mono (fun r h => ⟨fun c => (h c).2, sem_eq_zero_of_no_sems (by decide) r.2⟩)
    (Cert.MoeReferenceIdeal.Value.run m ρ)

section
open Cert.MoeKernelIdeal Cert.MoeKernelIdeal.Gen

variable (m : (ℓ : Loc nD τ sig) → Buf (Elt Ideal) ℓ) (hO : Ok m) (hH : Hyps m hO)

/-- The run names the result array and leaves the arguments. -/
theorem run_result (ρ : Dev nD → PrngReg) : θ_run (defs (F := Ideal)) (onTc (τ := τ) (main (F := Ideal))) ⟨m, fun _ => 0, ρ⟩ (fun r => ∀ c : Dev nD,
      r.2.mem ((c.tc : Thread nD τ).loc main_v0) = (dats m hO hH 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 5, h.2 c⟩) (θ_run_and (run_main m ρ hO hH) (unchanged m ρ hO hH))

/-- A row of the array in use, computed: its expert's lane times its gate. -/
theorem row (hte : ∀ i : Fin 40, (m ((0 : Dev nD).tc.loc main_arg0) (ix1 i) : BitVec 32).toNat < 8) (c : Dev nD) (p : Fin 40960) (e : Fin 1024) (n : Fin 1025)
    (hn : m ((0 : Dev nD).tc.loc main_arg1) (ix1 ⟨p.val / 1024, by omega⟩) = BitVec.ofNat 32 n.val) (hr : p.val % 1024 < n.val) :
    (dats m hO hH 0 c).arrAt 5 (cfgM m hO).N (ix2 p e)
      = Cert.MoeReferenceIdeal.Read.val_main_v15 (F := Ideal) (m ((0 : Dev nD).tc.loc main_arg0)) (m ((0 : Dev nD).tc.loc main_arg2))
          (m ((0 : Dev nD).tc.loc main_arg3)) (m ((0 : Dev nD).tc.loc main_arg4)) (m ((0 : Dev nD).tc.loc main_arg5)) (m ((0 : Dev nD).tc.loc main_arg6)) (ix2 p e) := by
  have hp : (⟨p.val / 1024 * 1024 + p.val % 1024, by omega⟩ : Fin 40960) = p := Fin.ext (Nat.div_add_mod' _ _)
  have h := MoeTile.final m hte hO hH c ⟨p.val / 1024, by omega⟩ n hn ⟨p.val % 1024, Nat.mod_lt _ (by omega)⟩ hr e
  rw [MoeRef.result _ _ _ _ _ _ p e (hte _)]
  unfold MoeRun.X at h
  simp only [hp] at h
  exact h

end

/-- On the rows in use the experts compute their reference. -/
theorem value : Cert.algebraic_MoeKernelIdeal_MoeReferenceIdeal_on_rows_in_use (hMoeKernelIdeal := Cert.MoeKernelIdeal.Gen.facts)
    (hMoeReferenceIdeal := Cert.MoeReferenceIdeal.Gen.facts) (hPre_tables_in_range := Cert.Pre_tables_in_range.Gen.facts)
    (hOn_rows_in_use := Cert.On_rows_in_use.Gen.facts) := by
  letI := Cert.Pre_tables_in_range.Gen.facts
  letI := Cert.On_rows_in_use.Gen.facts
  intro m g m' g' hpre hagree
  have hte (i : Fin 40) := MoePre.expert _ _ _ _ _ _ _ (hpre 0) (ix1 i)
  have hnv (i : Fin 40) := MoePre.count _ _ _ _ _ _ _ (hpre 0) (ix1 i)
  have hO := MoeTables.ok m hte
  have hH := MoeTables.hyps m hnv hO
  refine ⟨fun c => (Cert.MoeKernelIdeal.Gen.dats m hO hH 0 c).arrAt 5 (Cert.MoeKernelIdeal.Gen.cfgM m hO).N, ?_, ?_⟩
  · exact (θ_run Cert.MoeKernelIdeal.defs _ _).mono (fun r h c => ⟨fun i _ => congrFun (h c).1 i, (h c).2⟩) (run_result m hO hH g)
  · refine (θ_run Cert.MoeReferenceIdeal.defs _ _).mono (fun r h c => ⟨fun i hi => ?_, (h c).2⟩) (Cert.MoeReferenceIdeal.Value.run m' g')
    obtain rfl : c = 0 := Subsingleton.elim _ _
    refine (congrFun (h 0).1 i).trans ?_
    rw [Cert.MoeReferenceIdeal.Read.val_main_v15_eq]
    obtain ⟨h0, h1, h2, h3, h4, h5, h6⟩ := hagree 0
    rw [h0, h2, h3, h4, h5, h6]
    obtain ⟨p, e, rfl⟩ : ∃ p e, i = ix2 p e := ⟨i 0, i 1, (ix2_eta i).symm⟩
    obtain ⟨n, hn⟩ := hnv ⟨p.val / 1024, by have := p.isLt; omega⟩
    exact (row m hO hH hte 0 p e n hn (MoePre.in_use _ _ _ _ _ _ _ p e n hn hi)).symm

end Cert.Proof.MoeClaim

end
-- ==== Proof.FfnMath.lean ====
/- The mathematics of one row of the feed-forward block and of the normalization after it: over plain functions, no
   array, no program. -/
module

public import proofs.«01_k».proof.Proof.MoeMath

@[expose] public section

noncomputable section

namespace Cert.Proof.FfnMath

open Idealize.ShloMosaic Cert.Proof.MoeMath

/-- An output lane of a row x: all hidden lanes against the down weights. -/
def down (x : Fin 1024 → EReal) (g u : Fin 1024 → Fin 2816 → EReal) (w : Fin 2816 → EReal) : EReal :=
  ∑ f : Fin 2816, hidden x (fun q => g q f) (fun q => u q f) * w f

/-- The row after the block: the row before it plus the gated output. -/
def added (h gate y : Fin 1024 → EReal) (e : Fin 1024) : EReal := h e + gate e * y e

/-- One over the root of a row's mean square, a small number added under the root. -/
def inverseRms (o : Fin 1024 → EReal) : EReal :=
  Ideal.rsqrt (Ideal.div (∑ x, o x * o x) (Ideal.ofBits .f32 0x44800000#32) + Ideal.ofBits .f32 0x358637BD#32)

/-- A row normalized, times the gain and one plus the scale, plus the shift. -/
def modulated (o gain scale shift : Fin 1024 → EReal) (e : Fin 1024) : EReal :=
  o e * inverseRms o * (gain e * (1 + scale e)) + shift e

/-- Equal rows and parameters give equal results. -/
theorem modulated_congr {o o' g g' c c' s s' : Fin 1024 → EReal} (ho : ∀ x, o x = o' x) (hg : ∀ x, g x = g' x) (hc : ∀ x, c x = c' x)
    (hs : ∀ x, s x = s' x) (e : Fin 1024) : modulated o g c s e = modulated o' g' c' s' e := by
  rw [funext ho, funext hg, funext hc, funext hs]

/-- Equal rows, weights and gates give equal results. -/
theorem added_congr {h h' a a' y y' : Fin 1024 → EReal} (e : Fin 1024) (hh : h e = h' e) (ha : a e = a' e) (hy : y e = y' e) :
    added h a y e = added h' a' y' e := by
  unfold added
  rw [hh, ha, hy]

end Cert.Proof.FfnMath

end
-- ==== Proof.FfnBody.lean ====
/- What one grid point of the feed-forward block computes, of the blocks it reads. -/
module

public import proofs.«01_k».proof.Proof.Gen.FfnKernelIdeal.Frame
public import proofs.«01_k».proof.Proof.FfnMath
public import Idealize.ShloMosaic.Lib.WritesUnit

@[expose] public section

set_option maxRecDepth 16384

noncomputable section

namespace Cert.Proof.FfnBody

open Idealize.ShloMosaic Idealize.ShloMosaic.TcCoe Idealize.SL.Sem
open Cert.FfnKernelIdeal Cert.FfnKernelIdeal.Gen Cert.Proof.MoeMath Cert.Proof.FfnMath

/-- The rows against half the columns of a weight. -/
def proj (x : FVec Ideal S512x1024 .bf16) (w : FVec Ideal S1024x1408 .bf16) : FVec Ideal S512x1408 .f32 :=
  matmul (F := Ideal) dot_S512x1024_S1024x1408_S512x1408_1_0_0_1_n_n none x w (constant S512x1408 .f32 0x00000000#32)

/-- The gate lanes through silu, times the up lanes. -/
def hid (a b : FVec Ideal S512x1408 .f32) : FVec Ideal S512x1408 .bf16 :=
  truncf (F := Ideal) .bf16 (mulf (F := Ideal) (mulf (F := Ideal) a (divf (F := Ideal) (broadcast S512x1408 (Scalar.ofBits (F := Ideal) .f32 0x3F800000#32))
    (addf (F := Ideal) (broadcast S512x1408 (Scalar.ofBits (F := Ideal) .f32 0x3F800000#32))
      (exp (F := Ideal) (subf (F := Ideal) (broadcast S512x1408 (Scalar.ofBits (F := Ideal) .f32 0x00000000#32)) a))))) b) bitsLt_bf16_f32

theorem pay2_eq (x : Vec Ideal S512x1024 .bf16) (g u : Vec Ideal S1024x1408 .bf16) : k0_pay2 (F := Ideal) x g u = hid (proj x g) (proj x u) := rfl

theorem pay1_eq (x : Vec Ideal S512x1024 .bf16) (g u : Vec Ideal S1024x1408 .bf16) : k0_pay1 (F := Ideal) x g u = k0_pay3 (k0_pay2 x g u) := rfl

theorem pay3_eq (v : FVec Ideal S512x1408 .bf16) : k0_pay3 (F := Ideal) v = v := by
  ext y
  obtain ⟨r, f, rfl⟩ : ∃ r f, y = ix2 r f := ⟨y 0, y 1, (ix2_eta y).symm⟩
  pointwise [k0_pay3]

theorem proj_at (x : FVec Ideal S512x1024 .bf16) (w : FVec Ideal S1024x1408 .bf16) (r : Fin 512) (f : Fin 1408) :
    proj x w (ix2 r f) = ∑ q : Fin 1024, x (ix2 r q) * w (ix2 q f) := by pointwise [proj]

theorem hid_at (a b : FVec Ideal S512x1408 .f32) (r : Fin 512) (f : Fin 1408) : hid a b (ix2 r f) = silu (a (ix2 r f)) * b (ix2 r f) := by
  rw [show silu (a (ix2 r f)) = a (ix2 r f) * Ideal.div 1 (1 + Ideal.exp (0 - a (ix2 r f))) by rw [zero_sub]; rfl]
  pointwise [hid]

/-- Half the hidden lanes of a row. -/
theorem pay2_at (x : Vec Ideal S512x1024 .bf16) (g u : Vec Ideal S1024x1408 .bf16) (r : Fin 512) (f : Fin 1408) :
    k0_pay2 (F := Ideal) x g u (ix2 r f) = hidden (fun q => x (ix2 r q)) (fun q => g (ix2 q f)) (fun q => u (ix2 q f)) := by
  rw [pay2_eq, hid_at, proj_at, proj_at]
  rfl

/-- The row after the block. -/
theorem pay4_at (h : Vec Ideal S512x1024 .f32) (a : Vec Ideal S1x1x1024 .f32) (y : Vec Ideal S512x2816 .bf16) (w : Vec Ideal S2816x1024 .bf16) (r : Fin 512)
    (e : Fin 1024) : k0_pay4 (F := Ideal) h a y w (ix2 r e)
      = added (fun e => h (ix2 r e)) (fun e => a (ix3 0 0 e)) (fun e => ∑ f : Fin 2816, y (ix2 r f) * w (ix2 f e)) e := by
  unfold added
  pointwise [k0_pay4]

/-- The sum of squares of each row. -/
def squares (o : FVec Ideal S512x1024 .f32) : FVec Ideal S512x1 .f32 :=
  shapeCast S512x1 (multiReduction (F := Ideal) .add [1] S512 (mulf (F := Ideal) o o) 0x00000000#32 reduces_S512x1024_S512 (.inl rfl) rfl) shapeCasts_S512_S512x1

/-- One over the root of the mean square. -/
def invRms (q : FVec Ideal S512x1 .f32) : FVec Ideal S512x1 .f32 :=
  rsqrt (F := Ideal) (addf (F := Ideal) (divf (F := Ideal) q (broadcast S512x1 (Scalar.ofBits (F := Ideal) .f32 0x44800000#32)))
    (broadcast S512x1 (Scalar.ofBits (F := Ideal) .f32 0x358637BD#32)))

/-- The normalized rows, scaled and shifted. -/
def modul (o : FVec Ideal S512x1024 .f32) (q : FVec Ideal S512x1 .f32) (g : FVec Ideal S1x1024 .f32) (s c : FVec Ideal S1x1x1024 .f32) : FVec Ideal S512x1024 .bf16 :=
  truncf (F := Ideal) .bf16 (addf (F := Ideal) (mulf (F := Ideal) (mulf (F := Ideal) o (broadcastTo S512x1024 q broadcasts_S512x1_S512x1024))
    (broadcastTo S512x1024 (mulf (F := Ideal) g (addf (F := Ideal) (broadcast S1x1024 (Scalar.ofBits (F := Ideal) .f32 0x3F800000#32))
      (shapeCast S1x1024 c shapeCasts_S1x1x1024_S1x1024))) broadcasts_S1x1024_S512x1024))
    (broadcastTo S512x1024 (shapeCast S1x1024 s shapeCasts_S1x1x1024_S1x1024) broadcasts_S1x1024_S512x1024)) bitsLt_bf16_f32

theorem pay5_eq (h : Vec Ideal S512x1024 .f32) (a : Vec Ideal S1x1x1024 .f32) (y : Vec Ideal S512x2816 .bf16) (w : Vec Ideal S2816x1024 .bf16)
    (g : Vec Ideal S1x1024 .f32) (s c : Vec Ideal S1x1x1024 .f32) :
    k0_pay5 (F := Ideal) h a y w g s c = modul (k0_pay4 h a y w) (invRms (squares (k0_pay4 h a y w))) g s c := rfl

theorem squares_at (o : FVec Ideal S512x1024 .f32) (r : Fin 512) : squares o (ix2 r 0) = ∑ x : Fin 1024, o (ix2 r x) * o (ix2 r x) := by pointwise [squares]

theorem invRms_at (q : FVec Ideal S512x1 .f32) (r : Fin 512) : invRms q (ix2 r 0)
    = Ideal.rsqrt (Ideal.div (q (ix2 r 0)) (Ideal.ofBits .f32 0x44800000#32) + Ideal.ofBits .f32 0x358637BD#32) := by pointwise [invRms]

theorem modul_at (o : FVec Ideal S512x1024 .f32) (q : FVec Ideal S512x1 .f32) (g : FVec Ideal S1x1024 .f32) (s c : FVec Ideal S1x1x1024 .f32) (r : Fin 512) (e : Fin 1024) :
    modul o q g s c (ix2 r e) = o (ix2 r e) * q (ix2 r 0) * (g (ix2 0 e) * (1 + c (ix3 0 0 e))) + s (ix3 0 0 e) := by pointwise [modul]

/-- The row after the block, normalized. -/
theorem pay5_at (h : Vec Ideal S512x1024 .f32) (a : Vec Ideal S1x1x1024 .f32) (y : Vec Ideal S512x2816 .bf16) (w : Vec Ideal S2816x1024 .bf16)
    (g : Vec Ideal S1x1024 .f32) (s c : Vec Ideal S1x1x1024 .f32) (r : Fin 512) (e : Fin 1024) : k0_pay5 (F := Ideal) h a y w g s c (ix2 r e)
      = modulated (fun e => k0_pay4 (F := Ideal) h a y w (ix2 r e)) (fun e => g (ix2 0 e)) (fun e => c (ix3 0 0 e)) (fun e => s (ix3 0 0 e)) e := by
  rw [pay5_eq, modul_at, invRms_at, squares_at]
  rfl

/-! ## The hidden lanes, kept in two halves -/

/-- Columns of a weight from the given one on. -/
theorem cols_at (a : Memref sig .tc .vmem S1024x2816 .bf16) (h : a.IsWhole) (x : Vec Ideal S1024x2816 .bf16) (o : ℕ) (ho : o + 1408 ≤ 2816)
    (inb : ∀ i, (![0, o] : Fin 2 → ℕ) i + S1024x1408.size i ≤ S1024x2816.size i) (q : Fin 1024) (f : Fin 1408) :
    a.view.readAt (Elt Ideal) (Rect.unit (s := S1024x2816) ![0, o] S1024x1408.size inb).toLoadRect (h.unread x) (ix2 q f) = x (ix2 q ⟨o + f.val, by omega⟩) := by
  rw [View.readAt_eq_ld, h.read_unread]
  refine congrArg x (funext fun i => Fin.ext ?_)
  match i with
  | ⟨0, _⟩ => show 0 + 1 * q.val = q.val; omega
  | ⟨1, _⟩ => show o + 1 * f.val = o + f.val; omega

/-- Two halves stored side by side, read at a column of either. -/
theorem halves (v : View sig .tc .vmem S512x2816 .bf16) (b : v.ty.Contents (Elt Ideal)) (p q : Vec Ideal S512x1408 .bf16) (H : Fin 512 → Fin 2816 → EReal)
    (i₀ : ∀ i, (![0, 0] : Fin 2 → ℕ) i + S512x1408.size i ≤ S512x2816.size i) (i₁ : ∀ i, (![0, 1408] : Fin 2 → ℕ) i + S512x1408.size i ≤ S512x2816.size i)
    (hp : ∀ r (f : Fin 1408), p (ix2 r f) = H r ⟨f.val, by omega⟩) (hq : ∀ r (f : Fin 1408), q (ix2 r f) = H r ⟨1408 + f.val, by omega⟩) (r : Fin 512) (f : Fin 2816) :
    v.read (Elt Ideal) (v.writes (Elt Ideal) b [⟨Rect.unit (s := S512x2816) ![0, 1408] S512x1408.size i₁, q⟩, ⟨Rect.unit (s := S512x2816) ![0, 0] S512x1408.size i₀, p⟩]) (ix2 r f)
      = H r f := by
  by_cases hf : f.val < 1408
  · refine (View.read_writes_cons_unit_of_not_mem v b i₁ q _ (ix2 r f) rfl (1 : Fin 2) (Or.inl hf)).trans ?_
    refine (View.read_writes_cons_unit_of_mem v b i₀ p _ (ix2 r f) (ix2 r (⟨f.val, hf⟩ : Fin 1408)) rfl ?_).trans (hp r ⟨f.val, hf⟩)
    exact Fin.forall_fin_two.mpr ⟨(Nat.zero_add _).symm, (Nat.zero_add _).symm⟩
  · have hlt : f.val - 1408 < 1408 := by have := f.isLt; omega
    have ev : f.val = 1408 + (f.val - 1408) := by omega
    have e : (⟨1408 + (f.val - 1408), by omega⟩ : Fin 2816) = f := Fin.ext ev.symm
    refine (View.read_writes_cons_unit_of_mem v b i₁ q _ (ix2 r f) (ix2 r (⟨f.val - 1408, hlt⟩ : Fin 1408)) rfl ?_).trans ((hq r ⟨f.val - 1408, hlt⟩).trans (congrArg (H r) e))
    exact Fin.forall_fin_two.mpr ⟨(Nat.zero_add _).symm, ev⟩

end Cert.Proof.FfnBody

end
-- ==== Proof.FfnRun.lean ====
/- The feed-forward block's result arrays at an index, as functions of its argument arrays. -/
module

public import proofs.«01_k».proof.Proof.Gen.FfnKernelIdeal.Value
public import proofs.«01_k».proof.Proof.FfnBody
public import Idealize.ShloMosaic.Lib.VecWindow

@[expose] public section

set_option maxRecDepth 16384

noncomputable section

namespace Cert.Proof.FfnRun

open Idealize.ShloMosaic Idealize.ShloMosaic.TcCoe Idealize.SL.Sem
open Cert.FfnKernelIdeal Cert.FfnKernelIdeal.Gen Cert.FfnKernelIdeal.Value Cert.Proof.MoeMath Cert.Proof.FfnMath Cert.Proof.FfnBody

/-- The two blocks that a point stores, of the blocks it reads and of the hidden lanes it keeps in between. -/
theorem out_eq (c : Dev nD) (i : grid0.Coords) (a1 : Memref sig .tc .vmem S512x1024 .bf16) (h1 : a1.IsWhole) (a2 : Memref sig .tc .vmem S1024x2816 .bf16) (h2 : a2.IsWhole) (a3 : Memref sig .tc .vmem S1024x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1x1024 .f32) (h6 : a6.IsWhole) (a7 : Memref sig .tc .vmem S1x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S512x1024 .f32) (h10 : a10.IsWhole) (a11 : Memref sig .tc .vmem S512x1024 .bf16) (h11 : a11.IsWhole) (a12 : Memref sig .tc .vmem S512x2816 .bf16) (h12 : a12.IsWhole)
    (x0 : Vec Ideal S512x1024 .bf16) (x1 x2 : Vec Ideal S1024x2816 .bf16) (x3 : Vec Ideal S2816x1024 .bf16) (x4 : Vec Ideal S512x1024 .f32)
    (x5 : Vec Ideal S1x1x1024 .f32) (x6 : Vec Ideal S1x1024 .f32) (x7 x8 : Vec Ideal S1x1x1024 .f32) :
    ∃ Y : Vec Ideal S512x2816 .bf16, (∀ r f, Y (ix2 r f) = hidden (fun q => x0 (ix2 r q)) (fun q => x1 (ix2 q f)) (fun q => x2 (ix2 q f)))
      ∧ out0_A_9 (F := Ideal) c i a1 h1 a2 h2 a3 h3 a4 h4 a5 h5 a6 h6 a7 h7 a8 h8 a9 h9 a10 h10 a11 h11 a12 h12 x0 x1 x2 x3 x4 x5 x6 x7 x8 = k0_pay4 x4 x5 Y x3
      ∧ out0_A_10 (F := Ideal) c i a1 h1 a2 h2 a3 h3 a4 h4 a5 h5 a6 h6 a7 h7 a8 h8 a9 h9 a10 h10 a11 h11 a12 h12 x0 x1 x2 x3 x4 x5 x6 x7 x8 = k0_pay5 x4 x5 Y x3 x6 x7 x8 := by
  have e0 : View.readAt (Elt Ideal) a1.view (Rect.unit (s := S512x1024) ![0, 0] S512x1024.size inb_S512x1024_S512x1024_0_0).toLoadRect (h1.unread x0) = x0 := by rw [View.readAt_full, h1.read_unread]
  have e3 : View.readAt (Elt Ideal) a4.view (Rect.unit (s := S2816x1024) ![0, 0] S2816x1024.size inb_S2816x1024_S2816x1024_0_0).toLoadRect (h4.unread x3) = x3 := by rw [View.readAt_full, h4.read_unread]
  have e4 : View.readAt (Elt Ideal) a5.view (Rect.unit (s := S512x1024) ![0, 0] S512x1024.size inb_S512x1024_S512x1024_0_0).toLoadRect (h5.unread x4) = x4 := by rw [View.readAt_full, h5.read_unread]
  have e5 : View.readAt (Elt Ideal) a6.view (Rect.unit (s := S1x1x1024) ![0, 0, 0] S1x1x1024.size inb_S1x1x1024_S1x1x1024_0_0_0).toLoadRect (h6.unread x5) = x5 := by rw [View.readAt_full, h6.read_unread]
  have e6 : View.readAt (Elt Ideal) a7.view (Rect.unit (s := S1x1024) ![0, 0] S1x1024.size inb_S1x1024_S1x1024_0_0).toLoadRect (h7.unread x6) = x6 := by rw [View.readAt_full, h7.read_unread]
  have e7 : View.readAt (Elt Ideal) a8.view (Rect.unit (s := S1x1x1024) ![0, 0, 0] S1x1x1024.size inb_S1x1x1024_S1x1x1024_0_0_0).toLoadRect (h8.unread x7) = x7 := by rw [View.readAt_full, h8.read_unread]
  have e8 : View.readAt (Elt Ideal) a9.view (Rect.unit (s := S1x1x1024) ![0, 0, 0] S1x1x1024.size inb_S1x1x1024_S1x1x1024_0_0_0).toLoadRect (h9.unread x8) = x8 := by rw [View.readAt_full, h9.read_unread]
  have hL : ∃ b : a12.view.ty.Contents (Elt Ideal),
      (kernelRun0_A (F := Ideal) c i a1 h1 a2 h2 a3 h3 a4 h4 a5 h5 a6 h6 a7 h7 a8 h8 a9 h9 a10 h10 a11 h11 a12 h12 x0 x1 x2 x3 x4 x5 x6 x7 x8).1
        = [⟨Rect.unit (s := S512x1024) ![0, 0] S512x1024.size inb_S512x1024_S512x1024_0_0, k0_pay4 (View.readAt (Elt Ideal) a5.view (Rect.unit (s := S512x1024) ![0, 0] S512x1024.size inb_S512x1024_S512x1024_0_0).toLoadRect (h5.unread x4)) (View.readAt (Elt Ideal) a6.view (Rect.unit (s := S1x1x1024) ![0, 0, 0] S1x1x1024.size inb_S1x1x1024_S1x1x1024_0_0_0).toLoadRect (h6.unread x5)) (View.readAt (Elt Ideal) a12.view (Rect.unit (s := S512x2816) ![0, 0] S512x2816.size inb_S512x2816_S512x2816_0_0).toLoadRect
      (a12.view.writes (Elt Ideal) b [⟨Rect.unit (s := S512x2816) ![0, 1408] S512x1408.size inb_S512x2816_S512x1408_0_1408, k0_pay3 (k0_pay2 (View.readAt (Elt Ideal) a1.view (Rect.unit (s := S512x1024) ![0, 0] S512x1024.size inb_S512x1024_S512x1024_0_0).toLoadRect (h1.unread x0)) (View.readAt (Elt Ideal) a2.view (Rect.unit (s := S1024x2816) ![0, 1408] S1024x1408.size inb_S1024x2816_S1024x1408_0_1408).toLoadRect (h2.unread x1)) (View.readAt (Elt Ideal) a3.view (Rect.unit (s := S1024x2816) ![0, 1408] S1024x1408.size inb_S1024x2816_S1024x1408_0_1408).toLoadRect (h3.unread x2)))⟩,
        ⟨Rect.unit (s := S512x2816) ![0, 0] S512x1408.size inb_S512x2816_S512x1408_0_0, k0_pay1 (View.readAt (Elt Ideal) a1.view (Rect.unit (s := S512x1024) ![0, 0] S512x1024.size inb_S512x1024_S512x1024_0_0).toLoadRect (h1.unread x0)) (View.readAt (Elt Ideal) a2.view (Rect.unit (s := S1024x2816) ![0, 0] S1024x1408.size inb_S1024x2816_S1024x1408_0_0).toLoadRect (h2.unread x1)) (View.readAt (Elt Ideal) a3.view (Rect.unit (s := S1024x2816) ![0, 0] S1024x1408.size inb_S1024x2816_S1024x1408_0_0).toLoadRect (h3.unread x2))⟩])) (View.readAt (Elt Ideal) a4.view (Rect.unit (s := S2816x1024) ![0, 0] S2816x1024.size inb_S2816x1024_S2816x1024_0_0).toLoadRect (h4.unread x3))⟩]
      ∧ (kernelRun0_A (F := Ideal) c i a1 h1 a2 h2 a3 h3 a4 h4 a5 h5 a6 h6 a7 h7 a8 h8 a9 h9 a10 h10 a11 h11 a12 h12 x0 x1 x2 x3 x4 x5 x6 x7 x8).2.1
        = [⟨Rect.unit (s := S512x1024) ![0, 0] S512x1024.size inb_S512x1024_S512x1024_0_0, k0_pay5 (View.readAt (Elt Ideal) a5.view (Rect.unit (s := S512x1024) ![0, 0] S512x1024.size inb_S512x1024_S512x1024_0_0).toLoadRect (h5.unread x4)) (View.readAt (Elt Ideal) a6.view (Rect.unit (s := S1x1x1024) ![0, 0, 0] S1x1x1024.size inb_S1x1x1024_S1x1x1024_0_0_0).toLoadRect (h6.unread x5)) (View.readAt (Elt Ideal) a12.view (Rect.unit (s := S512x2816) ![0, 0] S512x2816.size inb_S512x2816_S512x2816_0_0).toLoadRect
      (a12.view.writes (Elt Ideal) b [⟨Rect.unit (s := S512x2816) ![0, 1408] S512x1408.size inb_S512x2816_S512x1408_0_1408, k0_pay3 (k0_pay2 (View.readAt (Elt Ideal) a1.view (Rect.unit (s := S512x1024) ![0, 0] S512x1024.size inb_S512x1024_S512x1024_0_0).toLoadRect (h1.unread x0)) (View.readAt (Elt Ideal) a2.view (Rect.unit (s := S1024x2816) ![0, 1408] S1024x1408.size inb_S1024x2816_S1024x1408_0_1408).toLoadRect (h2.unread x1)) (View.readAt (Elt Ideal) a3.view (Rect.unit (s := S1024x2816) ![0, 1408] S1024x1408.size inb_S1024x2816_S1024x1408_0_1408).toLoadRect (h3.unread x2)))⟩,
        ⟨Rect.unit (s := S512x2816) ![0, 0] S512x1408.size inb_S512x2816_S512x1408_0_0, k0_pay1 (View.readAt (Elt Ideal) a1.view (Rect.unit (s := S512x1024) ![0, 0] S512x1024.size inb_S512x1024_S512x1024_0_0).toLoadRect (h1.unread x0)) (View.readAt (Elt Ideal) a2.view (Rect.unit (s := S1024x2816) ![0, 0] S1024x1408.size inb_S1024x2816_S1024x1408_0_0).toLoadRect (h2.unread x1)) (View.readAt (Elt Ideal) a3.view (Rect.unit (s := S1024x2816) ![0, 0] S1024x1408.size inb_S1024x2816_S1024x1408_0_0).toLoadRect (h3.unread x2))⟩])) (View.readAt (Elt Ideal) a4.view (Rect.unit (s := S2816x1024) ![0, 0] S2816x1024.size inb_S2816x1024_S2816x1024_0_0).toLoadRect (h4.unread x3)) (View.readAt (Elt Ideal) a7.view (Rect.unit (s := S1x1024) ![0, 0] S1x1024.size inb_S1x1024_S1x1024_0_0).toLoadRect (h7.unread x6)) (View.readAt (Elt Ideal) a8.view (Rect.unit (s := S1x1x1024) ![0, 0, 0] S1x1x1024.size inb_S1x1x1024_S1x1x1024_0_0_0).toLoadRect (h8.unread x7)) (View.readAt (Elt Ideal) a9.view (Rect.unit (s := S1x1x1024) ![0, 0, 0] S1x1x1024.size inb_S1x1x1024_S1x1x1024_0_0_0).toLoadRect (h9.unread x8))⟩] := by
    unfold kernelRun0_A
    exact ⟨_, rfl, rfl⟩
  obtain ⟨b, hL9, hL10⟩ := hL
  rw [e0, e3, e4, e5] at hL9 hL10
  rw [e6, e7, e8] at hL10
  refine ⟨(View.readAt (Elt Ideal) a12.view (Rect.unit (s := S512x2816) ![0, 0] S512x2816.size inb_S512x2816_S512x2816_0_0).toLoadRect
      (a12.view.writes (Elt Ideal) b [⟨Rect.unit (s := S512x2816) ![0, 1408] S512x1408.size inb_S512x2816_S512x1408_0_1408, k0_pay3 (k0_pay2 x0 (View.readAt (Elt Ideal) a2.view (Rect.unit (s := S1024x2816) ![0, 1408] S1024x1408.size inb_S1024x2816_S1024x1408_0_1408).toLoadRect (h2.unread x1)) (View.readAt (Elt Ideal) a3.view (Rect.unit (s := S1024x2816) ![0, 1408] S1024x1408.size inb_S1024x2816_S1024x1408_0_1408).toLoadRect (h3.unread x2)))⟩,
        ⟨Rect.unit (s := S512x2816) ![0, 0] S512x1408.size inb_S512x2816_S512x1408_0_0, k0_pay1 x0 (View.readAt (Elt Ideal) a2.view (Rect.unit (s := S1024x2816) ![0, 0] S1024x1408.size inb_S1024x2816_S1024x1408_0_0).toLoadRect (h2.unread x1)) (View.readAt (Elt Ideal) a3.view (Rect.unit (s := S1024x2816) ![0, 0] S1024x1408.size inb_S1024x2816_S1024x1408_0_0).toLoadRect (h3.unread x2))⟩])), fun r f => ?_, ?_, ?_⟩
  · rw [View.readAt_full]
    refine halves a12.view b _ _ (fun r f => hidden (fun q => x0 (ix2 r q)) (fun q => x1 (ix2 q f)) (fun q => x2 (ix2 q f))) _ _ (fun r f => ?_) (fun r f => ?_) r f
    · rw [pay1_eq, pay3_eq, pay2_at]
      congr 1 <;> funext q
      · rw [cols_at a2 h2 x1 0 (by omega)]; exact congrArg (fun z => x1 (ix2 q z)) (Fin.ext (Nat.zero_add _))
      · rw [cols_at a3 h3 x2 0 (by omega)]; exact congrArg (fun z => x2 (ix2 q z)) (Fin.ext (Nat.zero_add _))
    · rw [pay3_eq, pay2_at]
      congr 1 <;> funext q
      · exact cols_at a2 h2 x1 1408 (by omega) _ q f
      · exact cols_at a3 h3 x2 1408 (by omega) _ q f
  · exact (congrArg (fun L => VO0_9.read (Elt Ideal) (VO0_9.writes (Elt Ideal) VO0_9.junk L)) hL9).trans (View.read_writes_full VO0_9 _ _ _ [])
  · exact (congrArg (fun L => VO0_10.read (Elt Ideal) (VO0_10.writes (Elt Ideal) VO0_10.junk L)) hL10).trans (View.read_writes_full VO0_10 _ _ _ [])

variable (m : (ℓ : Loc nD τ sig) → Buf (Elt Ideal) ℓ)

/-- The block of each window at a grid point: rows `t`, of batch `t / 4`. -/
theorem at_x : ∀ t : Fin cfg0.N, win0_0.index t (0 : Fin 2) = t.val ∧ win0_0.index t (1 : Fin 2) = 0 := (by decide +kernel : ∀ t : Fin grid0.N, _)
theorem at_h : ∀ t : Fin cfg0.N, win0_4.index t (0 : Fin 2) = t.val ∧ win0_4.index t (1 : Fin 2) = 0 := (by decide +kernel : ∀ t : Fin grid0.N, _)
theorem at_out : ∀ t : Fin cfg0.N, win0_9.index t (0 : Fin 2) = t.val ∧ win0_9.index t (1 : Fin 2) = 0 := (by decide +kernel : ∀ t : Fin grid0.N, _)
theorem at_outm : ∀ t : Fin cfg0.N, win0_10.index t (0 : Fin 2) = t.val ∧ win0_10.index t (1 : Fin 2) = 0 := (by decide +kernel : ∀ t : Fin grid0.N, _)
theorem at_wg : ∀ t : Fin cfg0.N, win0_1.index t (0 : Fin 2) = 0 ∧ win0_1.index t (1 : Fin 2) = 0 := (by decide +kernel : ∀ t : Fin grid0.N, _)
theorem at_wu : ∀ t : Fin cfg0.N, win0_2.index t (0 : Fin 2) = 0 ∧ win0_2.index t (1 : Fin 2) = 0 := (by decide +kernel : ∀ t : Fin grid0.N, _)
theorem at_wd : ∀ t : Fin cfg0.N, win0_3.index t (0 : Fin 2) = 0 ∧ win0_3.index t (1 : Fin 2) = 0 := (by decide +kernel : ∀ t : Fin grid0.N, _)
theorem at_g : ∀ t : Fin cfg0.N, win0_6.index t (0 : Fin 2) = 0 ∧ win0_6.index t (1 : Fin 2) = 0 := (by decide +kernel : ∀ t : Fin grid0.N, _)
theorem at_gf : ∀ t : Fin cfg0.N, win0_5.index t (0 : Fin 3) = t.val / 4 ∧ win0_5.index t (1 : Fin 3) = 0 ∧ win0_5.index t (2 : Fin 3) = 0 :=
  (by decide +kernel : ∀ t : Fin grid0.N, _)
theorem at_sh : ∀ t : Fin cfg0.N, win0_7.index t (0 : Fin 3) = t.val / 4 ∧ win0_7.index t (1 : Fin 3) = 0 ∧ win0_7.index t (2 : Fin 3) = 0 :=
  (by decide +kernel : ∀ t : Fin grid0.N, _)
theorem at_sc : ∀ t : Fin cfg0.N, win0_8.index t (0 : Fin 3) = t.val / 4 ∧ win0_8.index t (1 : Fin 3) = 0 ∧ win0_8.index t (2 : Fin 3) = 0 :=
  (by decide +kernel : ∀ t : Fin grid0.N, _)

/-- The grid has 32 points. -/
theorem points (t : Fin cfg0.N) : t.val < 32 := t.isLt

/-- A row of the block of a point, among all rows. -/
def row (t : Fin cfg0.N) (r : Fin 512) : Fin 16384 := ⟨t.val * 512 + r.val, by have := points t; omega⟩

/-- The batch of a point. -/
def batch (t : Fin cfg0.N) : Fin 8 := ⟨t.val / 4, by have := points t; omega⟩

theorem x_at (c : Dev nD) (t : Fin cfg0.N) (r : Fin 512) (e : Fin 1024) : iblk m c 0 t (ix2 r e) = V m c main_arg0 (ix2 (row t r) e) := by
  obtain ⟨e0, e1⟩ := at_x t
  show V m c main_arg0 (((cfg0.win 0).blk t).view.emb (ix2 r e)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * e.val = e.val; omega

theorem h_at (c : Dev nD) (t : Fin cfg0.N) (r : Fin 512) (e : Fin 1024) : iblk m c 4 t (ix2 r e) = V m c main_arg4 (ix2 (row t r) e) := by
  obtain ⟨e0, e1⟩ := at_h t
  show V m c main_arg4 (((cfg0.win 4).blk t).view.emb (ix2 r e)) = _
  refine congrArg _ (funext fun a => Fin.ext ?_)
  match a with
  | ⟨0, _⟩ => show win0_4.index t (0 : Fin 2) * 512 + 1 * r.val = t.val * 512 + r.val; omega
  | ⟨1, _⟩ => show win0_4.index t (1 : Fin 2) * 1024 + 1 * e.val = e.val; omega

theorem wg_at (c : Dev nD) (t : Fin cfg0.N) (q : Fin 1024) (f : Fin 2816) : iblk m c 1 t (ix2 q f) = V m c main_arg1 (ix2 q f) := by
  obtain ⟨e0, e1⟩ := at_wg t
  show V m c main_arg1 (((cfg0.win 1).blk t).view.emb (ix2 q f)) = _
  refine congrArg _ (funext fun a => Fin.ext ?_)
  match a with
  | ⟨0, _⟩ => show win0_1.index t (0 : Fin 2) * 1024 + 1 * q.val = q.val; omega
  | ⟨1, _⟩ => show win0_1.index t (1 : Fin 2) * 2816 + 1 * f.val = f.val; omega

theorem wu_at (c : Dev nD) (t : Fin cfg0.N) (q : Fin 1024) (f : Fin 2816) : iblk m c 2 t (ix2 q f) = V m c main_arg2 (ix2 q f) := by
  obtain ⟨e0, e1⟩ := at_wu t
  show V m c main_arg2 (((cfg0.win 2).blk t).view.emb (ix2 q f)) = _
  refine congrArg _ (funext fun a => Fin.ext ?_)
  match a with
  | ⟨0, _⟩ => show win0_2.index t (0 : Fin 2) * 1024 + 1 * q.val = q.val; omega
  | ⟨1, _⟩ => show win0_2.index t (1 : Fin 2) * 2816 + 1 * f.val = f.val; omega

theorem wd_at (c : Dev nD) (t : Fin cfg0.N) (q : Fin 2816) (f : Fin 1024) : iblk m c 3 t (ix2 q f) = V m c main_arg3 (ix2 q f) := by
  obtain ⟨e0, e1⟩ := at_wd t
  show V m c main_arg3 (((cfg0.win 3).blk t).view.emb (ix2 q f)) = _
  refine congrArg _ (funext fun a => Fin.ext ?_)
  match a with
  | ⟨0, _⟩ => show win0_3.index t (0 : Fin 2) * 2816 + 1 * q.val = q.val; omega
  | ⟨1, _⟩ => show win0_3.index t (1 : Fin 2) * 1024 + 1 * f.val = f.val; omega

theorem g_at (c : Dev nD) (t : Fin cfg0.N) (q : Fin 1) (f : Fin 1024) : iblk m c 6 t (ix2 q f) = V m c main_arg6 (ix2 q f) := by
  obtain ⟨e0, e1⟩ := at_g t
  show V m c main_arg6 (((cfg0.win 6).blk t).view.emb (ix2 q f)) = _
  refine congrArg _ (funext fun a => Fin.ext ?_)
  match a with
  | ⟨0, _⟩ => show win0_6.index t (0 : Fin 2) * 1 + 1 * q.val = q.val; omega
  | ⟨1, _⟩ => show win0_6.index t (1 : Fin 2) * 1024 + 1 * f.val = f.val; omega

theorem gf_at (c : Dev nD) (t : Fin cfg0.N) (e : Fin 1024) : iblk m c 5 t (ix3 0 0 e) = V m c main_arg5 (ix3 (batch t) 0 e) := by
  obtain ⟨e0, e1, e2⟩ := at_gf t
  show V m c main_arg5 (((cfg0.win 5).blk t).view.emb (ix3 0 0 e)) = _
  refine congrArg _ (funext fun a => Fin.ext ?_)
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 1024 + 1 * e.val = e.val; omega

theorem sh_at (c : Dev nD) (t : Fin cfg0.N) (e : Fin 1024) : iblk m c 7 t (ix3 0 0 e) = V m c main_arg7 (ix3 (batch t) 0 e) := by
  obtain ⟨e0, e1, e2⟩ := at_sh t
  show V m c main_arg7 (((cfg0.win 7).blk t).view.emb (ix3 0 0 e)) = _
  refine congrArg _ (funext fun a => Fin.ext ?_)
  match a with
  | ⟨0, _⟩ => show win0_7.index t (0 : Fin 3) * 1 + 1 * 0 = t.val / 4; omega
  | ⟨1, _⟩ => show win0_7.index t (1 : Fin 3) * 1 + 1 * 0 = 0; omega
  | ⟨2, _⟩ => show win0_7.index t (2 : Fin 3) * 1024 + 1 * e.val = e.val; omega

theorem sc_at (c : Dev nD) (t : Fin cfg0.N) (e : Fin 1024) : iblk m c 8 t (ix3 0 0 e) = V m c main_arg8 (ix3 (batch t) 0 e) := by
  obtain ⟨e0, e1, e2⟩ := at_sc t
  show V m c main_arg8 (((cfg0.win 8).blk t).view.emb (ix3 0 0 e)) = _
  refine congrArg _ (funext fun a => Fin.ext ?_)
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 1024 + 1 * e.val = e.val; omega

theorem out_at (t : Fin cfg0.N) (r : Fin 512) (e : Fin 1024) : ((cfg0.win 9).blk t).view.emb (ix2 r e) = ix2 (row t r) e := by
  obtain ⟨e0, e1⟩ := at_out t
  refine funext fun a => Fin.ext ?_
  match a with
  | ⟨0, _⟩ => show win0_9.index t (0 : Fin 2) * 512 + 1 * r.val = t.val * 512 + r.val; omega
  | ⟨1, _⟩ => show win0_9.index t (1 : Fin 2) * 1024 + 1 * e.val = e.val; omega

theorem outm_at (t : Fin cfg0.N) (r : Fin 512) (e : Fin 1024) : ((cfg0.win 10).blk t).view.emb (ix2 r e) = ix2 (row t r) e := by
  obtain ⟨e0, e1⟩ := at_outm t
  refine funext fun a => Fin.ext ?_
  match a with
  | ⟨0, _⟩ => show win0_10.index t (0 : Fin 2) * 512 + 1 * r.val = t.val * 512 + r.val; omega
  | ⟨1, _⟩ => show win0_10.index t (1 : Fin 2) * 1024 + 1 * e.val = e.val; omega

/-- The row after the block, of the argument arrays. -/
def rowOut (c : Dev nD) (t : Fin cfg0.N) (r : Fin 512) (e : Fin 1024) : EReal :=
  added (fun e => V m c main_arg4 (ix2 (row t r) e)) (fun e => V m c main_arg5 (ix3 (batch t) 0 e))
    (fun e => down (fun q => V m c main_arg0 (ix2 (row t r) q)) (fun q f => V m c main_arg1 (ix2 q f)) (fun q f => V m c main_arg2 (ix2 q f))
      (fun f => V m c main_arg3 (ix2 f e))) e

/-- The row that a point stores is the row after the block. -/
theorem stored_row (c : Dev nD) (t : Fin cfg0.N) (Y : Vec Ideal S512x2816 .bf16)
    (hY : ∀ r f, Y (ix2 r f) = hidden (fun q => iblk m c 0 t (ix2 r q)) (fun q => iblk m c 1 t (ix2 q f)) (fun q => iblk m c 2 t (ix2 q f)))
    (r : Fin 512) (e : Fin 1024) : k0_pay4 (F := Ideal) (iblk m c 4 t) (iblk m c 5 t) Y (iblk m c 3 t) (ix2 r e) = rowOut m c t r e := by
  refine (pay4_at _ _ _ _ r e).trans (added_congr e (h_at m c t r e) (gf_at m c t e) (Finset.sum_congr rfl fun f _ => congrArg₂ (· * ·) ((hY r f).trans ?_) (wd_at m c t f e)))
  rw [funext (x_at m c t r), funext fun q => wg_at m c t q f, funext fun q => wu_at m c t q f]

/-- The first result array in the block of a point. -/
theorem block_h (c : Dev nD) (t : Fin cfg0.N) (r : Fin 512) (e : Fin 1024) : (dats m 0 c).arrAt 9 cfg0.N (ix2 (row t r) e) = rowOut m c t r e := by
  have h := congrFun (blocks9 m c t (flush0_9 t)) (ix2 r e)
  obtain ⟨Y, hY, e9, _⟩ := out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t) (iblk m c 8 t)
  rw [flushed9_A, e9] at h
  rw [← out_at]
  exact h.trans (stored_row m c t Y hY r e)

/-- The second result array in the block of a point. -/
theorem block_m (c : Dev nD) (t : Fin cfg0.N) (r : Fin 512) (e : Fin 1024) : (dats m 0 c).arrAt 10 cfg0.N (ix2 (row t r) e)
    = modulated (rowOut m c t r) (fun e => V m c main_arg6 (ix2 0 e)) (fun e => V m c main_arg8 (ix3 (batch t) 0 e)) (fun e => V m c main_arg7 (ix3 (batch t) 0 e)) e := by
  have h := congrFun (blocks10 m c t (flush0_10 t)) (ix2 r e)
  obtain ⟨Y, hY, _, e10⟩ := out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t) (iblk m c 8 t)
  rw [flushed10_A, e10] at h
  rw [← outm_at]
  refine h.trans ((pay5_at _ _ _ _ _ _ _ r e).trans (modulated_congr (stored_row m c t Y hY r) (g_at m c t 0) (sc_at m c t) (sh_at m c t) e))

end Cert.Proof.FfnRun

end
-- ==== Proof.FfnRef.lean ====
/- What the reference of the feed-forward block computes, at an index. -/
module

public import proofs.«01_k».proof.Proof.Gen.FfnReferenceIdeal.Read
public import proofs.«01_k».proof.Proof.FfnMath
public import Idealize.ShloMosaic.Lib.Pointwise

@[expose] public section

set_option maxRecDepth 16384

noncomputable section

namespace Cert.Proof.FfnRef

open Idealize.ShloMosaic Idealize.ShloMosaic.TcCoe Idealize.SL.Sem
open Cert.FfnReferenceIdeal Cert.FfnReferenceIdeal.Gen Cert.FfnReferenceIdeal.Read Cert.Proof.MoeMath Cert.Proof.FfnMath

variable (x : FVec Ideal S16384x1024 .bf16) (wg wu : FVec Ideal S1024x2816 .bf16) (wd : FVec Ideal S2816x1024 .bf16)
  (h : FVec Ideal S16384x1024 .f32) (gf : FVec Ideal S8x1x1024 .f32) (g : FVec Ideal S1x1024 .f32) (sh sc : FVec Ideal S8x1x1024 .f32)

theorem gate_lane (p : Fin 16384) (f : Fin 2816) : val_main_v2 (F := Ideal) x wg (ix2 p f) = ∑ q : Fin 1024, x (ix2 p q) * wg (ix2 q f) := by
  rw [val_main_v2_apply]
  refine Finset.sum_congr rfl fun q _ => congrArg₂ (· * ·) (congrArg x (funext fun a => ?_)) (congrArg wg (funext fun a => ?_))
  · match a with
    | ⟨0, _⟩ => rfl
    | ⟨1, _⟩ => rfl
  · match a with
    | ⟨0, _⟩ => rfl
    | ⟨1, _⟩ => rfl

theorem up_lane (p : Fin 16384) (f : Fin 2816) : val_main_v5 (F := Ideal) x wu (ix2 p f) = ∑ q : Fin 1024, x (ix2 p q) * wu (ix2 q f) := gate_lane x wu p f

/-- The product with the logistic is silu. -/
theorem silu_lane (i : S16384x2816.Idx) : val_main_v3 (F := Ideal) x wg i = silu (val_main_v2 (F := Ideal) x wg i) := by
  rw [val_main_v3_apply, val_main_call0_v5_apply, val_main_call0_v4_apply, val_main_call0_v3_apply, val_main_call0_v2_apply, val_main_call0_v1_apply,
    val_main_call0_v0_apply]
  generalize val_main_v2 (F := Ideal) x wg i = z
  rw [show val_main_call0_cst (F := Ideal) _ = 1 by pointwise [val_main_call0_cst], show val_main_call0_cst_0 (F := Ideal) _ = 1 by pointwise [val_main_call0_cst_0]]
  rfl

/-- A hidden lane of a row. -/
theorem hidden_lane (p : Fin 16384) (f : Fin 2816) : val_main_v6 (F := Ideal) x wg wu (ix2 p f)
    = hidden (fun q => x (ix2 p q)) (fun q => wg (ix2 q f)) (fun q => wu (ix2 q f)) := by
  rw [val_main_v6_apply, silu_lane, gate_lane, up_lane]
  rfl

/-- An output lane of a row. -/
theorem down_lane (p : Fin 16384) (e : Fin 1024) : val_main_v8 (F := Ideal) x wg wu wd (ix2 p e)
    = down (fun q => x (ix2 p q)) (fun q f => wg (ix2 q f)) (fun q f => wu (ix2 q f)) (fun f => wd (ix2 f e)) := by
  rw [val_main_v8_apply]
  unfold down
  refine Finset.sum_congr rfl fun f _ => ?_
  refine congrArg₂ (· * ·) (Eq.trans (congrArg _ (funext fun a => ?_)) (hidden_lane x wg wu p f)) (congrArg wd (funext fun a => ?_))
  · match a with
    | ⟨0, _⟩ => rfl
    | ⟨1, _⟩ => rfl
  · match a with
    | ⟨0, _⟩ => rfl
    | ⟨1, _⟩ => rfl

/-- Row s of batch b among all rows. -/
def flat (b : Fin 8) (s : Fin 2048) : Fin 16384 := ⟨b.val * 2048 + s.val, by omega⟩

/-- Where the rows of a batch lie in the array of all rows. -/
theorem row_idx (b : Fin 8) (s : Fin 2048) (e : Fin 1024) : idx_main_v9 (ix3 b s e) = ix2 (flat b s) e := by
  refine funext fun a => Fin.ext ?_
  match a with
  | ⟨0, _⟩ => show ((b.val * 2048 + s.val) * 1024 + e.val) / 1024 = b.val * 2048 + s.val; omega
  | ⟨1, _⟩ => show ((b.val * 2048 + s.val) * 1024 + e.val) % 1024 = e.val; omega

/-- The row after the block. -/
theorem added_lane (b : Fin 8) (s : Fin 2048) (e : Fin 1024) : val_main_v13 (F := Ideal) x wg wu wd h gf (ix3 b s e)
    = added (fun e => h (ix2 (flat b s) e)) (fun e => gf (ix3 b 0 e))
        (fun e => down (fun q => x (ix2 (flat b s) q)) (fun q f => wg (ix2 q f)) (fun q f => wu (ix2 q f)) (fun f => wd (ix2 f e))) e := by
  rw [val_main_v13_apply, val_main_v12_apply, val_main_v11_apply, val_main_v10_apply, val_main_v9_apply]
  refine congrArg₂ (· + ·) (congrArg h (row_idx b s e)) (congrArg₂ (· * ·) (congrArg gf (funext fun a => ?_)) ?_)
  · match a with
    | ⟨0, _⟩ => rfl
    | ⟨1, _⟩ => rfl
    | ⟨2, _⟩ => rfl
  · exact (congrArg _ (row_idx b s e)).trans (down_lane x wg wu wd (flat b s) e)

/-- The sum of squares of a row. -/
theorem squares_lane (b : Fin 8) (s : Fin 2048) : val_main_v15 (F := Ideal) x wg wu wd h gf (ix2 b s)
    = ∑ y : Fin 1024, val_main_v13 (F := Ideal) x wg wu wd h gf (ix3 b s y) * val_main_v13 (F := Ideal) x wg wu wd h gf (ix3 b s y) := by
  rw [val_main_v15_apply, show val_main_cst (F := Ideal) _ = 0 by pointwise [val_main_cst], zero_add]
  refine Finset.sum_congr rfl fun y _ => ?_
  rw [val_main_v14_apply, show idx_main_v15 (ix2 b s) y = ix3 b s y from funext fun a => match a with
    | ⟨0, _⟩ => rfl
    | ⟨1, _⟩ => rfl
    | ⟨2, _⟩ => rfl]
  rfl

/-- One over the root of a row's mean square. -/
theorem rms_lane (b : Fin 8) (s : Fin 2048) (e : Fin 1024) : val_main_v22 (F := Ideal) x wg wu wd h gf (ix3 b s e)
    = inverseRms (fun y => val_main_v13 (F := Ideal) x wg wu wd h gf (ix3 b s y)) := by
  rw [val_main_v22_apply, val_main_v21_apply, val_main_v20_apply, val_main_v19_apply, val_main_v18_apply, val_main_v17_apply, val_main_v16_apply]
  unfold inverseRms
  rw [← squares_lane]
  refine congrArg Ideal.rsqrt (congrArg₂ (· + ·) (congrArg₂ Ideal.div (congrArg _ (funext fun a => ?_)) ?_) ?_)
  · match a with
    | ⟨0, _⟩ => rfl
    | ⟨1, _⟩ => rfl
  · rfl
  · rfl

/-- The row after the block, normalized, scaled and shifted. -/
theorem modulated_lane (b : Fin 8) (s : Fin 2048) (e : Fin 1024) : val_main_v33 (F := Ideal) x wg wu wd h gf g sh sc (ix3 b s e)
    = modulated (fun y => val_main_v13 (F := Ideal) x wg wu wd h gf (ix3 b s y)) (fun y => g (ix2 0 y)) (fun y => sc (ix3 b 0 y)) (fun y => sh (ix3 b 0 y)) e := by
  rw [val_main_v33_apply, val_main_v32_apply, val_main_v31_apply, val_main_v30_apply, val_main_v29_apply, val_main_v28_apply, val_main_v27_apply,
    val_main_v26_apply, val_main_v25_apply, val_main_v24_apply, val_main_v23_apply, rms_lane,
    show val_main_cst_2 (F := Ideal) _ = 1 by pointwise [val_main_cst_2]]
  unfold modulated
  rw [← mul_assoc]
  refine congrArg₂ (· + ·) (congrArg₂ (· * ·) (congrArg₂ (· * ·) rfl (congrArg g (funext fun a => ?_))) (congrArg₂ (· + ·) rfl (congrArg sc (funext fun a => ?_))))
    (congrArg sh (funext fun a => ?_))
  · match a with
    | ⟨0, _⟩ => exact Subsingleton.elim (α := Fin 1) _ _
    | ⟨1, _⟩ => exact Fin.ext (Nat.mod_eq_of_lt e.isLt)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- Which row of which batch a row of the array of all rows is. -/
theorem unrow_idx (b : Fin 8) (s : Fin 2048) (e : Fin 1024) : idx_main_v34 (ix2 (flat b s) e) = ix3 b s e := by
  refine funext fun a => Fin.ext ?_
  match a with
  | ⟨0, _⟩ => show ((b.val * 2048 + s.val) * 1024 + e.val) / 2097152 = b.val; omega
  | ⟨1, _⟩ => show ((b.val * 2048 + s.val) * 1024 + e.val) / 1024 % 2048 = s.val; omega
  | ⟨2, _⟩ => show ((b.val * 2048 + s.val) * 1024 + e.val) % 1024 = e.val; omega

/-- The first result at a row and a lane. -/
theorem result_h (b : Fin 8) (s : Fin 2048) (e : Fin 1024) : val_main_v34 (F := Ideal) x wg wu wd h gf (ix2 (flat b s) e)
    = val_main_v13 (F := Ideal) x wg wu wd h gf (ix3 b s e) := by
  rw [val_main_v34_apply]
  exact congrArg _ (unrow_idx b s e)

/-- The second result at a row and a lane. -/
theorem result_m (b : Fin 8) (s : Fin 2048) (e : Fin 1024) : val_main_v36 (F := Ideal) x wg wu wd h gf g sh sc (ix2 (flat b s) e)
    = val_main_v33 (F := Ideal) x wg wu wd h gf g sh sc (ix3 b s e) := by
  rw [val_main_v36_apply, val_main_v35_apply]
  exact congrArg (val_main_v33 (F := Ideal) x wg wu wd h gf g sh sc) (unrow_idx b s e)

end Cert.Proof.FfnRef

end
-- ==== Proof.FfnClaim.lean ====
/- The claims of the feed-forward block: that it runs, and that it computes its reference. -/
module

public import proofs.«01_k».proof.Defs
public import proofs.«01_k».proof.Proof.Gen.FfnKernel.Frame
public import proofs.«01_k».proof.Proof.Gen.FfnKernelIdeal.Value
public import proofs.«01_k».proof.Proof.Gen.FfnReferenceIdeal.Run
public import proofs.«01_k».proof.Proof.FfnRun
public import proofs.«01_k».proof.Proof.FfnRef
public import Idealize.ShloMosaic.Lib.Claim

@[expose] public section

set_option maxRecDepth 16384

noncomputable section

namespace Cert.Proof.FfnClaim

open Idealize.ShloMosaic Idealize.ShloMosaic.TcCoe Idealize.SL.Sem

/-- The feed-forward block as it is run, at the bit-exact numbers. -/
theorem kernel : Cert.quiescent_FfnKernel (hFfnKernel := Cert.FfnKernel.Gen.facts) := fun m ρ _ => Cert.FfnKernel.Gen.frame m ρ

/-- It runs at the ideal numbers. -/
theorem ideal : Cert.quiescent_FfnKernelIdeal (hFfnKernelIdeal := Cert.FfnKernelIdeal.Gen.facts) := fun m ρ _ => Cert.FfnKernelIdeal.Gen.frame m ρ

/-- The reference runs. -/
theorem reference : Cert.quiescent_FfnReferenceIdeal (hFfnReferenceIdeal := Cert.FfnReferenceIdeal.Gen.facts) := by
  intro m ρ _
  exact (θ_run Cert.FfnReferenceIdeal.defs _ _).mono (fun r h => ⟨fun c => (h c).2.2, sem_eq_zero_of_no_sems (by decide) r.2⟩)
    (Cert.FfnReferenceIdeal.Value.run m ρ)

section
open Cert.FfnKernelIdeal Cert.FfnKernelIdeal.Gen

variable (m : (ℓ : Loc nD τ sig) → Buf (Elt Ideal) ℓ) (c : Dev nD)

/-- Every row is one of a batch's, and one of a point's block. -/
theorem rows (p : Fin 16384) : ∃ (t : Fin cfg0.N) (r : Fin 512) (s : Fin 2048), FfnRun.row t r = p ∧ FfnRef.flat (FfnRun.batch t) s = p := by
  have hp := p.isLt
  refine ⟨⟨p.val / 512, (by omega : p.val / 512 < 32)⟩, ⟨p.val % 512, by omega⟩, ⟨p.val % 2048, by omega⟩, Fin.ext ?_, Fin.ext ?_⟩
  · show p.val / 512 * 512 + p.val % 512 = p.val; omega
  · show p.val / 512 / 4 * 2048 + p.val % 2048 = p.val; omega

/-- The reference's row after the block is the kernel's. -/
theorem same_row (t : Fin cfg0.N) (r : Fin 512) (s : Fin 2048) (h : FfnRun.row t r = FfnRef.flat (FfnRun.batch t) s) (e : Fin 1024) :
    Cert.FfnReferenceIdeal.Read.val_main_v13 (F := Ideal) (m (c.tc.loc main_arg0)) (m (c.tc.loc main_arg1)) (m (c.tc.loc main_arg2)) (m (c.tc.loc main_arg3))
      (m (c.tc.loc main_arg4)) (m (c.tc.loc main_arg5)) (ix3 (FfnRun.batch t) s e) = FfnRun.rowOut m c t r e := by
  refine (FfnRef.added_lane _ _ _ _ _ _ (FfnRun.batch t) s e).trans ?_
  rw [← h]
  rfl

/-- The first result. -/
theorem first : Cert.FfnReferenceIdeal.Read.val_main_v34 (F := Ideal) (m (c.tc.loc main_arg0)) (m (c.tc.loc main_arg1)) (m (c.tc.loc main_arg2)) (m (c.tc.loc main_arg3))
      (m (c.tc.loc main_arg4)) (m (c.tc.loc main_arg5)) = (dats m 0 c).arrAt 9 cfg0.N := by
  funext i
  obtain ⟨p, e, rfl⟩ : ∃ p e, i = ix2 p e := ⟨i 0, i 1, (ix2_eta i).symm⟩
  obtain ⟨t, r, s, hr, hs⟩ := rows p
  refine Eq.trans ?_ ((FfnRun.block_h m c t r e).symm.trans (congrArg (fun p => (dats m 0 c).arrAt 9 cfg0.N (ix2 p e)) hr))
  refine Eq.trans (congrArg (fun p => Cert.FfnReferenceIdeal.Read.val_main_v34 (F := Ideal) _ _ _ _ _ _ (ix2 p e)) hs.symm) ?_
  exact (FfnRef.result_h _ _ _ _ _ _ (FfnRun.batch t) s e).trans (same_row m c t r s (hr.trans hs.symm) e)

/-- The second result. -/
theorem second : Cert.FfnReferenceIdeal.Read.val_main_v36 (F := Ideal) (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) (m (c.tc.loc main_arg8)) = (dats m 0 c).arrAt 10 cfg0.N := by
  funext i
  obtain ⟨p, e, rfl⟩ : ∃ p e, i = ix2 p e := ⟨i 0, i 1, (ix2_eta i).symm⟩
  obtain ⟨t, r, s, hr, hs⟩ := rows p
  refine Eq.trans ?_ ((FfnRun.block_m m c t r e).symm.trans (congrArg (fun p => (dats m 0 c).arrAt 10 cfg0.N (ix2 p e)) hr))
  refine Eq.trans (congrArg (fun p => Cert.FfnReferenceIdeal.Read.val_main_v36 (F := Ideal) _ _ _ _ _ _ _ _ _ (ix2 p e)) hs.symm) ?_
  refine (FfnRef.result_m _ _ _ _ _ _ _ _ _ (FfnRun.batch t) s e).trans ((FfnRef.modulated_lane _ _ _ _ _ _ _ _ _ (FfnRun.batch t) s e).trans ?_)
  exact FfnMath.modulated_congr (same_row m c t r s (hr.trans hs.symm)) (fun _ => rfl) (fun _ => rfl) (fun _ => rfl) e

end

/-- The feed-forward block computes its reference, both results. -/
theorem value : Cert.algebraic_FfnKernelIdeal_FfnReferenceIdeal (hFfnKernelIdeal := Cert.FfnKernelIdeal.Gen.facts)
    (hFfnReferenceIdeal := Cert.FfnReferenceIdeal.Gen.facts) := by
  intro m g m' g' _ hagree
  refine ⟨fun c => (Cert.FfnKernelIdeal.Gen.dats m 0 c).arrAt 9 Cert.FfnKernelIdeal.cfg0.N, fun c => (Cert.FfnKernelIdeal.Gen.dats m 0 c).arrAt 10 Cert.FfnKernelIdeal.cfg0.N,
    Cert.FfnKernelIdeal.Value.run_blocks m g, ?_⟩
  refine (θ_run Cert.FfnReferenceIdeal.defs _ _).mono (fun r h c => ?_) (Cert.FfnReferenceIdeal.Value.run m' g')
  obtain ⟨h0, h1, h2, h3, h4, h5, h6, h7, h8⟩ := hagree c
  refine ⟨(h c).1.trans ?_, (h c).2.1.trans ?_, (h c).2.2⟩
  · rw [Cert.FfnReferenceIdeal.Read.val_main_v34_eq, h0, h1, h2, h3, h4, h5]
    exact first m c
  · rw [Cert.FfnReferenceIdeal.Read.val_main_v36_eq, h0, h1, h2, h3, h4, h5, h6, h7, h8]
    exact second m c

end Cert.Proof.FfnClaim

end
-- ==== Proof.InprojMath.lean ====
/- The mathematics of one row of the latent tokens' projection: its lanes, each head's normalization, and the rotation
   of the normalized lanes. Over plain functions, no array, no program. -/
module

public import proofs.«01_k».proof.Proof.FfnMath

@[expose] public section

noncomputable section

namespace Cert.Proof.InprojMath

open Idealize.ShloMosaic Cert.Proof.FfnMath

/-- A row against one column of the weights. -/
def lane (o w : Fin 1024 → EReal) : EReal := ∑ q, o q * w q

/-- A lane x of a head whose lanes are u, normalized by the head's mean square, times a gain. -/
def normed (u : Fin 64 → EReal) (x g : EReal) : EReal :=
  x * Ideal.rsqrt (Ideal.div (∑ d, u d * u d) (Ideal.ofBits .f32 0x42800000#32) + Ideal.ofBits .f32 0x358637BD#32) * g

/-- The 512 lanes p, each normalized over its 64 lanes; the gains repeat every 256 lanes. -/
def heads (p : Fin 512 → EReal) (gain : Fin 256 → EReal) (l : Fin 512) : EReal :=
  normed (fun d => p ⟨64 * (l.val / 64) + d.val, by omega⟩) (p l) (gain ⟨l.val % 256, by omega⟩)

/-- The lanes t rotated: each times its cosine, plus its partner in the same 32 lanes times one of the two tables of sines. -/
def turned (t : Fin 512 → EReal) (cos up down : Fin 128 → EReal) (l : Fin 512) : EReal :=
  t l * cos ⟨l.val % 128, by omega⟩
    + (if l.val % 32 < 16 then t ⟨(l.val + 16) % 512, by omega⟩ * up ⟨l.val % 128, by omega⟩
        else t ⟨(l.val + 496) % 512, by omega⟩ * down ⟨l.val % 128, by omega⟩)

/-- A product with 1/64 is a quotient by 64. -/
theorem mul_inv64 (x : EReal) : x * Ideal.ofBits .f32 0x3C800000#32 = Ideal.div x (Ideal.ofBits .f32 0x42800000#32) := by
  have a : Ideal.ofBits .f32 0x42800000#32 = ((64 : ℝ) : EReal) := by
    simp [Ideal.ofBits, Ideal.ieee]; rw [← EReal.coe_mul]; norm_num
  have b : Ideal.ofBits .f32 0x3C800000#32 = ((1 / 64 : ℝ) : EReal) := by
    simp [Ideal.ofBits, Ideal.ieee]; rw [← EReal.coe_mul]; norm_num
  rw [a, b, Ideal.div_coe (by norm_num)]

/-- A sum over 256 lanes against the block of a lane j is the sum over the 64 lanes of its head. -/
theorem sum_block (f : Fin 256 → EReal) (b : Fin 256 → EReal) (j : Fin 256) (hb : ∀ k, b k = if k.val / 64 = j.val / 64 then 1 else 0) :
    ∑ k, f k * b k = ∑ d : Fin 64, f ⟨64 * (j.val / 64) + d.val, by omega⟩ := by
  have hj : j.val / 64 < 4 := by omega
  rw [Fin.sum_univ_tiles (M := EReal) 4 64 rfl]
  refine (Finset.sum_eq_single (⟨j.val / 64, hj⟩ : Fin 4) (fun n _ hn => Finset.sum_eq_zero fun d _ => ?_) (fun h => absurd (Finset.mem_univ _) h)).trans
    (Finset.sum_congr rfl fun d _ => ?_)
  · rw [hb, if_neg, mul_zero]
    intro e
    refine hn (Fin.ext ?_)
    have h1 : (n.val * 64 + d.val) / 64 = j.val / 64 := e
    have h2 := d.isLt
    show n.val = j.val / 64
    omega
  · have e : (j.val / 64 * 64 + d.val) / 64 = j.val / 64 := by have := d.isLt; omega
    rw [hb, if_pos e, mul_one]
    exact congrArg f (Fin.ext (by show j.val / 64 * 64 + d.val = 64 * (j.val / 64) + d.val; omega))

/-- The rotation of 128 lanes within themselves, one of the two tables zero at each lane, is the rotation of the lanes
    among all 512. -/
theorem turned_piece (t : Fin 512 → EReal) (s cos up down : Fin 128 → EReal) (n : Fin 4) (hs : ∀ j : Fin 128, s j = t ⟨128 * n.val + j.val, by omega⟩)
    (hd : ∀ j : Fin 128, j.val % 32 < 16 → down j = 0) (hu : ∀ j : Fin 128, ¬ j.val % 32 < 16 → up j = 0) (j : Fin 128) :
    s j * cos j + s ⟨(j.val + 16) % 128, by omega⟩ * up j + s ⟨(j.val + 112) % 128, by omega⟩ * down j
      = turned t cos up down ⟨128 * n.val + j.val, by omega⟩ := by
  have hj := j.isLt
  have hn := n.isLt
  have e : (⟨(128 * n.val + j.val) % 128, by omega⟩ : Fin 128) = j := Fin.ext (by show (128 * n.val + j.val) % 128 = j.val; omega)
  have m : (128 * n.val + j.val) % 32 = j.val % 32 := by omega
  unfold turned
  show _ = _ * cos ⟨(128 * n.val + j.val) % 128, _⟩ + (if (128 * n.val + j.val) % 32 < 16 then _ else _)
  rw [m, e]
  by_cases h : j.val % 32 < 16
  · rw [if_pos h, hd j h, mul_zero, add_zero, hs, hs]
    exact congrArg (fun z => t ⟨128 * n.val + j.val, by omega⟩ * cos j + t z * up j)
      (Fin.ext (by show 128 * n.val + (j.val + 16) % 128 = (128 * n.val + j.val + 16) % 512; omega))
  · rw [if_neg h, hu j h, mul_zero, add_zero, hs, hs]
    exact congrArg (fun z => t ⟨128 * n.val + j.val, by omega⟩ * cos j + t z * down j)
      (Fin.ext (by show 128 * n.val + (j.val + 112) % 128 = (128 * n.val + j.val + 496) % 512; omega))

end Cert.Proof.InprojMath

end
-- ==== Proof.InprojBody.lean ====
/- What one grid point of the latent tokens' projection computes, of the blocks it reads. -/
module

public import proofs.«01_k».proof.Proof.Gen.InprojKernelIdeal.Frame
public import proofs.«01_k».proof.Proof.InprojMath

@[expose] public section

set_option maxRecDepth 16384

noncomputable section

namespace Cert.Proof.InprojBody

open Idealize.ShloMosaic Idealize.ShloMosaic.TcCoe Idealize.SL.Sem
open Cert.InprojKernelIdeal Cert.InprojKernelIdeal.Gen Cert.Proof.FfnMath Cert.Proof.InprojMath

/-- The sum of squares of each row. -/
def squares (o : FVec Ideal S512x1024 .f32) : FVec Ideal S512x1 .f32 :=
  shapeCast S512x1 (multiReduction (F := Ideal) .add [1] S512 (mulf (F := Ideal) o o) 0x00000000#32 reduces_S512x1024_S512 (.inl rfl) rfl) shapeCasts_S512_S512x1

/-- One over the root of the mean square. -/
def invRms (q : FVec Ideal S512x1 .f32) : FVec Ideal S512x1 .f32 :=
  rsqrt (F := Ideal) (addf (F := Ideal) (divf (F := Ideal) q (broadcast S512x1 (Scalar.ofBits (F := Ideal) .f32 0x44800000#32)))
    (broadcast S512x1 (Scalar.ofBits (F := Ideal) .f32 0x358637BD#32)))

/-- The normalized rows, scaled and shifted. -/
def modul (o : FVec Ideal S512x1024 .f32) (q : FVec Ideal S512x1 .f32) (g : FVec Ideal S1x1024 .f32) (s c : FVec Ideal S1x1x1024 .f32) : FVec Ideal S512x1024 .bf16 :=
  truncf (F := Ideal) .bf16 (addf (F := Ideal) (mulf (F := Ideal) (mulf (F := Ideal) o (broadcastTo S512x1024 q broadcasts_S512x1_S512x1024))
    (broadcastTo S512x1024 (mulf (F := Ideal) g (addf (F := Ideal) (broadcast S1x1024 (Scalar.ofBits (F := Ideal) .f32 0x3F800000#32))
      (shapeCast S1x1024 c shapeCasts_S1x1x1024_S1x1024))) broadcasts_S1x1024_S512x1024))
    (broadcastTo S512x1024 (shapeCast S1x1024 s shapeCasts_S1x1x1024_S1x1024) broadcasts_S1x1024_S512x1024)) bitsLt_bf16_f32

theorem pay2_eq (x : Vec Ideal S512x1024 .f32) (g : Vec Ideal S1x1024 .f32) (s c : Vec Ideal S1x1x1024 .f32) :
    k0_pay2 (F := Ideal) x g s c = modul x (invRms (squares x)) g s c := rfl

theorem squares_at (o : FVec Ideal S512x1024 .f32) (r : Fin 512) : squares o (ix2 r 0) = ∑ x : Fin 1024, o (ix2 r x) * o (ix2 r x) := by pointwise [squares]

theorem invRms_at (q : FVec Ideal S512x1 .f32) (r : Fin 512) : invRms q (ix2 r 0)
    = Ideal.rsqrt (Ideal.div (q (ix2 r 0)) (Ideal.ofBits .f32 0x44800000#32) + Ideal.ofBits .f32 0x358637BD#32) := by pointwise [invRms]

theorem modul_at (o : FVec Ideal S512x1024 .f32) (q : FVec Ideal S512x1 .f32) (g : FVec Ideal S1x1024 .f32) (s c : FVec Ideal S1x1x1024 .f32) (r : Fin 512) (e : Fin 1024) :
    modul o q g s c (ix2 r e) = o (ix2 r e) * q (ix2 r 0) * (g (ix2 0 e) * (1 + c (ix3 0 0 e))) + s (ix3 0 0 e) := by pointwise [modul]

/-- A row normalized, scaled and shifted. -/
theorem rows_at (x : Vec Ideal S512x1024 .f32) (g : Vec Ideal S1x1024 .f32) (s c : Vec Ideal S1x1x1024 .f32) (r : Fin 512) (e : Fin 1024) :
    k0_pay2 (F := Ideal) x g s c (ix2 r e) = modulated (fun e => x (ix2 r e)) (fun e => g (ix2 0 e)) (fun e => c (ix3 0 0 e)) (fun e => s (ix3 0 0 e)) e := by
  rw [pay2_eq, modul_at, invRms_at, squares_at]
  rfl

/-! ## Queries and keys -/

theorem proj_at (h : FVec Ideal S512x1024 .bf16) (w : Vec Ideal S1024x256 .bf16) (r : Fin 512) (j : Fin 256) :
    k0_pay13 (F := Ideal) h w (ix2 r j) = lane (fun q => h (ix2 r q)) (fun q => w (ix2 q j)) := by
  unfold lane
  pointwise [k0_pay13]

/-- The squares of the lanes, summed over each head. -/
def sums (p : FVec Ideal S512x256 .f32) (b : FVec Ideal S256x256 .bf16) : FVec Ideal S512x256 .f32 :=
  matmul (F := Ideal) dot_S512x256_S256x256_S512x256_1_0_0_1_n_n none (truncf (F := Ideal) .bf16 (mulf (F := Ideal) p p) bitsLt_bf16_f32) b
    (constant S512x256 .f32 0x00000000#32)

/-- The lanes over the root of their head's mean square, times the gains. -/
def scaled (p q : FVec Ideal S512x256 .f32) (g : Vec Ideal S1x256 .f32) : FVec Ideal S512x256 .f32 :=
  mulf (F := Ideal) (mulf (F := Ideal) p (rsqrt (F := Ideal) (addf (F := Ideal)
    (mulf (F := Ideal) q (broadcast S512x256 (Scalar.ofBits (F := Ideal) .f32 0x3C800000#32)))
    (broadcast S512x256 (Scalar.ofBits (F := Ideal) .f32 0x358637BD#32))))) (broadcastTo S512x256 g broadcasts_S1x256_S512x256)

theorem sums_at (p : FVec Ideal S512x256 .f32) (b : Vec Ideal S256x256 .bf16) (r : Fin 512) (j : Fin 256) :
    sums p b (ix2 r j) = ∑ k : Fin 256, p (ix2 r k) * p (ix2 r k) * b (ix2 k j) := by pointwise [sums]

theorem scaled_at (p q : FVec Ideal S512x256 .f32) (g : Vec Ideal S1x256 .f32) (r : Fin 512) (j : Fin 256) :
    scaled p q g (ix2 r j) = p (ix2 r j) * Ideal.rsqrt (q (ix2 r j) * Ideal.ofBits .f32 0x3C800000#32 + Ideal.ofBits .f32 0x358637BD#32) * g (ix2 0 j) := by
  pointwise [scaled]

/-- Half the heads' lanes, normalized. -/
def half (h : FVec Ideal S512x1024 .bf16) (b : Vec Ideal S256x256 .bf16) (w : Vec Ideal S1024x256 .bf16) (g : Vec Ideal S1x256 .f32) : FVec Ideal S512x256 .f32 :=
  scaled (k0_pay13 h w) (sums (k0_pay13 h w) b) g

theorem half_at (h : FVec Ideal S512x1024 .bf16) (b : Vec Ideal S256x256 .bf16) (w : Vec Ideal S1024x256 .bf16) (g : Vec Ideal S1x256 .f32)
    (hb : ∀ k j : Fin 256, b (ix2 k j) = if k.val / 64 = j.val / 64 then 1 else 0) (r : Fin 512) (j : Fin 256) :
    half h b w g (ix2 r j) = normed (fun d => lane (fun q => h (ix2 r q)) (fun q => w (ix2 q ⟨64 * (j.val / 64) + d.val, by omega⟩)))
      (lane (fun q => h (ix2 r q)) (fun q => w (ix2 q j))) (g (ix2 0 j)) := by
  unfold half normed
  rw [scaled_at, sums_at, sum_block (fun k => k0_pay13 (F := Ideal) h w (ix2 r k) * k0_pay13 (F := Ideal) h w (ix2 r k)) (fun k => b (ix2 k j)) j (fun k => hb k j), mul_inv64]
  simp only [proj_at]

/-- The first and the last 128 lanes of a half. -/
def low (t : FVec Ideal S512x256 .f32) : FVec Ideal S512x128 .f32 := extractStridedSlice S512x128 ![0, 0] t slices_S512x256_o0_0_S512x128
def high (t : FVec Ideal S512x256 .f32) : FVec Ideal S512x128 .f32 := extractStridedSlice S512x128 ![0, 128] t slices_S512x256_o0_128_S512x128

theorem low_at (t : FVec Ideal S512x256 .f32) (r : Fin 512) (j : Fin 128) : low t (ix2 r j) = t (ix2 r ⟨j.val, by omega⟩) := by pointwise [low]
theorem high_at (t : FVec Ideal S512x256 .f32) (r : Fin 512) (j : Fin 128) : high t (ix2 r j) = t (ix2 r ⟨128 + j.val, by omega⟩) := by pointwise [high]

/-- 128 lanes rotated within themselves. -/
def turn (s : FVec Ideal S512x128 .f32) (cos up down : Vec Ideal S512x128 .f32) : FVec Ideal S512x128 .f32 :=
  addf (F := Ideal) (addf (F := Ideal) (mulf (F := Ideal) s cos) (mulf (F := Ideal) (dynamicRotate 1 112#32 none s rotates_S512x128_d1) up))
    (mulf (F := Ideal) (dynamicRotate 1 16#32 none s rotates_S512x128_d1) down)

theorem turn_at (s : FVec Ideal S512x128 .f32) (cos up down : Vec Ideal S512x128 .f32) (r : Fin 512) (j : Fin 128) :
    turn s cos up down (ix2 r j) = s (ix2 r j) * cos (ix2 r j) + s (ix2 r ⟨(j.val + 16) % 128, by omega⟩) * up (ix2 r j)
      + s (ix2 r ⟨(j.val + 112) % 128, by omega⟩) * down (ix2 r j) := by
  have a : (⟨(j.val + 128 - 112) % 128, by omega⟩ : Fin 128) = ⟨(j.val + 16) % 128, by omega⟩ := Fin.ext (by show (j.val + 128 - 112) % 128 = (j.val + 16) % 128; omega)
  have b : (⟨(j.val + 128 - 16) % 128, by omega⟩ : Fin 128) = ⟨(j.val + 112) % 128, by omega⟩ := Fin.ext (by show (j.val + 128 - 16) % 128 = (j.val + 112) % 128; omega)
  rw [← a, ← b]
  pointwise [turn]

/-- A stored piece of keys. -/
def key (s : FVec Ideal S512x128 .f32) : FVec Ideal S512x128 .bf16 := truncf (F := Ideal) .bf16 s bitsLt_bf16_f32

/-- A stored piece of queries: an eighth of the rotated lanes. -/
def query (s : FVec Ideal S512x128 .f32) : FVec Ideal S512x128 .bf16 := key (mulf (F := Ideal) s (broadcast S512x128 (Scalar.ofBits (F := Ideal) .f32 0x3E000000#32)))

theorem key_at (s : FVec Ideal S512x128 .f32) (r : Fin 512) (j : Fin 128) : key s (ix2 r j) = s (ix2 r j) := by pointwise [key]
theorem query_at (s : FVec Ideal S512x128 .f32) (r : Fin 512) (j : Fin 128) : query s (ix2 r j) = s (ix2 r j) * Ideal.ofBits .f32 0x3E000000#32 := by
  pointwise [query, key]

/-! ## Values, gates and the gated lanes -/

theorem value_at (h : FVec Ideal S512x1024 .bf16) (w : Vec Ideal S1024x512 .bf16) (r : Fin 512) (l : Fin 512) :
    k0_pay23 (F := Ideal) h w (ix2 r l) = lane (fun q => h (ix2 r q)) (fun q => w (ix2 q l)) := by
  unfold lane
  pointwise [k0_pay23]

theorem gate_at (h : FVec Ideal S512x1024 .bf16) (w : Vec Ideal S1024x512 .bf16) (r : Fin 512) (l : Fin 512) :
    k0_pay24 (F := Ideal) h w (ix2 r l) = lane (fun q => h (ix2 r q)) (fun q => w (ix2 q l)) := by
  unfold lane
  pointwise [k0_pay24]

theorem gated_at (h : FVec Ideal S512x1024 .bf16) (w u : Vec Ideal S1024x512 .bf16) (r : Fin 512) (l : Fin 512) :
    k0_pay1 (F := Ideal) h (k0_pay25 h w) u (constant S512x512 .f32 0x00000000#32) (ix2 r l)
      = lane (fun q => h (ix2 r q)) (fun q => w (ix2 q l)) * lane (fun q => h (ix2 r q)) (fun q => u (ix2 q l)) := by
  unfold lane
  pointwise [k0_pay1, k0_pay25]

end Cert.Proof.InprojBody

end
-- ==== Proof.InprojPieces.lean ====
/- The pieces of queries and keys that a grid point of the latent tokens' projection stores. -/
module

public import proofs.«01_k».proof.Proof.InprojBody

@[expose] public section

set_option maxRecDepth 16384

noncomputable section

namespace Cert.Proof.InprojPieces

open Idealize.ShloMosaic Idealize.ShloMosaic.TcCoe Idealize.SL.Sem
open Cert.InprojKernelIdeal Cert.InprojKernelIdeal.Gen Cert.Proof.FfnMath Cert.Proof.InprojMath Cert.Proof.InprojBody

variable (x : Vec Ideal S512x1024 .f32) (g0 : Vec Ideal S1x1024 .f32) (s0 c0 : Vec Ideal S1x1x1024 .f32)
variable (h : FVec Ideal S512x1024 .bf16) (b : Vec Ideal S256x256 .bf16) (w : Vec Ideal S1024x256 .bf16) (g : Vec Ideal S1x256 .f32)
  (cos up down : Vec Ideal S512x128 .f32)

/-! Each half of the lanes -/

theorem half16 : k0_pay16 (F := Ideal) h b w g = half h b w g := by
  unfold half scaled sums k0_pay13 k0_pay16
  exact Eq.refl _

theorem half6 : k0_pay6 (F := Ideal) h b w g = half h b w g := by
  unfold half scaled sums k0_pay13 k0_pay6
  exact Eq.refl _

theorem half15 : k0_pay15 (F := Ideal) (k0_pay13 h w) g (k0_pay14 h b w) = half h b w g := by
  unfold half scaled sums k0_pay15 k0_pay14
  exact Eq.refl _

theorem half5 : k0_pay5 (F := Ideal) b (k0_pay3 x g0 s0 c0 w) g (k0_pay4 x g0 s0 c0 w) = half (k0_pay2 x g0 s0 c0) b w g := by
  unfold half scaled sums k0_pay5 k0_pay4 k0_pay3 k0_pay13
  exact Eq.refl _

/-! The pieces -/

theorem query0 : k0_pay7 (F := Ideal) b cos up down (k0_pay3 x g0 s0 c0 w) g (k0_pay4 x g0 s0 c0 w)
    = query (turn (low (half (k0_pay2 x g0 s0 c0) b w g)) cos up down) := by
  rw [← half5]
  unfold k0_pay7 query key turn low
  exact Eq.refl _

theorem query1 (t : FVec Ideal S512x256 .f32) : k0_pay11 (F := Ideal) cos up down t = query (turn (high t) cos up down) := by
  unfold k0_pay11 query key turn high
  exact Eq.refl _

theorem query2 : k0_pay17 (F := Ideal) cos up down (k0_pay13 h w) g (k0_pay14 h b w) = query (turn (low (half h b w g)) cos up down) := by
  rw [← half15]
  unfold k0_pay17 query key turn low
  exact Eq.refl _

theorem query3 : k0_pay21 (F := Ideal) up down (k0_pay19 (k0_pay13 h w) g (k0_pay14 h b w)) (k0_pay20 cos (k0_pay13 h w) g (k0_pay14 h b w))
    = query (turn (high (half h b w g)) cos up down) := by
  rw [← half15]
  unfold k0_pay21 k0_pay20 k0_pay19 query key turn high
  exact Eq.refl _

theorem key0 : k0_pay10 (F := Ideal) down (k0_pay8 h b w g) (k0_pay9 h b cos up w g) 16#32 = key (turn (low (half h b w g)) cos up down) := by
  rw [← half6]
  unfold k0_pay10 k0_pay9 k0_pay8 key turn low
  exact Eq.refl _

theorem key1 (t : FVec Ideal S512x256 .f32) : k0_pay12 (F := Ideal) cos up down t = key (turn (high t) cos up down) := by
  unfold k0_pay12 key turn high
  exact Eq.refl _

theorem key2 : k0_pay18 (F := Ideal) h b cos up down w g = key (turn (low (half h b w g)) cos up down) := by
  rw [← half16]
  unfold k0_pay18 key turn low
  exact Eq.refl _

theorem key3 (t : FVec Ideal S512x256 .f32) : k0_pay22 (F := Ideal) cos up down t = key (turn (high t) cos up down) := by
  unfold k0_pay22 key turn high
  exact Eq.refl _

end Cert.Proof.InprojPieces

end
-- ==== Proof.InprojOut.lean ====
/- The projection's five result arrays at an index, as functions of its argument arrays. -/
module

public import proofs.«01_k».proof.Proof.Gen.InprojKernelIdeal.Value
public import proofs.«01_k».proof.Proof.InprojPieces
public import Idealize.ShloMosaic.Lib.VecWindow
public import Idealize.ShloMosaic.Lib.Pipeline.ValueKit.Tiles

@[expose] public section

set_option maxRecDepth 16384

noncomputable section

namespace Cert.Proof.InprojOut

open Idealize.ShloMosaic Idealize.ShloMosaic.TcCoe Idealize.SL.Sem
open Cert.InprojKernelIdeal Cert.InprojKernelIdeal.Gen Cert.Proof.FfnMath Cert.Proof.InprojMath Cert.Proof.InprojBody Cert.Proof.InprojPieces

variable (x0 : Vec Ideal S512x1024 .f32) (x1 : Vec Ideal S1x1024 .f32) (x2 x3 : Vec Ideal S1x1x1024 .f32) (x4 : Vec Ideal S1024x3072 .bf16)
  (x5 : Vec Ideal S256x256 .bf16) (x6 x7 : Vec Ideal S1x256 .f32) (x8 x9 x10 : Vec Ideal S512x128 .f32)

/-- The lanes that the rows give with the 512 columns of the weights from o on. -/
def lanes (o : ℕ) (ho : o + 512 ≤ 3072) (r : Fin 512) (l : Fin 512) : EReal :=
  lane (modulated (fun e => x0 (ix2 r e)) (fun e => x1 (ix2 0 e)) (fun e => x3 (ix3 0 0 e)) (fun e => x2 (ix3 0 0 e))) (fun q => x4 (ix2 q ⟨o + l.val, by omega⟩))

/-- A load of a whole block. -/
theorem zero2 : (![0, 0] : Fin 2 → ℕ) = fun _ => 0 := funext fun a => match a with | ⟨0, _⟩ => rfl | ⟨1, _⟩ => rfl
theorem zero3 : (![0, 0, 0] : Fin 3 → ℕ) = fun _ => 0 := funext fun a => match a with | ⟨0, _⟩ => rfl | ⟨1, _⟩ => rfl | ⟨2, _⟩ => rfl

/-- Columns of the weights from the given one on. -/
theorem cols_at {n : ℕ} (o : ℕ) (ho : o + n ≤ 3072) (inb : ∀ a, (![0, o] : Fin 2 → ℕ) a + (![1024, n] : Fin 2 → ℕ) a ≤ S1024x3072.size a) (q : Fin 1024) (j : Fin n) :
    View.ld (Val := Elt Ideal) (e' := .bf16) x4 (Rect.unit (s := S1024x3072) ![0, o] ![1024, n] inb) (ix2 q j) = x4 (ix2 q ⟨o + j.val, by omega⟩) := by
  refine View.ld_unit_apply_of x4 _ _ _ _ _ fun a => ?_
  match a with
  | ⟨0, _⟩ => exact (Nat.zero_add _).symm
  | ⟨1, _⟩ => rfl

/-- Half of the normalized lanes: lane j of half n is lane 256 n + j. -/
theorem half_heads (o : ℕ) (ho : o + 512 ≤ 3072) (n : Fin 2) (w : Vec Ideal S1024x256 .bf16) (g : Vec Ideal S1x256 .f32)
    (hw : ∀ q (j : Fin 256), w (ix2 q j) = x4 (ix2 q ⟨o + (256 * n.val + j.val), by omega⟩))
    (hb : ∀ k j : Fin 256, x5 (ix2 k j) = if k.val / 64 = j.val / 64 then 1 else 0) (r : Fin 512) (j : Fin 256) :
    half (k0_pay2 x0 x1 x2 x3) x5 w g (ix2 r j) = heads (lanes x0 x1 x2 x3 x4 o ho r) (fun j => g (ix2 0 j)) ⟨256 * n.val + j.val, by omega⟩ := by
  refine (half_at _ _ _ _ hb r j).trans ?_
  unfold heads lanes
  simp only [rows_at, hw]
  have e1 : (⟨(256 * n.val + j.val) % 256, by omega⟩ : Fin 256) = j := Fin.ext (by show (256 * n.val + j.val) % 256 = j.val; omega)
  have e2 : ∀ d : Fin 64, 256 * n.val + (64 * (j.val / 64) + d.val) = 64 * ((256 * n.val + j.val) / 64) + d.val := fun d => by omega
  simp only [e1, e2]

/-- A piece of 128 rotated lanes: lane j of piece n is lane 128 n + j. -/
theorem piece_at (n : Fin 4) (s : FVec Ideal S512x128 .f32) (T : Fin 512 → EReal) (r : Fin 512)
    (hs : ∀ j : Fin 128, s (ix2 r j) = T ⟨128 * n.val + j.val, by omega⟩)
    (hd : ∀ j : Fin 128, j.val % 32 < 16 → x10 (ix2 r j) = 0) (hu : ∀ j : Fin 128, ¬ j.val % 32 < 16 → x9 (ix2 r j) = 0) (j : Fin 128) :
    turn s x8 x9 x10 (ix2 r j) = turned T (fun j => x8 (ix2 r j)) (fun j => x9 (ix2 r j)) (fun j => x10 (ix2 r j)) ⟨128 * n.val + j.val, by omega⟩ :=
  (turn_at s x8 x9 x10 r j).trans (turned_piece T (fun j => s (ix2 r j)) (fun j => x8 (ix2 r j)) (fun j => x9 (ix2 r j)) (fun j => x10 (ix2 r j)) n hs hd hu j)

/-- The low and the high piece of a half. -/
theorem low_heads (T : Fin 512 → EReal) (r : Fin 512) (n : Fin 2) (t : FVec Ideal S512x256 .f32) (ht : ∀ j : Fin 256, t (ix2 r j) = T ⟨256 * n.val + j.val, by omega⟩)
    (j : Fin 128) : low t (ix2 r j) = T ⟨128 * (2 * n.val) + j.val, by omega⟩ := by
  rw [low_at, ht]
  exact congrArg T (Fin.ext (by show 256 * n.val + j.val = 128 * (2 * n.val) + j.val; omega))

theorem high_heads (T : Fin 512 → EReal) (r : Fin 512) (n : Fin 2) (t : FVec Ideal S512x256 .f32) (ht : ∀ j : Fin 256, t (ix2 r j) = T ⟨256 * n.val + j.val, by omega⟩)
    (j : Fin 128) : high t (ix2 r j) = T ⟨128 * (2 * n.val + 1) + j.val, by omega⟩ := by
  rw [high_at, ht]
  exact congrArg T (Fin.ext (by show 256 * n.val + (128 + j.val) = 128 * (2 * n.val + 1) + j.val; omega))

/-- A stored piece of 128 lanes holds its part of the 512. -/
theorem tile (T : Fin 512 → EReal) (r l : Fin 512) (n : Fin 4) (o : ℕ) (ho : o = 128 * n.val) (s : Vec Ideal S512x128 .bf16)
    (hs : ∀ j : Fin 128, s (ix2 r j) = T ⟨128 * n.val + j.val, by omega⟩) : View.TileAt (Val := Elt Ideal) (e := .bf16) (S := S512x512) (ix2 r l) ![0, o] S512x128.size s (T l) := by
  intro x hx
  have h0 : r.val = 0 + (x 0).val := hx 0
  have h1 : l.val = o + (x 1).val := hx 1
  have e : x = ix2 r (⟨(x 1).val, (x 1).isLt⟩ : Fin 128) := funext fun a => match a with
    | ⟨0, _⟩ => Fin.ext (by show (x 0).val = r.val; omega)
    | ⟨1, _⟩ => rfl
  rw [e]
  exact (hs _).trans (congrArg T (Fin.ext (by show 128 * n.val + (x 1).val = l.val; omega)))

/-- The queries that a point stores: an eighth of the rotated lanes. -/
theorem queries_at (hb : ∀ k j : Fin 256, x5 (ix2 k j) = if k.val / 64 = j.val / 64 then 1 else 0)
    (hd : ∀ r (j : Fin 128), j.val % 32 < 16 → x10 (ix2 r j) = 0) (hu : ∀ r (j : Fin 128), ¬ j.val % 32 < 16 → x9 (ix2 r j) = 0) (r l : Fin 512) :
    out0_11 (F := Ideal) x0 x1 x2 x3 x4 x5 x6 x7 x8 x9 x10 (ix2 r l) = turned (heads (lanes x0 x1 x2 x3 x4 0 (by omega) r) (fun j => x6 (ix2 0 j)))
      (fun j => x8 (ix2 r j)) (fun j => x9 (ix2 r j)) (fun j => x10 (ix2 r j)) l * Ideal.ofBits .f32 0x3E000000#32 := by
  have e0 : View.ld (Val := Elt Ideal) (e' := .f32) x0 r0_0 = x0 := View.ld_unit_zero zero2 _ x0
  have e1 : View.ld (Val := Elt Ideal) (e' := .f32) x1 r0_1 = x1 := View.ld_unit_zero zero2 _ x1
  have e2 : View.ld (Val := Elt Ideal) (e' := .f32) x2 r0_2 = x2 := View.ld_unit_zero zero3 _ x2
  have e3 : View.ld (Val := Elt Ideal) (e' := .f32) x3 r0_2 = x3 := View.ld_unit_zero zero3 _ x3
  have e5 : View.ld (Val := Elt Ideal) (e' := .bf16) x5 r0_3 = x5 := View.ld_unit_zero zero2 _ x5
  have eg : View.ld (Val := Elt Ideal) (e' := .f32) x6 r0_6 = x6 := View.ld_unit_zero zero2 _ x6
  have e8 : View.ld (Val := Elt Ideal) (e' := .f32) x8 r0_4 = x8 := View.ld_unit_zero zero2 _ x8
  have e9 : View.ld (Val := Elt Ideal) (e' := .f32) x9 r0_4 = x9 := View.ld_unit_zero zero2 _ x9
  have e10 : View.ld (Val := Elt Ideal) (e' := .f32) x10 r0_4 = x10 := View.ld_unit_zero zero2 _ x10
  have h0 : ∀ j, half (k0_pay2 x0 x1 x2 x3) x5 (View.ld (Val := Elt Ideal) (e' := .bf16) x4 r0_5) x6 (ix2 r j) = _ := half_heads x0 x1 x2 x3 x4 x5 0 (by omega) 0 _ x6
    (fun q j => (cols_at x4 0 (by omega) _ q j).trans (congrArg (fun z => x4 (ix2 q z)) (Fin.ext (by show 0 + j.val = 0 + (256 * 0 + j.val); omega)))) hb r
  have h1 : ∀ j, half (k0_pay2 x0 x1 x2 x3) x5 (View.ld (Val := Elt Ideal) (e' := .bf16) x4 r0_10) x6 (ix2 r j) = _ := half_heads x0 x1 x2 x3 x4 x5 0 (by omega) 1 _ x6
    (fun q j => (cols_at x4 256 (by omega) _ q j).trans (congrArg (fun z => x4 (ix2 q z)) (Fin.ext (by show 256 + j.val = 0 + (256 * 1 + j.val); omega)))) hb r
  unfold out0_11
  unfold k0_pay30 k0_pay29 k0_pay28 k0_pay27 k0_pay26
  simp only [e0, e1, e2, e3, e5, eg, e8, e9, e10, query0, half5, query1, query2, query3]
  have p0 := piece_at x8 x9 x10 0 _ _ r (low_heads _ r 0 _ h0) (hd r) (hu r)
  have p1 := piece_at x8 x9 x10 1 _ _ r (high_heads _ r 0 _ h0) (hd r) (hu r)
  have p2 := piece_at x8 x9 x10 2 _ _ r (low_heads _ r 1 _ h1) (hd r) (hu r)
  have p3 := piece_at x8 x9 x10 3 _ _ r (high_heads _ r 1 _ h1) (hd r) (hu r)
  refine View.canon_eq_of_allAt _ _ _ (cover0_11 _ _ _ _ _) (View.allAt_cons_unit _ _ _ _ _ ?_ (View.allAt_cons_unit _ _ _ _ _ ?_ (View.allAt_cons_unit _ _ _ _ _ ?_ (View.allAt_cons_unit _ _ _ _ _ ?_ (View.allAt_nil _ _)))))
  · exact tile (fun l => turned (heads (lanes x0 x1 x2 x3 x4 0 (by omega) r) (fun j => x6 (ix2 0 j))) (fun j => x8 (ix2 r j)) (fun j => x9 (ix2 r j)) (fun j => x10 (ix2 r j)) l * Ideal.ofBits .f32 0x3E000000#32) r l 3 384 rfl _ (fun j => (query_at _ r j).trans (congrArg (· * Ideal.ofBits .f32 0x3E000000#32) (p3 j)))
  · exact tile (fun l => turned (heads (lanes x0 x1 x2 x3 x4 0 (by omega) r) (fun j => x6 (ix2 0 j))) (fun j => x8 (ix2 r j)) (fun j => x9 (ix2 r j)) (fun j => x10 (ix2 r j)) l * Ideal.ofBits .f32 0x3E000000#32) r l 2 256 rfl _ (fun j => (query_at _ r j).trans (congrArg (· * Ideal.ofBits .f32 0x3E000000#32) (p2 j)))
  · exact tile (fun l => turned (heads (lanes x0 x1 x2 x3 x4 0 (by omega) r) (fun j => x6 (ix2 0 j))) (fun j => x8 (ix2 r j)) (fun j => x9 (ix2 r j)) (fun j => x10 (ix2 r j)) l * Ideal.ofBits .f32 0x3E000000#32) r l 1 128 rfl _ (fun j => (query_at _ r j).trans (congrArg (· * Ideal.ofBits .f32 0x3E000000#32) (p1 j)))
  · exact tile (fun l => turned (heads (lanes x0 x1 x2 x3 x4 0 (by omega) r) (fun j => x6 (ix2 0 j))) (fun j => x8 (ix2 r j)) (fun j => x9 (ix2 r j)) (fun j => x10 (ix2 r j)) l * Ideal.ofBits .f32 0x3E000000#32) r l 0 0 rfl _ (fun j => (query_at _ r j).trans (congrArg (· * Ideal.ofBits .f32 0x3E000000#32) (p0 j)))

/-- The keys that a point stores: the rotated lanes. -/
theorem keys_at (hb : ∀ k j : Fin 256, x5 (ix2 k j) = if k.val / 64 = j.val / 64 then 1 else 0)
    (hd : ∀ r (j : Fin 128), j.val % 32 < 16 → x10 (ix2 r j) = 0) (hu : ∀ r (j : Fin 128), ¬ j.val % 32 < 16 → x9 (ix2 r j) = 0) (r l : Fin 512) :
    out0_12 (F := Ideal) x0 x1 x2 x3 x4 x5 x6 x7 x8 x9 x10 (ix2 r l) = turned (heads (lanes x0 x1 x2 x3 x4 512 (by omega) r) (fun j => x7 (ix2 0 j)))
      (fun j => x8 (ix2 r j)) (fun j => x9 (ix2 r j)) (fun j => x10 (ix2 r j)) l := by
  have e0 : View.ld (Val := Elt Ideal) (e' := .f32) x0 r0_0 = x0 := View.ld_unit_zero zero2 _ x0
  have e1 : View.ld (Val := Elt Ideal) (e' := .f32) x1 r0_1 = x1 := View.ld_unit_zero zero2 _ x1
  have e2 : View.ld (Val := Elt Ideal) (e' := .f32) x2 r0_2 = x2 := View.ld_unit_zero zero3 _ x2
  have e3 : View.ld (Val := Elt Ideal) (e' := .f32) x3 r0_2 = x3 := View.ld_unit_zero zero3 _ x3
  have e5 : View.ld (Val := Elt Ideal) (e' := .bf16) x5 r0_3 = x5 := View.ld_unit_zero zero2 _ x5
  have eg : View.ld (Val := Elt Ideal) (e' := .f32) x7 r0_6 = x7 := View.ld_unit_zero zero2 _ x7
  have e8 : View.ld (Val := Elt Ideal) (e' := .f32) x8 r0_4 = x8 := View.ld_unit_zero zero2 _ x8
  have e9 : View.ld (Val := Elt Ideal) (e' := .f32) x9 r0_4 = x9 := View.ld_unit_zero zero2 _ x9
  have e10 : View.ld (Val := Elt Ideal) (e' := .f32) x10 r0_4 = x10 := View.ld_unit_zero zero2 _ x10
  have h0 : ∀ j, half (k0_pay2 x0 x1 x2 x3) x5 (View.ld (Val := Elt Ideal) (e' := .bf16) x4 r0_7) x7 (ix2 r j) = _ := half_heads x0 x1 x2 x3 x4 x5 512 (by omega) 0 _ x7
    (fun q j => (cols_at x4 512 (by omega) _ q j).trans (congrArg (fun z => x4 (ix2 q z)) (Fin.ext (by show 512 + j.val = 512 + (256 * 0 + j.val); omega)))) hb r
  have h1 : ∀ j, half (k0_pay2 x0 x1 x2 x3) x5 (View.ld (Val := Elt Ideal) (e' := .bf16) x4 r0_11) x7 (ix2 r j) = _ := half_heads x0 x1 x2 x3 x4 x5 512 (by omega) 1 _ x7
    (fun q j => (cols_at x4 768 (by omega) _ q j).trans (congrArg (fun z => x4 (ix2 q z)) (Fin.ext (by show 768 + j.val = 512 + (256 * 1 + j.val); omega)))) hb r
  unfold out0_12
  unfold k0_pay26
  simp only [e0, e1, e2, e3, e5, eg, e8, e9, e10, key0, half6, half16, key1, key2, key3]
  have p0 := piece_at x8 x9 x10 0 _ _ r (low_heads _ r 0 _ h0) (hd r) (hu r)
  have p1 := piece_at x8 x9 x10 1 _ _ r (high_heads _ r 0 _ h0) (hd r) (hu r)
  have p2 := piece_at x8 x9 x10 2 _ _ r (low_heads _ r 1 _ h1) (hd r) (hu r)
  have p3 := piece_at x8 x9 x10 3 _ _ r (high_heads _ r 1 _ h1) (hd r) (hu r)
  refine View.canon_eq_of_allAt _ _ _ (cover0_12 _ _ _ _ _) (View.allAt_cons_unit _ _ _ _ _ ?_ (View.allAt_cons_unit _ _ _ _ _ ?_ (View.allAt_cons_unit _ _ _ _ _ ?_ (View.allAt_cons_unit _ _ _ _ _ ?_ (View.allAt_nil _ _)))))
  · exact tile (fun l => turned (heads (lanes x0 x1 x2 x3 x4 512 (by omega) r) (fun j => x7 (ix2 0 j))) (fun j => x8 (ix2 r j)) (fun j => x9 (ix2 r j)) (fun j => x10 (ix2 r j)) l) r l 3 384 rfl _ (fun j => (key_at _ r j).trans (p3 j))
  · exact tile (fun l => turned (heads (lanes x0 x1 x2 x3 x4 512 (by omega) r) (fun j => x7 (ix2 0 j))) (fun j => x8 (ix2 r j)) (fun j => x9 (ix2 r j)) (fun j => x10 (ix2 r j)) l) r l 2 256 rfl _ (fun j => (key_at _ r j).trans (p2 j))
  · exact tile (fun l => turned (heads (lanes x0 x1 x2 x3 x4 512 (by omega) r) (fun j => x7 (ix2 0 j))) (fun j => x8 (ix2 r j)) (fun j => x9 (ix2 r j)) (fun j => x10 (ix2 r j)) l) r l 1 128 rfl _ (fun j => (key_at _ r j).trans (p1 j))
  · exact tile (fun l => turned (heads (lanes x0 x1 x2 x3 x4 512 (by omega) r) (fun j => x7 (ix2 0 j))) (fun j => x8 (ix2 r j)) (fun j => x9 (ix2 r j)) (fun j => x10 (ix2 r j)) l) r l 0 0 rfl _ (fun j => (key_at _ r j).trans (p0 j))

/-- The values that a point stores. -/
theorem values_at (r l : Fin 512) : out0_13 (F := Ideal) x0 x1 x2 x3 x4 x5 x6 x7 x8 x9 x10 (ix2 r l) = lanes x0 x1 x2 x3 x4 1024 (by omega) r l := by
  have e0 : View.ld (Val := Elt Ideal) (e' := .f32) x0 r0_0 = x0 := View.ld_unit_zero zero2 _ x0
  have e1 : View.ld (Val := Elt Ideal) (e' := .f32) x1 r0_1 = x1 := View.ld_unit_zero zero2 _ x1
  have e2 : View.ld (Val := Elt Ideal) (e' := .f32) x2 r0_2 = x2 := View.ld_unit_zero zero3 _ x2
  have e3 : View.ld (Val := Elt Ideal) (e' := .f32) x3 r0_2 = x3 := View.ld_unit_zero zero3 _ x3
  unfold out0_13 k0_pay26
  rw [View.canon_unit_zero zero2, e0, e1, e2, e3]
  refine (value_at _ _ r l).trans ?_
  unfold lanes
  simp only [rows_at]
  exact congrArg (lane _) (funext fun q => cols_at x4 1024 (by omega) _ q l)

/-- The gates that a point stores. -/
theorem gates_at (r l : Fin 512) : out0_14 (F := Ideal) x0 x1 x2 x3 x4 x5 x6 x7 x8 x9 x10 (ix2 r l) = lanes x0 x1 x2 x3 x4 1536 (by omega) r l := by
  have e0 : View.ld (Val := Elt Ideal) (e' := .f32) x0 r0_0 = x0 := View.ld_unit_zero zero2 _ x0
  have e1 : View.ld (Val := Elt Ideal) (e' := .f32) x1 r0_1 = x1 := View.ld_unit_zero zero2 _ x1
  have e2 : View.ld (Val := Elt Ideal) (e' := .f32) x2 r0_2 = x2 := View.ld_unit_zero zero3 _ x2
  have e3 : View.ld (Val := Elt Ideal) (e' := .f32) x3 r0_2 = x3 := View.ld_unit_zero zero3 _ x3
  unfold out0_14 k0_pay26
  rw [View.canon_unit_zero zero2, e0, e1, e2, e3]
  refine (gate_at _ _ r l).trans ?_
  unfold lanes
  simp only [rows_at]
  exact congrArg (lane _) (funext fun q => cols_at x4 1536 (by omega) _ q l)

/-- The product of the last two groups of lanes that a point stores. -/
theorem gated_lanes_at (r l : Fin 512) : out0_15 (F := Ideal) x0 x1 x2 x3 x4 x5 x6 x7 x8 x9 x10 (ix2 r l)
    = lanes x0 x1 x2 x3 x4 2048 (by omega) r l * lanes x0 x1 x2 x3 x4 2560 (by omega) r l := by
  have e0 : View.ld (Val := Elt Ideal) (e' := .f32) x0 r0_0 = x0 := View.ld_unit_zero zero2 _ x0
  have e1 : View.ld (Val := Elt Ideal) (e' := .f32) x1 r0_1 = x1 := View.ld_unit_zero zero2 _ x1
  have e2 : View.ld (Val := Elt Ideal) (e' := .f32) x2 r0_2 = x2 := View.ld_unit_zero zero3 _ x2
  have e3 : View.ld (Val := Elt Ideal) (e' := .f32) x3 r0_2 = x3 := View.ld_unit_zero zero3 _ x3
  unfold out0_15 k0_pay26
  rw [View.canon_unit_zero zero2, e0, e1, e2, e3]
  refine (gated_at _ _ _ r l).trans ?_
  unfold lanes
  simp only [rows_at]
  exact congrArg₂ (· * ·) (congrArg (lane _) (funext fun q => cols_at x4 2048 (by omega) _ q l)) (congrArg (lane _) (funext fun q => cols_at x4 2560 (by omega) _ q l))

end Cert.Proof.InprojOut

end
-- ==== Proof.InprojRun.lean ====
/- The latent tokens' projection: its result arrays at an index, as functions of its argument arrays. -/
module

public import proofs.«01_k».proof.Proof.Gen.InprojKernelIdeal.Value
public import proofs.«01_k».proof.Proof.InprojOut

@[expose] public section

set_option maxRecDepth 16384

noncomputable section

namespace Cert.Proof.InprojRun

open Idealize.ShloMosaic Idealize.ShloMosaic.TcCoe Idealize.SL.Sem
open Cert.InprojKernelIdeal Cert.InprojKernelIdeal.Gen Cert.InprojKernelIdeal.Value Cert.Proof.FfnMath Cert.Proof.InprojMath Cert.Proof.InprojOut

variable (m : (ℓ : Loc nD τ sig) → Buf (Elt Ideal) ℓ)

/-- The grid has 32 points. -/
theorem points (t : Fin cfg0.N) : t.val < 32 := t.isLt

/-- A row of the block of a point, among all rows. -/
def row (t : Fin cfg0.N) (r : Fin 512) : Fin 16384 := ⟨t.val * 512 + r.val, by have := points t; omega⟩

/-- The batch of a point. -/
def batch (t : Fin cfg0.N) : Fin 8 := ⟨t.val / 4, by have := points t; omega⟩

/-- The position in its sequence of a row of the block of a point. -/
def place (t : Fin cfg0.N) (r : Fin 512) : Fin 2048 := ⟨t.val % 4 * 512 + r.val, by omega⟩

/-! The block of each window at a grid point: rows `t`, of batch `t / 4`, at the positions `t % 4`. -/

theorem at_x : ∀ t : Fin cfg0.N, win0_0.index t (0 : Fin 2) = t.val ∧ win0_0.index t (1 : Fin 2) = 0 := (by decide +kernel : ∀ t : Fin grid0.N, _)
theorem at_g : ∀ t : Fin cfg0.N, win0_1.index t (0 : Fin 2) = 0 ∧ win0_1.index t (1 : Fin 2) = 0 := (by decide +kernel : ∀ t : Fin grid0.N, _)
theorem at_sh : ∀ t : Fin cfg0.N, win0_2.index t (0 : Fin 3) = t.val / 4 ∧ win0_2.index t (1 : Fin 3) = 0 ∧ win0_2.index t (2 : Fin 3) = 0 := (by decide +kernel : ∀ t : Fin grid0.N, _)
theorem at_sc : ∀ t : Fin cfg0.N, win0_3.index t (0 : Fin 3) = t.val / 4 ∧ win0_3.index t (1 : Fin 3) = 0 ∧ win0_3.index t (2 : Fin 3) = 0 := (by decide +kernel : ∀ t : Fin grid0.N, _)
theorem at_w : ∀ t : Fin cfg0.N, win0_4.index t (0 : Fin 2) = 0 ∧ win0_4.index t (1 : Fin 2) = 0 := (by decide +kernel : ∀ t : Fin grid0.N, _)
theorem at_b : ∀ t : Fin cfg0.N, win0_5.index t (0 : Fin 2) = 0 ∧ win0_5.index t (1 : Fin 2) = 0 := (by decide +kernel : ∀ t : Fin grid0.N, _)
theorem at_qg : ∀ t : Fin cfg0.N, win0_6.index t (0 : Fin 2) = 0 ∧ win0_6.index t (1 : Fin 2) = 0 := (by decide +kernel : ∀ t : Fin grid0.N, _)
theorem at_kg : ∀ t : Fin cfg0.N, win0_7.index t (0 : Fin 2) = 0 ∧ win0_7.index t (1 : Fin 2) = 0 := (by decide +kernel : ∀ t : Fin grid0.N, _)
theorem at_cos : ∀ t : Fin cfg0.N, win0_8.index t (0 : Fin 2) = t.val % 4 ∧ win0_8.index t (1 : Fin 2) = 0 := (by decide +kernel : ∀ t : Fin grid0.N, _)
theorem at_sup : ∀ t : Fin cfg0.N, win0_9.index t (0 : Fin 2) = t.val % 4 ∧ win0_9.index t (1 : Fin 2) = 0 := (by decide +kernel : ∀ t : Fin grid0.N, _)
theorem at_sdn : ∀ t : Fin cfg0.N, win0_10.index t (0 : Fin 2) = t.val % 4 ∧ win0_10.index t (1 : Fin 2) = 0 := (by decide +kernel : ∀ t : Fin grid0.N, _)
theorem at_oq : ∀ t : Fin cfg0.N, win0_11.index t (0 : Fin 2) = t.val ∧ win0_11.index t (1 : Fin 2) = 0 := (by decide +kernel : ∀ t : Fin grid0.N, _)
theorem at_ok : ∀ t : Fin cfg0.N, win0_12.index t (0 : Fin 2) = t.val ∧ win0_12.index t (1 : Fin 2) = 0 := (by decide +kernel : ∀ t : Fin grid0.N, _)
theorem at_ov : ∀ t : Fin cfg0.N, win0_13.index t (0 : Fin 2) = t.val ∧ win0_13.index t (1 : Fin 2) = 0 := (by decide +kernel : ∀ t : Fin grid0.N, _)
theorem at_ogb : ∀ t : Fin cfg0.N, win0_14.index t (0 : Fin 2) = t.val ∧ win0_14.index t (1 : Fin 2) = 0 := (by decide +kernel : ∀ t : Fin grid0.N, _)
theorem at_oz : ∀ t : Fin cfg0.N, win0_15.index t (0 : Fin 2) = t.val ∧ win0_15.index t (1 : Fin 2) = 0 := (by decide +kernel : ∀ t : Fin grid0.N, _)

/-! Each block at an index, of the whole array -/

theorem x_at (c : Dev nD) (t : Fin cfg0.N) (r : Fin 512) (e : Fin 1024) : iblk m c 0 t (ix2 r e) = V m c main_arg0 (ix2 (row t r) e) := by
  obtain ⟨e0, e1⟩ := at_x t
  show V m c main_arg0 (((cfg0.win 0).blk t).view.emb (ix2 r e)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * e.val = e.val; omega

theorem g_at (c : Dev nD) (t : Fin cfg0.N) (r : Fin 1) (e : Fin 1024) : iblk m c 1 t (ix2 r e) = V m c main_arg1 (ix2 r e) := by
  obtain ⟨e0, e1⟩ := at_g t
  show V m c main_arg1 (((cfg0.win 1).blk t).view.emb (ix2 r e)) = _
  refine congrArg _ (funext fun a => Fin.ext ?_)
  match a with
  | ⟨0, _⟩ => show win0_1.index t (0 : Fin 2) * 1 + 1 * r.val = r.val; omega
  | ⟨1, _⟩ => show win0_1.index t (1 : Fin 2) * 1024 + 1 * e.val = e.val; omega

theorem sh_at (c : Dev nD) (t : Fin cfg0.N) (e : Fin 1024) : iblk m c 2 t (ix3 0 0 e) = V m c main_arg2 (ix3 (batch t) 0 e) := by
  obtain ⟨e0, e1, e2⟩ := at_sh t
  show V m c main_arg2 (((cfg0.win 2).blk t).view.emb (ix3 0 0 e)) = _
  refine congrArg _ (funext fun a => Fin.ext ?_)
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * e.val = e.val; omega

theorem sc_at (c : Dev nD) (t : Fin cfg0.N) (e : Fin 1024) : iblk m c 3 t (ix3 0 0 e) = V m c main_arg3 (ix3 (batch t) 0 e) := by
  obtain ⟨e0, e1, e2⟩ := at_sc t
  show V m c main_arg3 (((cfg0.win 3).blk t).view.emb (ix3 0 0 e)) = _
  refine congrArg _ (funext fun a => Fin.ext ?_)
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * e.val = e.val; omega

theorem w_at (c : Dev nD) (t : Fin cfg0.N) (r : Fin 1024) (e : Fin 3072) : iblk m c 4 t (ix2 r e) = V m c main_arg4 (ix2 r e) := by
  obtain ⟨e0, e1⟩ := at_w t
  show V m c main_arg4 (((cfg0.win 4).blk t).view.emb (ix2 r e)) = _
  refine congrArg _ (funext fun a => Fin.ext ?_)
  match a with
  | ⟨0, _⟩ => show win0_4.index t (0 : Fin 2) * 1024 + 1 * r.val = r.val; omega
  | ⟨1, _⟩ => show win0_4.index t (1 : Fin 2) * 3072 + 1 * e.val = e.val; omega

theorem b_at (c : Dev nD) (t : Fin cfg0.N) (r : Fin 256) (e : Fin 256) : iblk m c 5 t (ix2 r e) = V m c main_arg5 (ix2 r e) := by
  obtain ⟨e0, e1⟩ := at_b t
  show V m c main_arg5 (((cfg0.win 5).blk t).view.emb (ix2 r e)) = _
  refine congrArg _ (funext fun a => Fin.ext ?_)
  match a with
  | ⟨0, _⟩ => show win0_5.index t (0 : Fin 2) * 256 + 1 * r.val = r.val; omega
  | ⟨1, _⟩ => show win0_5.index t (1 : Fin 2) * 256 + 1 * e.val = e.val; omega

theorem qg_at (c : Dev nD) (t : Fin cfg0.N) (r : Fin 1) (e : Fin 256) : iblk m c 6 t (ix2 r e) = V m c main_arg6 (ix2 r e) := by
  obtain ⟨e0, e1⟩ := at_qg t
  show V m c main_arg6 (((cfg0.win 6).blk t).view.emb (ix2 r e)) = _
  refine congrArg _ (funext fun a => Fin.ext ?_)
  match a with
  | ⟨0, _⟩ => show win0_6.index t (0 : Fin 2) * 1 + 1 * r.val = r.val; omega
  | ⟨1, _⟩ => show win0_6.index t (1 : Fin 2) * 256 + 1 * e.val = e.val; omega

theorem kg_at (c : Dev nD) (t : Fin cfg0.N) (r : Fin 1) (e : Fin 256) : iblk m c 7 t (ix2 r e) = V m c main_arg7 (ix2 r e) := by
  obtain ⟨e0, e1⟩ := at_kg t
  show V m c main_arg7 (((cfg0.win 7).blk t).view.emb (ix2 r e)) = _
  refine congrArg _ (funext fun a => Fin.ext ?_)
  match a with
  | ⟨0, _⟩ => show win0_7.index t (0 : Fin 2) * 1 + 1 * r.val = r.val; omega
  | ⟨1, _⟩ => show win0_7.index t (1 : Fin 2) * 256 + 1 * e.val = e.val; omega

theorem cos_at (c : Dev nD) (t : Fin cfg0.N) (r : Fin 512) (e : Fin 128) : iblk m c 8 t (ix2 r e) = V m c main_arg8 (ix2 (place t r) e) := by
  obtain ⟨e0, e1⟩ := at_cos t
  show V m c main_arg8 (((cfg0.win 8).blk t).view.emb (ix2 r e)) = _
  refine congrArg _ (funext fun a => Fin.ext ?_)
  match a with
  | ⟨0, _⟩ => show win0_8.index t (0 : Fin 2) * 512 + 1 * r.val = t.val % 4 * 512 + r.val; omega
  | ⟨1, _⟩ => show win0_8.index t (1 : Fin 2) * 128 + 1 * e.val = e.val; omega

theorem sup_at (c : Dev nD) (t : Fin cfg0.N) (r : Fin 512) (e : Fin 128) : iblk m c 9 t (ix2 r e) = V m c main_arg9 (ix2 (place t r) e) := by
  obtain ⟨e0, e1⟩ := at_sup t
  show V m c main_arg9 (((cfg0.win 9).blk t).view.emb (ix2 r e)) = _
  refine congrArg _ (funext fun a => Fin.ext ?_)
  match a with
  | ⟨0, _⟩ => show win0_9.index t (0 : Fin 2) * 512 + 1 * r.val = t.val % 4 * 512 + r.val; omega
  | ⟨1, _⟩ => show win0_9.index t (1 : Fin 2) * 128 + 1 * e.val = e.val; omega

theorem sdn_at (c : Dev nD) (t : Fin cfg0.N) (r : Fin 512) (e : Fin 128) : iblk m c 10 t (ix2 r e) = V m c main_arg10 (ix2 (place t r) e) := by
  obtain ⟨e0, e1⟩ := at_sdn t
  show V m c main_arg10 (((cfg0.win 10).blk t).view.emb (ix2 r e)) = _
  refine congrArg _ (funext fun a => Fin.ext ?_)
  match a with
  | ⟨0, _⟩ => show win0_10.index t (0 : Fin 2) * 512 + 1 * r.val = t.val % 4 * 512 + r.val; omega
  | ⟨1, _⟩ => show win0_10.index t (1 : Fin 2) * 128 + 1 * e.val = e.val; omega

theorem oq_at (t : Fin cfg0.N) (r : Fin 512) (e : Fin 512) : ((cfg0.win 11).blk t).view.emb (ix2 r e) = ix2 (row t r) e := by
  obtain ⟨e0, e1⟩ := at_oq t
  refine funext fun a => Fin.ext ?_
  match a with
  | ⟨0, _⟩ => show win0_11.index t (0 : Fin 2) * 512 + 1 * r.val = t.val * 512 + r.val; omega
  | ⟨1, _⟩ => show win0_11.index t (1 : Fin 2) * 512 + 1 * e.val = e.val; omega

theorem ok_at (t : Fin cfg0.N) (r : Fin 512) (e : Fin 512) : ((cfg0.win 12).blk t).view.emb (ix2 r e) = ix2 (row t r) e := by
  obtain ⟨e0, e1⟩ := at_ok t
  refine funext fun a => Fin.ext ?_
  match a with
  | ⟨0, _⟩ => show win0_12.index t (0 : Fin 2) * 512 + 1 * r.val = t.val * 512 + r.val; omega
  | ⟨1, _⟩ => show win0_12.index t (1 : Fin 2) * 512 + 1 * e.val = e.val; omega

theorem ov_at (t : Fin cfg0.N) (r : Fin 512) (e : Fin 512) : ((cfg0.win 13).blk t).view.emb (ix2 r e) = ix2 (row t r) e := by
  obtain ⟨e0, e1⟩ := at_ov t
  refine funext fun a => Fin.ext ?_
  match a with
  | ⟨0, _⟩ => show win0_13.index t (0 : Fin 2) * 512 + 1 * r.val = t.val * 512 + r.val; omega
  | ⟨1, _⟩ => show win0_13.index t (1 : Fin 2) * 512 + 1 * e.val = e.val; omega

theorem ogb_at (t : Fin cfg0.N) (r : Fin 512) (e : Fin 512) : ((cfg0.win 14).blk t).view.emb (ix2 r e) = ix2 (row t r) e := by
  obtain ⟨e0, e1⟩ := at_ogb t
  refine funext fun a => Fin.ext ?_
  match a with
  | ⟨0, _⟩ => show win0_14.index t (0 : Fin 2) * 512 + 1 * r.val = t.val * 512 + r.val; omega
  | ⟨1, _⟩ => show win0_14.index t (1 : Fin 2) * 512 + 1 * e.val = e.val; omega

theorem oz_at (t : Fin cfg0.N) (r : Fin 512) (e : Fin 512) : ((cfg0.win 15).blk t).view.emb (ix2 r e) = ix2 (row t r) e := by
  obtain ⟨e0, e1⟩ := at_oz t
  refine funext fun a => Fin.ext ?_
  match a with
  | ⟨0, _⟩ => show win0_15.index t (0 : Fin 2) * 512 + 1 * r.val = t.val * 512 + r.val; omega
  | ⟨1, _⟩ => show win0_15.index t (1 : Fin 2) * 512 + 1 * e.val = e.val; omega

/-- The lanes of a row from a column on, of the argument arrays. -/
def lanesAt (c : Dev nD) (p : Fin 16384) (b : Fin 8) (o : ℕ) (ho : o + 512 ≤ 3072) (l : Fin 512) : EReal :=
  lane (modulated (fun e => V m c main_arg0 (ix2 p e)) (fun e => V m c main_arg1 (ix2 0 e)) (fun e => V m c main_arg3 (ix3 b 0 e)) (fun e => V m c main_arg2 (ix3 b 0 e)))
    (fun q => V m c main_arg4 (ix2 q ⟨o + l.val, by omega⟩))

theorem lanes_row (c : Dev nD) (t : Fin cfg0.N) (o : ℕ) (ho : o + 512 ≤ 3072) (r : Fin 512) :
    lanes (iblk m c 0 t) (iblk m c 1 t) (iblk m c 2 t) (iblk m c 3 t) (iblk m c 4 t) o ho r = lanesAt m c (row t r) (batch t) o ho := by
  unfold lanes lanesAt
  rw [funext (x_at m c t r), funext (g_at m c t 0), funext (sc_at m c t), funext (sh_at m c t)]
  exact funext fun l => congrArg _ (funext fun q => w_at m c t q _)

/-- The queries: an eighth of the rotated lanes. -/
theorem queries (c : Dev nD) (hb : ∀ k j : Fin 256, V m c main_arg5 (ix2 k j) = (if k.val / 64 = j.val / 64 then 1 else 0 : EReal))
    (hd : ∀ s (j : Fin 128), j.val % 32 < 16 → V m c main_arg10 (ix2 s j) = (0 : EReal)) (hu : ∀ s (j : Fin 128), ¬ j.val % 32 < 16 → V m c main_arg9 (ix2 s j) = (0 : EReal)) (t : Fin cfg0.N) (r l : Fin 512) :
    (dats m 0 c).arrAt 11 cfg0.N (ix2 (row t r) l) = turned (heads (lanesAt m c (row t r) (batch t) 0 (by omega)) (fun j => V m c main_arg6 (ix2 0 j)))
      (fun j => V m c main_arg8 (ix2 (place t r) j)) (fun j => V m c main_arg9 (ix2 (place t r) j)) (fun j => V m c main_arg10 (ix2 (place t r) j)) l * Ideal.ofBits .f32 0x3E000000#32 := by
  have h := congrFun (blocks11 m c t (flush0_11 t)) (ix2 r l)
  rw [flushed11] at h
  rw [← oq_at]
  refine h.trans ((queries_at (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun k j => (b_at m c t k j).trans (hb k j)) (fun r j hj => (sdn_at m c t r j).trans (hd _ j hj)) (fun r j hj => (sup_at m c t r j).trans (hu _ j hj)) r l).trans ?_)
  rw [lanes_row, funext (qg_at m c t 0), funext (cos_at m c t r), funext (sup_at m c t r), funext (sdn_at m c t r)]

/-- The keys: the rotated lanes. -/
theorem keys (c : Dev nD) (hb : ∀ k j : Fin 256, V m c main_arg5 (ix2 k j) = (if k.val / 64 = j.val / 64 then 1 else 0 : EReal))
    (hd : ∀ s (j : Fin 128), j.val % 32 < 16 → V m c main_arg10 (ix2 s j) = (0 : EReal)) (hu : ∀ s (j : Fin 128), ¬ j.val % 32 < 16 → V m c main_arg9 (ix2 s j) = (0 : EReal)) (t : Fin cfg0.N) (r l : Fin 512) :
    (dats m 0 c).arrAt 12 cfg0.N (ix2 (row t r) l) = turned (heads (lanesAt m c (row t r) (batch t) 512 (by omega)) (fun j => V m c main_arg7 (ix2 0 j)))
      (fun j => V m c main_arg8 (ix2 (place t r) j)) (fun j => V m c main_arg9 (ix2 (place t r) j)) (fun j => V m c main_arg10 (ix2 (place t r) j)) l := by
  have h := congrFun (blocks12 m c t (flush0_12 t)) (ix2 r l)
  rw [flushed12] at h
  rw [← ok_at]
  refine h.trans ((keys_at (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun k j => (b_at m c t k j).trans (hb k j)) (fun r j hj => (sdn_at m c t r j).trans (hd _ j hj)) (fun r j hj => (sup_at m c t r j).trans (hu _ j hj)) r l).trans ?_)
  rw [lanes_row, funext (kg_at m c t 0), funext (cos_at m c t r), funext (sup_at m c t r), funext (sdn_at m c t r)]

/-- The values. -/
theorem values (c : Dev nD) (t : Fin cfg0.N) (r l : Fin 512) : (dats m 0 c).arrAt 13 cfg0.N (ix2 (row t r) l) = lanesAt m c (row t r) (batch t) 1024 (by omega) l := by
  have h := congrFun (blocks13 m c t (flush0_13 t)) (ix2 r l)
  rw [flushed13] at h
  rw [← ov_at]
  refine h.trans ((values_at (iblk m c 0 t) (iblk m c 1 t) (iblk m c 2 t) (iblk m c 3 t) (iblk m c 4 t) (iblk m c 5 t) (iblk m c 6 t) (iblk m c 7 t) (iblk m c 8 t) (iblk m c 9 t) (iblk m c 10 t) r l).trans ?_)
  simp only [lanes_row]

/-- The gates. -/
theorem gates (c : Dev nD) (t : Fin cfg0.N) (r l : Fin 512) : (dats m 0 c).arrAt 14 cfg0.N (ix2 (row t r) l) = lanesAt m c (row t r) (batch t) 1536 (by omega) l := by
  have h := congrFun (blocks14 m c t (flush0_14 t)) (ix2 r l)
  rw [flushed14] at h
  rw [← ogb_at]
  refine h.trans ((gates_at (iblk m c 0 t) (iblk m c 1 t) (iblk m c 2 t) (iblk m c 3 t) (iblk m c 4 t) (iblk m c 5 t) (iblk m c 6 t) (iblk m c 7 t) (iblk m c 8 t) (iblk m c 9 t) (iblk m c 10 t) r l).trans ?_)
  simp only [lanes_row]

/-- The product of the last two groups of lanes. -/
theorem gated (c : Dev nD) (t : Fin cfg0.N) (r l : Fin 512) : (dats m 0 c).arrAt 15 cfg0.N (ix2 (row t r) l) = lanesAt m c (row t r) (batch t) 2048 (by omega) l * lanesAt m c (row t r) (batch t) 2560 (by omega) l := by
  have h := congrFun (blocks15 m c t (flush0_15 t)) (ix2 r l)
  rw [flushed15] at h
  rw [← oz_at]
  refine h.trans ((gated_lanes_at (iblk m c 0 t) (iblk m c 1 t) (iblk m c 2 t) (iblk m c 3 t) (iblk m c 4 t) (iblk m c 5 t) (iblk m c 6 t) (iblk m c 7 t) (iblk m c 8 t) (iblk m c 9 t) (iblk m c 10 t) r l).trans ?_)
  simp only [lanes_row]

end Cert.Proof.InprojRun

end
-- ==== Proof.InprojRef.lean ====
/- What the reference of the latent tokens' projection computes before the heads, at an index. -/
module

public import proofs.«01_k».proof.Proof.Gen.InprojReferenceIdeal.Read
public import proofs.«01_k».proof.Proof.InprojMath
public import Idealize.ShloMosaic.Lib.Pointwise

@[expose] public section

set_option maxRecDepth 16384

noncomputable section

namespace Cert.Proof.InprojRef

open Idealize.ShloMosaic Idealize.ShloMosaic.TcCoe Idealize.SL.Sem
open Cert.InprojReferenceIdeal Cert.InprojReferenceIdeal.Gen Cert.InprojReferenceIdeal.Read Cert.Proof.FfnMath Cert.Proof.InprojMath

variable (x : FVec Ideal S16384x1024 .f32) (g : FVec Ideal S1x1024 .f32) (sh sc : FVec Ideal S8x1x1024 .f32) (w : FVec Ideal S1024x3072 .bf16)

/-- Row s of batch b among all rows. -/
def flat (b : Fin 8) (s : Fin 2048) : Fin 16384 := ⟨b.val * 2048 + s.val, by omega⟩

/-- The lanes of a row from a column on. -/
def lanesRef (b : Fin 8) (s : Fin 2048) (o : ℕ) (ho : o + 512 ≤ 3072) (l : Fin 512) : EReal :=
  lane (modulated (fun e => x (ix2 (flat b s) e)) (fun e => g (ix2 0 e)) (fun e => sc (ix3 b 0 e)) (fun e => sh (ix3 b 0 e))) (fun q => w (ix2 q ⟨o + l.val, by omega⟩))

theorem row_lane (b : Fin 8) (s : Fin 2048) (e : Fin 1024) : val_main_v0 (F := Ideal) x (ix3 b s e) = x (ix2 (flat b s) e) := by
  rw [val_main_v0_apply]
  refine congrArg x (funext fun a => Fin.ext ?_)
  match a with
  | ⟨0, _⟩ => show ((b.val * 2048 + s.val) * 1024 + e.val) / 1024 = b.val * 2048 + s.val; omega
  | ⟨1, _⟩ => show ((b.val * 2048 + s.val) * 1024 + e.val) % 1024 = e.val; omega

/-- The sum of squares of a row. -/
theorem squares_lane (b : Fin 8) (s : Fin 2048) : val_main_v2 (F := Ideal) x (ix2 b s) = ∑ y : Fin 1024, x (ix2 (flat b s) y) * x (ix2 (flat b s) y) := by
  rw [val_main_v2_apply, show val_main_cst (F := Ideal) _ = 0 by pointwise [val_main_cst], zero_add]
  refine Finset.sum_congr rfl fun y _ => ?_
  rw [val_main_v1_apply, show idx_main_v2 (ix2 b s) y = ix3 b s y from funext fun a => match a with
    | ⟨0, _⟩ => rfl
    | ⟨1, _⟩ => rfl
    | ⟨2, _⟩ => rfl, row_lane]
  rfl

/-- One over the root of a row's mean square. -/
theorem rms_lane (b : Fin 8) (s : Fin 2048) (e : Fin 1024) : val_main_v9 (F := Ideal) x (ix3 b s e) = inverseRms (fun y => x (ix2 (flat b s) y)) := by
  rw [val_main_v9_apply, val_main_v8_apply, val_main_v7_apply, val_main_v6_apply, val_main_v5_apply, val_main_v4_apply, val_main_v3_apply]
  unfold inverseRms
  rw [← squares_lane]
  refine congrArg Ideal.rsqrt (congrArg₂ (· + ·) (congrArg₂ Ideal.div (congrArg _ (funext fun a => ?_)) ?_) ?_)
  · match a with
    | ⟨0, _⟩ => rfl
    | ⟨1, _⟩ => rfl
  · rfl
  · rfl

/-- A row normalized, scaled and shifted. -/
theorem modulated_lane (b : Fin 8) (s : Fin 2048) (e : Fin 1024) : val_main_v20 (F := Ideal) x g sh sc (ix3 b s e)
    = modulated (fun y => x (ix2 (flat b s) y)) (fun y => g (ix2 0 y)) (fun y => sc (ix3 b 0 y)) (fun y => sh (ix3 b 0 y)) e := by
  rw [val_main_v20_apply, val_main_v19_apply, val_main_v18_apply, val_main_v17_apply, val_main_v16_apply, val_main_v15_apply, val_main_v14_apply,
    val_main_v13_apply, val_main_v12_apply, val_main_v11_apply, val_main_v10_apply, rms_lane, row_lane,
    show val_main_cst_2 (F := Ideal) _ = 1 by pointwise [val_main_cst_2]]
  unfold modulated
  rw [← mul_assoc]
  refine congrArg₂ (· + ·) (congrArg₂ (· * ·) (congrArg₂ (· * ·) rfl (congrArg g (funext fun a => ?_))) (congrArg₂ (· + ·) rfl (congrArg sc (funext fun a => ?_))))
    (congrArg sh (funext fun a => ?_))
  · match a with
    | ⟨0, _⟩ => exact Subsingleton.elim (α := Fin 1) _ _
    | ⟨1, _⟩ => exact Fin.ext (Nat.mod_eq_of_lt e.isLt)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- A row against one column of the weights. -/
theorem dot_lane (b : Fin 8) (s : Fin 2048) (j : Fin 3072) : val_main_v22 (F := Ideal) x g sh sc w (ix3 b s j)
    = lane (modulated (fun y => x (ix2 (flat b s) y)) (fun y => g (ix2 0 y)) (fun y => sc (ix3 b 0 y)) (fun y => sh (ix3 b 0 y))) (fun q => w (ix2 q j)) := by
  rw [val_main_v22_apply]
  unfold lane
  refine Finset.sum_congr rfl fun q _ => congrArg₂ (· * ·) (Eq.trans (congrArg _ (funext fun a => ?_)) (modulated_lane x g sh sc b s q))
    ((val_main_v21_apply (F := Ideal) w _).trans (congrArg w (funext fun a => ?_)))
  · match a with
    | ⟨0, _⟩ => rfl
    | ⟨1, _⟩ => rfl
    | ⟨2, _⟩ => rfl
  · match a with
    | ⟨0, _⟩ => rfl
    | ⟨1, _⟩ => rfl

/-! The six groups of 512 columns -/

theorem q_lane (b : Fin 8) (s : Fin 2048) (l : Fin 512) : val_main_v23 (F := Ideal) x g sh sc w (ix3 b s l) = lanesRef x g sh sc w b s 0 (by omega) l := by
  rw [val_main_v23_apply]
  refine Eq.trans (congrArg _ (funext fun a => Fin.ext ?_)) (dot_lane x g sh sc w b s ⟨0 + l.val, by omega⟩)
  match a with
  | ⟨0, _⟩ => rfl
  | ⟨1, _⟩ => rfl
  | ⟨2, _⟩ => first | rfl | (show l.val = 0 + l.val; omega)

theorem k_lane (b : Fin 8) (s : Fin 2048) (l : Fin 512) : val_main_v24 (F := Ideal) x g sh sc w (ix3 b s l) = lanesRef x g sh sc w b s 512 (by omega) l := by
  rw [val_main_v24_apply]
  refine Eq.trans (congrArg _ (funext fun a => Fin.ext ?_)) (dot_lane x g sh sc w b s ⟨512 + l.val, by omega⟩)
  match a with
  | ⟨0, _⟩ => rfl
  | ⟨1, _⟩ => rfl
  | ⟨2, _⟩ => first | rfl | (show l.val = 0 + l.val; omega)

theorem v_lane (b : Fin 8) (s : Fin 2048) (l : Fin 512) : val_main_v25 (F := Ideal) x g sh sc w (ix3 b s l) = lanesRef x g sh sc w b s 1024 (by omega) l := by
  rw [val_main_v25_apply]
  refine Eq.trans (congrArg _ (funext fun a => Fin.ext ?_)) (dot_lane x g sh sc w b s ⟨1024 + l.val, by omega⟩)
  match a with
  | ⟨0, _⟩ => rfl
  | ⟨1, _⟩ => rfl
  | ⟨2, _⟩ => first | rfl | (show l.val = 0 + l.val; omega)

theorem gb_lane (b : Fin 8) (s : Fin 2048) (l : Fin 512) : val_main_v26 (F := Ideal) x g sh sc w (ix3 b s l) = lanesRef x g sh sc w b s 1536 (by omega) l := by
  rw [val_main_v26_apply]
  refine Eq.trans (congrArg _ (funext fun a => Fin.ext ?_)) (dot_lane x g sh sc w b s ⟨1536 + l.val, by omega⟩)
  match a with
  | ⟨0, _⟩ => rfl
  | ⟨1, _⟩ => rfl
  | ⟨2, _⟩ => first | rfl | (show l.val = 0 + l.val; omega)

theorem z_lane (b : Fin 8) (s : Fin 2048) (l : Fin 512) : val_main_v27 (F := Ideal) x g sh sc w (ix3 b s l) = lanesRef x g sh sc w b s 2048 (by omega) l := by
  rw [val_main_v27_apply]
  refine Eq.trans (congrArg _ (funext fun a => Fin.ext ?_)) (dot_lane x g sh sc w b s ⟨2048 + l.val, by omega⟩)
  match a with
  | ⟨0, _⟩ => rfl
  | ⟨1, _⟩ => rfl
  | ⟨2, _⟩ => first | rfl | (show l.val = 0 + l.val; omega)

theorem u_lane (b : Fin 8) (s : Fin 2048) (l : Fin 512) : val_main_v28 (F := Ideal) x g sh sc w (ix3 b s l) = lanesRef x g sh sc w b s 2560 (by omega) l := by
  rw [val_main_v28_apply]
  refine Eq.trans (congrArg _ (funext fun a => Fin.ext ?_)) (dot_lane x g sh sc w b s ⟨2560 + l.val, by omega⟩)
  match a with
  | ⟨0, _⟩ => rfl
  | ⟨1, _⟩ => rfl
  | ⟨2, _⟩ => first | rfl | (show l.val = 0 + l.val; omega)

/-! The results that are not rotated -/

theorem idx102 (b : Fin 8) (s : Fin 2048) (l : Fin 512) : idx_main_v102 (ix2 (flat b s) l) = ix3 b s l := by
  refine funext fun a => Fin.ext ?_
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) % 512 = l.val; omega

theorem idx103 (b : Fin 8) (s : Fin 2048) (l : Fin 512) : idx_main_v103 (ix2 (flat b s) l) = ix3 b s l := by
  refine funext fun a => Fin.ext ?_
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) % 512 = l.val; omega

theorem idx105 (b : Fin 8) (s : Fin 2048) (l : Fin 512) : idx_main_v105 (ix2 (flat b s) l) = ix3 b s l := by
  refine funext fun a => Fin.ext ?_
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) % 512 = l.val; omega

/-- The values. -/
theorem values_lane (b : Fin 8) (s : Fin 2048) (l : Fin 512) : val_main_v108 (F := Ideal) x g sh sc w (ix2 (flat b s) l) = lanesRef x g sh sc w b s 1024 (by omega) l := by
  rw [val_main_v108_apply, val_main_v102_apply, idx102, v_lane]
  rfl

/-- The gates. -/
theorem gates_lane (b : Fin 8) (s : Fin 2048) (l : Fin 512) : val_main_v109 (F := Ideal) x g sh sc w (ix2 (flat b s) l) = lanesRef x g sh sc w b s 1536 (by omega) l := by
  rw [val_main_v109_apply, val_main_v103_apply, idx103, gb_lane]
  rfl

/-- The product of the last two groups. -/
theorem gated_lane (b : Fin 8) (s : Fin 2048) (l : Fin 512) : val_main_v110 (F := Ideal) x g sh sc w (ix2 (flat b s) l)
    = lanesRef x g sh sc w b s 2048 (by omega) l * lanesRef x g sh sc w b s 2560 (by omega) l := by
  rw [val_main_v110_apply, val_main_v105_apply, idx105, val_main_v104_apply, z_lane, u_lane]
  rfl

end Cert.Proof.InprojRef

end
-- ==== Proof.InprojTurn.lean ====
/- What the reference of the latent tokens' projection computes of the queries and the keys: the heads' normalization and the rotation. -/
module

public import proofs.«01_k».proof.Proof.Gen.InprojReferenceIdeal.Read
public import proofs.«01_k».proof.Proof.InprojMath
public import Idealize.ShloMosaic.Lib.Pointwise
public import proofs.«01_k».proof.Proof.InprojRef

@[expose] public section

set_option maxRecDepth 16384

noncomputable section

namespace Cert.Proof.InprojTurn

open Idealize.ShloMosaic Idealize.ShloMosaic.TcCoe Idealize.SL.Sem
open Cert.InprojReferenceIdeal Cert.InprojReferenceIdeal.Gen Cert.InprojReferenceIdeal.Read Cert.Proof.FfnMath Cert.Proof.InprojMath Cert.Proof.InprojRef

variable (x : FVec Ideal S16384x1024 .f32) (g : FVec Ideal S1x1024 .f32) (sh sc : FVec Ideal S8x1x1024 .f32) (w : FVec Ideal S1024x3072 .bf16)
  (qg kg : FVec Ideal S1x256 .f32) (cos up down : FVec Ideal S2048x128 .f32)

/-- Lane d of the n-th head of the k-th pair of heads, among 512. -/
def at_ (k : Fin 4) (n : Fin 2) (d : Fin 64) : Fin 512 := ⟨(k.val * 2 + n.val) * 64 + d.val, by omega⟩

/-- The rotation in the form of the reference: minus the upper partner, or the lower one, times the difference of the two tables. -/
theorem turned_form (t : Fin 512 → EReal) (c u v : Fin 128 → EReal) (hd : ∀ j : Fin 128, j.val % 32 < 16 → v j = 0) (hu : ∀ j : Fin 128, ¬ j.val % 32 < 16 → u j = 0) (l : Fin 512) :
    t l * c ⟨l.val % 128, by omega⟩ + (if l.val % 32 < 16 then -t ⟨(l.val + 16) % 512, by omega⟩ else t ⟨(l.val + 496) % 512, by omega⟩)
        * (v ⟨l.val % 128, by omega⟩ - u ⟨l.val % 128, by omega⟩) = turned t c u v l := by
  unfold turned
  have m : l.val % 128 % 32 = l.val % 32 := by omega
  by_cases h : l.val % 32 < 16
  · rw [if_pos h, if_pos h, hd _ (by show l.val % 128 % 32 < 16; omega), zero_sub, neg_mul_neg]
  · rw [if_neg h, if_neg h, hu _ (by show ¬ l.val % 128 % 32 < 16; omega), sub_zero]

/-- Both parts of the rotation's table of cosines and of sines at a lane. -/
theorem cos_idx (s : Fin 2048) (n : Fin 2) (d : Fin 64) : idx_main_v29 (ix4 s 0 n d) = ix2 s (⟨n.val * 64 + d.val, by omega⟩ : Fin 128) := by
  refine funext fun a => Fin.ext ?_
  match a with
  | ⟨0, _⟩ => show (((s.val * 1 + 0) * 2 + n.val) * 64 + d.val) / 128 = s.val; omega
  | ⟨1, _⟩ => show (((s.val * 1 + 0) * 2 + n.val) * 64 + d.val) % 128 = n.val * 64 + d.val; omega

theorem sin_idx (s : Fin 2048) (n : Fin 2) (d : Fin 64) : idx_main_v31 (ix4 s 0 n d) = ix2 s (⟨n.val * 64 + d.val, by omega⟩ : Fin 128) := cos_idx s n d

/-- Four pieces of 16 lanes side by side, at a lane. -/
theorem four_at (p0 p1 p2 p3 : FVec Ideal S8x2048x4x2x16 .f32) (h) (b : Fin 8) (s : Fin 2048) (k : Fin 4) (n : Fin 2) (d : Fin 64) (z : EReal)
    (h0 : ∀ e : Fin 16, d.val = 0 + e.val → p0 (ix5 b s k n e) = z) (h1 : ∀ e : Fin 16, d.val = 16 + e.val → p1 (ix5 b s k n e) = z)
    (h2 : ∀ e : Fin 16, d.val = 32 + e.val → p2 (ix5 b s k n e) = z) (h3 : ∀ e : Fin 16, d.val = 48 + e.val → p3 (ix5 b s k n e) = z) :
    concatenate S8x2048x4x2x64 4 [⟨S8x2048x4x2x16, p0⟩, ⟨S8x2048x4x2x16, p1⟩, ⟨S8x2048x4x2x16, p2⟩, ⟨S8x2048x4x2x16, p3⟩] h (ix5 b s k n d) = z := by
  have key : ∀ (q : ℕ) (hq : q < 4) (e : Fin 16) (hx : d.val = 16 * q + e.val) (p : FVec Ideal S8x2048x4x2x16 .f32)
      (hp : [(⟨S8x2048x4x2x16, p0⟩ : (s : Shape) × (s.Idx → EReal)), ⟨S8x2048x4x2x16, p1⟩, ⟨S8x2048x4x2x16, p2⟩, ⟨S8x2048x4x2x16, p3⟩][q] = ⟨S8x2048x4x2x16, p⟩)
      (hs : ((([(⟨S8x2048x4x2x16, p0⟩ : (s : Shape) × (s.Idx → EReal)), ⟨S8x2048x4x2x16, p1⟩, ⟨S8x2048x4x2x16, p2⟩, ⟨S8x2048x4x2x16, p3⟩].take q).map (·.1)).map
        fun s => if h : s.rank = S8x2048x4x2x64.rank then s.size ((4 : Fin 5).cast h.symm) else 0).sum = 16 * q),
      concatenate S8x2048x4x2x64 4 [⟨S8x2048x4x2x16, p0⟩, ⟨S8x2048x4x2x16, p1⟩, ⟨S8x2048x4x2x16, p2⟩, ⟨S8x2048x4x2x16, p3⟩] h (ix5 b s k n d) = p (ix5 b s k n e) :=
    fun q hq e hx p hp hs => concatenate_apply_piece _ _ h _ q hq S8x2048x4x2x16 p hp rfl (16 * q) hs (ix5 b s k n e) (fun a ha => match a with
      | ⟨0, _⟩ => rfl
      | ⟨1, _⟩ => rfl
      | ⟨2, _⟩ => rfl
      | ⟨3, _⟩ => rfl
      | ⟨4, _⟩ => absurd rfl ha) hx.symm
  have hd := d.isLt
  by_cases c1 : d.val < 16
  · exact (key 0 (by omega) ⟨d.val, c1⟩ (by show d.val = 0 + d.val; omega) p0 rfl rfl).trans (h0 _ (by show d.val = 0 + d.val; omega))
  by_cases c2 : d.val < 32
  · exact (key 1 (by omega) ⟨d.val - 16, by omega⟩ (by show d.val = 16 + (d.val - 16); omega) p1 rfl rfl).trans (h1 _ (by show d.val = 16 + (d.val - 16); omega))
  by_cases c3 : d.val < 48
  · exact (key 2 (by omega) ⟨d.val - 32, by omega⟩ (by show d.val = 32 + (d.val - 32); omega) p2 rfl rfl).trans (h2 _ (by show d.val = 32 + (d.val - 32); omega))
  · exact (key 3 (by omega) ⟨d.val - 48, by omega⟩ (by show d.val = 48 + (d.val - 48); omega) p3 rfl rfl).trans (h3 _ (by show d.val = 48 + (d.val - 48); omega))

/-! The queries -/

theorem queries_split (b : Fin 8) (s : Fin 2048) (k : Fin 4) (n : Fin 2) (d : Fin 64) : val_main_v32 (F := Ideal) x g sh sc w (ix5 b s k n d) = lanesRef x g sh sc w b s 0 (by omega) (at_ k n d) := by
  rw [val_main_v32_apply]
  refine Eq.trans (congrArg _ (funext fun a => Fin.ext ?_)) (q_lane x g sh sc w b s (at_ k n d))
  match a with
  | ⟨0, _⟩ => show ((((b.val * 2048 + s.val) * 4 + k.val) * 2 + n.val) * 64 + d.val) / 1048576 = b.val; omega
  | ⟨1, _⟩ => show ((((b.val * 2048 + s.val) * 4 + k.val) * 2 + n.val) * 64 + d.val) / 512 % 2048 = s.val; omega
  | ⟨2, _⟩ => show ((((b.val * 2048 + s.val) * 4 + k.val) * 2 + n.val) * 64 + d.val) % 512 = (k.val * 2 + n.val) * 64 + d.val; omega

/-- The sum of squares of a head. -/
theorem queries_squares (b : Fin 8) (s : Fin 2048) (k : Fin 4) (n : Fin 2) : val_main_v34 (F := Ideal) x g sh sc w (ix4 b s k n)
    = ∑ d : Fin 64, lanesRef x g sh sc w b s 0 (by omega) (at_ k n d) * lanesRef x g sh sc w b s 0 (by omega) (at_ k n d) := by
  rw [val_main_v34_apply, show val_main_cst_3 (F := Ideal) _ = 0 by pointwise [val_main_cst_3], zero_add]
  refine Finset.sum_congr rfl fun y _ => ?_
  rw [val_main_v33_apply, show idx_main_v34 (ix4 b s k n) y = ix5 b s k n y from funext fun a => match a with
    | ⟨0, _⟩ => rfl
    | ⟨1, _⟩ => rfl
    | ⟨2, _⟩ => rfl
    | ⟨3, _⟩ => rfl
    | ⟨4, _⟩ => rfl, queries_split]
  rfl

/-- The gain of a lane. -/
theorem queries_gain (b : Fin 8) (s : Fin 2048) (k : Fin 4) (n : Fin 2) (d : Fin 64) : val_main_v49 (F := Ideal) qg (ix5 b s k n d) = qg (ix2 0 ⟨(at_ k n d).val % 256, by omega⟩) := by
  rw [val_main_v49_apply, val_main_v48_apply, val_main_v47_apply, val_main_v46_apply, val_main_v45_apply, val_main_v44_apply, val_main_v43_apply]
  refine congrArg qg (funext fun a => Fin.ext ?_)
  match a with
  | ⟨0, _⟩ => rfl
  | ⟨1, _⟩ => show (0 * 256 + ((k.val * 2 + n.val) * 64 + d.val) % 256) % 256 = ((k.val * 2 + n.val) * 64 + d.val) % 256; omega

/-- A normalized lane. -/
theorem queries_heads (b : Fin 8) (s : Fin 2048) (k : Fin 4) (n : Fin 2) (d : Fin 64) : val_main_v50 (F := Ideal) x g sh sc w qg (ix5 b s k n d) = heads (lanesRef x g sh sc w b s 0 (by omega)) (fun j => qg (ix2 0 j)) (at_ k n d) := by
  rw [val_main_v50_apply, queries_gain, val_main_v42_apply, val_main_v41_apply, val_main_v40_apply, val_main_v39_apply, val_main_v38_apply, val_main_v37_apply, val_main_v36_apply, val_main_v35_apply, queries_split]
  unfold heads normed
  have e : ∀ y : Fin 64, (⟨64 * ((at_ k n d).val / 64) + y.val, by omega⟩ : Fin 512) = at_ k n y := fun y =>
    Fin.ext (by show 64 * (((k.val * 2 + n.val) * 64 + d.val) / 64) + y.val = (k.val * 2 + n.val) * 64 + y.val; omega)
  refine congrArg (· * _) (congrArg (_ * ·) (congrArg Ideal.rsqrt (congrArg₂ (· + ·) (congrArg₂ Ideal.div ((congrArg _ (show _ = ix4 b s k n from funext fun a => ?_)).trans
    ((queries_squares x g sh sc w b s k n).trans (Finset.sum_congr rfl fun y _ => congrArg₂ (· * ·) (congrArg _ (e y).symm) (congrArg _ (e y).symm)))) ?_) ?_)))
  · match a with
    | ⟨0, _⟩ => rfl
    | ⟨1, _⟩ => rfl
    | ⟨2, _⟩ => rfl
    | ⟨3, _⟩ => rfl
  · rfl
  · rfl

/-- The partner of a lane. -/
theorem queries_partner (b : Fin 8) (s : Fin 2048) (k : Fin 4) (n : Fin 2) (d : Fin 64) : val_main_v60 (F := Ideal) x g sh sc w qg (ix5 b s k n d)
    = (if (at_ k n d).val % 32 < 16 then -(heads (lanesRef x g sh sc w b s 0 (by omega)) (fun j => qg (ix2 0 j))) ⟨((at_ k n d).val + 16) % 512, by omega⟩ else (heads (lanesRef x g sh sc w b s 0 (by omega)) (fun j => qg (ix2 0 j))) ⟨((at_ k n d).val + 496) % 512, by omega⟩) := by
  have hv : (at_ k n d).val = (k.val * 2 + n.val) * 64 + d.val := rfl
  unfold val_main_v60
  refine four_at _ _ _ _ _ b s k n d _ (fun e he => ?_) (fun e he => ?_) (fun e he => ?_) (fun e he => ?_)
  · rw [if_pos (by omega), val_main_v58_apply, val_main_v52_apply]
    refine congrArg (fun z : EReal => -z) ((congrArg _ (funext fun a => ?_)).trans ((queries_heads x g sh sc w qg b s k n ⟨16 + e.val, by omega⟩).trans
      (congrArg _ (Fin.ext (by show (k.val * 2 + n.val) * 64 + (16 + e.val) = ((at_ k n d).val + 16) % 512; omega)))))
    match a with
    | ⟨0, _⟩ => rfl
    | ⟨1, _⟩ => rfl
    | ⟨2, _⟩ => rfl
    | ⟨3, _⟩ => rfl
    | ⟨4, _⟩ => rfl
  · rw [if_neg (by omega), val_main_v51_apply]
    refine (congrArg _ (funext fun a => ?_)).trans ((queries_heads x g sh sc w qg b s k n ⟨e.val, by omega⟩).trans
      (congrArg _ (Fin.ext (by show (k.val * 2 + n.val) * 64 + e.val = ((at_ k n d).val + 496) % 512; omega))))
    match a with
    | ⟨0, _⟩ => rfl
    | ⟨1, _⟩ => rfl
    | ⟨2, _⟩ => rfl
    | ⟨3, _⟩ => rfl
    | ⟨4, _⟩ => rfl
  · rw [if_pos (by omega), val_main_v59_apply, val_main_v54_apply]
    refine congrArg (fun z : EReal => -z) ((congrArg _ (funext fun a => ?_)).trans ((queries_heads x g sh sc w qg b s k n ⟨48 + e.val, by omega⟩).trans
      (congrArg _ (Fin.ext (by show (k.val * 2 + n.val) * 64 + (48 + e.val) = ((at_ k n d).val + 16) % 512; omega)))))
    match a with
    | ⟨0, _⟩ => rfl
    | ⟨1, _⟩ => rfl
    | ⟨2, _⟩ => rfl
    | ⟨3, _⟩ => rfl
    | ⟨4, _⟩ => rfl
  · rw [if_neg (by omega), val_main_v53_apply]
    refine (congrArg _ (funext fun a => ?_)).trans ((queries_heads x g sh sc w qg b s k n ⟨32 + e.val, by omega⟩).trans
      (congrArg _ (Fin.ext (by show (k.val * 2 + n.val) * 64 + (32 + e.val) = ((at_ k n d).val + 496) % 512; omega))))
    match a with
    | ⟨0, _⟩ => rfl
    | ⟨1, _⟩ => rfl
    | ⟨2, _⟩ => rfl
    | ⟨3, _⟩ => rfl
    | ⟨4, _⟩ => rfl

theorem queries_cos (b : Fin 8) (s : Fin 2048) (k : Fin 4) (n : Fin 2) (d : Fin 64) : val_main_v56 (F := Ideal) cos (ix5 b s k n d) = cos (ix2 s ⟨(at_ k n d).val % 128, by omega⟩) := by
  rw [val_main_v56_apply, val_main_v55_apply, val_main_v29_apply]
  refine congrArg cos ((congrArg idx_main_v29 (show _ = ix4 s 0 n d from funext fun a => ?_)).trans ((cos_idx s n d).trans (congrArg (ix2 s) (Fin.ext (by show n.val * 64 + d.val = ((k.val * 2 + n.val) * 64 + d.val) % 128; omega)))))
  match a with
    | ⟨0, _⟩ => rfl
    | ⟨1, _⟩ => rfl
    | ⟨2, _⟩ => rfl
    | ⟨3, _⟩ => rfl

theorem queries_sin (b : Fin 8) (s : Fin 2048) (k : Fin 4) (n : Fin 2) (d : Fin 64) : val_main_v62 (F := Ideal) up down (ix5 b s k n d)
    = (down (ix2 s ⟨(at_ k n d).val % 128, by omega⟩) - up (ix2 s ⟨(at_ k n d).val % 128, by omega⟩) : EReal) := by
  rw [val_main_v62_apply, val_main_v61_apply, val_main_v31_apply]
  refine Eq.trans (congrArg (val_main_v30 (F := Ideal) up down) ((congrArg idx_main_v31 (show _ = ix4 s 0 n d from funext fun a => ?_)).trans ((sin_idx s n d).trans (congrArg (ix2 s) (Fin.ext (by show n.val * 64 + d.val = ((k.val * 2 + n.val) * 64 + d.val) % 128; omega)))))) rfl
  match a with
    | ⟨0, _⟩ => rfl
    | ⟨1, _⟩ => rfl
    | ⟨2, _⟩ => rfl
    | ⟨3, _⟩ => rfl

/-- A rotated lane. -/
theorem queries_turned (hd : ∀ s (j : Fin 128), j.val % 32 < 16 → down (ix2 s j) = 0) (hu : ∀ s (j : Fin 128), ¬ j.val % 32 < 16 → up (ix2 s j) = 0)
    (b : Fin 8) (s : Fin 2048) (k : Fin 4) (n : Fin 2) (d : Fin 64) : val_main_v64 (F := Ideal) x g sh sc w qg cos up down (ix5 b s k n d)
    = turned (heads (lanesRef x g sh sc w b s 0 (by omega)) (fun j => qg (ix2 0 j))) (fun j => cos (ix2 s j)) (fun j => up (ix2 s j)) (fun j => down (ix2 s j)) (at_ k n d) := by
  rw [val_main_v64_apply, val_main_v63_apply, val_main_v57_apply, queries_partner, queries_heads, queries_cos, queries_sin]
  exact turned_form _ (fun j => cos (ix2 s j)) (fun j => up (ix2 s j)) (fun j => down (ix2 s j)) (hd s) (hu s) _

/-- A rotated lane, in the array of all rows. -/
theorem queries_row (hd : ∀ s (j : Fin 128), j.val % 32 < 16 → down (ix2 s j) = 0) (hu : ∀ s (j : Fin 128), ¬ j.val % 32 < 16 → up (ix2 s j) = 0)
    (b : Fin 8) (s : Fin 2048) (l : Fin 512) : val_main_v65 (F := Ideal) x g sh sc w qg cos up down (ix2 (flat b s) l)
    = turned (heads (lanesRef x g sh sc w b s 0 (by omega)) (fun j => qg (ix2 0 j))) (fun j => cos (ix2 s j)) (fun j => up (ix2 s j)) (fun j => down (ix2 s j)) l := by
  rw [val_main_v65_apply]
  refine Eq.trans (congrArg _ (funext fun a => Fin.ext ?_)) ((queries_turned x g sh sc w qg cos up down hd hu b s ⟨l.val / 128, by omega⟩ ⟨l.val / 64 % 2, by omega⟩ ⟨l.val % 64, by omega⟩).trans
    (congrArg _ (Fin.ext (by show (l.val / 128 * 2 + l.val / 64 % 2) * 64 + l.val % 64 = l.val; omega))))
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) / 128 % 4 = l.val / 128; omega
  | ⟨3, _⟩ => show ((b.val * 2048 + s.val) * 512 + l.val) / 64 % 2 = l.val / 64 % 2; omega
  | ⟨4, _⟩ => show ((b.val * 2048 + s.val) * 512 + l.val) % 64 = l.val % 64; omega

/-! The keys -/

theorem keys_split (b : Fin 8) (s : Fin 2048) (k : Fin 4) (n : Fin 2) (d : Fin 64) : val_main_v68 (F := Ideal) x g sh sc w (ix5 b s k n d) = lanesRef x g sh sc w b s 512 (by omega) (at_ k n d) := by
  rw [val_main_v68_apply]
  refine Eq.trans (congrArg _ (funext fun a => Fin.ext ?_)) (k_lane x g sh sc w b s (at_ k n d))
  match a with
  | ⟨0, _⟩ => show ((((b.val * 2048 + s.val) * 4 + k.val) * 2 + n.val) * 64 + d.val) / 1048576 = b.val; omega
  | ⟨1, _⟩ => show ((((b.val * 2048 + s.val) * 4 + k.val) * 2 + n.val) * 64 + d.val) / 512 % 2048 = s.val; omega
  | ⟨2, _⟩ => show ((((b.val * 2048 + s.val) * 4 + k.val) * 2 + n.val) * 64 + d.val) % 512 = (k.val * 2 + n.val) * 64 + d.val; omega

/-- The sum of squares of a head. -/
theorem keys_squares (b : Fin 8) (s : Fin 2048) (k : Fin 4) (n : Fin 2) : val_main_v70 (F := Ideal) x g sh sc w (ix4 b s k n)
    = ∑ d : Fin 64, lanesRef x g sh sc w b s 512 (by omega) (at_ k n d) * lanesRef x g sh sc w b s 512 (by omega) (at_ k n d) := by
  rw [val_main_v70_apply, show val_main_cst_7 (F := Ideal) _ = 0 by pointwise [val_main_cst_7], zero_add]
  refine Finset.sum_congr rfl fun y _ => ?_
  rw [val_main_v69_apply, show idx_main_v70 (ix4 b s k n) y = ix5 b s k n y from funext fun a => match a with
    | ⟨0, _⟩ => rfl
    | ⟨1, _⟩ => rfl
    | ⟨2, _⟩ => rfl
    | ⟨3, _⟩ => rfl
    | ⟨4, _⟩ => rfl, keys_split]
  rfl

/-- The gain of a lane. -/
theorem keys_gain (b : Fin 8) (s : Fin 2048) (k : Fin 4) (n : Fin 2) (d : Fin 64) : val_main_v85 (F := Ideal) kg (ix5 b s k n d) = kg (ix2 0 ⟨(at_ k n d).val % 256, by omega⟩) := by
  rw [val_main_v85_apply, val_main_v84_apply, val_main_v83_apply, val_main_v82_apply, val_main_v81_apply, val_main_v80_apply, val_main_v79_apply]
  refine congrArg kg (funext fun a => Fin.ext ?_)
  match a with
  | ⟨0, _⟩ => rfl
  | ⟨1, _⟩ => show (0 * 256 + ((k.val * 2 + n.val) * 64 + d.val) % 256) % 256 = ((k.val * 2 + n.val) * 64 + d.val) % 256; omega

/-- A normalized lane. -/
theorem keys_heads (b : Fin 8) (s : Fin 2048) (k : Fin 4) (n : Fin 2) (d : Fin 64) : val_main_v86 (F := Ideal) x g sh sc w kg (ix5 b s k n d) = heads (lanesRef x g sh sc w b s 512 (by omega)) (fun j => kg (ix2 0 j)) (at_ k n d) := by
  rw [val_main_v86_apply, keys_gain, val_main_v78_apply, val_main_v77_apply, val_main_v76_apply, val_main_v75_apply, val_main_v74_apply, val_main_v73_apply, val_main_v72_apply, val_main_v71_apply, keys_split]
  unfold heads normed
  have e : ∀ y : Fin 64, (⟨64 * ((at_ k n d).val / 64) + y.val, by omega⟩ : Fin 512) = at_ k n y := fun y =>
    Fin.ext (by show 64 * (((k.val * 2 + n.val) * 64 + d.val) / 64) + y.val = (k.val * 2 + n.val) * 64 + y.val; omega)
  refine congrArg (· * _) (congrArg (_ * ·) (congrArg Ideal.rsqrt (congrArg₂ (· + ·) (congrArg₂ Ideal.div ((congrArg _ (show _ = ix4 b s k n from funext fun a => ?_)).trans
    ((keys_squares x g sh sc w b s k n).trans (Finset.sum_congr rfl fun y _ => congrArg₂ (· * ·) (congrArg _ (e y).symm) (congrArg _ (e y).symm)))) ?_) ?_)))
  · match a with
    | ⟨0, _⟩ => rfl
    | ⟨1, _⟩ => rfl
    | ⟨2, _⟩ => rfl
    | ⟨3, _⟩ => rfl
  · rfl
  · rfl

/-- The partner of a lane. -/
theorem keys_partner (b : Fin 8) (s : Fin 2048) (k : Fin 4) (n : Fin 2) (d : Fin 64) : val_main_v96 (F := Ideal) x g sh sc w kg (ix5 b s k n d)
    = (if (at_ k n d).val % 32 < 16 then -(heads (lanesRef x g sh sc w b s 512 (by omega)) (fun j => kg (ix2 0 j))) ⟨((at_ k n d).val + 16) % 512, by omega⟩ else (heads (lanesRef x g sh sc w b s 512 (by omega)) (fun j => kg (ix2 0 j))) ⟨((at_ k n d).val + 496) % 512, by omega⟩) := by
  have hv : (at_ k n d).val = (k.val * 2 + n.val) * 64 + d.val := rfl
  unfold val_main_v96
  refine four_at _ _ _ _ _ b s k n d _ (fun e he => ?_) (fun e he => ?_) (fun e he => ?_) (fun e he => ?_)
  · rw [if_pos (by omega), val_main_v94_apply, val_main_v88_apply]
    refine congrArg (fun z : EReal => -z) ((congrArg _ (funext fun a => ?_)).trans ((keys_heads x g sh sc w kg b s k n ⟨16 + e.val, by omega⟩).trans
      (congrArg _ (Fin.ext (by show (k.val * 2 + n.val) * 64 + (16 + e.val) = ((at_ k n d).val + 16) % 512; omega)))))
    match a with
    | ⟨0, _⟩ => rfl
    | ⟨1, _⟩ => rfl
    | ⟨2, _⟩ => rfl
    | ⟨3, _⟩ => rfl
    | ⟨4, _⟩ => rfl
  · rw [if_neg (by omega), val_main_v87_apply]
    refine (congrArg _ (funext fun a => ?_)).trans ((keys_heads x g sh sc w kg b s k n ⟨e.val, by omega⟩).trans
      (congrArg _ (Fin.ext (by show (k.val * 2 + n.val) * 64 + e.val = ((at_ k n d).val + 496) % 512; omega))))
    match a with
    | ⟨0, _⟩ => rfl
    | ⟨1, _⟩ => rfl
    | ⟨2, _⟩ => rfl
    | ⟨3, _⟩ => rfl
    | ⟨4, _⟩ => rfl
  · rw [if_pos (by omega), val_main_v95_apply, val_main_v90_apply]
    refine congrArg (fun z : EReal => -z) ((congrArg _ (funext fun a => ?_)).trans ((keys_heads x g sh sc w kg b s k n ⟨48 + e.val, by omega⟩).trans
      (congrArg _ (Fin.ext (by show (k.val * 2 + n.val) * 64 + (48 + e.val) = ((at_ k n d).val + 16) % 512; omega)))))
    match a with
    | ⟨0, _⟩ => rfl
    | ⟨1, _⟩ => rfl
    | ⟨2, _⟩ => rfl
    | ⟨3, _⟩ => rfl
    | ⟨4, _⟩ => rfl
  · rw [if_neg (by omega), val_main_v89_apply]
    refine (congrArg _ (funext fun a => ?_)).trans ((keys_heads x g sh sc w kg b s k n ⟨32 + e.val, by omega⟩).trans
      (congrArg _ (Fin.ext (by show (k.val * 2 + n.val) * 64 + (32 + e.val) = ((at_ k n d).val + 496) % 512; omega))))
    match a with
    | ⟨0, _⟩ => rfl
    | ⟨1, _⟩ => rfl
    | ⟨2, _⟩ => rfl
    | ⟨3, _⟩ => rfl
    | ⟨4, _⟩ => rfl

theorem keys_cos (b : Fin 8) (s : Fin 2048) (k : Fin 4) (n : Fin 2) (d : Fin 64) : val_main_v92 (F := Ideal) cos (ix5 b s k n d) = cos (ix2 s ⟨(at_ k n d).val % 128, by omega⟩) := by
  rw [val_main_v92_apply, val_main_v91_apply, val_main_v29_apply]
  refine congrArg cos ((congrArg idx_main_v29 (show _ = ix4 s 0 n d from funext fun a => ?_)).trans ((cos_idx s n d).trans (congrArg (ix2 s) (Fin.ext (by show n.val * 64 + d.val = ((k.val * 2 + n.val) * 64 + d.val) % 128; omega)))))
  match a with
    | ⟨0, _⟩ => rfl
    | ⟨1, _⟩ => rfl
    | ⟨2, _⟩ => rfl
    | ⟨3, _⟩ => rfl

theorem keys_sin (b : Fin 8) (s : Fin 2048) (k : Fin 4) (n : Fin 2) (d : Fin 64) : val_main_v98 (F := Ideal) up down (ix5 b s k n d)
    = (down (ix2 s ⟨(at_ k n d).val % 128, by omega⟩) - up (ix2 s ⟨(at_ k n d).val % 128, by omega⟩) : EReal) := by
  rw [val_main_v98_apply, val_main_v97_apply, val_main_v31_apply]
  refine Eq.trans (congrArg (val_main_v30 (F := Ideal) up down) ((congrArg idx_main_v31 (show _ = ix4 s 0 n d from funext fun a => ?_)).trans ((sin_idx s n d).trans (congrArg (ix2 s) (Fin.ext (by show n.val * 64 + d.val = ((k.val * 2 + n.val) * 64 + d.val) % 128; omega)))))) rfl
  match a with
    | ⟨0, _⟩ => rfl
    | ⟨1, _⟩ => rfl
    | ⟨2, _⟩ => rfl
    | ⟨3, _⟩ => rfl

/-- A rotated lane. -/
theorem keys_turned (hd : ∀ s (j : Fin 128), j.val % 32 < 16 → down (ix2 s j) = 0) (hu : ∀ s (j : Fin 128), ¬ j.val % 32 < 16 → up (ix2 s j) = 0)
    (b : Fin 8) (s : Fin 2048) (k : Fin 4) (n : Fin 2) (d : Fin 64) : val_main_v100 (F := Ideal) x g sh sc w kg cos up down (ix5 b s k n d)
    = turned (heads (lanesRef x g sh sc w b s 512 (by omega)) (fun j => kg (ix2 0 j))) (fun j => cos (ix2 s j)) (fun j => up (ix2 s j)) (fun j => down (ix2 s j)) (at_ k n d) := by
  rw [val_main_v100_apply, val_main_v99_apply, val_main_v93_apply, keys_partner, keys_heads, keys_cos, keys_sin]
  exact turned_form _ (fun j => cos (ix2 s j)) (fun j => up (ix2 s j)) (fun j => down (ix2 s j)) (hd s) (hu s) _

/-- A rotated lane, in the array of all rows. -/
theorem keys_row (hd : ∀ s (j : Fin 128), j.val % 32 < 16 → down (ix2 s j) = 0) (hu : ∀ s (j : Fin 128), ¬ j.val % 32 < 16 → up (ix2 s j) = 0)
    (b : Fin 8) (s : Fin 2048) (l : Fin 512) : val_main_v101 (F := Ideal) x g sh sc w kg cos up down (ix2 (flat b s) l)
    = turned (heads (lanesRef x g sh sc w b s 512 (by omega)) (fun j => kg (ix2 0 j))) (fun j => cos (ix2 s j)) (fun j => up (ix2 s j)) (fun j => down (ix2 s j)) l := by
  rw [val_main_v101_apply]
  refine Eq.trans (congrArg _ (funext fun a => Fin.ext ?_)) ((keys_turned x g sh sc w kg cos up down hd hu b s ⟨l.val / 128, by omega⟩ ⟨l.val / 64 % 2, by omega⟩ ⟨l.val % 64, by omega⟩).trans
    (congrArg _ (Fin.ext (by show (l.val / 128 * 2 + l.val / 64 % 2) * 64 + l.val % 64 = l.val; omega))))
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) / 128 % 4 = l.val / 128; omega
  | ⟨3, _⟩ => show ((b.val * 2048 + s.val) * 512 + l.val) / 64 % 2 = l.val / 64 % 2; omega
  | ⟨4, _⟩ => show ((b.val * 2048 + s.val) * 512 + l.val) % 64 = l.val % 64; omega

/-- The queries: an eighth of the rotated lanes. -/
theorem queries_lane (hd : ∀ s (j : Fin 128), j.val % 32 < 16 → down (ix2 s j) = 0) (hu : ∀ s (j : Fin 128), ¬ j.val % 32 < 16 → up (ix2 s j) = 0)
    (b : Fin 8) (s : Fin 2048) (l : Fin 512) : val_main_v106 (F := Ideal) x g sh sc w qg cos up down (ix2 (flat b s) l)
    = turned (heads (lanesRef x g sh sc w b s 0 (by omega)) (fun j => qg (ix2 0 j))) (fun j => cos (ix2 s j)) (fun j => up (ix2 s j)) (fun j => down (ix2 s j)) l
      * Ideal.ofBits .f32 0x3E000000#32 := by
  rw [val_main_v106_apply, val_main_v67_apply, val_main_v66_apply, queries_row x g sh sc w qg cos up down hd hu]
  rfl

/-- The keys: the rotated lanes. -/
theorem keys_lane (hd : ∀ s (j : Fin 128), j.val % 32 < 16 → down (ix2 s j) = 0) (hu : ∀ s (j : Fin 128), ¬ j.val % 32 < 16 → up (ix2 s j) = 0)
    (b : Fin 8) (s : Fin 2048) (l : Fin 512) : val_main_v107 (F := Ideal) x g sh sc w kg cos up down (ix2 (flat b s) l)
    = turned (heads (lanesRef x g sh sc w b s 512 (by omega)) (fun j => kg (ix2 0 j))) (fun j => cos (ix2 s j)) (fun j => up (ix2 s j)) (fun j => down (ix2 s j)) l := by
  rw [val_main_v107_apply, keys_row x g sh sc w kg cos up down hd hu]
  rfl

end Cert.Proof.InprojTurn

end
-- ==== Proof.InprojPre.lean ====
/- What the precondition of the latent tokens' projection says: the block of ones has a one where both lanes lie in the
   same head, and of the two tables of sines one is zero at each lane. -/
module

public import proofs.«01_k».proof.Pre_tables_of_heads
public import Idealize.ShloMosaic.Lib.Pointwise

@[expose] public section

set_option maxRecDepth 16384

noncomputable section

namespace Cert.Proof.InprojPre

open Idealize.ShloMosaic Idealize.ShloMosaic.TcCoe Idealize.SL.Sem

/-- Two numbers that compare as equal are equal. -/
theorem equal_of (x y : EReal) (h : FloatOps.cmpf (F := Ideal) (φ := .f32) .oeq x y = 1#1) : x = y := by
  by_contra n
  exact absurd h (by simp [FloatOps.cmpf, Ideal.cmp, n])

/-- The head of a lane below 256, by a shift. -/
theorem head_word : ∀ k : Fin 256, IntOp.shrsi (w := 32) .host (BitVec.ofNat 32 k.val) 6#32 = BitVec.ofNat 32 (k.val / 64) := by decide +kernel

/-- Two heads are the same word if they are the same number. -/
theorem same_word : ∀ a b : Fin 4, IntOp.cmpi .eq (BitVec.ofNat 32 a.val) (BitVec.ofNat 32 b.val) = if a.val = b.val then 1#1 else 0#1 := by decide +kernel

/-- The half of its 32 lanes that a lane below 128 lies in, by one bit. -/
theorem half_word : ∀ j : Fin 128, IntOp.cmpi .eq (IntOp.andi (BitVec.ofNat 32 j.val) 16#32) 0#32 = if j.val % 32 < 16 then 1#1 else 0#1 := by decide +kernel

variable [hp : Cert.Pre_tables_of_heads.Facts]
variable (a0 : FVec Ideal Cert.Pre_tables_of_heads.S16384x1024 .f32) (a1 : FVec Ideal Cert.Pre_tables_of_heads.S1x1024 .f32)
  (a2 a3 : FVec Ideal Cert.Pre_tables_of_heads.S8x1x1024 .f32) (a4 : FVec Ideal Cert.Pre_tables_of_heads.S1024x3072 .bf16)
  (a5 : FVec Ideal Cert.Pre_tables_of_heads.S256x256 .bf16) (a6 a7 : FVec Ideal Cert.Pre_tables_of_heads.S1x256 .f32)
  (a8 a9 a10 : FVec Ideal Cert.Pre_tables_of_heads.S2048x128 .f32)

/-- The first part at a pair of lanes. -/
theorem ones_bit (k j : Fin 256) : (Cert.Pre_tables_of_heads.fn (F := Ideal) a0 a1 a2 a3 a4 a5 a6 a7 a8 a9 a10).1 (ix2 k j)
    = FloatOps.cmpf (F := Ideal) (φ := .f32) .oeq (a5 (ix2 k j)) (FloatOps.uitofp (F := Ideal) .f32
        (IntOp.cmpi .eq (IntOp.shrsi .host (BitVec.ofNat 32 k.val) 6#32) (IntOp.shrsi .host (BitVec.ofNat 32 j.val) 6#32))) := by
  unfold Cert.Pre_tables_of_heads.fn Cert.Pre_tables_of_heads.fn_part1
  pointwise

/-- The second part at a position and a lane. -/
theorem sines_bit (s : Fin 2048) (j : Fin 128) : (Cert.Pre_tables_of_heads.fn (F := Ideal) a0 a1 a2 a3 a4 a5 a6 a7 a8 a9 a10).2 (ix2 s j)
    = FloatOps.cmpf (F := Ideal) (φ := .f32) .oeq (Scalar.select (IntOp.cmpi .eq (IntOp.andi (BitVec.ofNat 32 j.val) 16#32) 0#32) (a10 (ix2 s j)) (a9 (ix2 s j))) 0 := by
  unfold Cert.Pre_tables_of_heads.fn Cert.Pre_tables_of_heads.fn_part1 Cert.Pre_tables_of_heads.fn_where
  pointwise

/-- The block of ones. -/
theorem ones (h : (Cert.Pre_tables_of_heads.fn (F := Ideal) a0 a1 a2 a3 a4 a5 a6 a7 a8 a9 a10).1 = fun _ => 1#1) (k j : Fin 256) :
    a5 (ix2 k j) = if k.val / 64 = j.val / 64 then 1 else 0 := by
  have e := equal_of _ _ ((ones_bit a0 a1 a2 a3 a4 a5 a6 a7 a8 a9 a10 k j).symm.trans (congrFun h (ix2 k j)))
  rw [e, head_word, head_word, same_word ⟨k.val / 64, by omega⟩ ⟨j.val / 64, by omega⟩]
  split <;> simp [FloatOps.uitofp]

/-- The table of the lower lanes' sines is zero at the upper ones. -/
theorem down_zero (h : (Cert.Pre_tables_of_heads.fn (F := Ideal) a0 a1 a2 a3 a4 a5 a6 a7 a8 a9 a10).2 = fun _ => 1#1) (s : Fin 2048) (j : Fin 128)
    (hj : j.val % 32 < 16) : a10 (ix2 s j) = 0 := by
  have e := (sines_bit a0 a1 a2 a3 a4 a5 a6 a7 a8 a9 a10 s j).symm.trans (congrFun h (ix2 s j))
  rw [half_word, if_pos hj] at e
  exact equal_of _ _ e

/-- The table of the upper lanes' sines is zero at the lower ones. -/
theorem up_zero (h : (Cert.Pre_tables_of_heads.fn (F := Ideal) a0 a1 a2 a3 a4 a5 a6 a7 a8 a9 a10).2 = fun _ => 1#1) (s : Fin 2048) (j : Fin 128)
    (hj : ¬ j.val % 32 < 16) : a9 (ix2 s j) = 0 := by
  have e := (sines_bit a0 a1 a2 a3 a4 a5 a6 a7 a8 a9 a10 s j).symm.trans (congrFun h (ix2 s j))
  rw [half_word, if_neg hj] at e
  exact equal_of _ _ e

end Cert.Proof.InprojPre

end
-- ==== Proof.InprojClaim.lean ====
/- The claims of the latent tokens' projection: that it runs, and that it computes its reference. -/
module

public import proofs.«01_k».proof.Defs
public import proofs.«01_k».proof.Proof.Gen.InprojKernel.Frame
public import proofs.«01_k».proof.Proof.Gen.InprojKernelIdeal.Value
public import proofs.«01_k».proof.Proof.Gen.InprojReferenceIdeal.Run
public import proofs.«01_k».proof.Proof.Gen.InprojReferenceIdeal.Read
public import proofs.«01_k».proof.Proof.Gen.Pre_tables_of_heads
public import proofs.«01_k».proof.Proof.InprojRun
public import proofs.«01_k».proof.Proof.InprojTurn
public import proofs.«01_k».proof.Proof.InprojPre
public import Idealize.ShloMosaic.Lib.Claim

@[expose] public section

set_option maxRecDepth 16384

noncomputable section

namespace Cert.Proof.InprojClaim

open Idealize.ShloMosaic Idealize.ShloMosaic.TcCoe Idealize.SL.Sem

/-- The projection as it is run, at the bit-exact numbers. -/
theorem kernel : Cert.quiescent_InprojKernel (hInprojKernel := Cert.InprojKernel.Gen.facts) := fun m ρ _ => Cert.InprojKernel.Gen.frame m ρ

/-- It runs at the ideal numbers. -/
theorem ideal : Cert.quiescent_InprojKernelIdeal (hInprojKernelIdeal := Cert.InprojKernelIdeal.Gen.facts) := fun m ρ _ => Cert.InprojKernelIdeal.Gen.frame m ρ

/-- … also under the precondition. -/
theorem ideal_tables : Cert.quiescent_InprojKernelIdeal_pre_tables_of_heads (hInprojKernelIdeal := Cert.InprojKernelIdeal.Gen.facts)
    (hPre_tables_of_heads := Cert.Pre_tables_of_heads.Gen.facts) := fun m ρ _ => Cert.InprojKernelIdeal.Gen.frame m ρ

/-- The reference runs. -/
theorem reference : Cert.quiescent_InprojReferenceIdeal (hInprojReferenceIdeal := Cert.InprojReferenceIdeal.Gen.facts) := by
  intro m ρ _
  exact (θ_run Cert.InprojReferenceIdeal.defs _ _).mono (fun r h => ⟨fun c => (h c).2.2.2.2.2, sem_eq_zero_of_no_sems (by decide) r.2⟩)
    (Cert.InprojReferenceIdeal.Value.run m ρ)

/-- … also under the precondition. -/
theorem reference_tables : Cert.quiescent_InprojReferenceIdeal_pre_tables_of_heads (hInprojReferenceIdeal := Cert.InprojReferenceIdeal.Gen.facts)
    (hPre_tables_of_heads := Cert.Pre_tables_of_heads.Gen.facts) := by
  intro m ρ _
  exact (θ_run Cert.InprojReferenceIdeal.defs _ _).mono (fun r h => ⟨fun c => (h c).2.2.2.2.2, sem_eq_zero_of_no_sems (by decide) r.2⟩)
    (Cert.InprojReferenceIdeal.Value.run m ρ)

section
open Cert.InprojKernelIdeal Cert.InprojKernelIdeal.Gen

variable (m : (ℓ : Loc nD τ sig) → Buf (Elt Ideal) ℓ) (c : Dev nD)

/-- A row of a point's block is the row at its place of the point's batch. -/
theorem same_place (t : Fin cfg0.N) (r : Fin 512) : InprojRef.flat (InprojRun.batch t) (InprojRun.place t r) = InprojRun.row t r :=
  Fin.ext (by show t.val / 4 * 2048 + (t.val % 4 * 512 + r.val) = t.val * 512 + r.val; omega)

/-- Every row is one of a point's block. -/
theorem rows (p : Fin 16384) : ∃ (t : Fin cfg0.N) (r : Fin 512), InprojRun.row t r = p := by
  have hp := p.isLt
  exact ⟨⟨p.val / 512, (by omega : p.val / 512 < 32)⟩, ⟨p.val % 512, by omega⟩, Fin.ext (by show p.val / 512 * 512 + p.val % 512 = p.val; omega)⟩

/-- Two arrays that agree at each row of each block are equal. -/
theorem by_blocks (a b : FVec Ideal Cert.InprojReferenceIdeal.S16384x512 .bf16)
    (h : ∀ (t : Fin cfg0.N) (r l : Fin 512), a (ix2 (InprojRef.flat (InprojRun.batch t) (InprojRun.place t r)) l) = b (ix2 (InprojRun.row t r) l)) : a = b := by
  funext i
  obtain ⟨p, l, rfl⟩ : ∃ p l, i = ix2 p l := ⟨i 0, i 1, (ix2_eta i).symm⟩
  obtain ⟨t, r, rfl⟩ := rows p
  have e := h t r l
  rw [same_place] at e
  exact e

/-- The reference's lanes of a row are the kernel's. -/
theorem same_lanes (t : Fin cfg0.N) (r : Fin 512) (o : ℕ) (ho : o + 512 ≤ 3072) :
    InprojRef.lanesRef (m (c.tc.loc main_arg0)) (m (c.tc.loc main_arg1)) (m (c.tc.loc main_arg2)) (m (c.tc.loc main_arg3)) (m (c.tc.loc main_arg4))
      (InprojRun.batch t) (InprojRun.place t r) o ho = InprojRun.lanesAt m c (InprojRun.row t r) (InprojRun.batch t) o ho := by
  unfold InprojRef.lanesRef
  rw [same_place]
  rfl

/-- The queries. -/
theorem queries (hb : ∀ k j : Fin 256, m (c.tc.loc main_arg5) (ix2 k j) = (if k.val / 64 = j.val / 64 then 1 else 0 : EReal))
    (hd : ∀ s (j : Fin 128), j.val % 32 < 16 → m (c.tc.loc main_arg10) (ix2 s j) = (0 : EReal)) (hu : ∀ s (j : Fin 128), ¬ j.val % 32 < 16 → m (c.tc.loc main_arg9) (ix2 s j) = (0 : EReal)) :
    Cert.InprojReferenceIdeal.Read.val_main_v106 (F := Ideal) (m (c.tc.loc main_arg0)) (m (c.tc.loc main_arg1)) (m (c.tc.loc main_arg2)) (m (c.tc.loc main_arg3)) (m (c.tc.loc main_arg4))
      (m (c.tc.loc main_arg6)) (m (c.tc.loc main_arg8)) (m (c.tc.loc main_arg9)) (m (c.tc.loc main_arg10)) = (dats m 0 c).arrAt 11 cfg0.N := by
  refine by_blocks _ _ fun t r l => ?_
  refine (InprojTurn.queries_lane _ _ _ _ _ _ _ _ _ hd hu (InprojRun.batch t) (InprojRun.place t r) l).trans ?_
  refine Eq.trans ?_ (InprojRun.queries m c hb hd hu t r l).symm
  rw [same_lanes m c t r]

/-- The keys. -/
theorem keys (hb : ∀ k j : Fin 256, m (c.tc.loc main_arg5) (ix2 k j) = (if k.val / 64 = j.val / 64 then 1 else 0 : EReal))
    (hd : ∀ s (j : Fin 128), j.val % 32 < 16 → m (c.tc.loc main_arg10) (ix2 s j) = (0 : EReal)) (hu : ∀ s (j : Fin 128), ¬ j.val % 32 < 16 → m (c.tc.loc main_arg9) (ix2 s j) = (0 : EReal)) :
    Cert.InprojReferenceIdeal.Read.val_main_v107 (F := Ideal) (m (c.tc.loc main_arg0)) (m (c.tc.loc main_arg1)) (m (c.tc.loc main_arg2)) (m (c.tc.loc main_arg3)) (m (c.tc.loc main_arg4))
      (m (c.tc.loc main_arg7)) (m (c.tc.loc main_arg8)) (m (c.tc.loc main_arg9)) (m (c.tc.loc main_arg10)) = (dats m 0 c).arrAt 12 cfg0.N := by
  refine by_blocks _ _ fun t r l => ?_
  refine (InprojTurn.keys_lane _ _ _ _ _ _ _ _ _ hd hu (InprojRun.batch t) (InprojRun.place t r) l).trans ?_
  refine Eq.trans ?_ (InprojRun.keys m c hb hd hu t r l).symm
  rw [same_lanes m c t r]

/-- The values. -/
theorem values : Cert.InprojReferenceIdeal.Read.val_main_v108 (F := Ideal) (m (c.tc.loc main_arg0)) (m (c.tc.loc main_arg1)) (m (c.tc.loc main_arg2)) (m (c.tc.loc main_arg3)) (m (c.tc.loc main_arg4)) = (dats m 0 c).arrAt 13 cfg0.N := by
  refine by_blocks _ _ fun t r l => ?_
  refine (InprojRef.values_lane _ _ _ _ _ (InprojRun.batch t) (InprojRun.place t r) l).trans ?_
  refine Eq.trans ?_ (InprojRun.values m c t r l).symm
  rw [same_lanes m c t r]

/-- The gates. -/
theorem gates : Cert.InprojReferenceIdeal.Read.val_main_v109 (F := Ideal) (m (c.tc.loc main_arg0)) (m (c.tc.loc main_arg1)) (m (c.tc.loc main_arg2)) (m (c.tc.loc main_arg3)) (m (c.tc.loc main_arg4)) = (dats m 0 c).arrAt 14 cfg0.N := by
  refine by_blocks _ _ fun t r l => ?_
  refine (InprojRef.gates_lane _ _ _ _ _ (InprojRun.batch t) (InprojRun.place t r) l).trans ?_
  refine Eq.trans ?_ (InprojRun.gates m c t r l).symm
  rw [same_lanes m c t r]

/-- The product of the last two groups of lanes. -/
theorem gated : Cert.InprojReferenceIdeal.Read.val_main_v110 (F := Ideal) (m (c.tc.loc main_arg0)) (m (c.tc.loc main_arg1)) (m (c.tc.loc main_arg2)) (m (c.tc.loc main_arg3)) (m (c.tc.loc main_arg4)) = (dats m 0 c).arrAt 15 cfg0.N := by
  refine by_blocks _ _ fun t r l => ?_
  refine (InprojRef.gated_lane _ _ _ _ _ (InprojRun.batch t) (InprojRun.place t r) l).trans ?_
  refine Eq.trans ?_ (InprojRun.gated m c t r l).symm
  rw [same_lanes m c t r, same_lanes m c t r]

end

/-- The projection computes its reference, all five results. -/
theorem value : Cert.algebraic_InprojKernelIdeal_InprojReferenceIdeal_pre_tables_of_heads (hInprojKernelIdeal := Cert.InprojKernelIdeal.Gen.facts)
    (hInprojReferenceIdeal := Cert.InprojReferenceIdeal.Gen.facts) (hPre_tables_of_heads := Cert.Pre_tables_of_heads.Gen.facts) := by
  intro m g m' g' hpre hagree
  refine ⟨fun c => (Cert.InprojKernelIdeal.Gen.dats m 0 c).arrAt 11 Cert.InprojKernelIdeal.cfg0.N, fun c => (Cert.InprojKernelIdeal.Gen.dats m 0 c).arrAt 12 Cert.InprojKernelIdeal.cfg0.N, fun c => (Cert.InprojKernelIdeal.Gen.dats m 0 c).arrAt 13 Cert.InprojKernelIdeal.cfg0.N, fun c => (Cert.InprojKernelIdeal.Gen.dats m 0 c).arrAt 14 Cert.InprojKernelIdeal.cfg0.N, fun c => (Cert.InprojKernelIdeal.Gen.dats m 0 c).arrAt 15 Cert.InprojKernelIdeal.cfg0.N,
    Cert.InprojKernelIdeal.Value.run_blocks m g, ?_⟩
  refine (θ_run Cert.InprojReferenceIdeal.defs _ _).mono (fun r h c => ?_) (Cert.InprojReferenceIdeal.Value.run m' g')
  obtain ⟨h0, h1, h2, h3, h4, h5, h6, h7, h8, h9, h10⟩ := hagree c
  letI := Cert.Pre_tables_of_heads.Gen.facts
  have hb := InprojPre.ones _ _ _ _ _ _ _ _ _ _ _ (hpre c).1
  have hd := InprojPre.down_zero _ _ _ _ _ _ _ _ _ _ _ (hpre c).2
  have hu := InprojPre.up_zero _ _ _ _ _ _ _ _ _ _ _ (hpre c).2
  refine ⟨(h c).1.trans ?_, (h c).2.1.trans ?_, (h c).2.2.1.trans ?_, (h c).2.2.2.1.trans ?_, (h c).2.2.2.2.1.trans ?_, (h c).2.2.2.2.2⟩
  · rw [Cert.InprojReferenceIdeal.Read.val_main_v106_eq, h0, h1, h2, h3, h4, h6, h8, h9, h10]
    exact queries m c hb hd hu
  · rw [Cert.InprojReferenceIdeal.Read.val_main_v107_eq, h0, h1, h2, h3, h4, h7, h8, h9, h10]
    exact keys m c hb hd hu
  · refine (Cert.InprojReferenceIdeal.Read.val_main_v108_eq _ _ _ _ _).trans ?_
    rw [h0, h1, h2, h3, h4]
    exact values m c
  · refine (Cert.InprojReferenceIdeal.Read.val_main_v109_eq _ _ _ _ _).trans ?_
    rw [h0, h1, h2, h3, h4]
    exact gates m c
  · refine (Cert.InprojReferenceIdeal.Read.val_main_v110_eq _ _ _ _ _).trans ?_
    rw [h0, h1, h2, h3, h4]
    exact gated m c

end Cert.Proof.InprojClaim

end
-- ==== Proof.SguMath.lean ====
/- The mathematics of one row of the gated unit and of its router: over plain functions, no array, no program. -/
module

public import proofs.«01_k».proof.Proof.FfnMath

@[expose] public section

noncomputable section

namespace Cert.Proof.SguMath

open Idealize.ShloMosaic Cert.Proof.FfnMath

/-- The gelu with its tanh. -/
def gelu (z : EReal) : EReal :=
  Ideal.ofBits .f32 0x3F000000#32 * z * (1 + Ideal.tanh (Ideal.ofBits .f32 0x3F4C422A#32 * (z + Ideal.ofBits .f32 0x3D372713#32 * (z * z * z))))

/-- The same with the half on the other factor. -/
theorem gelu_eq (z : EReal) : z * (Ideal.ofBits .f32 0x3F000000#32
    * (1 + Ideal.tanh (Ideal.ofBits .f32 0x3F4C422A#32 * (z + Ideal.ofBits .f32 0x3D372713#32 * (z * z * z))))) = gelu z := by
  unfold gelu
  rw [← mul_assoc, mul_comm z]

/-- A lane of the projection of a row x, through gelu. -/
def lane (x : Fin 1024 → EReal) (w : Fin 1024 → Fin 2048 → EReal) (f : Fin 2048) : EReal := gelu (∑ q, x q * w q f)

/-- The first half of the lanes. -/
def lo (e : Fin 1024) : Fin 2048 := ⟨e.val, by omega⟩

/-- The second half of the lanes. -/
def hi (e : Fin 1024) : Fin 2048 := ⟨1024 + e.val, by omega⟩

/-- The mean of a row. -/
def mean (z : Fin 1024 → EReal) : EReal := Ideal.div (∑ f, z f) (Ideal.ofBits .f32 0x44800000#32)

/-- A row less its mean. -/
def centred (z : Fin 1024 → EReal) (e : Fin 1024) : EReal := z e - mean z

/-- A row less its mean, over its deviation, times the gain, plus the shift. -/
def normed (z g b : Fin 1024 → EReal) (e : Fin 1024) : EReal :=
  centred z e * Ideal.rsqrt (mean (fun f => centred z f * centred z f) + Ideal.ofBits .f32 0x358637BD#32) * g e + b e

/-- A gate times the mixture of 128 values plus a shift. -/
def gated (u : EReal) (s v : Fin 128 → EReal) (t : EReal) : EReal := u * (∑ q, s q * v q + t)

/-- A gated lane of a row x, the 128 rows X it is mixed with, and the weights s of the mixture. -/
def gatedRow (x : Fin 1024 → EReal) (X : Fin 128 → Fin 1024 → EReal) (w : Fin 1024 → Fin 2048 → EReal) (g b : Fin 1024 → EReal)
    (s : Fin 128 → EReal) (t : EReal) (e : Fin 1024) : EReal :=
  gated (lane x w (lo e)) s (fun q => normed (fun f => lane (X q) w (hi f)) g b e) t

/-! ## The router -/

/-- The low start of a maximum. -/
def low : EReal := Ideal.ofBits .f32 0xFF800000#32

theorem low_eq : low = ⊥ := by simp [low, Ideal.ofBits, Ideal.ieee]

/-- The high start of a minimum. -/
def high : EReal := Ideal.ofBits .f32 0x7F800000#32

/-- The greatest of some logits. -/
def greatest {n : ℕ} (A : Fin n → EReal) : EReal := Finset.univ.fold max low A

/-- The first lane that holds m; o where it does not hold it. -/
def first {n : ℕ} (A : Fin n → EReal) (m o : EReal) : EReal := Finset.univ.fold min high fun k => if A k = m then ((k.val : ℝ) : EReal) else o

/-- The logits with lane i taken out. -/
def without {n : ℕ} (A : Fin n → EReal) (i : EReal) (k : Fin n) : EReal := if ((k.val : ℝ) : EReal) = i then low else A k

/-- Eight logits on the first of 128 lanes. -/
def padded (A : Fin 8 → EReal) (k : Fin 128) : EReal := if h : k.val < 8 then A ⟨k.val, h⟩ else low

/-- The eight and the o that stand for no lane. -/
def eight : EReal := Ideal.ofBits .f32 0x41000000#32
def many : EReal := Ideal.ofBits .f32 0x43000000#32

theorem eight_eq : eight = ((8 : ℝ) : EReal) := by
  simp [eight, Ideal.ofBits, Ideal.ieee]; rw [← EReal.coe_mul]; norm_num

theorem many_eq : many = ((128 : ℝ) : EReal) := by
  simp [many, Ideal.ofBits, Ideal.ieee]; rw [← EReal.coe_mul]; norm_num

/-- Every logit is at most the greatest. -/
theorem le_greatest {n : ℕ} (A : Fin n → EReal) (k : Fin n) : A k ≤ greatest A :=
  (Finset.le_fold_max (A k)).2 (.inr ⟨k, Finset.mem_univ k, le_rfl⟩)

/-- The greatest is at most what bounds every logit. -/
theorem greatest_le {n : ℕ} (A : Fin n → EReal) (b : EReal) (h : ∀ k, A k ≤ b) : greatest A ≤ b :=
  (Finset.fold_max_le b).2 ⟨low_eq ▸ bot_le, fun k _ => h k⟩

/-- Some lane of eight holds the greatest. -/
theorem attained (A : Fin 8 → EReal) : ∃ k, A k = greatest A := by
  obtain ⟨k, _, h⟩ := Finset.exists_max_image Finset.univ A ⟨0, Finset.mem_univ _⟩
  exact ⟨k, le_antisymm (le_greatest A k) (greatest_le A _ fun j => h j (Finset.mem_univ j))⟩

/-- The lanes past the eighth hold nothing great. -/
theorem greatest_padded (A : Fin 8 → EReal) : greatest (padded A) = greatest A := by
  refine le_antisymm (greatest_le _ _ fun k => ?_) (greatest_le _ _ fun k => ?_)
  · unfold padded
    split
    · exact le_greatest A _
    · rw [low_eq]; exact bot_le
  · refine le_trans (le_of_eq ?_) (le_greatest (padded A) ⟨k.val, by omega⟩)
    unfold padded
    rw [dif_pos k.isLt]

/-- The first lane that holds the greatest is one of the eight. -/
theorem first_padded (A : Fin 8 → EReal) : first (padded A) (greatest A) many = first A (greatest A) eight := by
  obtain ⟨k₀, h₀⟩ := attained A
  have low8 : first A (greatest A) eight ≤ ((8 : ℝ) : EReal) := by
    refine (Finset.fold_min_le _).2 (.inr ⟨k₀, Finset.mem_univ _, ?_⟩)
    rw [if_pos h₀, EReal.coe_le_coe_iff]
    exact_mod_cast k₀.isLt.le
  have at8 : ∀ k : Fin 8, padded A ⟨k.val, by omega⟩ = A k := fun k => by unfold padded; rw [dif_pos k.isLt]
  have low128 : first (padded A) (greatest A) many ≤ ((8 : ℝ) : EReal) := by
    refine (Finset.fold_min_le _).2 (.inr ⟨⟨k₀.val, by omega⟩, Finset.mem_univ _, ?_⟩)
    rw [if_pos ((at8 k₀).trans h₀), EReal.coe_le_coe_iff]
    exact_mod_cast k₀.isLt.le
  have top : ∀ z : EReal, z ≤ high := fun z => by rw [show high = ⊤ by simp [high, Ideal.ofBits, Ideal.ieee]]; exact le_top
  refine le_antisymm ((Finset.le_fold_min _).2 ⟨top _, fun k _ => ?_⟩) ((Finset.le_fold_min _).2 ⟨top _, fun k _ => ?_⟩)
  · by_cases h : A k = greatest A
    · rw [if_pos h]
      refine (Finset.fold_min_le _).2 (.inr ⟨⟨k.val, by omega⟩, Finset.mem_univ _, ?_⟩)
      rw [if_pos ((at8 k).trans h)]
    · rw [if_neg h, eight_eq]; exact low128
  · by_cases h : padded A k = greatest A
    · rw [if_pos h]
      by_cases hk : k.val < 8
      · refine (Finset.fold_min_le _).2 (.inr ⟨⟨k.val, hk⟩, Finset.mem_univ _, ?_⟩)
        rw [if_pos ((at8 ⟨k.val, hk⟩).symm.trans h)]
      · refine low8.trans (EReal.coe_le_coe_iff.2 ?_)
        exact_mod_cast not_lt.1 hk
    · rw [if_neg h, many_eq]
      exact low8.trans (EReal.coe_le_coe_iff.2 (by norm_num))

/-- Taking a lane out leaves the lanes past the eighth as they are. -/
theorem without_padded (A : Fin 8 → EReal) (i : EReal) : without (padded A) i = padded (without A i) := by
  funext k
  unfold without padded
  by_cases hk : k.val < 8
  · rw [dif_pos hk, dif_pos hk]
  · rw [dif_neg hk, dif_neg hk, ite_self]

/-- The first choice of eight logits. -/
def choice (A : Fin 8 → EReal) : EReal := first A (greatest A) eight

/-- The logits left for the second choice. -/
def rest (A : Fin 8 → EReal) : Fin 8 → EReal := without A (choice A)

/-- The weight of the second choice against the first. -/
def ratio (A : Fin 8 → EReal) : EReal := Ideal.exp (greatest (rest A) - greatest A)

/-- A lane of the router's result: the two choices and their two gates, then zeros. -/
def route (A : Fin 8 → EReal) (j : Fin 128) : EReal :=
  if j.val = 0 then choice A else if j.val = 1 then choice (rest A) else if j.val = 2 then Ideal.div 1 (1 + ratio A)
    else if j.val = 3 then ratio A * Ideal.div 1 (1 + ratio A) else 0

/-- The second greatest is at most the greatest. -/
theorem rest_le (A : Fin 8 → EReal) : greatest (rest A) ≤ greatest A :=
  greatest_le _ _ fun k => by
    unfold rest without
    split
    · rw [low_eq]; exact bot_le
    · exact le_greatest A k

/-- A number less one at least as great is not infinitely great. -/
theorem sub_ne_top (a b : EReal) (h : a ≤ b) : a - b ≠ ⊤ := by
  induction b with
  | bot => rw [le_bot_iff.1 h]; decide
  | top => rw [EReal.sub_top]; exact bot_ne_top
  | coe r =>
    intro e
    have ha : a ≠ ⊤ := fun ha => (EReal.coe_ne_top r) (top_le_iff.1 (ha ▸ h))
    rw [sub_eq_add_neg, ← EReal.coe_neg] at e
    exact (EReal.add_lt_top ha (EReal.coe_ne_top _)).ne e

/-- The second gate as a quotient. -/
theorem second_gate (A : Fin 8 → EReal) : Ideal.div (ratio A) (1 + ratio A) = ratio A * Ideal.div 1 (1 + ratio A) := by
  obtain ⟨r, hr, e⟩ : ∃ r : ℝ, 0 ≤ r ∧ ratio A = (r : EReal) := by
    have h := sub_ne_top _ _ (rest_le A)
    unfold ratio
    generalize greatest (rest A) - greatest A = z at h
    induction z with
    | bot => exact ⟨0, le_rfl, by simp⟩
    | top => exact absurd rfl h
    | coe r => exact ⟨Real.exp r, (Real.exp_pos r).le, by simp⟩
  have h1 : (1 : EReal) + (r : EReal) = ((1 + r : ℝ) : EReal) := by rw [EReal.coe_add]; rfl
  rw [e, h1, Ideal.div_coe (by positivity), Ideal.div_coe (by positivity), one_mul]

end Cert.Proof.SguMath

end
-- ==== Proof.SguBody.lean ====
/- What one grid point of the gated unit computes, of the blocks it reads. -/
module

public import proofs.«01_k».proof.Proof.Gen.SguKernelIdeal.Frame
public import proofs.«01_k».proof.Proof.SguMath

@[expose] public section

set_option maxRecDepth 16384

noncomputable section

namespace Cert.Proof.SguBody

open Idealize.ShloMosaic Idealize.ShloMosaic.TcCoe Idealize.SL.Sem
open Cert.SguKernelIdeal Cert.SguKernelIdeal.Gen Cert.Proof.FfnMath Cert.Proof.SguMath

/-! ## The gate lanes and the value lanes -/

/-- The rows against half the columns of the weight. -/
def proj (x : FVec Ideal S512x1024 .bf16) (w : FVec Ideal S1024x1024 .bf16) : FVec Ideal S512x1024 .f32 :=
  matmul (F := Ideal) dot_S512x1024_S1024x1024_S512x1024_1_0_0_1_n_n none x w (constant S512x1024 .f32 0x00000000#32)

/-- Every lane through gelu. -/
def act (z : FVec Ideal S512x1024 .f32) : FVec Ideal S512x1024 .f32 :=
  mulf (F := Ideal) (mulf (F := Ideal) (broadcast S512x1024 (Scalar.ofBits (F := Ideal) .f32 0x3F000000#32)) z)
    (addf (F := Ideal) (broadcast S512x1024 (Scalar.ofBits (F := Ideal) .f32 0x3F800000#32))
      (tanh (F := Ideal) (mulf (F := Ideal) (broadcast S512x1024 (Scalar.ofBits (F := Ideal) .f32 0x3F4C422A#32))
        (addf (F := Ideal) z (mulf (F := Ideal) (broadcast S512x1024 (Scalar.ofBits (F := Ideal) .f32 0x3D372713#32))
          (mulf (F := Ideal) (mulf (F := Ideal) z z) z))))))

/-- The mean of each row. -/
def means (z : FVec Ideal S512x1024 .f32) : FVec Ideal S512x1 .f32 :=
  divf (F := Ideal) (shapeCast S512x1 (multiReduction (F := Ideal) .add [1] S512 z 0x00000000#32 reduces_S512x1024_S512 (.inl rfl) rfl) shapeCasts_S512_S512x1)
    (broadcast S512x1 (Scalar.ofBits (F := Ideal) .f32 0x44800000#32))

/-- The rows less their means. -/
def less (z : FVec Ideal S512x1024 .f32) (m : FVec Ideal S512x1 .f32) : FVec Ideal S512x1024 .f32 :=
  subf (F := Ideal) z (broadcastTo S512x1024 m broadcasts_S512x1_S512x1024)

/-- The centred rows over their deviations, with gain and shift. -/
def scaled (d : FVec Ideal S512x1024 .f32) (m : FVec Ideal S512x1 .f32) (g b : FVec Ideal S1x1024 .f32) : FVec Ideal S512x1024 .bf16 :=
  truncf (F := Ideal) .bf16 (addf (F := Ideal) (mulf (F := Ideal) (mulf (F := Ideal) d (broadcastTo S512x1024
    (rsqrt (F := Ideal) (addf (F := Ideal) m (broadcast S512x1 (Scalar.ofBits (F := Ideal) .f32 0x358637BD#32)))) broadcasts_S512x1_S512x1024))
    (broadcastTo S512x1024 g broadcasts_S1x1024_S512x1024)) (broadcastTo S512x1024 b broadcasts_S1x1024_S512x1024)) bitsLt_bf16_f32

theorem pay3_eq (x : Vec Ideal S512x1024 .bf16) (w : Vec Ideal S1024x1024 .bf16) : k0_pay3 (F := Ideal) x w = act (proj x w) := rfl

theorem pay2_eq (x : Vec Ideal S512x1024 .bf16) (w : Vec Ideal S1024x1024 .bf16) (g b : Vec Ideal S1x1024 .f32) : k0_pay2 (F := Ideal) x w g b
    = scaled (less (act (proj x w)) (means (act (proj x w))))
        (means (mulf (F := Ideal) (less (act (proj x w)) (means (act (proj x w)))) (less (act (proj x w)) (means (act (proj x w)))))) g b := rfl

theorem proj_at (x : FVec Ideal S512x1024 .bf16) (w : FVec Ideal S1024x1024 .bf16) (r : Fin 512) (f : Fin 1024) :
    proj x w (ix2 r f) = ∑ q : Fin 1024, x (ix2 r q) * w (ix2 q f) := by pointwise [proj]

theorem act_at (z : FVec Ideal S512x1024 .f32) (r : Fin 512) (f : Fin 1024) : act z (ix2 r f) = gelu (z (ix2 r f)) := by
  unfold gelu
  pointwise [act]

theorem means_at (z : FVec Ideal S512x1024 .f32) (r : Fin 512) : means z (ix2 r 0) = mean fun f => z (ix2 r f) := by
  unfold mean
  pointwise [means]

theorem less_at (z : FVec Ideal S512x1024 .f32) (m : FVec Ideal S512x1 .f32) (r : Fin 512) (f : Fin 1024) :
    less z m (ix2 r f) = z (ix2 r f) - m (ix2 r 0) := by pointwise [less]

theorem scaled_at (d : FVec Ideal S512x1024 .f32) (m : FVec Ideal S512x1 .f32) (g b : FVec Ideal S1x1024 .f32) (r : Fin 512) (f : Fin 1024) :
    scaled d m g b (ix2 r f) = d (ix2 r f) * Ideal.rsqrt (m (ix2 r 0) + Ideal.ofBits .f32 0x358637BD#32) * g (ix2 0 f) + b (ix2 0 f) := by
  pointwise [scaled]

theorem square_at (d : FVec Ideal S512x1024 .f32) (r : Fin 512) (f : Fin 1024) :
    mulf (F := Ideal) d d (ix2 r f) = d (ix2 r f) * d (ix2 r f) := rfl

/-- A gate lane. -/
theorem pay3_at (x : Vec Ideal S512x1024 .bf16) (w : Vec Ideal S1024x1024 .bf16) (r : Fin 512) (f : Fin 1024) :
    k0_pay3 (F := Ideal) x w (ix2 r f) = gelu (∑ q : Fin 1024, x (ix2 r q) * w (ix2 q f)) := by
  rw [pay3_eq, act_at, proj_at]

/-- A value lane, normalized. -/
theorem pay2_at (x : Vec Ideal S512x1024 .bf16) (w : Vec Ideal S1024x1024 .bf16) (g b : Vec Ideal S1x1024 .f32) (r : Fin 512) (f : Fin 1024) :
    k0_pay2 (F := Ideal) x w g b (ix2 r f)
      = normed (fun f => gelu (∑ q : Fin 1024, x (ix2 r q) * w (ix2 q f))) (fun f => g (ix2 0 f)) (fun f => b (ix2 0 f)) f := by
  have hz : (fun f => act (proj x w) (ix2 r f)) = fun f => gelu (∑ q : Fin 1024, x (ix2 r q) * w (ix2 q f)) :=
    funext fun f => by rw [act_at, proj_at]
  have hd : ∀ f, less (act (proj x w)) (means (act (proj x w))) (ix2 r f)
      = centred (fun f => gelu (∑ q : Fin 1024, x (ix2 r q) * w (ix2 q f))) f := fun f => by
    rw [less_at, means_at, hz, act_at, proj_at]; rfl
  have hm : means (mulf (F := Ideal) (less (act (proj x w)) (means (act (proj x w)))) (less (act (proj x w)) (means (act (proj x w))))) (ix2 r 0)
      = mean fun k => centred (fun f => gelu (∑ q : Fin 1024, x (ix2 r q) * w (ix2 q f))) k * centred (fun f => gelu (∑ q : Fin 1024, x (ix2 r q) * w (ix2 q f))) k :=
    (means_at _ r).trans (congrArg mean (funext fun k => (square_at _ r k).trans (by rw [hd])))
  rw [pay2_eq, scaled_at, hm, hd]
  rfl

/-! ## A tile of the gated lanes -/

/-- The tile of gated lanes at an offset: the gates times the mixed values. -/
def tile (o : Fin 2 → Nat) (h : S512x1024.Slices o S128x256) (u : FVec Ideal S512x1024 .f32) (v : FVec Ideal S512x1024 .bf16) (s : FVec Ideal S1x128x128 .bf16)
    (t : FVec Ideal S128x256 .f32) : FVec Ideal S128x256 .bf16 :=
  shapeCast S128x256 (truncf (F := Ideal) .bf16 (mulf (F := Ideal) (extractStridedSlice S128x256 o u h)
    (addf (F := Ideal) (matmul (F := Ideal) dot_S128x128_S128x256_S128x256_1_0_0_1_n_n none (shapeCast S128x128 s shapeCasts_S1x128x128_S128x128)
      (extractStridedSlice S128x256 o v h) (constant S128x256 .f32 0x00000000#32)) t)) bitsLt_bf16_f32) shapeCasts_S128x256_S128x256

/-- The mixture of a slice. -/
def mixed (v : FVec Ideal S128x256 .bf16) (s : FVec Ideal S1x128x128 .bf16) : FVec Ideal S128x256 .f32 :=
  matmul (F := Ideal) dot_S128x128_S128x256_S128x256_1_0_0_1_n_n none (shapeCast S128x128 s shapeCasts_S1x128x128_S128x128) v (constant S128x256 .f32 0x00000000#32)

theorem mixed_at (v : FVec Ideal S128x256 .bf16) (s : FVec Ideal S1x128x128 .bf16) (p : Fin 128) (e : Fin 256) :
    mixed v s (ix2 p e) = ∑ q : Fin 128, s (ix3 0 p q) * v (ix2 q e) := by pointwise [mixed]

/-- The end of a tile: gates times the mixture plus the shift. -/
def closed (u m t : FVec Ideal S128x256 .f32) : FVec Ideal S128x256 .bf16 :=
  shapeCast S128x256 (truncf (F := Ideal) .bf16 (mulf (F := Ideal) u (addf (F := Ideal) m t)) bitsLt_bf16_f32) shapeCasts_S128x256_S128x256

theorem closed_at (u m t : FVec Ideal S128x256 .f32) (p : Fin 128) (e : Fin 256) :
    closed u m t (ix2 p e) = u (ix2 p e) * (m (ix2 p e) + t (ix2 p e)) := by pointwise [closed]

/-- A lane of a tile. -/
theorem tile_at (o : Fin 2 → Nat) (h : S512x1024.Slices o S128x256) (u : FVec Ideal S512x1024 .f32) (v : FVec Ideal S512x1024 .bf16)
    (s : FVec Ideal S1x128x128 .bf16) (t : FVec Ideal S128x256 .f32) (p : Fin 128) (e : Fin 256) (R : Fin 128 → Fin 512) (E : Fin 1024)
    (hR : ∀ q, (R q).val = o 0 + q.val) (hE : E.val = o 1 + e.val) :
    tile o h u v s t (ix2 p e) = gated (u (ix2 (R p) E)) (fun q => s (ix3 0 p q)) (fun q => v (ix2 (R q) E)) (t (ix2 p e)) := by
  have cut : ∀ (ty : FTy) (z : FVec Ideal S512x1024 ty) (q : Fin 128), extractStridedSlice S128x256 o z h (ix2 q e) = z (ix2 (R q) E) := fun ty z q =>
    extractStridedSlice_apply o z h (ix2 q e) (ix2 (R q) E) fun a => by
      match a with
      | ⟨0, _⟩ => exact hR q
      | ⟨1, _⟩ => exact hE
  refine (closed_at (extractStridedSlice S128x256 o u h) (mixed (extractStridedSlice S128x256 o v h) s) t p e).trans ?_
  rw [mixed_at, cut]
  unfold gated
  refine congrArg (fun z : EReal => _ * (z + _)) (Finset.sum_congr rfl fun q _ => ?_)
  rw [cut]

/-! ## The rows after the unit -/

/-- The row after the unit. -/
theorem pay27_at (h : Vec Ideal S512x1024 .f32) (a : Vec Ideal S1x1x1024 .f32) (y : Vec Ideal S512x1024 .bf16) (w : Vec Ideal S1024x1024 .bf16) (r : Fin 512)
    (e : Fin 1024) : k0_pay27 (F := Ideal) h a y w (ix2 r e)
      = added (fun e => h (ix2 r e)) (fun e => a (ix3 0 0 e)) (fun e => ∑ f : Fin 1024, y (ix2 r f) * w (ix2 f e)) e := by
  unfold added
  pointwise [k0_pay27]

/-- The sum of squares of each row. -/
def squares (o : FVec Ideal S512x1024 .f32) : FVec Ideal S512x1 .f32 :=
  shapeCast S512x1 (multiReduction (F := Ideal) .add [1] S512 (mulf (F := Ideal) o o) 0x00000000#32 reduces_S512x1024_S512 (.inl rfl) rfl) shapeCasts_S512_S512x1

/-- One over the root of the mean square. -/
def invRms (q : FVec Ideal S512x1 .f32) : FVec Ideal S512x1 .f32 :=
  rsqrt (F := Ideal) (addf (F := Ideal) (divf (F := Ideal) q (broadcast S512x1 (Scalar.ofBits (F := Ideal) .f32 0x44800000#32)))
    (broadcast S512x1 (Scalar.ofBits (F := Ideal) .f32 0x358637BD#32)))

/-- The normalized rows, scaled and shifted. -/
def modul (o : FVec Ideal S512x1024 .f32) (q : FVec Ideal S512x1 .f32) (g : FVec Ideal S1x1024 .f32) (s c : FVec Ideal S1x1x1024 .f32) : FVec Ideal S512x1024 .f32 :=
  addf (F := Ideal) (mulf (F := Ideal) (mulf (F := Ideal) o (broadcastTo S512x1024 q broadcasts_S512x1_S512x1024))
    (broadcastTo S512x1024 (mulf (F := Ideal) g (addf (F := Ideal) (broadcast S1x1024 (Scalar.ofBits (F := Ideal) .f32 0x3F800000#32))
      (shapeCast S1x1024 c shapeCasts_S1x1x1024_S1x1024))) broadcasts_S1x1024_S512x1024))
    (broadcastTo S512x1024 (shapeCast S1x1024 s shapeCasts_S1x1x1024_S1x1024) broadcasts_S1x1024_S512x1024)

theorem pay28_eq (h : Vec Ideal S512x1024 .f32) (a : Vec Ideal S1x1x1024 .f32) (y : Vec Ideal S512x1024 .bf16) (w : Vec Ideal S1024x1024 .bf16)
    (g : Vec Ideal S1x1024 .f32) (s c : Vec Ideal S1x1x1024 .f32) :
    k0_pay28 (F := Ideal) h a y w g s c = modul (k0_pay27 h a y w) (invRms (squares (k0_pay27 h a y w))) g s c := rfl

theorem squares_at (o : FVec Ideal S512x1024 .f32) (r : Fin 512) : squares o (ix2 r 0) = ∑ x : Fin 1024, o (ix2 r x) * o (ix2 r x) := by pointwise [squares]

theorem invRms_at (q : FVec Ideal S512x1 .f32) (r : Fin 512) : invRms q (ix2 r 0)
    = Ideal.rsqrt (Ideal.div (q (ix2 r 0)) (Ideal.ofBits .f32 0x44800000#32) + Ideal.ofBits .f32 0x358637BD#32) := by pointwise [invRms]

theorem modul_at (o : FVec Ideal S512x1024 .f32) (q : FVec Ideal S512x1 .f32) (g : FVec Ideal S1x1024 .f32) (s c : FVec Ideal S1x1x1024 .f32) (r : Fin 512) (e : Fin 1024) :
    modul o q g s c (ix2 r e) = o (ix2 r e) * q (ix2 r 0) * (g (ix2 0 e) * (1 + c (ix3 0 0 e))) + s (ix3 0 0 e) := by pointwise [modul]

/-- The row after the unit, normalized. -/
theorem pay28_at (h : Vec Ideal S512x1024 .f32) (a : Vec Ideal S1x1x1024 .f32) (y : Vec Ideal S512x1024 .bf16) (w : Vec Ideal S1024x1024 .bf16)
    (g : Vec Ideal S1x1024 .f32) (s c : Vec Ideal S1x1x1024 .f32) (r : Fin 512) (e : Fin 1024) : k0_pay28 (F := Ideal) h a y w g s c (ix2 r e)
      = modulated (fun e => k0_pay27 (F := Ideal) h a y w (ix2 r e)) (fun e => g (ix2 0 e)) (fun e => c (ix3 0 0 e)) (fun e => s (ix3 0 0 e)) e := by
  rw [pay28_eq, modul_at, invRms_at, squares_at]
  rfl

/-- The row the router reads is the same. -/
theorem pay29_at (h : Vec Ideal S512x1024 .f32) (a : Vec Ideal S1x1x1024 .f32) (y : Vec Ideal S512x1024 .bf16) (w : Vec Ideal S1024x1024 .bf16)
    (g : Vec Ideal S1x1024 .f32) (s c : Vec Ideal S1x1x1024 .f32) (r : Fin 512) (e : Fin 1024) : k0_pay29 (F := Ideal) h a y w g s c (ix2 r e)
      = k0_pay28 (F := Ideal) h a y w g s c (ix2 r e) := rfl

end Cert.Proof.SguBody

end
-- ==== Proof.SguPieces.lean ====
/- The sixteen tiles of gated lanes that a grid point of the gated unit keeps, read back. -/
module

public import proofs.«01_k».proof.Proof.SguBody
public import Idealize.ShloMosaic.Lib.WritesUnit

@[expose] public section

set_option maxRecDepth 16384

noncomputable section

namespace Cert.Proof.SguPieces

open Idealize.ShloMosaic Idealize.ShloMosaic.TcCoe Idealize.SL.Sem
open Cert.SguKernelIdeal Cert.SguKernelIdeal.Gen Cert.Proof.SguMath Cert.Proof.SguBody

/-- A tile written last, tiles counted row by row: tile k holds its lanes, the tiles before it theirs. -/
theorem step (a : View sig .tc .vmem S512x1024 .bf16) (f : a.ty.Contents (Elt Ideal)) (H : Fin 512 → Fin 1024 → EReal) (r : Fin 512) (e : Fin 1024)
    (k o₀ o₁ : ℕ) (hk : k < 16) (h₀ : o₀ = k / 4 * 128) (h₁ : o₁ = k % 4 * 256) (inb : ∀ i, (![o₀, o₁] : Fin 2 → ℕ) i + S128x256.size i ≤ S512x1024.size i)
    (p : Vec Ideal S128x256 .bf16) (L : List (View.Piece (Elt Ideal) S512x1024 .bf16))
    (hp : ∀ (q : Fin 128) (j : Fin 256), p (ix2 q j) = H ⟨k / 4 * 128 + q.val, by omega⟩ ⟨k % 4 * 256 + j.val, by omega⟩)
    (hn : r.val / 128 * 4 + e.val / 256 < k + 1) (hL : r.val / 128 * 4 + e.val / 256 < k → a.read (Elt Ideal) (a.writes (Elt Ideal) f L) (ix2 r e) = H r e) :
    a.read (Elt Ideal) (a.writes (Elt Ideal) f (⟨Rect.unit (s := S512x1024) ![o₀, o₁] S128x256.size inb, p⟩ :: L)) (ix2 r e) = H r e := by
  by_cases hm : r.val / 128 * 4 + e.val / 256 = k
  · have a₀ : r.val = o₀ + r.val % 128 := by omega
    have a₁ : e.val = o₁ + e.val % 256 := by omega
    refine (View.read_writes_cons_unit_of_mem a f inb p _ (ix2 r e) (ix2 (⟨r.val % 128, by omega⟩ : Fin 128) (⟨e.val % 256, by omega⟩ : Fin 256)) rfl ?_).trans ((hp _ _).trans ?_)
    · exact Fin.forall_fin_two.mpr ⟨a₀, a₁⟩
    · exact congrArg₂ H (Fin.ext (by show k / 4 * 128 + r.val % 128 = r.val; omega)) (Fin.ext (by show k % 4 * 256 + e.val % 256 = e.val; omega))
  · by_cases hr : r.val / 128 = k / 4
    · refine (View.read_writes_cons_unit_of_not_mem a f inb p _ (ix2 r e) rfl (1 : Fin 2) (Or.inl ?_)).trans (hL (by omega))
      show e.val < o₁
      omega
    · refine (View.read_writes_cons_unit_of_not_mem a f inb p _ (ix2 r e) rfl (0 : Fin 2) (Or.inl ?_)).trans (hL (by omega))
      show r.val < o₀
      omega

/-- The row that lane q of a mixture reads: of the same 128 rows. -/
def mate (r : Fin 512) (q : Fin 128) : Fin 512 := ⟨r.val / 128 * 128 + q.val, by omega⟩

/-- A gated lane of the block, of gates u, values v, mixtures s and shifts t. -/
def lanesOf (u v : Fin 512 → Fin 1024 → EReal) (s : Fin 4 → Fin 128 → Fin 128 → EReal) (t : Fin 128 → Fin 1024 → EReal) (r : Fin 512) (e : Fin 1024) : EReal :=
  gated (u r e) (s ⟨e.val / 256, by omega⟩ ⟨r.val % 128, by omega⟩) (fun q => v (mate r q) e) (t ⟨r.val % 128, by omega⟩ e)

/-- Tile k of the block, at its lanes. -/
theorem tile_lanes (k : ℕ) (hk : k < 16) (o₀ o₁ : ℕ) (h₀ : o₀ = k / 4 * 128) (h₁ : o₁ = k % 4 * 256) (h : S512x1024.Slices ![o₀, o₁] S128x256) (u : FVec Ideal S512x1024 .f32)
    (v : FVec Ideal S512x1024 .bf16) (w : FVec Ideal S1x128x128 .bf16) (b : FVec Ideal S128x256 .f32) (s : Fin 4 → Fin 128 → Fin 128 → EReal) (t : Fin 128 → Fin 1024 → EReal)
    (hw : ∀ p q, w (ix3 0 p q) = s ⟨k % 4, by omega⟩ p q) (hb : ∀ p (j : Fin 256), b (ix2 p j) = t p ⟨k % 4 * 256 + j.val, by omega⟩) (p : Fin 128) (j : Fin 256) :
    tile ![o₀, o₁] h u v w b (ix2 p j)
      = lanesOf (fun r e => u (ix2 r e)) (fun r e => v (ix2 r e)) s t ⟨k / 4 * 128 + p.val, by omega⟩ ⟨k % 4 * 256 + j.val, by omega⟩ := by
  refine (tile_at ![o₀, o₁] h u v w b p j (fun q => ⟨k / 4 * 128 + q.val, by omega⟩) ⟨k % 4 * 256 + j.val, by omega⟩
    (fun q => by show k / 4 * 128 + q.val = o₀ + q.val; omega) (by show k % 4 * 256 + j.val = o₁ + j.val; omega)).trans ?_
  unfold lanesOf
  have e₀ : (⟨(k % 4 * 256 + j.val) / 256, by omega⟩ : Fin 4) = ⟨k % 4, by omega⟩ := Fin.ext (by show (k % 4 * 256 + j.val) / 256 = k % 4; omega)
  have e₁ : (⟨(k / 4 * 128 + p.val) % 128, by omega⟩ : Fin 128) = p := Fin.ext (by show (k / 4 * 128 + p.val) % 128 = p.val; omega)
  have e₂ : ∀ q : Fin 128, mate ⟨k / 4 * 128 + p.val, by omega⟩ q = ⟨k / 4 * 128 + q.val, by omega⟩ := fun q =>
    Fin.ext (by show (k / 4 * 128 + p.val) / 128 * 128 + q.val = k / 4 * 128 + q.val; omega)
  rw [hb, show (fun q => w (ix3 0 p q)) = s ⟨k % 4, by omega⟩ p from funext (hw p)]
  simp only [e₀, e₁, e₂]

variable (x : Vec Ideal S512x1024 .bf16) (v : FVec Ideal S512x1024 .bf16) (y : Vec Ideal S1024x1024 .bf16) (w0 w1 w2 w3 : Vec Ideal S1x128x128 .bf16)
  (b0 b1 b2 b3 : Vec Ideal S128x256 .f32)

/-- The tiles a point stores, the last first. -/
def pieces : List (View.Piece (Elt Ideal) S512x1024 .bf16) :=
  [⟨Rect.unit (s := S512x1024) ![384, 768] S128x256.size inb_S512x1024_S128x256_384_768, k0_pay26 v (k0_pay3 x y) w3 b3⟩,
    ⟨Rect.unit (s := S512x1024) ![384, 512] S128x256.size inb_S512x1024_S128x256_384_512, k0_pay25 v (k0_pay3 x y) w2 b2⟩,
    ⟨Rect.unit (s := S512x1024) ![384, 256] S128x256.size inb_S512x1024_S128x256_384_256, k0_pay24 (k0_pay3 x y) (k0_pay22 w1) (k0_pay23 v) (constant S128x256 .f32 0x00000000#32) b1⟩,
    ⟨Rect.unit (s := S512x1024) ![384, 0] S128x256.size inb_S512x1024_S128x256_384_0, k0_pay21 v (k0_pay3 x y) w0 b0⟩,
    ⟨Rect.unit (s := S512x1024) ![256, 768] S128x256.size inb_S512x1024_S128x256_256_768, k0_pay20 v (k0_pay3 x y) w3 b3⟩,
    ⟨Rect.unit (s := S512x1024) ![256, 512] S128x256.size inb_S512x1024_S128x256_256_512, k0_pay19 (k0_pay3 x y) (k0_pay18 v w2) b2⟩,
    ⟨Rect.unit (s := S512x1024) ![256, 256] S128x256.size inb_S512x1024_S128x256_256_256, k0_pay17 v (k0_pay3 x y) w1 b1⟩,
    ⟨Rect.unit (s := S512x1024) ![256, 0] S128x256.size inb_S512x1024_S128x256_256_0, k0_pay16 v (k0_pay3 x y) w0 b0⟩,
    ⟨Rect.unit (s := S512x1024) ![128, 768] S128x256.size inb_S512x1024_S128x256_128_768, k0_pay15 (k0_pay13 v w3 b3) (k0_pay14 (k0_pay3 x y))⟩,
    ⟨Rect.unit (s := S512x1024) ![128, 512] S128x256.size inb_S512x1024_S128x256_128_512, k0_pay12 v (k0_pay3 x y) w2 b2⟩,
    ⟨Rect.unit (s := S512x1024) ![128, 256] S128x256.size inb_S512x1024_S128x256_128_256, k0_pay11 v (k0_pay3 x y) w1 b1⟩,
    ⟨Rect.unit (s := S512x1024) ![128, 0] S128x256.size inb_S512x1024_S128x256_128_0, k0_pay10 (k0_pay9 v (k0_pay3 x y) w0 b0)⟩,
    ⟨Rect.unit (s := S512x1024) ![0, 768] S128x256.size inb_S512x1024_S128x256_0_768, k0_pay8 v (k0_pay3 x y) w3 b3⟩,
    ⟨Rect.unit (s := S512x1024) ![0, 512] S128x256.size inb_S512x1024_S128x256_0_512, k0_pay7 v (k0_pay3 x y) w2 b2⟩,
    ⟨Rect.unit (s := S512x1024) ![0, 256] S128x256.size inb_S512x1024_S128x256_0_256, k0_pay6 (k0_pay5 x v y w1 b1)⟩,
    ⟨Rect.unit (s := S512x1024) ![0, 0] S128x256.size inb_S512x1024_S128x256_0_0, k0_pay4 x v y w0 b0⟩]

theorem tile0 : k0_pay4 x v y w0 b0 = tile ![0, 0] slices_S512x1024_o0_0_S128x256 (k0_pay3 x y) v w0 b0 := rfl

theorem tile1 : k0_pay6 (k0_pay5 x v y w1 b1) = tile ![0, 256] slices_S512x1024_o0_256_S128x256 (k0_pay3 x y) v w1 b1 := rfl

theorem tile2 : k0_pay7 v (k0_pay3 x y) w2 b2 = tile ![0, 512] slices_S512x1024_o0_512_S128x256 (k0_pay3 x y) v w2 b2 := rfl

theorem tile3 : k0_pay8 v (k0_pay3 x y) w3 b3 = tile ![0, 768] slices_S512x1024_o0_768_S128x256 (k0_pay3 x y) v w3 b3 := rfl

theorem tile4 : k0_pay10 (k0_pay9 v (k0_pay3 x y) w0 b0) = tile ![128, 0] slices_S512x1024_o128_0_S128x256 (k0_pay3 x y) v w0 b0 := rfl

theorem tile5 : k0_pay11 v (k0_pay3 x y) w1 b1 = tile ![128, 256] slices_S512x1024_o128_256_S128x256 (k0_pay3 x y) v w1 b1 := rfl

theorem tile6 : k0_pay12 v (k0_pay3 x y) w2 b2 = tile ![128, 512] slices_S512x1024_o128_512_S128x256 (k0_pay3 x y) v w2 b2 := rfl

theorem tile7 : k0_pay15 (k0_pay13 v w3 b3) (k0_pay14 (k0_pay3 x y)) = tile ![128, 768] slices_S512x1024_o128_768_S128x256 (k0_pay3 x y) v w3 b3 := rfl

theorem tile8 : k0_pay16 v (k0_pay3 x y) w0 b0 = tile ![256, 0] slices_S512x1024_o256_0_S128x256 (k0_pay3 x y) v w0 b0 := rfl

theorem tile9 : k0_pay17 v (k0_pay3 x y) w1 b1 = tile ![256, 256] slices_S512x1024_o256_256_S128x256 (k0_pay3 x y) v w1 b1 := rfl

theorem tile10 : k0_pay19 (k0_pay3 x y) (k0_pay18 v w2) b2 = tile ![256, 512] slices_S512x1024_o256_512_S128x256 (k0_pay3 x y) v w2 b2 := rfl

theorem tile11 : k0_pay20 v (k0_pay3 x y) w3 b3 = tile ![256, 768] slices_S512x1024_o256_768_S128x256 (k0_pay3 x y) v w3 b3 := rfl

theorem tile12 : k0_pay21 v (k0_pay3 x y) w0 b0 = tile ![384, 0] slices_S512x1024_o384_0_S128x256 (k0_pay3 x y) v w0 b0 := rfl

theorem tile13 : k0_pay24 (k0_pay3 x y) (k0_pay22 w1) (k0_pay23 v) (constant S128x256 .f32 0x00000000#32) b1 = tile ![384, 256] slices_S512x1024_o384_256_S128x256 (k0_pay3 x y) v w1 b1 := rfl

theorem tile14 : k0_pay25 v (k0_pay3 x y) w2 b2 = tile ![384, 512] slices_S512x1024_o384_512_S128x256 (k0_pay3 x y) v w2 b2 := rfl

theorem tile15 : k0_pay26 v (k0_pay3 x y) w3 b3 = tile ![384, 768] slices_S512x1024_o384_768_S128x256 (k0_pay3 x y) v w3 b3 := rfl

/-- The tiles, read back: every lane is gated. -/
theorem pieces_at (a : View sig .tc .vmem S512x1024 .bf16) (f : a.ty.Contents (Elt Ideal)) (s : Fin 4 → Fin 128 → Fin 128 → EReal) (t : Fin 128 → Fin 1024 → EReal)
    (hw0 : ∀ p q, w0 (ix3 0 p q) = s 0 p q) (hb0 : ∀ p (j : Fin 256), b0 (ix2 p j) = t p ⟨0 + j.val, by omega⟩)
    (hw1 : ∀ p q, w1 (ix3 0 p q) = s 1 p q) (hb1 : ∀ p (j : Fin 256), b1 (ix2 p j) = t p ⟨256 + j.val, by omega⟩)
    (hw2 : ∀ p q, w2 (ix3 0 p q) = s 2 p q) (hb2 : ∀ p (j : Fin 256), b2 (ix2 p j) = t p ⟨512 + j.val, by omega⟩)
    (hw3 : ∀ p q, w3 (ix3 0 p q) = s 3 p q) (hb3 : ∀ p (j : Fin 256), b3 (ix2 p j) = t p ⟨768 + j.val, by omega⟩)
    (r : Fin 512) (e : Fin 1024) : a.read (Elt Ideal) (a.writes (Elt Ideal) f (pieces x v y w0 w1 w2 w3 b0 b1 b2 b3)) (ix2 r e)
      = lanesOf (fun r e => k0_pay3 (F := Ideal) x y (ix2 r e)) (fun r e => v (ix2 r e)) s t r e := by
  unfold pieces
  refine step a f _ r e 15 384 768 (by omega) rfl rfl _ _ _ (fun p j => (congrFun (tile15 x v y w3 b3) (ix2 p j)).trans (tile_lanes 15 (by omega) 384 768 rfl rfl _ _ v w3 b3 s t hw3 hb3 p j)) (by omega) fun h15 => ?_
  refine step a f _ r e 14 384 512 (by omega) rfl rfl _ _ _ (fun p j => (congrFun (tile14 x v y w2 b2) (ix2 p j)).trans (tile_lanes 14 (by omega) 384 512 rfl rfl _ _ v w2 b2 s t hw2 hb2 p j)) h15 fun h14 => ?_
  refine step a f _ r e 13 384 256 (by omega) rfl rfl _ _ _ (fun p j => (congrFun (tile13 x v y w1 b1) (ix2 p j)).trans (tile_lanes 13 (by omega) 384 256 rfl rfl _ _ v w1 b1 s t hw1 hb1 p j)) h14 fun h13 => ?_
  refine step a f _ r e 12 384 0 (by omega) rfl rfl _ _ _ (fun p j => (congrFun (tile12 x v y w0 b0) (ix2 p j)).trans (tile_lanes 12 (by omega) 384 0 rfl rfl _ _ v w0 b0 s t hw0 hb0 p j)) h13 fun h12 => ?_
  refine step a f _ r e 11 256 768 (by omega) rfl rfl _ _ _ (fun p j => (congrFun (tile11 x v y w3 b3) (ix2 p j)).trans (tile_lanes 11 (by omega) 256 768 rfl rfl _ _ v w3 b3 s t hw3 hb3 p j)) h12 fun h11 => ?_
  refine step a f _ r e 10 256 512 (by omega) rfl rfl _ _ _ (fun p j => (congrFun (tile10 x v y w2 b2) (ix2 p j)).trans (tile_lanes 10 (by omega) 256 512 rfl rfl _ _ v w2 b2 s t hw2 hb2 p j)) h11 fun h10 => ?_
  refine step a f _ r e 9 256 256 (by omega) rfl rfl _ _ _ (fun p j => (congrFun (tile9 x v y w1 b1) (ix2 p j)).trans (tile_lanes 9 (by omega) 256 256 rfl rfl _ _ v w1 b1 s t hw1 hb1 p j)) h10 fun h9 => ?_
  refine step a f _ r e 8 256 0 (by omega) rfl rfl _ _ _ (fun p j => (congrFun (tile8 x v y w0 b0) (ix2 p j)).trans (tile_lanes 8 (by omega) 256 0 rfl rfl _ _ v w0 b0 s t hw0 hb0 p j)) h9 fun h8 => ?_
  refine step a f _ r e 7 128 768 (by omega) rfl rfl _ _ _ (fun p j => (congrFun (tile7 x v y w3 b3) (ix2 p j)).trans (tile_lanes 7 (by omega) 128 768 rfl rfl _ _ v w3 b3 s t hw3 hb3 p j)) h8 fun h7 => ?_
  refine step a f _ r e 6 128 512 (by omega) rfl rfl _ _ _ (fun p j => (congrFun (tile6 x v y w2 b2) (ix2 p j)).trans (tile_lanes 6 (by omega) 128 512 rfl rfl _ _ v w2 b2 s t hw2 hb2 p j)) h7 fun h6 => ?_
  refine step a f _ r e 5 128 256 (by omega) rfl rfl _ _ _ (fun p j => (congrFun (tile5 x v y w1 b1) (ix2 p j)).trans (tile_lanes 5 (by omega) 128 256 rfl rfl _ _ v w1 b1 s t hw1 hb1 p j)) h6 fun h5 => ?_
  refine step a f _ r e 4 128 0 (by omega) rfl rfl _ _ _ (fun p j => (congrFun (tile4 x v y w0 b0) (ix2 p j)).trans (tile_lanes 4 (by omega) 128 0 rfl rfl _ _ v w0 b0 s t hw0 hb0 p j)) h5 fun h4 => ?_
  refine step a f _ r e 3 0 768 (by omega) rfl rfl _ _ _ (fun p j => (congrFun (tile3 x v y w3 b3) (ix2 p j)).trans (tile_lanes 3 (by omega) 0 768 rfl rfl _ _ v w3 b3 s t hw3 hb3 p j)) h4 fun h3 => ?_
  refine step a f _ r e 2 0 512 (by omega) rfl rfl _ _ _ (fun p j => (congrFun (tile2 x v y w2 b2) (ix2 p j)).trans (tile_lanes 2 (by omega) 0 512 rfl rfl _ _ v w2 b2 s t hw2 hb2 p j)) h3 fun h2 => ?_
  refine step a f _ r e 1 0 256 (by omega) rfl rfl _ _ _ (fun p j => (congrFun (tile1 x v y w1 b1) (ix2 p j)).trans (tile_lanes 1 (by omega) 0 256 rfl rfl _ _ v w1 b1 s t hw1 hb1 p j)) h2 fun h1 => ?_
  refine step a f _ r e 0 0 0 (by omega) rfl rfl _ _ _ (fun p j => (congrFun (tile0 x v y w0 b0) (ix2 p j)).trans (tile_lanes 0 (by omega) 0 0 rfl rfl _ _ v w0 b0 s t hw0 hb0 p j)) h1 fun h0 => ?_
  exact absurd h0 (Nat.not_lt_zero _)

end Cert.Proof.SguPieces

end
-- ==== Proof.SguRouter.lean ====
/- What the router of the gated unit's kernel computes of the normalized rows, row by row. -/
module

public import proofs.«01_k».proof.Proof.Gen.SguKernelIdeal.Frame
public import proofs.«01_k».proof.Proof.SguMath

@[expose] public section

set_option maxRecDepth 16384

noncomputable section

namespace Cert.Proof.SguRouter

open Idealize.ShloMosaic Idealize.ShloMosaic.TcCoe Idealize.SL.Sem
open Cert.SguKernelIdeal Cert.SguKernelIdeal.Gen Cert.Proof.SguMath

/-- A choice by equality of two numbers. -/
theorem pick (x y a b : EReal) : Scalar.select (FloatOps.cmpf (F := Ideal) (φ := .f32) .oeq x y) a b = if x = y then a else b := by
  show (if BitVec.ofBool (decide (x = y)) = 1 then a else b) = _
  by_cases h : x = y <;> simp [h]

/-- A choice by a condition on a number. -/
theorem pick_word {p : Prop} [Decidable p] (a b : EReal) : Scalar.select (if p then 1#1 else 0#1) a b = if p then a else b := by
  by_cases h : p <;> simp [h, Scalar.select]

/-- The lanes, counted. -/
def lanes : IVec S1x128 32 := iota .tc S1x128 32 [1] iota_S1x128_d1_w32

theorem lanes_at (k : Fin 128) : lanes (ix2 0 k) = BitVec.ofNat 32 k.val := by
  show BitVec.ofNat 32 (0 * 128 + k.val) = _
  rw [Nat.zero_mul, Nat.zero_add]

theorem number : ∀ k : Fin 128, (BitVec.ofNat 32 k.val).toInt = (k.val : ℤ) := by decide +kernel

theorem under_eight : ∀ k : Fin 128, IntOp.cmpi .slt (BitVec.ofNat 32 k.val) 8#32 = if k.val < 8 then 1#1 else 0#1 := by decide +kernel

theorem is_zero : ∀ k : Fin 128, IntOp.cmpi .eq (BitVec.ofNat 32 k.val) 0#32 = if k.val = 0 then 1#1 else 0#1 := by decide +kernel
theorem is_one : ∀ k : Fin 128, IntOp.cmpi .eq (BitVec.ofNat 32 k.val) 1#32 = if k.val = 1 then 1#1 else 0#1 := by decide +kernel
theorem is_two : ∀ k : Fin 128, IntOp.cmpi .eq (BitVec.ofNat 32 k.val) 2#32 = if k.val = 2 then 1#1 else 0#1 := by decide +kernel
theorem is_three : ∀ k : Fin 128, IntOp.cmpi .eq (BitVec.ofNat 32 k.val) 3#32 = if k.val = 3 then 1#1 else 0#1 := by decide +kernel

/-- The lanes, as numbers. -/
theorem pay30_at (k : Fin 128) : k0_pay30 (F := Ideal) (ix2 0 k) = ((k.val : ℝ) : EReal) := by
  show (((lanes (ix2 0 k)).toInt : ℝ) : EReal) = _
  rw [lanes_at, number, Int.cast_natCast]

/-- The greatest of each row. -/
def biggest (L : FVec Ideal S512x128 .f32) : FVec Ideal S512x1 .f32 :=
  shapeCast S512x1 (multiReduction (F := Ideal) .maximumf [1] S512 L 0xFF800000#32 reduces_S512x128_S512 (.inl rfl) rfl) shapeCasts_S512_S512x1

/-- The lanes that hold a row's number; 128 at the others. -/
def held (L : FVec Ideal S512x128 .f32) (m : FVec Ideal S512x1 .f32) (n : FVec Ideal S1x128 .f32) : FVec Ideal S512x128 .f32 :=
  select (cmpf (F := Ideal) .oeq L (broadcastTo S512x128 m broadcasts_S512x1_S512x128))
    (broadcastTo S512x128 (shapeCast S1x128 n shapeCasts_S1x128_S1x128) broadcasts_S1x128_S512x128)
    (broadcast S512x128 (Scalar.ofBits (F := Ideal) .f32 0x43000000#32))

/-- The least of each row. -/
def smallest (L : FVec Ideal S512x128 .f32) : FVec Ideal S512x1 .f32 :=
  shapeCast S512x1 (multiReduction (F := Ideal) .minimumf [1] S512 L 0x7F800000#32 reduces_S512x128_S512 (.inl rfl) rfl) shapeCasts_S512_S512x1

/-- The rows with a lane taken out. -/
def removed (L : FVec Ideal S512x128 .f32) (i : FVec Ideal S512x1 .f32) (n : FVec Ideal S1x128 .f32) : FVec Ideal S512x128 .f32 :=
  select (cmpf (F := Ideal) .oeq (broadcastTo S512x128 n broadcasts_S1x128_S512x128) (broadcastTo S512x128 i broadcasts_S512x1_S512x128))
    (broadcast S512x128 (Scalar.ofBits (F := Ideal) .f32 0xFF800000#32)) L

theorem biggest_at (L : FVec Ideal S512x128 .f32) (r : Fin 512) : biggest L (ix2 r 0) = greatest fun k => L (ix2 r k) := by
  unfold greatest low
  pointwise [biggest]

theorem smallest_at (L : FVec Ideal S512x128 .f32) (r : Fin 512) : smallest L (ix2 r 0) = Finset.univ.fold min high fun k => L (ix2 r k) := by
  unfold high
  pointwise [smallest]

theorem held_at (L : FVec Ideal S512x128 .f32) (m : FVec Ideal S512x1 .f32) (n : FVec Ideal S1x128 .f32) (r : Fin 512) (k : Fin 128) :
    held L m n (ix2 r k) = if L (ix2 r k) = m (ix2 r 0) then n (ix2 0 k) else many := by
  rw [← pick]
  unfold many
  pointwise [held]

theorem removed_at (L : FVec Ideal S512x128 .f32) (i : FVec Ideal S512x1 .f32) (n : FVec Ideal S1x128 .f32) (r : Fin 512) (k : Fin 128) :
    removed L i n (ix2 r k) = if n (ix2 0 k) = i (ix2 r 0) then low else L (ix2 r k) := by
  rw [← pick]
  unfold low
  pointwise [removed]

/-- The first lane of each row that holds its greatest. -/
def leading (L : FVec Ideal S512x128 .f32) : FVec Ideal S512x1 .f32 := smallest (held L (biggest L) (k0_pay30 (F := Ideal)))

/-- The logits, eight of the lanes. -/
def logits (x : FVec Ideal S512x1024 .bf16) (w : FVec Ideal S1024x128 .bf16) : FVec Ideal S512x128 .f32 := k0_pay31 (F := Ideal) x lanes w

theorem logits_at (x : FVec Ideal S512x1024 .bf16) (w : FVec Ideal S1024x128 .bf16) (r : Fin 512) (k : Fin 128) :
    logits x w (ix2 r k) = padded (fun j => ∑ e : Fin 1024, x (ix2 r e) * w (ix2 e ⟨j.val, by omega⟩)) k := by
  have h : logits x w (ix2 r k) = Scalar.select (IntOp.cmpi .slt (lanes (ix2 0 k)) 8#32) (∑ e : Fin 1024, x (ix2 r e) * w (ix2 e k)) low := by
    unfold low
    pointwise [logits, k0_pay31]
  rw [h, lanes_at, under_eight, pick_word]
  unfold padded
  by_cases hk : k.val < 8
  · rw [if_pos hk, dif_pos hk]
  · rw [if_neg hk, dif_neg hk]

/-- Of rows that hold eight logits, the greatest is theirs, … -/
theorem biggest_padded (L : FVec Ideal S512x128 .f32) (r : Fin 512) (A : Fin 8 → EReal) (h : ∀ k, L (ix2 r k) = padded A k) :
    biggest L (ix2 r 0) = greatest A := by
  rw [biggest_at, show (fun k => L (ix2 r k)) = padded A from funext h, greatest_padded]

/-- … the leading lane is their first choice, … -/
theorem leading_padded (L : FVec Ideal S512x128 .f32) (r : Fin 512) (A : Fin 8 → EReal) (h : ∀ k, L (ix2 r k) = padded A k) :
    leading L (ix2 r 0) = choice A := by
  unfold leading
  rw [smallest_at]
  refine Eq.trans ?_ (first_padded A)
  unfold first
  refine congrArg (Finset.univ.fold min high) (funext fun k => ?_)
  rw [held_at, biggest_padded L r A h, pay30_at, h]

/-- … and without it the rows hold the rest. -/
theorem removed_padded (L : FVec Ideal S512x128 .f32) (r : Fin 512) (A : Fin 8 → EReal) (h : ∀ k, L (ix2 r k) = padded A k) (k : Fin 128) :
    removed L (leading L) (k0_pay30 (F := Ideal)) (ix2 r k) = padded (rest A) k := by
  rw [removed_at, leading_padded L r A h, pay30_at, h]
  exact congrFun (without_padded A (choice A)) k

/-- The weight of the second choice, the two gates, and the result's lanes. -/
def ratios (a b : FVec Ideal S512x1 .f32) : FVec Ideal S512x1 .f32 := exp (F := Ideal) (subf (F := Ideal) b a)

def share (e : FVec Ideal S512x1 .f32) : FVec Ideal S512x1 .f32 :=
  divf (F := Ideal) (broadcast S512x1 (Scalar.ofBits (F := Ideal) .f32 0x3F800000#32)) (addf (F := Ideal) (broadcast S512x1 (Scalar.ofBits (F := Ideal) .f32 0x3F800000#32)) e)

theorem ratios_at (a b : FVec Ideal S512x1 .f32) (r : Fin 512) : ratios a b (ix2 r 0) = Ideal.exp (b (ix2 r 0) - a (ix2 r 0)) := by pointwise [ratios]

theorem share_at (e : FVec Ideal S512x1 .f32) (r : Fin 512) : share e (ix2 r 0) = Ideal.div 1 (1 + e (ix2 r 0)) := by pointwise [share]

theorem product_at (e s : FVec Ideal S512x1 .f32) (r : Fin 512) : mulf (F := Ideal) e s (ix2 r 0) = e (ix2 r 0) * s (ix2 r 0) := rfl

/-- The lanes of the result, side by side. -/
theorem pay1_at (a b c d : FVec Ideal S512x1 .f32) (r : Fin 512) (j : Fin 128) :
    k0_pay1 (F := Ideal) lanes a b c d (k0_pay40 lanes) (k0_pay41 lanes) (ix2 r j)
      = if j.val = 0 then a (ix2 r 0) else if j.val = 1 then b (ix2 r 0) else if j.val = 2 then c (ix2 r 0) else if j.val = 3 then d (ix2 r 0) else (0 : EReal) := by
  have h : k0_pay1 (F := Ideal) lanes a b c d (k0_pay40 lanes) (k0_pay41 lanes) (ix2 r j)
      = Scalar.select (IntOp.cmpi .eq (lanes (ix2 0 j)) 0#32) (a (ix2 r 0)) (Scalar.select (IntOp.cmpi .eq (lanes (ix2 0 j)) 1#32) (b (ix2 r 0))
        (Scalar.select (IntOp.cmpi .eq (lanes (ix2 0 j)) 2#32) (c (ix2 r 0)) (Scalar.select (IntOp.cmpi .eq (lanes (ix2 0 j)) 3#32) (d (ix2 r 0)) (0 : EReal)))) := by
    pointwise [k0_pay1, k0_pay40, k0_pay41]
  rw [h, lanes_at, is_zero, is_one, is_two, is_three, pick_word, pick_word, pick_word, pick_word]

/-- The result the kernel stores, of the rows it reads and the router's weight. -/
def routed (x : FVec Ideal S512x1024 .bf16) (w : FVec Ideal S1024x128 .bf16) : FVec Ideal S512x128 .f32 :=
  k0_pay1 (F := Ideal) lanes (k0_pay33 x lanes (k0_pay30 (F := Ideal)) w) (k0_pay36 x lanes (k0_pay30 (F := Ideal)) w) (k0_pay38 x lanes (k0_pay30 (F := Ideal)) w)
    (k0_pay39 x lanes (k0_pay30 (F := Ideal)) w) (k0_pay40 lanes) (k0_pay41 lanes)

/-- The logits less the first choice, and the weight of the second. -/
def others (L : FVec Ideal S512x128 .f32) : FVec Ideal S512x128 .f32 := removed L (leading L) (k0_pay30 (F := Ideal))

def weights (L : FVec Ideal S512x128 .f32) : FVec Ideal S512x1 .f32 := ratios (biggest L) (biggest (others L))

theorem weights_at (L : FVec Ideal S512x128 .f32) (r : Fin 512) (A : Fin 8 → EReal) (h : ∀ k, L (ix2 r k) = padded A k) :
    weights L (ix2 r 0) = ratio A := by
  unfold weights
  rw [ratios_at, biggest_padded L r A h, biggest_padded (others L) r (rest A) (removed_padded L r A h)]
  rfl

theorem pay33_eq (x : FVec Ideal S512x1024 .bf16) (w : FVec Ideal S1024x128 .bf16) :
    k0_pay33 (F := Ideal) x lanes (k0_pay30 (F := Ideal)) w = leading (logits x w) := rfl

theorem pay36_eq (x : FVec Ideal S512x1024 .bf16) (w : FVec Ideal S1024x128 .bf16) :
    k0_pay36 (F := Ideal) x lanes (k0_pay30 (F := Ideal)) w = leading (others (logits x w)) := rfl

theorem pay37_eq (x : FVec Ideal S512x1024 .bf16) (w : FVec Ideal S1024x128 .bf16) :
    k0_pay37 (F := Ideal) x lanes (k0_pay30 (F := Ideal)) w = weights (logits x w) := rfl

theorem pay38_eq (x : FVec Ideal S512x1024 .bf16) (w : FVec Ideal S1024x128 .bf16) :
    k0_pay38 (F := Ideal) x lanes (k0_pay30 (F := Ideal)) w = share (weights (logits x w)) := rfl

theorem pay39_eq (x : FVec Ideal S512x1024 .bf16) (w : FVec Ideal S1024x128 .bf16) :
    k0_pay39 (F := Ideal) x lanes (k0_pay30 (F := Ideal)) w = mulf (F := Ideal) (weights (logits x w)) (share (weights (logits x w))) := rfl

/-- A lane of the router's result. -/
theorem routed_at (x : FVec Ideal S512x1024 .bf16) (w : FVec Ideal S1024x128 .bf16) (r : Fin 512) (j : Fin 128) :
    routed x w (ix2 r j) = route (fun k => ∑ e : Fin 1024, x (ix2 r e) * w (ix2 e ⟨k.val, by omega⟩)) j := by
  generalize hA : (fun k : Fin 8 => ∑ e : Fin 1024, x (ix2 r e) * w (ix2 e ⟨k.val, by omega⟩)) = A
  have h : ∀ k, logits x w (ix2 r k) = padded A k := fun k => (logits_at x w r k).trans (congrArg (fun A => padded A k) hA)
  have h' : leading (others (logits x w)) (ix2 r 0) = choice (rest A) := leading_padded (others (logits x w)) r (rest A) (removed_padded (logits x w) r A h)
  have hc : leading (logits x w) (ix2 r 0) = choice A := leading_padded (logits x w) r A h
  have hw : weights (logits x w) (ix2 r 0) = ratio A := weights_at (logits x w) r A h
  unfold routed route
  rw [pay1_at, pay33_eq, pay36_eq, pay38_eq, pay39_eq, product_at, share_at, hw, hc, h']

end Cert.Proof.SguRouter

end
-- ==== Proof.SguOut.lean ====
/- The blocks that a grid point of the gated unit stores, of the blocks it reads. -/
module

public import proofs.«01_k».proof.Proof.SguPieces
public import proofs.«01_k».proof.Proof.SguRouter
public import Idealize.ShloMosaic.Lib.VecWindow

@[expose] public section

set_option maxRecDepth 16384

noncomputable section

namespace Cert.Proof.SguOut

open Idealize.ShloMosaic Idealize.ShloMosaic.TcCoe Idealize.SL.Sem
open Cert.SguKernelIdeal Cert.SguKernelIdeal.Gen Cert.Proof.SguMath Cert.Proof.SguBody Cert.Proof.SguPieces Cert.Proof.SguRouter

/-- Columns of the weight from the given one on. -/
theorem cols_at (a : Memref sig .tc .vmem S1024x2048 .bf16) (h : a.IsWhole) (x : Vec Ideal S1024x2048 .bf16) (o : ℕ) (ho : o + 1024 ≤ 2048)
    (inb : ∀ i, (![0, o] : Fin 2 → ℕ) i + S1024x1024.size i ≤ S1024x2048.size i) (q f : Fin 1024) :
    a.view.readAt (Elt Ideal) (Rect.unit (s := S1024x2048) ![0, o] S1024x1024.size inb).toLoadRect (h.unread x) (ix2 q f) = x (ix2 q ⟨o + f.val, by omega⟩) := by
  rw [View.readAt_eq_ld, h.read_unread]
  refine congrArg x (funext fun i => Fin.ext ?_)
  match i with
  | ⟨0, _⟩ => show 0 + 1 * q.val = q.val; omega
  | ⟨1, _⟩ => show o + 1 * f.val = o + f.val; omega

/-- One of the four mixtures. -/
theorem mixture_at (a : Memref sig .tc .vmem S4x128x128 .bf16) (h : a.IsWhole) (x : Vec Ideal S4x128x128 .bf16) (g : Fin 4)
    (inb : ∀ i, (![g.val, 0, 0] : Fin 3 → ℕ) i + S1x128x128.size i ≤ S4x128x128.size i) (p q : Fin 128) :
    a.view.readAt (Elt Ideal) (Rect.unit (s := S4x128x128) ![g.val, 0, 0] S1x128x128.size inb).toLoadRect (h.unread x) (ix3 0 p q) = x (ix3 g p q) := by
  rw [View.readAt_eq_ld, h.read_unread]
  refine congrArg x (funext fun i => Fin.ext ?_)
  match i with
  | ⟨0, _⟩ => show g.val + 1 * 0 = g.val; omega
  | ⟨1, _⟩ => show 0 + 1 * p.val = p.val; omega
  | ⟨2, _⟩ => show 0 + 1 * q.val = q.val; omega

/-- Columns of the shifts from the given one on. -/
theorem shift_at (a : Memref sig .tc .vmem S128x1024 .f32) (h : a.IsWhole) (x : Vec Ideal S128x1024 .f32) (o : ℕ) (ho : o + 256 ≤ 1024)
    (inb : ∀ i, (![0, o] : Fin 2 → ℕ) i + S128x256.size i ≤ S128x1024.size i) (p : Fin 128) (j : Fin 256) :
    a.view.readAt (Elt Ideal) (Rect.unit (s := S128x1024) ![0, o] S128x256.size inb).toLoadRect (h.unread x) (ix2 p j) = x (ix2 p ⟨o + j.val, by omega⟩) := by
  rw [View.readAt_eq_ld, h.read_unread]
  refine congrArg x (funext fun i => Fin.ext ?_)
  match i with
  | ⟨0, _⟩ => show 0 + 1 * p.val = p.val; omega
  | ⟨1, _⟩ => show o + 1 * j.val = o + j.val; omega

/-- A gated lane of the block, of the blocks that a point reads. -/
def gatedOf (x0 : Vec Ideal S512x1024 .bf16) (x1 : Vec Ideal S1024x2048 .bf16) (x2 x3 : Vec Ideal S1x1024 .f32) (x4 : Vec Ideal S4x128x128 .bf16) (x5 : Vec Ideal S128x1024 .f32)
    (r : Fin 512) (e : Fin 1024) : EReal :=
  gatedRow (fun q => x0 (ix2 r q)) (fun k q => x0 (ix2 (mate r k) q)) (fun q f => x1 (ix2 q f)) (fun f => x2 (ix2 0 f)) (fun f => x3 (ix2 0 f))
    (fun q => x4 (ix3 ⟨e.val / 256, by omega⟩ ⟨r.val % 128, by omega⟩ q)) (x5 (ix2 ⟨r.val % 128, by omega⟩ e)) e

set_option maxHeartbeats 4000000 in
/-- The three blocks that a point stores, of the blocks it reads and of the gated lanes it keeps in between. -/
theorem out_eq (c : Dev nD) (i : grid0.Coords) (a1 : Memref sig .tc .vmem S512x1024 .bf16) (h1 : a1.IsWhole) (a2 : Memref sig .tc .vmem S1024x2048 .bf16) (h2 : a2.IsWhole) (a3 : Memref sig .tc .vmem S1x1024 .f32) (h3 : a3.IsWhole) (a4 : Memref sig .tc .vmem S1x1024 .f32) (h4 : a4.IsWhole) (a5 : Memref sig .tc .vmem S4x128x128 .bf16) (h5 : a5.IsWhole) (a6 : Memref sig .tc .vmem S128x1024 .f32) (h6 : a6.IsWhole) (a7 : Memref sig .tc .vmem S1024x1024 .bf16) (h7 : a7.IsWhole) (a8 : Memref sig .tc .vmem S512x1024 .f32) (h8 : a8.IsWhole) (a9 : Memref sig .tc .vmem S1x1x1024 .f32) (h9 : a9.IsWhole) (a10 : Memref sig .tc .vmem S1x1024 .f32) (h10 : a10.IsWhole) (a11 : Memref sig .tc .vmem S1x1x1024 .f32) (h11 : a11.IsWhole) (a12 : Memref sig .tc .vmem S1x1x1024 .f32) (h12 : a12.IsWhole) (a13 : Memref sig .tc .vmem S1024x128 .bf16) (h13 : a13.IsWhole) (a14 : Memref sig .tc .vmem S512x1024 .f32) (h14 : a14.IsWhole) (a15 : Memref sig .tc .vmem S512x1024 .f32) (h15 : a15.IsWhole) (a16 : Memref sig .tc .vmem S512x128 .f32) (h16 : a16.IsWhole) (a17 : Memref sig .tc .vmem S512x1024 .bf16) (h17 : a17.IsWhole)
    (x0 : Vec Ideal S512x1024 .bf16) (x1 : Vec Ideal S1024x2048 .bf16) (x2 : Vec Ideal S1x1024 .f32) (x3 : Vec Ideal S1x1024 .f32) (x4 : Vec Ideal S4x128x128 .bf16) (x5 : Vec Ideal S128x1024 .f32) (x6 : Vec Ideal S1024x1024 .bf16) (x7 : Vec Ideal S512x1024 .f32) (x8 : Vec Ideal S1x1x1024 .f32) (x9 : Vec Ideal S1x1024 .f32) (x10 : Vec Ideal S1x1x1024 .f32) (x11 : Vec Ideal S1x1x1024 .f32) (x12 : Vec Ideal S1024x128 .bf16) :
    ∃ Y : Vec Ideal S512x1024 .bf16, (∀ r e, Y (ix2 r e) = gatedOf x0 x1 x2 x3 x4 x5 r e)
      ∧ out0_A_13 (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 = k0_pay27 x7 x8 Y x6
      ∧ out0_A_14 (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 = k0_pay28 x7 x8 Y x6 x9 x10 x11
      ∧ out0_A_15 (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12 = routed (k0_pay29 x7 x8 Y x6 x9 x10 x11) x12 := by
  have e0 : View.readAt (Elt Ideal) a1.view (Rect.unit (s := S512x1024) ![0, 0] S512x1024.size inb_S512x1024_S512x1024_0_0).toLoadRect (h1.unread x0) = x0 := by rw [View.readAt_full, h1.read_unread]
  have e2 : View.readAt (Elt Ideal) a3.view (Rect.unit (s := S1x1024) ![0, 0] S1x1024.size inb_S1x1024_S1x1024_0_0).toLoadRect (h3.unread x2) = x2 := by rw [View.readAt_full, h3.read_unread]
  have e3 : View.readAt (Elt Ideal) a4.view (Rect.unit (s := S1x1024) ![0, 0] S1x1024.size inb_S1x1024_S1x1024_0_0).toLoadRect (h4.unread x3) = x3 := by rw [View.readAt_full, h4.read_unread]
  have e6 : View.readAt (Elt Ideal) a7.view (Rect.unit (s := S1024x1024) ![0, 0] S1024x1024.size inb_S1024x1024_S1024x1024_0_0).toLoadRect (h7.unread x6) = x6 := by rw [View.readAt_full, h7.read_unread]
  have e7 : View.readAt (Elt Ideal) a8.view (Rect.unit (s := S512x1024) ![0, 0] S512x1024.size inb_S512x1024_S512x1024_0_0).toLoadRect (h8.unread x7) = x7 := by rw [View.readAt_full, h8.read_unread]
  have e8 : View.readAt (Elt Ideal) a9.view (Rect.unit (s := S1x1x1024) ![0, 0, 0] S1x1x1024.size inb_S1x1x1024_S1x1x1024_0_0_0).toLoadRect (h9.unread x8) = x8 := by rw [View.readAt_full, h9.read_unread]
  have e9 : View.readAt (Elt Ideal) a10.view (Rect.unit (s := S1x1024) ![0, 0] S1x1024.size inb_S1x1024_S1x1024_0_0).toLoadRect (h10.unread x9) = x9 := by rw [View.readAt_full, h10.read_unread]
  have e10 : View.readAt (Elt Ideal) a11.view (Rect.unit (s := S1x1x1024) ![0, 0, 0] S1x1x1024.size inb_S1x1x1024_S1x1x1024_0_0_0).toLoadRect (h11.unread x10) = x10 := by rw [View.readAt_full, h11.read_unread]
  have e11 : View.readAt (Elt Ideal) a12.view (Rect.unit (s := S1x1x1024) ![0, 0, 0] S1x1x1024.size inb_S1x1x1024_S1x1x1024_0_0_0).toLoadRect (h12.unread x11) = x11 := by rw [View.readAt_full, h12.read_unread]
  have e12 : View.readAt (Elt Ideal) a13.view (Rect.unit (s := S1024x128) ![0, 0] S1024x128.size inb_S1024x128_S1024x128_0_0).toLoadRect (h13.unread x12) = x12 := by rw [View.readAt_full, h13.read_unread]
  have hL : ∃ b : a17.view.ty.Contents (Elt Ideal),
      (kernelRun0_A (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).1
        = [⟨Rect.unit (s := S512x1024) ![0, 0] S512x1024.size inb_S512x1024_S512x1024_0_0, k0_pay27 (View.readAt (Elt Ideal) a8.view (Rect.unit (s := S512x1024) ![0, 0] S512x1024.size inb_S512x1024_S512x1024_0_0).toLoadRect (h8.unread x7)) (View.readAt (Elt Ideal) a9.view (Rect.unit (s := S1x1x1024) ![0, 0, 0] S1x1x1024.size inb_S1x1x1024_S1x1x1024_0_0_0).toLoadRect (h9.unread x8)) (View.readAt (Elt Ideal) a17.view (Rect.unit (s := S512x1024) ![0, 0] S512x1024.size inb_S512x1024_S512x1024_0_0).toLoadRect
      (a17.view.writes (Elt Ideal) b (pieces (View.readAt (Elt Ideal) a1.view (Rect.unit (s := S512x1024) ![0, 0] S512x1024.size inb_S512x1024_S512x1024_0_0).toLoadRect (h1.unread x0)) (k0_pay2 (View.readAt (Elt Ideal) a1.view (Rect.unit (s := S512x1024) ![0, 0] S512x1024.size inb_S512x1024_S512x1024_0_0).toLoadRect (h1.unread x0)) (View.readAt (Elt Ideal) a2.view (Rect.unit (s := S1024x2048) ![0, 1024] S1024x1024.size inb_S1024x2048_S1024x1024_0_1024).toLoadRect (h2.unread x1)) (View.readAt (Elt Ideal) a3.view (Rect.unit (s := S1x1024) ![0, 0] S1x1024.size inb_S1x1024_S1x1024_0_0).toLoadRect (h3.unread x2)) (View.readAt (Elt Ideal) a4.view (Rect.unit (s := S1x1024) ![0, 0] S1x1024.size inb_S1x1024_S1x1024_0_0).toLoadRect (h4.unread x3))) (View.readAt (Elt Ideal) a2.view (Rect.unit (s := S1024x2048) ![0, 0] S1024x1024.size inb_S1024x2048_S1024x1024_0_0).toLoadRect (h2.unread x1)) (View.readAt (Elt Ideal) a5.view (Rect.unit (s := S4x128x128) ![0, 0, 0] S1x128x128.size inb_S4x128x128_S1x128x128_0_0_0).toLoadRect (h5.unread x4)) (View.readAt (Elt Ideal) a5.view (Rect.unit (s := S4x128x128) ![1, 0, 0] S1x128x128.size inb_S4x128x128_S1x128x128_1_0_0).toLoadRect (h5.unread x4)) (View.readAt (Elt Ideal) a5.view (Rect.unit (s := S4x128x128) ![2, 0, 0] S1x128x128.size inb_S4x128x128_S1x128x128_2_0_0).toLoadRect (h5.unread x4)) (View.readAt (Elt Ideal) a5.view (Rect.unit (s := S4x128x128) ![3, 0, 0] S1x128x128.size inb_S4x128x128_S1x128x128_3_0_0).toLoadRect (h5.unread x4)) (View.readAt (Elt Ideal) a6.view (Rect.unit (s := S128x1024) ![0, 0] S128x256.size inb_S128x1024_S128x256_0_0).toLoadRect (h6.unread x5)) (View.readAt (Elt Ideal) a6.view (Rect.unit (s := S128x1024) ![0, 256] S128x256.size inb_S128x1024_S128x256_0_256).toLoadRect (h6.unread x5)) (View.readAt (Elt Ideal) a6.view (Rect.unit (s := S128x1024) ![0, 512] S128x256.size inb_S128x1024_S128x256_0_512).toLoadRect (h6.unread x5)) (View.readAt (Elt Ideal) a6.view (Rect.unit (s := S128x1024) ![0, 768] S128x256.size inb_S128x1024_S128x256_0_768).toLoadRect (h6.unread x5))))) (View.readAt (Elt Ideal) a7.view (Rect.unit (s := S1024x1024) ![0, 0] S1024x1024.size inb_S1024x1024_S1024x1024_0_0).toLoadRect (h7.unread x6))⟩]
      ∧ (kernelRun0_A (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).2.1
        = [⟨Rect.unit (s := S512x1024) ![0, 0] S512x1024.size inb_S512x1024_S512x1024_0_0, k0_pay28 (View.readAt (Elt Ideal) a8.view (Rect.unit (s := S512x1024) ![0, 0] S512x1024.size inb_S512x1024_S512x1024_0_0).toLoadRect (h8.unread x7)) (View.readAt (Elt Ideal) a9.view (Rect.unit (s := S1x1x1024) ![0, 0, 0] S1x1x1024.size inb_S1x1x1024_S1x1x1024_0_0_0).toLoadRect (h9.unread x8)) (View.readAt (Elt Ideal) a17.view (Rect.unit (s := S512x1024) ![0, 0] S512x1024.size inb_S512x1024_S512x1024_0_0).toLoadRect
      (a17.view.writes (Elt Ideal) b (pieces (View.readAt (Elt Ideal) a1.view (Rect.unit (s := S512x1024) ![0, 0] S512x1024.size inb_S512x1024_S512x1024_0_0).toLoadRect (h1.unread x0)) (k0_pay2 (View.readAt (Elt Ideal) a1.view (Rect.unit (s := S512x1024) ![0, 0] S512x1024.size inb_S512x1024_S512x1024_0_0).toLoadRect (h1.unread x0)) (View.readAt (Elt Ideal) a2.view (Rect.unit (s := S1024x2048) ![0, 1024] S1024x1024.size inb_S1024x2048_S1024x1024_0_1024).toLoadRect (h2.unread x1)) (View.readAt (Elt Ideal) a3.view (Rect.unit (s := S1x1024) ![0, 0] S1x1024.size inb_S1x1024_S1x1024_0_0).toLoadRect (h3.unread x2)) (View.readAt (Elt Ideal) a4.view (Rect.unit (s := S1x1024) ![0, 0] S1x1024.size inb_S1x1024_S1x1024_0_0).toLoadRect (h4.unread x3))) (View.readAt (Elt Ideal) a2.view (Rect.unit (s := S1024x2048) ![0, 0] S1024x1024.size inb_S1024x2048_S1024x1024_0_0).toLoadRect (h2.unread x1)) (View.readAt (Elt Ideal) a5.view (Rect.unit (s := S4x128x128) ![0, 0, 0] S1x128x128.size inb_S4x128x128_S1x128x128_0_0_0).toLoadRect (h5.unread x4)) (View.readAt (Elt Ideal) a5.view (Rect.unit (s := S4x128x128) ![1, 0, 0] S1x128x128.size inb_S4x128x128_S1x128x128_1_0_0).toLoadRect (h5.unread x4)) (View.readAt (Elt Ideal) a5.view (Rect.unit (s := S4x128x128) ![2, 0, 0] S1x128x128.size inb_S4x128x128_S1x128x128_2_0_0).toLoadRect (h5.unread x4)) (View.readAt (Elt Ideal) a5.view (Rect.unit (s := S4x128x128) ![3, 0, 0] S1x128x128.size inb_S4x128x128_S1x128x128_3_0_0).toLoadRect (h5.unread x4)) (View.readAt (Elt Ideal) a6.view (Rect.unit (s := S128x1024) ![0, 0] S128x256.size inb_S128x1024_S128x256_0_0).toLoadRect (h6.unread x5)) (View.readAt (Elt Ideal) a6.view (Rect.unit (s := S128x1024) ![0, 256] S128x256.size inb_S128x1024_S128x256_0_256).toLoadRect (h6.unread x5)) (View.readAt (Elt Ideal) a6.view (Rect.unit (s := S128x1024) ![0, 512] S128x256.size inb_S128x1024_S128x256_0_512).toLoadRect (h6.unread x5)) (View.readAt (Elt Ideal) a6.view (Rect.unit (s := S128x1024) ![0, 768] S128x256.size inb_S128x1024_S128x256_0_768).toLoadRect (h6.unread x5))))) (View.readAt (Elt Ideal) a7.view (Rect.unit (s := S1024x1024) ![0, 0] S1024x1024.size inb_S1024x1024_S1024x1024_0_0).toLoadRect (h7.unread x6)) (View.readAt (Elt Ideal) a10.view (Rect.unit (s := S1x1024) ![0, 0] S1x1024.size inb_S1x1024_S1x1024_0_0).toLoadRect (h10.unread x9)) (View.readAt (Elt Ideal) a11.view (Rect.unit (s := S1x1x1024) ![0, 0, 0] S1x1x1024.size inb_S1x1x1024_S1x1x1024_0_0_0).toLoadRect (h11.unread x10)) (View.readAt (Elt Ideal) a12.view (Rect.unit (s := S1x1x1024) ![0, 0, 0] S1x1x1024.size inb_S1x1x1024_S1x1x1024_0_0_0).toLoadRect (h12.unread x11))⟩]
      ∧ (kernelRun0_A (F := Ideal) c i a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 x9 x10 x11 x12).2.2.1
        = [⟨Rect.unit (s := S512x128) ![0, 0] S512x128.size inb_S512x128_S512x128_0_0, routed (k0_pay29 (View.readAt (Elt Ideal) a8.view (Rect.unit (s := S512x1024) ![0, 0] S512x1024.size inb_S512x1024_S512x1024_0_0).toLoadRect (h8.unread x7)) (View.readAt (Elt Ideal) a9.view (Rect.unit (s := S1x1x1024) ![0, 0, 0] S1x1x1024.size inb_S1x1x1024_S1x1x1024_0_0_0).toLoadRect (h9.unread x8)) (View.readAt (Elt Ideal) a17.view (Rect.unit (s := S512x1024) ![0, 0] S512x1024.size inb_S512x1024_S512x1024_0_0).toLoadRect
      (a17.view.writes (Elt Ideal) b (pieces (View.readAt (Elt Ideal) a1.view (Rect.unit (s := S512x1024) ![0, 0] S512x1024.size inb_S512x1024_S512x1024_0_0).toLoadRect (h1.unread x0)) (k0_pay2 (View.readAt (Elt Ideal) a1.view (Rect.unit (s := S512x1024) ![0, 0] S512x1024.size inb_S512x1024_S512x1024_0_0).toLoadRect (h1.unread x0)) (View.readAt (Elt Ideal) a2.view (Rect.unit (s := S1024x2048) ![0, 1024] S1024x1024.size inb_S1024x2048_S1024x1024_0_1024).toLoadRect (h2.unread x1)) (View.readAt (Elt Ideal) a3.view (Rect.unit (s := S1x1024) ![0, 0] S1x1024.size inb_S1x1024_S1x1024_0_0).toLoadRect (h3.unread x2)) (View.readAt (Elt Ideal) a4.view (Rect.unit (s := S1x1024) ![0, 0] S1x1024.size inb_S1x1024_S1x1024_0_0).toLoadRect (h4.unread x3))) (View.readAt (Elt Ideal) a2.view (Rect.unit (s := S1024x2048) ![0, 0] S1024x1024.size inb_S1024x2048_S1024x1024_0_0).toLoadRect (h2.unread x1)) (View.readAt (Elt Ideal) a5.view (Rect.unit (s := S4x128x128) ![0, 0, 0] S1x128x128.size inb_S4x128x128_S1x128x128_0_0_0).toLoadRect (h5.unread x4)) (View.readAt (Elt Ideal) a5.view (Rect.unit (s := S4x128x128) ![1, 0, 0] S1x128x128.size inb_S4x128x128_S1x128x128_1_0_0).toLoadRect (h5.unread x4)) (View.readAt (Elt Ideal) a5.view (Rect.unit (s := S4x128x128) ![2, 0, 0] S1x128x128.size inb_S4x128x128_S1x128x128_2_0_0).toLoadRect (h5.unread x4)) (View.readAt (Elt Ideal) a5.view (Rect.unit (s := S4x128x128) ![3, 0, 0] S1x128x128.size inb_S4x128x128_S1x128x128_3_0_0).toLoadRect (h5.unread x4)) (View.readAt (Elt Ideal) a6.view (Rect.unit (s := S128x1024) ![0, 0] S128x256.size inb_S128x1024_S128x256_0_0).toLoadRect (h6.unread x5)) (View.readAt (Elt Ideal) a6.view (Rect.unit (s := S128x1024) ![0, 256] S128x256.size inb_S128x1024_S128x256_0_256).toLoadRect (h6.unread x5)) (View.readAt (Elt Ideal) a6.view (Rect.unit (s := S128x1024) ![0, 512] S128x256.size inb_S128x1024_S128x256_0_512).toLoadRect (h6.unread x5)) (View.readAt (Elt Ideal) a6.view (Rect.unit (s := S128x1024) ![0, 768] S128x256.size inb_S128x1024_S128x256_0_768).toLoadRect (h6.unread x5))))) (View.readAt (Elt Ideal) a7.view (Rect.unit (s := S1024x1024) ![0, 0] S1024x1024.size inb_S1024x1024_S1024x1024_0_0).toLoadRect (h7.unread x6)) (View.readAt (Elt Ideal) a10.view (Rect.unit (s := S1x1024) ![0, 0] S1x1024.size inb_S1x1024_S1x1024_0_0).toLoadRect (h10.unread x9)) (View.readAt (Elt Ideal) a11.view (Rect.unit (s := S1x1x1024) ![0, 0, 0] S1x1x1024.size inb_S1x1x1024_S1x1x1024_0_0_0).toLoadRect (h11.unread x10)) (View.readAt (Elt Ideal) a12.view (Rect.unit (s := S1x1x1024) ![0, 0, 0] S1x1x1024.size inb_S1x1x1024_S1x1x1024_0_0_0).toLoadRect (h12.unread x11))) (View.readAt (Elt Ideal) a13.view (Rect.unit (s := S1024x128) ![0, 0] S1024x128.size inb_S1024x128_S1024x128_0_0).toLoadRect (h13.unread x12))⟩] := by
    unfold kernelRun0_A
    exact ⟨_, rfl, rfl, rfl⟩
  obtain ⟨b, hL13, hL14, hL15⟩ := hL
  rw [e0, e2, e3, e6, e7, e8] at hL13 hL14 hL15
  rw [e9, e10, e11] at hL14 hL15
  rw [e12] at hL15
  refine ⟨(View.readAt (Elt Ideal) a17.view (Rect.unit (s := S512x1024) ![0, 0] S512x1024.size inb_S512x1024_S512x1024_0_0).toLoadRect
      (a17.view.writes (Elt Ideal) b (pieces x0 (k0_pay2 x0 (View.readAt (Elt Ideal) a2.view (Rect.unit (s := S1024x2048) ![0, 1024] S1024x1024.size inb_S1024x2048_S1024x1024_0_1024).toLoadRect (h2.unread x1)) x2 x3) (View.readAt (Elt Ideal) a2.view (Rect.unit (s := S1024x2048) ![0, 0] S1024x1024.size inb_S1024x2048_S1024x1024_0_0).toLoadRect (h2.unread x1)) (View.readAt (Elt Ideal) a5.view (Rect.unit (s := S4x128x128) ![0, 0, 0] S1x128x128.size inb_S4x128x128_S1x128x128_0_0_0).toLoadRect (h5.unread x4)) (View.readAt (Elt Ideal) a5.view (Rect.unit (s := S4x128x128) ![1, 0, 0] S1x128x128.size inb_S4x128x128_S1x128x128_1_0_0).toLoadRect (h5.unread x4)) (View.readAt (Elt Ideal) a5.view (Rect.unit (s := S4x128x128) ![2, 0, 0] S1x128x128.size inb_S4x128x128_S1x128x128_2_0_0).toLoadRect (h5.unread x4)) (View.readAt (Elt Ideal) a5.view (Rect.unit (s := S4x128x128) ![3, 0, 0] S1x128x128.size inb_S4x128x128_S1x128x128_3_0_0).toLoadRect (h5.unread x4)) (View.readAt (Elt Ideal) a6.view (Rect.unit (s := S128x1024) ![0, 0] S128x256.size inb_S128x1024_S128x256_0_0).toLoadRect (h6.unread x5)) (View.readAt (Elt Ideal) a6.view (Rect.unit (s := S128x1024) ![0, 256] S128x256.size inb_S128x1024_S128x256_0_256).toLoadRect (h6.unread x5)) (View.readAt (Elt Ideal) a6.view (Rect.unit (s := S128x1024) ![0, 512] S128x256.size inb_S128x1024_S128x256_0_512).toLoadRect (h6.unread x5)) (View.readAt (Elt Ideal) a6.view (Rect.unit (s := S128x1024) ![0, 768] S128x256.size inb_S128x1024_S128x256_0_768).toLoadRect (h6.unread x5))))), fun r e => ?_, ?_, ?_, ?_⟩
  · rw [View.readAt_full]
    refine (pieces_at _ _ _ _ _ _ _ _ _ _ _ a17.view b (fun g p q => x4 (ix3 g p q)) (fun p f => x5 (ix2 p f))
      (mixture_at a5 h5 x4 0 _) (shift_at a6 h6 x5 0 (by omega) _)
      (mixture_at a5 h5 x4 1 _) (shift_at a6 h6 x5 256 (by omega) _)
      (mixture_at a5 h5 x4 2 _) (shift_at a6 h6 x5 512 (by omega) _)
      (mixture_at a5 h5 x4 3 _) (shift_at a6 h6 x5 768 (by omega) _)
      r e).trans ?_
    unfold lanesOf gatedOf gatedRow
    have hu : ∀ r e, k0_pay3 (F := Ideal) x0 (View.readAt (Elt Ideal) a2.view (Rect.unit (s := S1024x2048) ![0, 0] S1024x1024.size inb_S1024x2048_S1024x1024_0_0).toLoadRect (h2.unread x1)) (ix2 r e)
        = lane (fun q => x0 (ix2 r q)) (fun q f => x1 (ix2 q f)) (lo e) := fun r e => by
      refine (pay3_at _ _ r e).trans (congrArg gelu (Finset.sum_congr rfl fun q _ => ?_))
      rw [cols_at a2 h2 x1 0 (by omega)]
      exact congrArg (fun z => x0 (ix2 r q) * x1 (ix2 q z)) (Fin.ext (Nat.zero_add _))
    have hv : ∀ r e, k0_pay2 (F := Ideal) x0 (View.readAt (Elt Ideal) a2.view (Rect.unit (s := S1024x2048) ![0, 1024] S1024x1024.size inb_S1024x2048_S1024x1024_0_1024).toLoadRect (h2.unread x1)) x2 x3 (ix2 r e)
        = normed (fun f => lane (fun q => x0 (ix2 r q)) (fun q f => x1 (ix2 q f)) (hi f)) (fun f => x2 (ix2 0 f)) (fun f => x3 (ix2 0 f)) e := fun r e => by
      refine (pay2_at _ _ _ _ r e).trans (congrArg (fun z => normed z _ _ e) (funext fun f => congrArg gelu (Finset.sum_congr rfl fun q _ => ?_)))
      rw [cols_at a2 h2 x1 1024 (by omega)]
      rfl
    simp only [hu, hv]
  · exact (congrArg (fun L => VO0_13.read (Elt Ideal) (VO0_13.writes (Elt Ideal) VO0_13.junk L)) hL13).trans (View.read_writes_full VO0_13 _ _ _ [])
  · exact (congrArg (fun L => VO0_14.read (Elt Ideal) (VO0_14.writes (Elt Ideal) VO0_14.junk L)) hL14).trans (View.read_writes_full VO0_14 _ _ _ [])
  · exact (congrArg (fun L => VO0_15.read (Elt Ideal) (VO0_15.writes (Elt Ideal) VO0_15.junk L)) hL15).trans (View.read_writes_full VO0_15 _ _ _ [])

end Cert.Proof.SguOut

end
-- ==== Proof.SguRows.lean ====
/- The three results of the gated unit with its router, as functions of the arguments: what both programs are shown to compute. -/
module

public import proofs.«01_k».proof.Proof.SguMath

@[expose] public section

noncomputable section

namespace Cert.Proof.SguRows

open Idealize.ShloMosaic Cert.Proof.FfnMath Cert.Proof.SguMath

/-- The arguments: the rows and their projection, the gain and shift of the values, the four mixtures and their shifts, the output weight, the
    residual rows and their gate per batch, the gain, shift and scale of the norm after, and the router's weight. -/
structure Inputs where
  x : Fin 16384 → Fin 1024 → EReal
  w : Fin 1024 → Fin 2048 → EReal
  lg : Fin 1024 → EReal
  lb : Fin 1024 → EReal
  mix : Fin 4 → Fin 128 → Fin 128 → EReal
  bias : Fin 128 → Fin 1024 → EReal
  wo : Fin 1024 → Fin 1024 → EReal
  h : Fin 16384 → Fin 1024 → EReal
  gm : Fin 8 → Fin 1024 → EReal
  g : Fin 1024 → EReal
  sh : Fin 8 → Fin 1024 → EReal
  sc : Fin 8 → Fin 1024 → EReal
  rw : Fin 1024 → Fin 128 → EReal

/-- The row that lane q of a mixture reads: of the same 128 rows. -/
def mateOf (p : Fin 16384) (q : Fin 128) : Fin 16384 := ⟨p.val / 128 * 128 + q.val, by omega⟩

/-- The place of a row in its 128 rows. -/
def place (p : Fin 16384) : Fin 128 := ⟨p.val % 128, by omega⟩

/-- The mixture of a lane. -/
def group (e : Fin 1024) : Fin 4 := ⟨e.val / 256, by omega⟩

/-- The batch of a row. -/
def batchOf (p : Fin 16384) : Fin 8 := ⟨p.val / 2048, by omega⟩

/-- A gated lane. -/
def gatedAt (A : Inputs) (p : Fin 16384) (e : Fin 1024) : EReal :=
  gatedRow (A.x p) (fun k => A.x (mateOf p k)) A.w A.lg A.lb (A.mix (group e) (place p)) (A.bias (place p) e) e

/-- A row after the unit. -/
def outAt (A : Inputs) (p : Fin 16384) (e : Fin 1024) : EReal :=
  added (A.h p) (A.gm (batchOf p)) (fun e => ∑ f : Fin 1024, gatedAt A p f * A.wo f e) e

/-- The same row, normalized. -/
def normAt (A : Inputs) (p : Fin 16384) (e : Fin 1024) : EReal := modulated (outAt A p) A.g (A.sc (batchOf p)) (A.sh (batchOf p)) e

/-- The router's lanes of the same row. -/
def routeAt (A : Inputs) (p : Fin 16384) (j : Fin 128) : EReal := route (fun k => ∑ e : Fin 1024, normAt A p e * A.rw e ⟨k.val, by omega⟩) j

end Cert.Proof.SguRows

end
-- ==== Proof.SguRun.lean ====
/- The gated unit's result arrays at an index, as functions of its argument arrays. -/
module

public import proofs.«01_k».proof.Proof.Gen.SguKernelIdeal.Value
public import proofs.«01_k».proof.Proof.SguOut
public import proofs.«01_k».proof.Proof.SguRows

@[expose] public section

set_option maxRecDepth 16384

noncomputable section

namespace Cert.Proof.SguRun

open Idealize.ShloMosaic Idealize.ShloMosaic.TcCoe Idealize.SL.Sem
open Cert.SguKernelIdeal Cert.SguKernelIdeal.Gen Cert.SguKernelIdeal.Value Cert.Proof.FfnMath Cert.Proof.SguMath Cert.Proof.SguBody Cert.Proof.SguPieces
  Cert.Proof.SguRouter Cert.Proof.SguOut Cert.Proof.SguRows

variable (m : (ℓ : Loc nD τ sig) → Buf (Elt Ideal) ℓ)

/-! The block of each window at a grid point: rows `t`, of batch `t / 4`. -/

theorem at_x : ∀ t : Fin cfg0.N, win0_0.index t (0 : Fin 2) = t.val ∧ win0_0.index t (1 : Fin 2) = 0 := (by decide +kernel : ∀ t : Fin grid0.N, _)
theorem at_h : ∀ t : Fin cfg0.N, win0_7.index t (0 : Fin 2) = t.val ∧ win0_7.index t (1 : Fin 2) = 0 := (by decide +kernel : ∀ t : Fin grid0.N, _)
theorem at_out : ∀ t : Fin cfg0.N, win0_13.index t (0 : Fin 2) = t.val ∧ win0_13.index t (1 : Fin 2) = 0 := (by decide +kernel : ∀ t : Fin grid0.N, _)
theorem at_outm : ∀ t : Fin cfg0.N, win0_14.index t (0 : Fin 2) = t.val ∧ win0_14.index t (1 : Fin 2) = 0 := (by decide +kernel : ∀ t : Fin grid0.N, _)
theorem at_outr : ∀ t : Fin cfg0.N, win0_15.index t (0 : Fin 2) = t.val ∧ win0_15.index t (1 : Fin 2) = 0 := (by decide +kernel : ∀ t : Fin grid0.N, _)
theorem at_w : ∀ t : Fin cfg0.N, win0_1.index t (0 : Fin 2) = 0 ∧ win0_1.index t (1 : Fin 2) = 0 := (by decide +kernel : ∀ t : Fin grid0.N, _)
theorem at_lg : ∀ t : Fin cfg0.N, win0_2.index t (0 : Fin 2) = 0 ∧ win0_2.index t (1 : Fin 2) = 0 := (by decide +kernel : ∀ t : Fin grid0.N, _)
theorem at_lb : ∀ t : Fin cfg0.N, win0_3.index t (0 : Fin 2) = 0 ∧ win0_3.index t (1 : Fin 2) = 0 := (by decide +kernel : ∀ t : Fin grid0.N, _)
theorem at_bias : ∀ t : Fin cfg0.N, win0_5.index t (0 : Fin 2) = 0 ∧ win0_5.index t (1 : Fin 2) = 0 := (by decide +kernel : ∀ t : Fin grid0.N, _)
theorem at_wo : ∀ t : Fin cfg0.N, win0_6.index t (0 : Fin 2) = 0 ∧ win0_6.index t (1 : Fin 2) = 0 := (by decide +kernel : ∀ t : Fin grid0.N, _)
theorem at_g : ∀ t : Fin cfg0.N, win0_9.index t (0 : Fin 2) = 0 ∧ win0_9.index t (1 : Fin 2) = 0 := (by decide +kernel : ∀ t : Fin grid0.N, _)
theorem at_rw : ∀ t : Fin cfg0.N, win0_12.index t (0 : Fin 2) = 0 ∧ win0_12.index t (1 : Fin 2) = 0 := (by decide +kernel : ∀ t : Fin grid0.N, _)
theorem at_gm : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem at_sh : ∀ t : Fin cfg0.N, win0_10.index t (0 : Fin 3) = t.val / 4 ∧ win0_10.index t (1 : Fin 3) = 0 ∧ win0_10.index t (2 : Fin 3) = 0 :=
  (by decide +kernel : ∀ t : Fin grid0.N, _)
theorem at_sc : ∀ t : Fin cfg0.N, win0_11.index t (0 : Fin 3) = t.val / 4 ∧ win0_11.index t (1 : Fin 3) = 0 ∧ win0_11.index t (2 : Fin 3) = 0 :=
  (by decide +kernel : ∀ t : Fin grid0.N, _)
theorem at_mix : ∀ t : Fin cfg0.N, win0_4.index t (0 : Fin 3) = 0 ∧ win0_4.index t (1 : Fin 3) = 0 ∧ win0_4.index t (2 : Fin 3) = 0 :=
  (by decide +kernel : ∀ t : Fin grid0.N, _)

/-- The grid has 32 points. -/
theorem points (t : Fin cfg0.N) : t.val < 32 := t.isLt

/-- A row of the block of a point, among all rows. -/
def row (t : Fin cfg0.N) (r : Fin 512) : Fin 16384 := ⟨t.val * 512 + r.val, by have := points t; omega⟩

/-- The batch of a point. -/
def batch (t : Fin cfg0.N) : Fin 8 := ⟨t.val / 4, by have := points t; omega⟩

theorem x_at (c : Dev nD) (t : Fin cfg0.N) (r : Fin 512) (e : Fin 1024) : iblk m c 0 t (ix2 r e) = V m c main_arg0 (ix2 (row t r) e) := by
  obtain ⟨e0, e1⟩ := at_x t
  show V m c main_arg0 (((cfg0.win 0).blk t).view.emb (ix2 r e)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * e.val = e.val; omega

theorem h_at (c : Dev nD) (t : Fin cfg0.N) (r : Fin 512) (e : Fin 1024) : iblk m c 7 t (ix2 r e) = V m c main_arg7 (ix2 (row t r) e) := by
  obtain ⟨e0, e1⟩ := at_h t
  show V m c main_arg7 (((cfg0.win 7).blk t).view.emb (ix2 r e)) = _
  refine congrArg _ (funext fun a => Fin.ext ?_)
  match a with
  | ⟨0, _⟩ => show win0_7.index t (0 : Fin 2) * 512 + 1 * r.val = t.val * 512 + r.val; omega
  | ⟨1, _⟩ => show win0_7.index t (1 : Fin 2) * 1024 + 1 * e.val = e.val; omega

theorem w_at (c : Dev nD) (t : Fin cfg0.N) (q : Fin 1024) (f : Fin 2048) : iblk m c 1 t (ix2 q f) = V m c main_arg1 (ix2 q f) := by
  obtain ⟨e0, e1⟩ := at_w t
  show V m c main_arg1 (((cfg0.win 1).blk t).view.emb (ix2 q f)) = _
  refine congrArg _ (funext fun a => Fin.ext ?_)
  match a with
  | ⟨0, _⟩ => show win0_1.index t (0 : Fin 2) * 1024 + 1 * q.val = q.val; omega
  | ⟨1, _⟩ => show win0_1.index t (1 : Fin 2) * 2048 + 1 * f.val = f.val; omega

theorem lg_at (c : Dev nD) (t : Fin cfg0.N) (q : Fin 1) (f : Fin 1024) : iblk m c 2 t (ix2 q f) = V m c main_arg2 (ix2 q f) := by
  obtain ⟨e0, e1⟩ := at_lg t
  show V m c main_arg2 (((cfg0.win 2).blk t).view.emb (ix2 q f)) = _
  refine congrArg _ (funext fun a => Fin.ext ?_)
  match a with
  | ⟨0, _⟩ => show win0_2.index t (0 : Fin 2) * 1 + 1 * q.val = q.val; omega
  | ⟨1, _⟩ => show win0_2.index t (1 : Fin 2) * 1024 + 1 * f.val = f.val; omega

theorem lb_at (c : Dev nD) (t : Fin cfg0.N) (q : Fin 1) (f : Fin 1024) : iblk m c 3 t (ix2 q f) = V m c main_arg3 (ix2 q f) := by
  obtain ⟨e0, e1⟩ := at_lb t
  show V m c main_arg3 (((cfg0.win 3).blk t).view.emb (ix2 q f)) = _
  refine congrArg _ (funext fun a => Fin.ext ?_)
  match a with
  | ⟨0, _⟩ => show win0_3.index t (0 : Fin 2) * 1 + 1 * q.val = q.val; omega
  | ⟨1, _⟩ => show win0_3.index t (1 : Fin 2) * 1024 + 1 * f.val = f.val; omega

theorem bias_at (c : Dev nD) (t : Fin cfg0.N) (q : Fin 128) (f : Fin 1024) : iblk m c 5 t (ix2 q f) = V m c main_arg5 (ix2 q f) := by
  obtain ⟨e0, e1⟩ := at_bias t
  show V m c main_arg5 (((cfg0.win 5).blk t).view.emb (ix2 q f)) = _
  refine congrArg _ (funext fun a => Fin.ext ?_)
  match a with
  | ⟨0, _⟩ => show win0_5.index t (0 : Fin 2) * 128 + 1 * q.val = q.val; omega
  | ⟨1, _⟩ => show win0_5.index t (1 : Fin 2) * 1024 + 1 * f.val = f.val; omega

theorem wo_at (c : Dev nD) (t : Fin cfg0.N) (q : Fin 1024) (f : Fin 1024) : iblk m c 6 t (ix2 q f) = V m c main_arg6 (ix2 q f) := by
  obtain ⟨e0, e1⟩ := at_wo t
  show V m c main_arg6 (((cfg0.win 6).blk t).view.emb (ix2 q f)) = _
  refine congrArg _ (funext fun a => Fin.ext ?_)
  match a with
  | ⟨0, _⟩ => show win0_6.index t (0 : Fin 2) * 1024 + 1 * q.val = q.val; omega
  | ⟨1, _⟩ => show win0_6.index t (1 : Fin 2) * 1024 + 1 * f.val = f.val; omega

theorem g_at (c : Dev nD) (t : Fin cfg0.N) (q : Fin 1) (f : Fin 1024) : iblk m c 9 t (ix2 q f) = V m c main_arg9 (ix2 q f) := by
  obtain ⟨e0, e1⟩ := at_g t
  show V m c main_arg9 (((cfg0.win 9).blk t).view.emb (ix2 q f)) = _
  refine congrArg _ (funext fun a => Fin.ext ?_)
  match a with
  | ⟨0, _⟩ => show win0_9.index t (0 : Fin 2) * 1 + 1 * q.val = q.val; omega
  | ⟨1, _⟩ => show win0_9.index t (1 : Fin 2) * 1024 + 1 * f.val = f.val; omega

theorem rw_at (c : Dev nD) (t : Fin cfg0.N) (q : Fin 1024) (f : Fin 128) : iblk m c 12 t (ix2 q f) = V m c main_arg12 (ix2 q f) := by
  obtain ⟨e0, e1⟩ := at_rw t
  show V m c main_arg12 (((cfg0.win 12).blk t).view.emb (ix2 q f)) = _
  refine congrArg _ (funext fun a => Fin.ext ?_)
  match a with
  | ⟨0, _⟩ => show win0_12.index t (0 : Fin 2) * 1024 + 1 * q.val = q.val; omega
  | ⟨1, _⟩ => show win0_12.index t (1 : Fin 2) * 128 + 1 * f.val = f.val; omega

theorem gm_at (c : Dev nD) (t : Fin cfg0.N) (e : Fin 1024) : iblk m c 8 t (ix3 0 0 e) = V m c main_arg8 (ix3 (batch t) 0 e) := by
  obtain ⟨e0, e1, e2⟩ := at_gm t
  show V m c main_arg8 (((cfg0.win 8).blk t).view.emb (ix3 0 0 e)) = _
  refine congrArg _ (funext fun a => Fin.ext ?_)
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 1024 + 1 * e.val = e.val; omega

theorem sh_at (c : Dev nD) (t : Fin cfg0.N) (e : Fin 1024) : iblk m c 10 t (ix3 0 0 e) = V m c main_arg10 (ix3 (batch t) 0 e) := by
  obtain ⟨e0, e1, e2⟩ := at_sh t
  show V m c main_arg10 (((cfg0.win 10).blk t).view.emb (ix3 0 0 e)) = _
  refine congrArg _ (funext fun a => Fin.ext ?_)
  match a with
  | ⟨0, _⟩ => show win0_10.index t (0 : Fin 3) * 1 + 1 * 0 = t.val / 4; omega
  | ⟨1, _⟩ => show win0_10.index t (1 : Fin 3) * 1 + 1 * 0 = 0; omega
  | ⟨2, _⟩ => show win0_10.index t (2 : Fin 3) * 1024 + 1 * e.val = e.val; omega

theorem sc_at (c : Dev nD) (t : Fin cfg0.N) (e : Fin 1024) : iblk m c 11 t (ix3 0 0 e) = V m c main_arg11 (ix3 (batch t) 0 e) := by
  obtain ⟨e0, e1, e2⟩ := at_sc t
  show V m c main_arg11 (((cfg0.win 11).blk t).view.emb (ix3 0 0 e)) = _
  refine congrArg _ (funext fun a => Fin.ext ?_)
  match a with
  | ⟨0, _⟩ => show win0_11.index t (0 : Fin 3) * 1 + 1 * 0 = t.val / 4; omega
  | ⟨1, _⟩ => show win0_11.index t (1 : Fin 3) * 1 + 1 * 0 = 0; omega
  | ⟨2, _⟩ => show win0_11.index t (2 : Fin 3) * 1024 + 1 * e.val = e.val; omega

theorem mix_at (c : Dev nD) (t : Fin cfg0.N) (g : Fin 4) (p q : Fin 128) : iblk m c 4 t (ix3 g p q) = V m c main_arg4 (ix3 g p q) := by
  obtain ⟨e0, e1, e2⟩ := at_mix t
  show V m c main_arg4 (((cfg0.win 4).blk t).view.emb (ix3 g p q)) = _
  refine congrArg _ (funext fun a => Fin.ext ?_)
  match a with
  | ⟨0, _⟩ => show win0_4.index t (0 : Fin 3) * 4 + 1 * g.val = g.val; omega
  | ⟨1, _⟩ => show win0_4.index t (1 : Fin 3) * 128 + 1 * p.val = p.val; omega
  | ⟨2, _⟩ => show win0_4.index t (2 : Fin 3) * 128 + 1 * q.val = q.val; omega

theorem out_at (t : Fin cfg0.N) (r : Fin 512) (e : Fin 1024) : ((cfg0.win 13).blk t).view.emb (ix2 r e) = ix2 (row t r) e := by
  obtain ⟨e0, e1⟩ := at_out t
  refine funext fun a => Fin.ext ?_
  match a with
  | ⟨0, _⟩ => show win0_13.index t (0 : Fin 2) * 512 + 1 * r.val = t.val * 512 + r.val; omega
  | ⟨1, _⟩ => show win0_13.index t (1 : Fin 2) * 1024 + 1 * e.val = e.val; omega

theorem outm_at (t : Fin cfg0.N) (r : Fin 512) (e : Fin 1024) : ((cfg0.win 14).blk t).view.emb (ix2 r e) = ix2 (row t r) e := by
  obtain ⟨e0, e1⟩ := at_outm t
  refine funext fun a => Fin.ext ?_
  match a with
  | ⟨0, _⟩ => show win0_14.index t (0 : Fin 2) * 512 + 1 * r.val = t.val * 512 + r.val; omega
  | ⟨1, _⟩ => show win0_14.index t (1 : Fin 2) * 1024 + 1 * e.val = e.val; omega

theorem outr_at (t : Fin cfg0.N) (r : Fin 512) (e : Fin 128) : ((cfg0.win 15).blk t).view.emb (ix2 r e) = ix2 (row t r) e := by
  obtain ⟨e0, e1⟩ := at_outr t
  refine funext fun a => Fin.ext ?_
  match a with
  | ⟨0, _⟩ => show win0_15.index t (0 : Fin 2) * 512 + 1 * r.val = t.val * 512 + r.val; omega
  | ⟨1, _⟩ => show win0_15.index t (1 : Fin 2) * 128 + 1 * e.val = e.val; omega

/-- The argument arrays. -/
def inputs (c : Dev nD) : Inputs where
  x p q := V m c main_arg0 (ix2 p q)
  w q f := V m c main_arg1 (ix2 q f)
  lg f := V m c main_arg2 (ix2 0 f)
  lb f := V m c main_arg3 (ix2 0 f)
  mix g p q := V m c main_arg4 (ix3 g p q)
  bias p f := V m c main_arg5 (ix2 p f)
  wo f e := V m c main_arg6 (ix2 f e)
  h p e := V m c main_arg7 (ix2 p e)
  gm b e := V m c main_arg8 (ix3 b 0 e)
  g e := V m c main_arg9 (ix2 0 e)
  sh b e := V m c main_arg10 (ix3 b 0 e)
  sc b e := V m c main_arg11 (ix3 b 0 e)
  rw e k := V m c main_arg12 (ix2 e k)

theorem batch_row (t : Fin cfg0.N) (r : Fin 512) : batchOf (row t r) = batch t := Fin.ext (by show (t.val * 512 + r.val) / 2048 = t.val / 4; omega)

theorem mate_row (t : Fin cfg0.N) (r : Fin 512) (q : Fin 128) : row t (mate r q) = mateOf (row t r) q :=
  Fin.ext (by show t.val * 512 + (r.val / 128 * 128 + q.val) = (t.val * 512 + r.val) / 128 * 128 + q.val; omega)

theorem place_row (t : Fin cfg0.N) (r : Fin 512) : (⟨r.val % 128, by omega⟩ : Fin 128) = place (row t r) :=
  Fin.ext (by show r.val % 128 = (t.val * 512 + r.val) % 128; omega)

/-- The gated lanes of a point's block. -/
theorem gated_row (c : Dev nD) (t : Fin cfg0.N) (r : Fin 512) (e : Fin 1024) :
    gatedOf (iblk m c 0 t) (iblk m c 1 t) (iblk m c 2 t) (iblk m c 3 t) (iblk m c 4 t) (iblk m c 5 t) r e = gatedAt (inputs m c) (row t r) e := by
  unfold gatedOf gatedAt
  have h0 : (fun q => iblk m c 0 t (ix2 r q)) = (inputs m c).x (row t r) := funext (x_at m c t r)
  have h1 : (fun k q => iblk m c 0 t (ix2 (mate r k) q)) = fun k => (inputs m c).x (mateOf (row t r) k) := funext fun k => funext fun q => by
    rw [x_at, mate_row]; rfl
  have h2 : (fun q f => iblk m c 1 t (ix2 q f)) = (inputs m c).w := funext fun q => funext fun f => w_at m c t q f
  have h3 : (fun f => iblk m c 2 t (ix2 0 f)) = (inputs m c).lg := funext fun f => lg_at m c t 0 f
  have h4 : (fun f => iblk m c 3 t (ix2 0 f)) = (inputs m c).lb := funext fun f => lb_at m c t 0 f
  have h5 : (fun q => iblk m c 4 t (ix3 ⟨e.val / 256, by omega⟩ ⟨r.val % 128, by omega⟩ q)) = (inputs m c).mix (group e) (place (row t r)) := funext fun q => by
    rw [mix_at, place_row t r]; rfl
  have h6 : iblk m c 5 t (ix2 ⟨r.val % 128, by omega⟩ e) = (inputs m c).bias (place (row t r)) e := by
    rw [bias_at, place_row t r]; rfl
  rw [← h0, ← h1, ← h2, ← h3, ← h4, ← h5, ← h6]

variable {m}

/-- The row that a point stores is the row after the unit. -/
theorem stored_row (c : Dev nD) (t : Fin cfg0.N) (Y : Vec Ideal S512x1024 .bf16)
    (hY : ∀ r f, Y (ix2 r f) = gatedOf (iblk m c 0 t) (iblk m c 1 t) (iblk m c 2 t) (iblk m c 3 t) (iblk m c 4 t) (iblk m c 5 t) r f)
    (r : Fin 512) (e : Fin 1024) : k0_pay27 (F := Ideal) (iblk m c 7 t) (iblk m c 8 t) Y (iblk m c 6 t) (ix2 r e) = outAt (inputs m c) (row t r) e := by
  unfold outAt
  rw [batch_row]
  exact (pay27_at _ _ _ _ r e).trans (added_congr e (h_at m c t r e) (gm_at m c t e)
    (Finset.sum_congr rfl fun f _ => congrArg₂ (· * ·) ((hY r f).trans (gated_row m c t r f)) (wo_at m c t f e)))

/-- … and normalized it is the normalized row. -/
theorem stored_norm (c : Dev nD) (t : Fin cfg0.N) (Y : Vec Ideal S512x1024 .bf16)
    (hY : ∀ r f, Y (ix2 r f) = gatedOf (iblk m c 0 t) (iblk m c 1 t) (iblk m c 2 t) (iblk m c 3 t) (iblk m c 4 t) (iblk m c 5 t) r f)
    (r : Fin 512) (e : Fin 1024) : k0_pay28 (F := Ideal) (iblk m c 7 t) (iblk m c 8 t) Y (iblk m c 6 t) (iblk m c 9 t) (iblk m c 10 t) (iblk m c 11 t) (ix2 r e)
      = normAt (inputs m c) (row t r) e := by
  unfold normAt
  rw [batch_row]
  exact (pay28_at _ _ _ _ _ _ _ r e).trans (modulated_congr (stored_row c t Y hY r) (g_at m c t 0) (sc_at m c t) (sh_at m c t) e)

variable (m)

/-- The first result array in the block of a point. -/
theorem block_h (c : Dev nD) (t : Fin cfg0.N) (r : Fin 512) (e : Fin 1024) : (dats m 0 c).arrAt 13 cfg0.N (ix2 (row t r) e) = outAt (inputs m c) (row t r) e := by
  have h := congrFun (blocks13 m c t (flush0_13 t)) (ix2 r e)
  obtain ⟨Y, hY, e13, e14, e15⟩ := out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [flushed13_A, e13] at h
  rw [← out_at]
  exact h.trans (stored_row c t Y hY r e)

/-- The second result array in the block of a point. -/
theorem block_m (c : Dev nD) (t : Fin cfg0.N) (r : Fin 512) (e : Fin 1024) : (dats m 0 c).arrAt 14 cfg0.N (ix2 (row t r) e) = normAt (inputs m c) (row t r) e := by
  have h := congrFun (blocks14 m c t (flush0_14 t)) (ix2 r e)
  obtain ⟨Y, hY, e13, e14, e15⟩ := out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [flushed14_A, e14] at h
  rw [← outm_at]
  exact h.trans (stored_norm c t Y hY r e)

/-- The third result array in the block of a point. -/
theorem block_r (c : Dev nD) (t : Fin cfg0.N) (r : Fin 512) (e : Fin 128) : (dats m 0 c).arrAt 15 cfg0.N (ix2 (row t r) e) = routeAt (inputs m c) (row t r) e := by
  have h := congrFun (blocks15 m c t (flush0_15 t)) (ix2 r e)
  obtain ⟨Y, hY, e13, e14, e15⟩ := out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  rw [flushed15_A, e15] at h
  rw [← outr_at]
  exact h.trans ((routed_at _ _ r e).trans (congrArg (fun A => route A e) (funext fun k => Finset.sum_congr rfl fun f _ =>
    congrArg₂ (· * ·) ((pay29_at _ _ _ _ _ _ _ r f).trans (stored_norm c t Y hY r f)) (rw_at m c t f ⟨k.val, by omega⟩))))

end Cert.Proof.SguRun

end
-- ==== Proof.SguRef.lean ====
/- What the reference of the gated unit computes, at an index: the row after the unit and its norm. -/
module

public import proofs.«01_k».proof.Proof.Gen.SguReferenceIdeal.Read
public import proofs.«01_k».proof.Proof.SguRows
public import Idealize.ShloMosaic.Lib.Pointwise

@[expose] public section

set_option maxRecDepth 16384

noncomputable section

namespace Cert.Proof.SguRef

open Idealize.ShloMosaic Idealize.ShloMosaic.TcCoe Idealize.SL.Sem
open Cert.SguReferenceIdeal Cert.SguReferenceIdeal.Gen Cert.SguReferenceIdeal.Read Cert.Proof.FfnMath Cert.Proof.SguMath Cert.Proof.SguRows

variable (x : FVec Ideal S16384x1024 .bf16) (w : FVec Ideal S1024x2048 .bf16) (lg lb : FVec Ideal S1x1024 .f32) (mix : FVec Ideal S4x128x128 .bf16)
  (bias : FVec Ideal S128x1024 .f32) (wo : FVec Ideal S1024x1024 .bf16) (h : FVec Ideal S16384x1024 .f32) (gm : FVec Ideal S8x1x1024 .f32)
  (g : FVec Ideal S1x1024 .f32) (sh sc : FVec Ideal S8x1x1024 .f32) (rt : FVec Ideal S1024x128 .bf16)

/-- The arguments as functions. -/
def args : Inputs where
  x p q := x (ix2 p q)
  w q f := w (ix2 q f)
  lg f := lg (ix2 0 f)
  lb f := lb (ix2 0 f)
  mix k p q := mix (ix3 k p q)
  bias p e := bias (ix2 p e)
  wo f e := wo (ix2 f e)
  h p e := h (ix2 p e)
  gm b e := gm (ix3 b 0 e)
  g e := g (ix2 0 e)
  sh b e := sh (ix3 b 0 e)
  sc b e := sc (ix3 b 0 e)
  rw e j := rt (ix2 e j)

theorem proj_lane (p : Fin 16384) (f : Fin 2048) : val_main_v2 (F := Ideal) x w (ix2 p f) = ∑ q : Fin 1024, x (ix2 p q) * w (ix2 q f) := by
  rw [val_main_v2_apply]
  refine Finset.sum_congr rfl fun q _ => congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- A lane through gelu. -/
theorem gelu_lane (p : Fin 16384) (f : Fin 2048) : val_main_v15 (F := Ideal) x w (ix2 p f) = lane (fun q => x (ix2 p q)) (fun q f => w (ix2 q f)) f := by
  unfold lane
  rw [← proj_lane, val_main_v15_apply, val_main_v14_apply, val_main_v13_apply, val_main_v12_apply, val_main_v11_apply, val_main_v10_apply, val_main_v9_apply,
    val_main_v8_apply, val_main_v7_apply, val_main_v6_apply, val_main_v5_apply, val_main_v4_apply, val_main_v3_apply,
    show val_main_cst_1 (F := Ideal) _ = 1 by pointwise [val_main_cst_1]]
  generalize val_main_v2 (F := Ideal) x w (ix2 p f) = z
  exact gelu_eq z

theorem gate_lane (p : Fin 16384) (e : Fin 1024) : val_main_v16 (F := Ideal) x w (ix2 p e) = lane (fun q => x (ix2 p q)) (fun q f => w (ix2 q f)) (lo e) := by
  rw [val_main_v16_apply]
  refine Eq.trans (congrArg (val_main_v15 (F := Ideal) x w) (funext fun a => ?_)) (gelu_lane x w p (lo e))
  match a with
  | ⟨0, _⟩ => rfl
  | ⟨1, _⟩ => rfl

/-- The values of a row. -/
def vals (p : Fin 16384) (e : Fin 1024) : EReal := lane (fun q => x (ix2 p q)) (fun q f => w (ix2 q f)) (hi e)

theorem value_lane (p : Fin 16384) (e : Fin 1024) : val_main_v17 (F := Ideal) x w (ix2 p e) = vals x w p e := by
  rw [val_main_v17_apply]
  refine Eq.trans (congrArg (val_main_v15 (F := Ideal) x w) (funext fun a => ?_)) (gelu_lane x w p (hi e))
  match a with
  | ⟨0, _⟩ => rfl
  | ⟨1, _⟩ => rfl

/-- The mean of the values of a row. -/
theorem mean_lane (p : Fin 16384) : val_main_v21 (F := Ideal) x w (ix2 p 0) = mean (vals x w p) := by
  rw [val_main_v21_apply, val_main_v20_apply, val_main_v19_apply, val_main_v18_apply, show val_main_cst_3 (F := Ideal) _ = 0 by pointwise [val_main_cst_3], zero_add]
  unfold mean
  refine congrArg₂ Ideal.div (Finset.sum_congr rfl fun y _ => ?_) rfl
  refine Eq.trans (congrArg (val_main_v17 (F := Ideal) x w) (funext fun a => ?_)) (value_lane x w p y)
  match a with
  | ⟨0, _⟩ => rfl
  | ⟨1, _⟩ => rfl

theorem column (p : Fin 16384) (e : Fin 1024) : idx_main_v22 (ix2 p e) = ix2 p 0 := funext fun a => match a with
  | ⟨0, _⟩ => rfl
  | ⟨1, _⟩ => rfl

/-- The values less their mean. -/
theorem centred_lane (p : Fin 16384) (e : Fin 1024) : val_main_v23 (F := Ideal) x w (ix2 p e) = centred (vals x w p) e := by
  rw [val_main_v23_apply, val_main_v22_apply, value_lane]
  exact congrArg₂ (· - ·) rfl ((congrArg (val_main_v21 (F := Ideal) x w) (column p e)).trans (mean_lane x w p))

/-- The mean of their squares. -/
theorem variance_lane (p : Fin 16384) : val_main_v28 (F := Ideal) x w (ix2 p 0) = mean (fun f => centred (vals x w p) f * centred (vals x w p) f) := by
  rw [val_main_v28_apply, val_main_v27_apply, val_main_v26_apply, val_main_v25_apply, show val_main_cst_5 (F := Ideal) _ = 0 by pointwise [val_main_cst_5], zero_add]
  unfold mean
  refine congrArg₂ Ideal.div (Finset.sum_congr rfl fun y _ => ?_) rfl
  refine Eq.trans (congrArg (val_main_v24 (F := Ideal) x w) (?_ : _ = ix2 p y)) ?_
  · refine funext fun a => ?_
    match a with
    | ⟨0, _⟩ => rfl
    | ⟨1, _⟩ => rfl
  · rw [val_main_v24_apply, centred_lane]
    rfl

/-- The values normalized. -/
theorem normed_lane (p : Fin 16384) (e : Fin 1024) : val_main_v43 (F := Ideal) x w lg lb (ix2 p e)
    = normed (vals x w p) (fun f => lg (ix2 0 f)) (fun f => lb (ix2 0 f)) e := by
  rw [val_main_v43_apply, val_main_v42_apply, val_main_v41_apply, val_main_v40_apply, val_main_v39_apply, val_main_v38_apply, val_main_v37_apply, val_main_v36_apply,
    val_main_v35_apply, val_main_v34_apply, val_main_v33_apply, val_main_v32_apply, val_main_v31_apply]
  unfold normed
  refine congrArg₂ (· + ·) (congrArg₂ (· * ·) (congrArg₂ (· * ·) (centred_lane x w p e) (congrArg Ideal.rsqrt (congrArg₂ (· + ·)
    ((congrArg (val_main_v28 (F := Ideal) x w) (column p e)).trans (variance_lane x w p)) rfl))) (congrArg lg (funext fun a => ?_))) (congrArg lb (funext fun a => ?_))
  · match a with
    | ⟨0, _⟩ => exact Subsingleton.elim (α := Fin 1) _ _
    | ⟨1, _⟩ => exact Fin.ext (Nat.mod_eq_of_lt e.isLt)
  · match a with
    | ⟨0, _⟩ => exact Subsingleton.elim (α := Fin 1) _ _
    | ⟨1, _⟩ => exact Fin.ext (Nat.mod_eq_of_lt e.isLt)

/-- The mixture of a lane with its shift. -/
theorem mixed_lane (p : Fin 16384) (e : Fin 1024) : val_main_v52 (F := Ideal) x w lg lb mix bias (ix2 p e)
    = ∑ q : Fin 128, mix (ix3 (group e) (place p) q) * normed (vals x w (mateOf p q)) (fun f => lg (ix2 0 f)) (fun f => lb (ix2 0 f)) e + bias (ix2 (place p) e) := by
  have hp := p.isLt
  have he := e.isLt
  rw [val_main_v52_apply, val_main_v51_apply, val_main_v50_apply, val_main_v49_apply, val_main_v48_apply, val_main_v47_apply, val_main_v46_apply]
  refine congrArg₂ (· + ·) (Finset.sum_congr rfl fun q _ => (mul_comm _ _).trans (congrArg₂ (· * ·) (congrArg mix (funext fun a => ?_)) ?_)) (congrArg bias (funext fun a => ?_))
  · match a with
    | ⟨0, _⟩ => exact Fin.ext (by show (p.val * 1024 + e.val) / 256 % 4 = e.val / 256; omega)
    | ⟨1, _⟩ => exact Fin.ext (by show (p.val * 1024 + e.val) / 1024 % 128 = p.val % 128; omega)
    | ⟨2, _⟩ => rfl
  · rw [val_main_v45_apply]
    refine Eq.trans (congrArg (val_main_v43 (F := Ideal) x w lg lb) (funext fun a => ?_)) (normed_lane x w lg lb (mateOf p q) e)
    match a with
    | ⟨0, _⟩ => exact Fin.ext (by
        show ((((p.val * 1024 + e.val) / 131072 * 128 + q.val) * 4 + (p.val * 1024 + e.val) / 256 % 4) * 256 + (p.val * 1024 + e.val) % 256) / 1024 = p.val / 128 * 128 + q.val
        omega)
    | ⟨1, _⟩ => exact Fin.ext (by
        show ((((p.val * 1024 + e.val) / 131072 * 128 + q.val) * 4 + (p.val * 1024 + e.val) / 256 % 4) * 256 + (p.val * 1024 + e.val) % 256) % 1024 = e.val
        omega)
  · match a with
    | ⟨0, _⟩ => exact Fin.ext (by
        show (((p.val * 1024 + e.val) / 1024 % 128 * 4 + (p.val * 1024 + e.val) / 256 % 4) * 256 + (p.val * 1024 + e.val) % 256) / 1024 = p.val % 128
        omega)
    | ⟨1, _⟩ => exact Fin.ext (by
        show (((p.val * 1024 + e.val) / 1024 % 128 * 4 + (p.val * 1024 + e.val) / 256 % 4) * 256 + (p.val * 1024 + e.val) % 256) % 1024 = e.val
        omega)

/-- A gated lane. -/
theorem gated_lane (p : Fin 16384) (e : Fin 1024) : val_main_v53 (F := Ideal) x w lg lb mix bias (ix2 p e) = gatedAt (args x w lg lb mix bias wo h gm g sh sc rt) p e := by
  rw [val_main_v53_apply, gate_lane, mixed_lane]
  rfl

/-- An output lane. -/
theorem out_lane (p : Fin 16384) (e : Fin 1024) : val_main_v55 (F := Ideal) x w lg lb mix bias wo (ix2 p e)
    = ∑ f : Fin 1024, gatedAt (args x w lg lb mix bias wo h gm g sh sc rt) p f * wo (ix2 f e) := by
  rw [val_main_v55_apply]
  refine Finset.sum_congr rfl fun f _ => congrArg₂ (· * ·)
    (Eq.trans (congrArg (val_main_v53 (F := Ideal) x w lg lb mix bias) (funext fun a => ?_)) (gated_lane x w lg lb mix bias wo h gm g sh sc rt p f)) (congrArg wo (funext fun a => ?_))
  · match a with
    | ⟨0, _⟩ => rfl
    | ⟨1, _⟩ => rfl
  · match a with
    | ⟨0, _⟩ => rfl
    | ⟨1, _⟩ => rfl

/-- The place of a row in its batch. -/
def inBatch (p : Fin 16384) : Fin 2048 := ⟨p.val % 2048, by omega⟩

theorem row_idx (p : Fin 16384) (e : Fin 1024) : idx_main_v56 (ix3 (batchOf p) (inBatch p) e) = ix2 p e := by
  have hp := p.isLt
  have he := e.isLt
  refine funext fun a => Fin.ext ?_
  match a with
  | ⟨0, _⟩ => show ((p.val / 2048 * 2048 + p.val % 2048) * 1024 + e.val) / 1024 = p.val; omega
  | ⟨1, _⟩ => show ((p.val / 2048 * 2048 + p.val % 2048) * 1024 + e.val) % 1024 = e.val; omega

theorem unrow_idx (p : Fin 16384) (e : Fin 1024) : idx_main_v81 (ix2 p e) = ix3 (batchOf p) (inBatch p) e := by
  have hp := p.isLt
  have he := e.isLt
  refine funext fun a => Fin.ext ?_
  match a with
  | ⟨0, _⟩ => show (p.val * 1024 + e.val) / 2097152 = p.val / 2048; omega
  | ⟨1, _⟩ => show (p.val * 1024 + e.val) / 1024 % 2048 = p.val % 2048; omega
  | ⟨2, _⟩ => show (p.val * 1024 + e.val) % 1024 = e.val; omega

/-- The row after the unit. -/
theorem added_lane (p : Fin 16384) (e : Fin 1024) : val_main_v60 (F := Ideal) x w lg lb mix bias wo h gm (ix3 (batchOf p) (inBatch p) e)
    = outAt (args x w lg lb mix bias wo h gm g sh sc rt) p e := by
  rw [val_main_v60_apply, val_main_v59_apply, val_main_v58_apply, val_main_v57_apply, val_main_v56_apply]
  refine congrArg₂ (· + ·) (congrArg h (row_idx p e)) (congrArg₂ (· * ·) (congrArg gm (funext fun a => ?_)) ?_)
  · match a with
    | ⟨0, _⟩ => rfl
    | ⟨1, _⟩ => rfl
    | ⟨2, _⟩ => rfl
  · exact (congrArg (val_main_v55 (F := Ideal) x w lg lb mix bias wo) (row_idx p e)).trans (out_lane x w lg lb mix bias wo h gm g sh sc rt p e)

/-- The sum of squares of a row. -/
theorem squares_lane (p : Fin 16384) : val_main_v62 (F := Ideal) x w lg lb mix bias wo h gm (ix2 (batchOf p) (inBatch p))
    = ∑ y : Fin 1024, outAt (args x w lg lb mix bias wo h gm g sh sc rt) p y * outAt (args x w lg lb mix bias wo h gm g sh sc rt) p y := by
  rw [val_main_v62_apply, show val_main_cst_8 (F := Ideal) _ = 0 by pointwise [val_main_cst_8], zero_add]
  refine Finset.sum_congr rfl fun y _ => ?_
  rw [val_main_v61_apply, show idx_main_v62 (ix2 (batchOf p) (inBatch p)) y = ix3 (batchOf p) (inBatch p) y from funext fun a => match a with
    | ⟨0, _⟩ => rfl
    | ⟨1, _⟩ => rfl
    | ⟨2, _⟩ => rfl, added_lane x w lg lb mix bias wo h gm g sh sc rt p y]
  rfl

/-- One over the root of a row's mean square. -/
theorem rms_lane (p : Fin 16384) (e : Fin 1024) : val_main_v69 (F := Ideal) x w lg lb mix bias wo h gm (ix3 (batchOf p) (inBatch p) e)
    = inverseRms (outAt (args x w lg lb mix bias wo h gm g sh sc rt) p) := by
  rw [val_main_v69_apply, val_main_v68_apply, val_main_v67_apply, val_main_v66_apply, val_main_v65_apply, val_main_v64_apply, val_main_v63_apply]
  unfold inverseRms
  rw [← squares_lane]
  refine congrArg Ideal.rsqrt (congrArg₂ (· + ·) (congrArg₂ Ideal.div (congrArg (val_main_v62 (F := Ideal) x w lg lb mix bias wo h gm) (funext fun a => ?_)) ?_) ?_)
  · match a with
    | ⟨0, _⟩ => rfl
    | ⟨1, _⟩ => rfl
  · rfl
  · rfl

/-- The row after the unit, normalized, scaled and shifted. -/
theorem modulated_lane (p : Fin 16384) (e : Fin 1024) : val_main_v80 (F := Ideal) x w lg lb mix bias wo h gm g sh sc (ix3 (batchOf p) (inBatch p) e)
    = normAt (args x w lg lb mix bias wo h gm g sh sc rt) p e := by
  rw [val_main_v80_apply, val_main_v79_apply, val_main_v78_apply, val_main_v77_apply, val_main_v76_apply, val_main_v75_apply, val_main_v74_apply,
    val_main_v73_apply, val_main_v72_apply, val_main_v71_apply, val_main_v70_apply, rms_lane x w lg lb mix bias wo h gm g sh sc rt p e,
    added_lane x w lg lb mix bias wo h gm g sh sc rt p e, show val_main_cst_11 (F := Ideal) _ = 1 by pointwise [val_main_cst_11]]
  unfold normAt modulated
  rw [← mul_assoc]
  refine congrArg₂ (· + ·) (congrArg₂ (· * ·) (congrArg₂ (· * ·) rfl (congrArg g (funext fun a => ?_))) (congrArg₂ (· + ·) rfl (congrArg sc (funext fun a => ?_))))
    (congrArg sh (funext fun a => ?_))
  · match a with
    | ⟨0, _⟩ => exact Subsingleton.elim (α := Fin 1) _ _
    | ⟨1, _⟩ => exact Fin.ext (Nat.mod_eq_of_lt e.isLt)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The first result. -/
theorem result_h (p : Fin 16384) (e : Fin 1024) : val_main_v116 (F := Ideal) x w lg lb mix bias wo h gm (ix2 p e)
    = outAt (args x w lg lb mix bias wo h gm g sh sc rt) p e := by
  rw [val_main_v116_apply]
  exact (congrArg (val_main_v60 (F := Ideal) x w lg lb mix bias wo h gm) (unrow_idx p e)).trans (added_lane x w lg lb mix bias wo h gm g sh sc rt p e)

/-- The second result. -/
theorem result_m (p : Fin 16384) (e : Fin 1024) : val_main_v81 (F := Ideal) x w lg lb mix bias wo h gm g sh sc (ix2 p e)
    = normAt (args x w lg lb mix bias wo h gm g sh sc rt) p e := by
  rw [val_main_v81_apply]
  exact (congrArg (val_main_v80 (F := Ideal) x w lg lb mix bias wo h gm g sh sc) (unrow_idx p e)).trans (modulated_lane x w lg lb mix bias wo h gm g sh sc rt p e)

end Cert.Proof.SguRef

end
-- ==== Proof.SguRouteRef.lean ====
/- What the reference of the gated unit's router computes, at an index. -/
module

public import proofs.«01_k».proof.Proof.SguRef
public import proofs.«01_k».proof.Proof.SguRouter
public import Idealize.ShloMosaic.Lib.KernelVsHost

@[expose] public section

set_option maxRecDepth 16384

noncomputable section

namespace Cert.Proof.SguRouteRef

open Idealize.ShloMosaic Idealize.ShloMosaic.TcCoe Idealize.SL.Sem
open Cert.SguReferenceIdeal Cert.SguReferenceIdeal.Gen Cert.SguReferenceIdeal.Read Cert.Proof.SguMath Cert.Proof.SguRows Cert.Proof.SguRef

variable (x : FVec Ideal S16384x1024 .bf16) (w : FVec Ideal S1024x2048 .bf16) (lg lb : FVec Ideal S1x1024 .f32) (mix : FVec Ideal S4x128x128 .bf16)
  (bias : FVec Ideal S128x1024 .f32) (wo : FVec Ideal S1024x1024 .bf16) (h : FVec Ideal S16384x1024 .f32) (gm : FVec Ideal S8x1x1024 .f32)
  (g : FVec Ideal S1x1024 .f32) (sh sc : FVec Ideal S8x1x1024 .f32) (rt : FVec Ideal S1024x128 .bf16)

/-- A maximum along the lanes is a fold over them. -/
theorem host_max (s : FVec Ideal S16384x8 .f32) (y : FVec Ideal S_ .f32) (p : Fin 16384) :
    Host.reduce FloatOps.maximumf s y reducesTo_S16384x8_S16384_d1 h_S_ (ix1 p)
      = Finset.univ.fold max (y (Shape.Idx.first h_S_)) (fun j : Fin 8 => s (ix2 p j)) := by
  have hr : S16384x8.Reduces [1] S16384 := by decide
  rw [Host.reduce_eq_fold_single FloatOps.maximumf s y reducesTo_S16384x8_S16384_d1 hr h_S_]
  show Finset.univ.fold max (y (Shape.Idx.first h_S_)) (fun j : Fin 8 => s (hr.lift (ix1 p) j)) = _
  refine congrArg (fun w => Finset.univ.fold max (y (Shape.Idx.first h_S_)) w) (funext fun j => congrArg s (funext fun a => ?_))
  match a with
  | ⟨0, _⟩ => rfl
  | ⟨1, _⟩ => rfl

/-- A minimum along the lanes is a fold over them. -/
theorem host_min (s : FVec Ideal S16384x8 .f32) (y : FVec Ideal S_ .f32) (p : Fin 16384) :
    Host.reduce FloatOps.minimumf s y reducesTo_S16384x8_S16384_d1 h_S_ (ix1 p)
      = Finset.univ.fold min (y (Shape.Idx.first h_S_)) (fun j : Fin 8 => s (ix2 p j)) := by
  have hr : S16384x8.Reduces [1] S16384 := by decide
  rw [Host.reduce_eq_fold_single FloatOps.minimumf s y reducesTo_S16384x8_S16384_d1 hr h_S_]
  show Finset.univ.fold min (y (Shape.Idx.first h_S_)) (fun j : Fin 8 => s (hr.lift (ix1 p) j)) = _
  refine congrArg (fun w => Finset.univ.fold min (y (Shape.Idx.first h_S_)) w) (funext fun j => congrArg s (funext fun a => ?_))
  match a with
  | ⟨0, _⟩ => rfl
  | ⟨1, _⟩ => rfl

/-- The logits of a row. -/
def logits (p : Fin 16384) (k : Fin 8) : EReal := ∑ e : Fin 1024, normAt (args x w lg lb mix bias wo h gm g sh sc rt) p e * rt (ix2 e ⟨k.val, by omega⟩)

theorem logit_lane (p : Fin 16384) (k : Fin 8) : val_main_v84 (F := Ideal) x w lg lb mix bias wo h gm g sh sc rt (ix2 p k) = logits x w lg lb mix bias wo h gm g sh sc rt p k := by
  rw [val_main_v84_apply]
  refine Finset.sum_congr rfl fun e _ => congrArg₂ (· * ·)
    (Eq.trans (congrArg (val_main_v81 (F := Ideal) x w lg lb mix bias wo h gm g sh sc) (funext fun a => ?_)) (result_m x w lg lb mix bias wo h gm g sh sc rt p e)) ?_
  · match a with
    | ⟨0, _⟩ => rfl
    | ⟨1, _⟩ => rfl
  · rw [val_main_v83_apply, val_main_v82_apply]
    refine congrArg rt (funext fun a => ?_)
    match a with
    | ⟨0, _⟩ => rfl
    | ⟨1, _⟩ => rfl

theorem row_only (p : Fin 16384) : idx_main_v87 (ix2 p 0) = ix1 p := funext fun a => match a with
  | ⟨0, _⟩ => rfl

theorem column (p : Fin 16384) (k : Fin 8) : idx_main_v88 (ix2 p k) = ix2 p 0 := funext fun a => match a with
  | ⟨0, _⟩ => rfl
  | ⟨1, _⟩ => rfl

/-- The lanes, as numbers. -/
theorem counted (k : Fin 8) : val_main_v85 (F := Ideal) (ix1 k) = ((k.val : ℝ) : EReal) := by
  show (((BitVec.ofNat 32 k.val).toInt : ℝ) : EReal) = _
  rw [SguRouter.number ⟨k.val, by omega⟩, Int.cast_natCast]

theorem lane_first (p : Fin 16384) (k : Fin 8) : val_main_call0_v1 (F := Ideal) (ix2 p k) = ((k.val : ℝ) : EReal) := by
  rw [val_main_call0_v1_apply]
  refine Eq.trans (congrArg (val_main_v85 (F := Ideal)) (funext fun a => ?_)) (counted k)
  match a with
  | ⟨0, _⟩ => rfl

theorem lane_again (p : Fin 16384) (k : Fin 8) : val_main_v94 (F := Ideal) (ix2 p k) = ((k.val : ℝ) : EReal) := by
  rw [val_main_v94_apply, val_main_v93_apply]
  refine Eq.trans (congrArg (val_main_v85 (F := Ideal)) (funext fun a => ?_)) (counted k)
  match a with
  | ⟨0, _⟩ => rfl

theorem lane_second (p : Fin 16384) (k : Fin 8) : val_main_call2_v1 (F := Ideal) (ix2 p k) = ((k.val : ℝ) : EReal) := by
  rw [val_main_call2_v1_apply]
  refine Eq.trans (congrArg (val_main_v85 (F := Ideal)) (funext fun a => ?_)) (counted k)
  match a with
  | ⟨0, _⟩ => rfl

/-- The greatest logit. -/
theorem greatest_lane (p : Fin 16384) : val_main_v87 (F := Ideal) x w lg lb mix bias wo h gm g sh sc rt (ix2 p 0) = greatest (logits x w lg lb mix bias wo h gm g sh sc rt p) := by
  rw [val_main_v87_apply, row_only]
  unfold val_main_v86
  refine (host_max (val_main_v84 (F := Ideal) x w lg lb mix bias wo h gm g sh sc rt) (val_main_cst_12 (F := Ideal)) p).trans ?_
  exact congrArg (fun w => Finset.univ.fold max low w) (funext fun k => logit_lane x w lg lb mix bias wo h gm g sh sc rt p k)

theorem held_lane (p : Fin 16384) (k : Fin 8) : val_main_v90 (F := Ideal) x w lg lb mix bias wo h gm g sh sc rt (ix2 p k) = if (logits x w lg lb mix bias wo h gm g sh sc rt p) k = greatest (logits x w lg lb mix bias wo h gm g sh sc rt p) then ((k.val : ℝ) : EReal) else eight := by
  rw [val_main_v90_apply, val_main_v89_apply, val_main_v88_apply, val_main_call0_v2_apply, val_main_call0_v0_apply, logit_lane, lane_first, column, greatest_lane]
  exact SguRouter.pick _ _ _ _

/-- The first choice. -/
theorem choice_lane (p : Fin 16384) : val_main_v92 (F := Ideal) x w lg lb mix bias wo h gm g sh sc rt (ix2 p 0) = choice (logits x w lg lb mix bias wo h gm g sh sc rt p) := by
  rw [val_main_v92_apply]
  refine (congrArg (val_main_v91 (F := Ideal) x w lg lb mix bias wo h gm g sh sc rt) (row_only p)).trans ?_
  unfold val_main_v91
  refine (host_min (val_main_v90 (F := Ideal) x w lg lb mix bias wo h gm g sh sc rt) (val_main_cst_14 (F := Ideal)) p).trans ?_
  exact congrArg (fun w => Finset.univ.fold min high w) (funext fun k => held_lane x w lg lb mix bias wo h gm g sh sc rt p k)

/-- The logits left. -/
theorem rest_lane (p : Fin 16384) (k : Fin 8) : val_main_v97 (F := Ideal) x w lg lb mix bias wo h gm g sh sc rt (ix2 p k) = rest (logits x w lg lb mix bias wo h gm g sh sc rt p) k := by
  rw [val_main_v97_apply, val_main_v96_apply, val_main_v95_apply, val_main_call1_v1_apply, val_main_call1_v0_apply, logit_lane, lane_again]
  have e : val_main_v92 (F := Ideal) x w lg lb mix bias wo h gm g sh sc rt (idx_main_v95 (ix2 p k)) = choice (logits x w lg lb mix bias wo h gm g sh sc rt p) := (congrArg (val_main_v92 (F := Ideal) x w lg lb mix bias wo h gm g sh sc rt) (column p k)).trans (choice_lane x w lg lb mix bias wo h gm g sh sc rt p)
  rw [e]
  exact SguRouter.pick _ _ _ _

/-- The greatest of them. -/
theorem next_lane (p : Fin 16384) : val_main_v99 (F := Ideal) x w lg lb mix bias wo h gm g sh sc rt (ix2 p 0) = greatest (rest (logits x w lg lb mix bias wo h gm g sh sc rt p)) := by
  rw [val_main_v99_apply]
  refine (congrArg (val_main_v98 (F := Ideal) x w lg lb mix bias wo h gm g sh sc rt) (row_only p)).trans ?_
  unfold val_main_v98
  refine (host_max (val_main_v97 (F := Ideal) x w lg lb mix bias wo h gm g sh sc rt) (val_main_cst_16 (F := Ideal)) p).trans ?_
  exact congrArg (fun w => Finset.univ.fold max low w) (funext fun k => rest_lane x w lg lb mix bias wo h gm g sh sc rt p k)

theorem next_held_lane (p : Fin 16384) (k : Fin 8) : val_main_v102 (F := Ideal) x w lg lb mix bias wo h gm g sh sc rt (ix2 p k) = if rest (logits x w lg lb mix bias wo h gm g sh sc rt p) k = greatest (rest (logits x w lg lb mix bias wo h gm g sh sc rt p)) then ((k.val : ℝ) : EReal) else eight := by
  rw [val_main_v102_apply, val_main_v101_apply, val_main_v100_apply, val_main_call2_v2_apply, val_main_call2_v0_apply, rest_lane, lane_second]
  have e : val_main_v99 (F := Ideal) x w lg lb mix bias wo h gm g sh sc rt (idx_main_v100 (ix2 p k)) = greatest (rest (logits x w lg lb mix bias wo h gm g sh sc rt p)) := (congrArg (val_main_v99 (F := Ideal) x w lg lb mix bias wo h gm g sh sc rt) (column p k)).trans (next_lane x w lg lb mix bias wo h gm g sh sc rt p)
  rw [e]
  exact SguRouter.pick _ _ _ _

/-- The second choice. -/
theorem second_lane (p : Fin 16384) : val_main_v104 (F := Ideal) x w lg lb mix bias wo h gm g sh sc rt (ix2 p 0) = choice (rest (logits x w lg lb mix bias wo h gm g sh sc rt p)) := by
  rw [val_main_v104_apply]
  refine (congrArg (val_main_v103 (F := Ideal) x w lg lb mix bias wo h gm g sh sc rt) (row_only p)).trans ?_
  unfold val_main_v103
  refine (host_min (val_main_v102 (F := Ideal) x w lg lb mix bias wo h gm g sh sc rt) (val_main_cst_18 (F := Ideal)) p).trans ?_
  exact congrArg (fun w => Finset.univ.fold min high w) (funext fun k => next_held_lane x w lg lb mix bias wo h gm g sh sc rt p k)

theorem ratio_lane (p : Fin 16384) : val_main_v106 (F := Ideal) x w lg lb mix bias wo h gm g sh sc rt (ix2 p 0) = ratio (logits x w lg lb mix bias wo h gm g sh sc rt p) := by
  rw [val_main_v106_apply, val_main_v105_apply, next_lane, greatest_lane]
  rfl

/-- The two gates. -/
theorem first_gate_lane (p : Fin 16384) : val_main_v110 (F := Ideal) x w lg lb mix bias wo h gm g sh sc rt (ix2 p 0) = Ideal.div 1 (1 + ratio (logits x w lg lb mix bias wo h gm g sh sc rt p)) := by
  rw [val_main_v110_apply, val_main_v109_apply, val_main_v108_apply, val_main_v107_apply, ratio_lane,
    show val_main_cst_19 (F := Ideal) _ = 1 by pointwise [val_main_cst_19], show val_main_cst_20 (F := Ideal) _ = 1 by pointwise [val_main_cst_20]]
  rfl

theorem second_gate_lane (p : Fin 16384) : val_main_v113 (F := Ideal) x w lg lb mix bias wo h gm g sh sc rt (ix2 p 0) = ratio (logits x w lg lb mix bias wo h gm g sh sc rt p) * Ideal.div 1 (1 + ratio (logits x w lg lb mix bias wo h gm g sh sc rt p)) := by
  rw [val_main_v113_apply, val_main_v112_apply, val_main_v111_apply, ratio_lane, show val_main_cst_21 (F := Ideal) _ = 1 by pointwise [val_main_cst_21]]
  exact second_gate (logits x w lg lb mix bias wo h gm g sh sc rt p)

/-- Four columns side by side, read at each. -/
theorem four (a b c d : FVec Ideal S16384x1 .f32) (p : Fin 16384) (k : Fin 4) :
    concatenate S16384x4 1 [⟨S16384x1, a⟩, ⟨S16384x1, b⟩, ⟨S16384x1, c⟩, ⟨S16384x1, d⟩] concatenates_S16384x1_S16384x1_S16384x1_S16384x1_S16384x4_d1 (ix2 p k)
      = if k.val = 0 then a (ix2 p 0) else if k.val = 1 then b (ix2 p 0) else if k.val = 2 then c (ix2 p 0) else d (ix2 p 0) := by
  have off : ∀ b : Fin S16384x1.rank, b.cast (rfl : S16384x1.rank = S16384x4.rank) ≠ 1 → (ix2 p (0 : Fin 1) b).val = (ix2 p k (b.cast (rfl : S16384x1.rank = S16384x4.rank))).val :=
    fun b hb => match b with
    | ⟨0, _⟩ => rfl
    | ⟨1, _⟩ => absurd rfl hb
  match k with
  | ⟨0, _⟩ => exact concatenate_apply_piece 1 [⟨S16384x1, a⟩, ⟨S16384x1, b⟩, ⟨S16384x1, c⟩, ⟨S16384x1, d⟩] concatenates_S16384x1_S16384x1_S16384x1_S16384x1_S16384x4_d1 (ix2 p _) 0 (Nat.le_of_ble_eq_true rfl) S16384x1 a rfl rfl 0 rfl (ix2 p 0) off rfl
  | ⟨1, _⟩ => exact concatenate_apply_piece 1 [⟨S16384x1, a⟩, ⟨S16384x1, b⟩, ⟨S16384x1, c⟩, ⟨S16384x1, d⟩] concatenates_S16384x1_S16384x1_S16384x1_S16384x1_S16384x4_d1 (ix2 p _) 1 (Nat.le_of_ble_eq_true rfl) S16384x1 b rfl rfl 1 rfl (ix2 p 0) off rfl
  | ⟨2, _⟩ => exact concatenate_apply_piece 1 [⟨S16384x1, a⟩, ⟨S16384x1, b⟩, ⟨S16384x1, c⟩, ⟨S16384x1, d⟩] concatenates_S16384x1_S16384x1_S16384x1_S16384x1_S16384x4_d1 (ix2 p _) 2 (Nat.le_of_ble_eq_true rfl) S16384x1 c rfl rfl 2 rfl (ix2 p 0) off rfl
  | ⟨3, _⟩ => exact concatenate_apply_piece 1 [⟨S16384x1, a⟩, ⟨S16384x1, b⟩, ⟨S16384x1, c⟩, ⟨S16384x1, d⟩] concatenates_S16384x1_S16384x1_S16384x1_S16384x1_S16384x4_d1 (ix2 p _) 3 (Nat.le_of_ble_eq_true rfl) S16384x1 d rfl rfl 3 rfl (ix2 p 0) off rfl

/-- The four lanes of the router, then zeros. -/
theorem result_r (p : Fin 16384) (j : Fin 128) : val_main_v115 (F := Ideal) x w lg lb mix bias wo h gm g sh sc rt (ix2 p j) = routeAt (args x w lg lb mix bias wo h gm g sh sc rt) p j := by
  show _ = route (logits x w lg lb mix bias wo h gm g sh sc rt p) j
  unfold val_main_v115
  by_cases hj : j.val < 4
  · refine (pad_apply_of_inside ![0, 0] ![0, 124] ![0, 0] (val_main_v114 (F := Ideal) x w lg lb mix bias wo h gm g sh sc rt) (val_main_call3_v0 (F := Ideal)) pads_S16384x4_S16384x128_000_01240 h_S_ (ix2 p j) (ix2 p ⟨j.val, hj⟩)
      (fun a => ?_)).trans ?_
    · match a with
      | ⟨0, _⟩ => show p.val = 0 + p.val * 1; omega
      | ⟨1, _⟩ => show j.val = 0 + j.val * 1; omega
    · unfold val_main_v114
      refine (four (val_main_v92 (F := Ideal) x w lg lb mix bias wo h gm g sh sc rt) (val_main_v104 (F := Ideal) x w lg lb mix bias wo h gm g sh sc rt) (val_main_v110 (F := Ideal) x w lg lb mix bias wo h gm g sh sc rt) (val_main_v113 (F := Ideal) x w lg lb mix bias wo h gm g sh sc rt) p ⟨j.val, hj⟩).trans ?_
      rw [choice_lane, second_lane, first_gate_lane, second_gate_lane]
      unfold route
      show (if j.val = 0 then _ else _) = _
      by_cases h0 : j.val = 0
      · rw [if_pos h0, if_pos h0]
      by_cases h1 : j.val = 1
      · rw [if_neg h0, if_neg h0, if_pos h1, if_pos h1]
      by_cases h2 : j.val = 2
      · rw [if_neg h0, if_neg h0, if_neg h1, if_neg h1, if_pos h2, if_pos h2]
      · rw [if_neg h0, if_neg h0, if_neg h1, if_neg h1, if_neg h2, if_neg h2, if_pos (by omega)]
  · refine (pad_apply_of_not_inside ![0, 0] ![0, 124] ![0, 0] (val_main_v114 (F := Ideal) x w lg lb mix bias wo h gm g sh sc rt) (val_main_call3_v0 (F := Ideal)) pads_S16384x4_S16384x128_000_01240 h_S_ (ix2 p j) 1
      (fun hh => hj ?_)).trans ?_
    · have h2 : (j.val - 0) / 1 < 4 := hh.2.2
      omega
    · unfold route
      rw [if_neg (by omega), if_neg (by omega), if_neg (by omega), if_neg (by omega)]
      show (((0#32).toInt : ℝ) : EReal) = 0
      simp

end Cert.Proof.SguRouteRef

end
-- ==== Proof.SguClaim.lean ====
/- The claims of the gated unit: that it runs, and that it computes its reference. -/
module

public import proofs.«01_k».proof.Defs
public import proofs.«01_k».proof.Proof.Gen.SguKernel.Frame
public import proofs.«01_k».proof.Proof.Gen.SguKernelIdeal.Value
public import proofs.«01_k».proof.Proof.Gen.SguReferenceIdeal.Run
public import proofs.«01_k».proof.Proof.SguRun
public import proofs.«01_k».proof.Proof.SguRouteRef
public import Idealize.ShloMosaic.Lib.Claim

@[expose] public section

set_option maxRecDepth 16384

noncomputable section

namespace Cert.Proof.SguClaim

open Idealize.ShloMosaic Idealize.ShloMosaic.TcCoe Idealize.SL.Sem

/-- The gated unit as it is run, at the bit-exact numbers. -/
theorem kernel : Cert.quiescent_SguKernel (hSguKernel := Cert.SguKernel.Gen.facts) := fun m ρ _ => Cert.SguKernel.Gen.frame m ρ

/-- It runs at the ideal numbers. -/
theorem ideal : Cert.quiescent_SguKernelIdeal (hSguKernelIdeal := Cert.SguKernelIdeal.Gen.facts) := fun m ρ _ => Cert.SguKernelIdeal.Gen.frame m ρ

/-- The reference runs. -/
theorem reference : Cert.quiescent_SguReferenceIdeal (hSguReferenceIdeal := Cert.SguReferenceIdeal.Gen.facts) := by
  intro m ρ _
  exact (θ_run Cert.SguReferenceIdeal.defs _ _).mono (fun r h => ⟨fun c => (h c).2.2.2, sem_eq_zero_of_no_sems (by decide) r.2⟩)
    (Cert.SguReferenceIdeal.Value.run m ρ)

section
open Cert.SguKernelIdeal Cert.SguKernelIdeal.Gen

variable (m : (ℓ : Loc nD τ sig) → Buf (Elt Ideal) ℓ) (c : Dev nD)

/-- Every row is one of a point's block. -/
theorem rows (p : Fin 16384) : ∃ (t : Fin cfg0.N) (r : Fin 512), SguRun.row t r = p := by
  have hp := p.isLt
  exact ⟨⟨p.val / 512, (by omega : p.val / 512 < 32)⟩, ⟨p.val % 512, by omega⟩, Fin.ext (by show p.val / 512 * 512 + p.val % 512 = p.val; omega)⟩

/-- The first result. -/
theorem first : Cert.SguReferenceIdeal.Read.val_main_v116 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
      = (dats m 0 c).arrAt 13 cfg0.N := by
  funext i
  obtain ⟨p, e, rfl⟩ : ∃ p e, i = ix2 p e := ⟨i 0, i 1, (ix2_eta i).symm⟩
  obtain ⟨t, r, rfl⟩ := rows p
  exact (SguRef.result_h (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (SguRun.row t r) e).trans
    (SguRun.block_h m c t r e).symm

/-- The second result. -/
theorem second : Cert.SguReferenceIdeal.Read.val_main_v81 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11))
      = (dats m 0 c).arrAt 14 cfg0.N := by
  funext i
  obtain ⟨p, e, rfl⟩ : ∃ p e, i = ix2 p e := ⟨i 0, i 1, (ix2_eta i).symm⟩
  obtain ⟨t, r, rfl⟩ := rows p
  exact (SguRef.result_m (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (SguRun.row t r) e).trans
    (SguRun.block_m m c t r e).symm

/-- The third result. -/
theorem third : Cert.SguReferenceIdeal.Read.val_main_v115 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12))
      = (dats m 0 c).arrAt 15 cfg0.N := by
  funext i
  obtain ⟨p, e, rfl⟩ : ∃ p e, i = ix2 p e := ⟨i 0, i 1, (ix2_eta i).symm⟩
  obtain ⟨t, r, rfl⟩ := rows p
  exact (SguRouteRef.result_r (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (SguRun.row t r) e).trans
    (SguRun.block_r m c t r e).symm

end

/-- The gated unit computes its reference, all three results. -/
theorem value : Cert.algebraic_SguKernelIdeal_SguReferenceIdeal (hSguKernelIdeal := Cert.SguKernelIdeal.Gen.facts)
    (hSguReferenceIdeal := Cert.SguReferenceIdeal.Gen.facts) := by
  intro m g m' g' _ hagree
  refine ⟨fun c => (Cert.SguKernelIdeal.Gen.dats m 0 c).arrAt 13 Cert.SguKernelIdeal.cfg0.N, fun c => (Cert.SguKernelIdeal.Gen.dats m 0 c).arrAt 14 Cert.SguKernelIdeal.cfg0.N,
    fun c => (Cert.SguKernelIdeal.Gen.dats m 0 c).arrAt 15 Cert.SguKernelIdeal.cfg0.N, Cert.SguKernelIdeal.Value.run_blocks m g, ?_⟩
  refine (θ_run Cert.SguReferenceIdeal.defs _ _).mono (fun r h c => ?_) (Cert.SguReferenceIdeal.Value.run m' g')
  obtain ⟨h0, h1, h2, h3, h4, h5, h6, h7, h8, h9, h10, h11, h12⟩ := hagree c
  refine ⟨(h c).1.trans ?_, (h c).2.1.trans ?_, (h c).2.2.1.trans ?_, (h c).2.2.2⟩
  · refine (Cert.SguReferenceIdeal.Read.val_main_v116_eq _).trans ?_
    show Cert.SguReferenceIdeal.Read.val_main_v116 (F := Ideal) (m' (c.tc.loc Cert.SguReferenceIdeal.main_arg0)) (m' (c.tc.loc Cert.SguReferenceIdeal.main_arg1)) (m' (c.tc.loc Cert.SguReferenceIdeal.main_arg2)) (m' (c.tc.loc Cert.SguReferenceIdeal.main_arg3)) (m' (c.tc.loc Cert.SguReferenceIdeal.main_arg4)) (m' (c.tc.loc Cert.SguReferenceIdeal.main_arg5)) (m' (c.tc.loc Cert.SguReferenceIdeal.main_arg6)) (m' (c.tc.loc Cert.SguReferenceIdeal.main_arg7)) (m' (c.tc.loc Cert.SguReferenceIdeal.main_arg8)) = _
    rw [h0, h1, h2, h3, h4, h5, h6, h7, h8]
    exact first m c
  · refine (Cert.SguReferenceIdeal.Read.val_main_v81_eq _).trans ?_
    show Cert.SguReferenceIdeal.Read.val_main_v81 (F := Ideal) (m' (c.tc.loc Cert.SguReferenceIdeal.main_arg0)) (m' (c.tc.loc Cert.SguReferenceIdeal.main_arg1)) (m' (c.tc.loc Cert.SguReferenceIdeal.main_arg2)) (m' (c.tc.loc Cert.SguReferenceIdeal.main_arg3)) (m' (c.tc.loc Cert.SguReferenceIdeal.main_arg4)) (m' (c.tc.loc Cert.SguReferenceIdeal.main_arg5)) (m' (c.tc.loc Cert.SguReferenceIdeal.main_arg6)) (m' (c.tc.loc Cert.SguReferenceIdeal.main_arg7)) (m' (c.tc.loc Cert.SguReferenceIdeal.main_arg8)) (m' (c.tc.loc Cert.SguReferenceIdeal.main_arg9)) (m' (c.tc.loc Cert.SguReferenceIdeal.main_arg10)) (m' (c.tc.loc Cert.SguReferenceIdeal.main_arg11)) = _
    rw [h0, h1, h2, h3, h4, h5, h6, h7, h8, h9, h10, h11]
    exact second m c
  · refine (Cert.SguReferenceIdeal.Read.val_main_v115_eq _).trans ?_
    show Cert.SguReferenceIdeal.Read.val_main_v115 (F := Ideal) (m' (c.tc.loc Cert.SguReferenceIdeal.main_arg0)) (m' (c.tc.loc Cert.SguReferenceIdeal.main_arg1)) (m' (c.tc.loc Cert.SguReferenceIdeal.main_arg2)) (m' (c.tc.loc Cert.SguReferenceIdeal.main_arg3)) (m' (c.tc.loc Cert.SguReferenceIdeal.main_arg4)) (m' (c.tc.loc Cert.SguReferenceIdeal.main_arg5)) (m' (c.tc.loc Cert.SguReferenceIdeal.main_arg6)) (m' (c.tc.loc Cert.SguReferenceIdeal.main_arg7)) (m' (c.tc.loc Cert.SguReferenceIdeal.main_arg8)) (m' (c.tc.loc Cert.SguReferenceIdeal.main_arg9)) (m' (c.tc.loc Cert.SguReferenceIdeal.main_arg10)) (m' (c.tc.loc Cert.SguReferenceIdeal.main_arg11)) (m' (c.tc.loc Cert.SguReferenceIdeal.main_arg12)) = _
    rw [h0, h1, h2, h3, h4, h5, h6, h7, h8, h9, h10, h11, h12]
    exact third m c

end Cert.Proof.SguClaim

end
-- ==== Proof.OutprojMath.lean ====
/- The output projection of the latent tokens, row by row: the plain mathematics that kernel and reference share. -/
module

public import proofs.«01_k».proof.Proof.FfnMath

@[expose] public section

noncomputable section

namespace Cert.Proof.OutprojMath

open Idealize.ShloMosaic

/-- The row before row p, and zero before the first row of a batch. -/
def earlier (z : Fin 16384 → Fin 512 → EReal) (p : Fin 16384) (l : Fin 512) : EReal :=
  if p.val % 2048 = 0 then 0 else z ⟨p.val - 1, by omega⟩ l

/-- The row after row p, and zero after the last row of a batch. -/
def later (z : Fin 16384 → Fin 512 → EReal) (p : Fin 16384) (l : Fin 512) : EReal :=
  if p.val % 2048 = 2047 then 0 else z ⟨(p.val + 1) % 16384, by omega⟩ l

/-- The three rows around row p, each lane times its three taps. -/
def mixed (z : Fin 16384 → Fin 512 → EReal) (k : Fin 3 → Fin 512 → EReal) (p : Fin 16384) (l : Fin 512) : EReal :=
  earlier z p l * k 0 l + z p l * k 1 l + later z p l * k 2 l

/-- An output lane: attention's lanes against the upper half of the weight, the gated mixed lanes against the lower half. -/
def projected (a g y : Fin 512 → EReal) (w : Fin 1024 → EReal) : EReal :=
  ∑ q : Fin 512, a q * w ⟨q.val, by omega⟩ + ∑ q : Fin 512, g q * y q * w ⟨512 + q.val, by omega⟩

/-- Equal lanes and weights give equal output lanes. -/
theorem projected_congr {a a' g g' y y' : Fin 512 → EReal} {w w' : Fin 1024 → EReal} (ha : ∀ q, a q = a' q) (hg : ∀ q, g q = g' q) (hy : ∀ q, y q = y' q)
    (hw : ∀ q, w q = w' q) : projected a g y w = projected a' g' y' w' := by
  rw [funext ha, funext hg, funext hy, funext hw]

end Cert.Proof.OutprojMath

end
-- ==== Proof.OutprojBody.lean ====
/- What one grid point of the output projection computes, of the blocks it reads. -/
module

public import proofs.«01_k».proof.Proof.Gen.OutprojKernelIdeal.Frame
public import proofs.«01_k».proof.Proof.OutprojMath
public import Idealize.ShloMosaic.Lib.KernelVsHost
public import Idealize.ShloMosaic.Lib.WritesUnit
public import Idealize.ShloMosaic.Lib.Pipeline.ValueKit

@[expose] public section

set_option maxRecDepth 16384

noncomputable section

namespace Cert.Proof.OutprojBody

open Idealize.ShloMosaic Idealize.ShloMosaic.TcCoe Idealize.SL.Sem
open Cert.OutprojKernelIdeal Cert.OutprojKernelIdeal.Gen Cert.Proof.FfnMath Cert.Proof.OutprojMath

/-- The numbers of the rows. -/
def numbers : IVec S512x1 32 := iota .tc S512x1 32 [0] iota_S512x1_d0_w32

/-- The rows moved by d, with the row a in place of the one whose number is n. -/
def moved (d n : BitVec 32) (v : FVec Ideal S512x512 .f32) (a : FVec Ideal S1x512 .f32) : FVec Ideal S512x512 .f32 :=
  select (broadcastTo S512x512 (shapeCast S512x1 (cmpi .eq numbers (broadcast S512x1 n)) shapeCasts_S512x1_S512x1) broadcasts_S512x1_S512x512)
    (broadcastTo S512x512 (shapeCast S1x512 a shapeCasts_S1x512_S1x512) broadcasts_S1x512_S512x512) (dynamicRotate 0 d none v rotates_S512x512_d0)

/-- Three arrays of rows, each lane times its tap. -/
def taps (u v w : FVec Ideal S512x512 .f32) (k : Vec Ideal S3x512 .f32) : FVec Ideal S512x512 .f32 :=
  addf (F := Ideal) (addf (F := Ideal)
    (mulf (F := Ideal) u (broadcastTo S512x512 (extractStridedSlice S1x512 ![0, 0] k slices_S3x512_o0_0_S1x512) broadcasts_S1x512_S512x512))
    (mulf (F := Ideal) v (broadcastTo S512x512 (extractStridedSlice S1x512 ![1, 0] k slices_S3x512_o1_0_S1x512) broadcasts_S1x512_S512x512)))
    (mulf (F := Ideal) w (broadcastTo S512x512 (extractStridedSlice S1x512 ![2, 0] k slices_S3x512_o2_0_S1x512) broadcasts_S1x512_S512x512))

/-- The gated lanes. -/
def gate (g : Vec Ideal S512x512 .bf16) (y : FVec Ideal S512x512 .f32) : FVec Ideal S512x512 .bf16 :=
  truncf (F := Ideal) .bf16 (mulf (F := Ideal) (extf (F := Ideal) .f32 g bitsLt_bf16_f32) y) bitsLt_bf16_f32

/-- Rows against half of the weight. -/
def half (x : FVec Ideal S512x512 .bf16) (w : FVec Ideal S512x1024 .bf16) : FVec Ideal S512x1024 .f32 :=
  matmul (F := Ideal) dot_S512x512_S512x1024_S512x1024_1_0_0_1_n_n none x w (constant S512x1024 .f32 0x00000000#32)

/-- The two halves added, times the gate of the batch. -/
def scaled (a b : FVec Ideal S512x1024 .f32) (gm : Vec Ideal S1x1x1024 .f32) : FVec Ideal S512x1024 .f32 :=
  mulf (F := Ideal) (broadcastTo S512x1024 (shapeCast S1x1024 gm shapeCasts_S1x1x1024_S1x1024) broadcasts_S1x1024_S512x1024) (addf (F := Ideal) a b)

theorem pay7_eq (v : FVec Ideal S512x512 .f32) (a b : FVec Ideal S1x512 .f32) (k : Vec Ideal S3x512 .f32) (g x : Vec Ideal S512x512 .bf16) (wt wb : Vec Ideal S512x1024 .bf16)
    (gm : Vec Ideal S1x1x1024 .f32) : k0_pay7 (F := Ideal) v a b numbers k0_pay6 1#32 k g x wt wb gm
      = scaled (half x wt) (half (gate g (taps (moved 1#32 0#32 v a) v (moved 511#32 511#32 v b) k)) wb) gm := rfl

theorem number0 : ∀ r : Fin 512, IntOp.cmpi CmpIPredicate.eq (BitVec.ofNat 32 r.val) 0#32 = if r.val = 0 then 1#1 else 0#1 := by decide +kernel
theorem number511 : ∀ r : Fin 512, IntOp.cmpi CmpIPredicate.eq (BitVec.ofNat 32 r.val) 511#32 = if r.val = 511 then 1#1 else 0#1 := by decide +kernel

/-- A choice by a condition. -/
theorem select_if (p : Prop) [Decidable p] (a b : EReal) : Scalar.select (if p then 1#1 else 0#1) a b = if p then a else b := by
  by_cases h : p
  · rw [if_pos h, if_pos h]; rfl
  · rw [if_neg h, if_neg h]; rfl

theorem before_at (v : FVec Ideal S512x512 .f32) (a : FVec Ideal S1x512 .f32) (r l : Fin 512) :
    moved 1#32 0#32 v a (ix2 r l) = if r.val = 0 then a (ix2 0 l) else v (ix2 ⟨(r.val + 511) % 512, by omega⟩ l) := by
  have e : (⟨(r.val + 512 - 1) % 512, by omega⟩ : Fin 512) = ⟨(r.val + 511) % 512, by omega⟩ := Fin.ext (by show (r.val + 512 - 1) % 512 = (r.val + 511) % 512; omega)
  rw [← e]
  pointwise [moved, numbers]
  rw [number0]
  exact select_if _ _ _

theorem after_at (v : FVec Ideal S512x512 .f32) (a : FVec Ideal S1x512 .f32) (r l : Fin 512) :
    moved 511#32 511#32 v a (ix2 r l) = if r.val = 511 then a (ix2 0 l) else v (ix2 ⟨(r.val + 1) % 512, by omega⟩ l) := by
  have e : (⟨(r.val + 512 - 511) % 512, by omega⟩ : Fin 512) = ⟨(r.val + 1) % 512, by omega⟩ := Fin.ext (by show (r.val + 512 - 511) % 512 = (r.val + 1) % 512; omega)
  rw [← e]
  pointwise [moved, numbers]
  rw [number511]
  exact select_if _ _ _

theorem taps_at (u v w : FVec Ideal S512x512 .f32) (k : Vec Ideal S3x512 .f32) (r l : Fin 512) :
    taps u v w k (ix2 r l) = u (ix2 r l) * k (ix2 0 l) + v (ix2 r l) * k (ix2 1 l) + w (ix2 r l) * k (ix2 2 l) := by pointwise [taps]

theorem gate_at (g : Vec Ideal S512x512 .bf16) (y : FVec Ideal S512x512 .f32) (r l : Fin 512) : gate g y (ix2 r l) = g (ix2 r l) * y (ix2 r l) := by pointwise [gate]

theorem half_at (x : FVec Ideal S512x512 .bf16) (w : FVec Ideal S512x1024 .bf16) (r : Fin 512) (e : Fin 1024) :
    half x w (ix2 r e) = ∑ q : Fin 512, x (ix2 r q) * w (ix2 q e) := by pointwise [half]

theorem scaled_at (a b : FVec Ideal S512x1024 .f32) (gm : Vec Ideal S1x1x1024 .f32) (r : Fin 512) (e : Fin 1024) :
    scaled a b gm (ix2 r e) = gm (ix3 0 0 e) * (a (ix2 r e) + b (ix2 r e)) := by pointwise [scaled]

theorem pay3_at (v : Vec Ideal S512x512 .bf16) (r l : Fin 512) : k0_pay3 (F := Ideal) v (ix2 r l) = v (ix2 r l) := by pointwise [k0_pay3]

/-- Whether a point is the first of its batch, as it is computed. -/
def isFirst (n : BitVec 32) : BitVec 1 :=
  let w : BitVec 32 := Scalar.select (Scalar.cmpi .eq 4#32 0#32) 1#32 4#32
  let v : BitVec 32 := Scalar.remsi n w
  Scalar.cmpi .eq (Scalar.select (Scalar.andi (Scalar.xori (Scalar.cmpi .slt v 0#32) (Scalar.cmpi .slt w 0#32)) (Scalar.cmpi .ne v 0#32)) (Scalar.addi v w) v) 0#32

/-- Whether it is the last. -/
def isLast (n : BitVec 32) : BitVec 1 :=
  let w : BitVec 32 := Scalar.select (Scalar.cmpi .eq 4#32 0#32) 1#32 4#32
  let v : BitVec 32 := Scalar.remsi n w
  Scalar.cmpi .eq (Scalar.select (Scalar.andi (Scalar.xori (Scalar.cmpi .slt v 0#32) (Scalar.cmpi .slt w 0#32)) (Scalar.cmpi .ne v 0#32)) (Scalar.addi v w) v) 3#32

theorem isFirst_eq : ∀ n : Fin 32, isFirst (BitVec.ofNat 32 n.val) = if n.val % 4 = 0 then 1#1 else 0#1 := by decide +kernel
theorem isLast_eq : ∀ n : Fin 32, isLast (BitVec.ofNat 32 n.val) = if n.val % 4 = 3 then 1#1 else 0#1 := by decide +kernel

theorem pay4_at (i : grid0.Coords) (v : Vec Ideal S1x512 .bf16) (l : Fin 512) :
    k0_pay4 (F := Ideal) i v (ix2 0 l) = if (i 0).val % 4 = 0 then (0 : EReal) else v (ix2 0 l) := by
  have e : k0_pay4 (F := Ideal) i v = Scalar.select (isFirst (BitVec.ofNat 32 (i 0).val)) (broadcast S1x512 (Scalar.ofBits (F := Ideal) .f32 0x00000000#32)) (extf (F := Ideal) .f32 v bitsLt_bf16_f32) := rfl
  rw [e, isFirst_eq (i 0)]
  by_cases h : (i 0).val % 4 = 0
  · rw [if_pos h, if_pos h]
    show (broadcast S1x512 (Scalar.ofBits (F := Ideal) .f32 0x00000000#32) : FVec Ideal S1x512 .f32) (ix2 0 l) = 0
    pointwise
  · rw [if_neg h, if_neg h]
    rfl

theorem pay5_at (i : grid0.Coords) (v : Vec Ideal S1x512 .bf16) (l : Fin 512) :
    k0_pay5 (F := Ideal) i v (ix2 0 l) = if (i 0).val % 4 = 3 then (0 : EReal) else v (ix2 0 l) := by
  have e : k0_pay5 (F := Ideal) i v = Scalar.select (isLast (BitVec.ofNat 32 (i 0).val)) (broadcast S1x512 (Scalar.ofBits (F := Ideal) .f32 0x00000000#32)) (extf (F := Ideal) .f32 v bitsLt_bf16_f32) := rfl
  rw [e, isLast_eq (i 0)]
  by_cases h : (i 0).val % 4 = 3
  · rw [if_pos h, if_pos h]
    show (broadcast S1x512 (Scalar.ofBits (F := Ideal) .f32 0x00000000#32) : FVec Ideal S1x512 .f32) (ix2 0 l) = 0
    pointwise
  · rw [if_neg h, if_neg h]
    rfl

theorem pay1_at (x y : Vec Ideal S512x1024 .f32) (r : Fin 512) (e : Fin 1024) : k0_pay1 (F := Ideal) x y (ix2 r e) = x (ix2 r e) + y (ix2 r e) := by pointwise [k0_pay1]

/-! ## The normalized rows -/

/-- The sum of squares of each row. -/
def squares (o : FVec Ideal S512x1024 .f32) : FVec Ideal S512x1 .f32 :=
  shapeCast S512x1 (multiReduction (F := Ideal) .add [1] S512 (mulf (F := Ideal) o o) 0x00000000#32 reduces_S512x1024_S512 (.inl rfl) rfl) shapeCasts_S512_S512x1

/-- One over the root of the mean square. -/
def invRms (q : FVec Ideal S512x1 .f32) : FVec Ideal S512x1 .f32 :=
  rsqrt (F := Ideal) (addf (F := Ideal) (divf (F := Ideal) q (broadcast S512x1 (Scalar.ofBits (F := Ideal) .f32 0x44800000#32)))
    (broadcast S512x1 (Scalar.ofBits (F := Ideal) .f32 0x358637BD#32)))

/-- The normalized rows, scaled and shifted. -/
def modul (o : FVec Ideal S512x1024 .f32) (q : FVec Ideal S512x1 .f32) (g : FVec Ideal S1x1024 .f32) (s c : FVec Ideal S1x1x1024 .f32) : FVec Ideal S512x1024 .bf16 :=
  truncf (F := Ideal) .bf16 (addf (F := Ideal) (mulf (F := Ideal) (mulf (F := Ideal) o (broadcastTo S512x1024 q broadcasts_S512x1_S512x1024))
    (broadcastTo S512x1024 (mulf (F := Ideal) g (addf (F := Ideal) (broadcast S1x1024 (Scalar.ofBits (F := Ideal) .f32 0x3F800000#32))
      (shapeCast S1x1024 c shapeCasts_S1x1x1024_S1x1024))) broadcasts_S1x1024_S512x1024))
    (broadcastTo S512x1024 (shapeCast S1x1024 s shapeCasts_S1x1x1024_S1x1024) broadcasts_S1x1024_S512x1024)) bitsLt_bf16_f32

theorem pay2_eq (x y : Vec Ideal S512x1024 .f32) (g : Vec Ideal S1x1024 .f32) (s c : Vec Ideal S1x1x1024 .f32) :
    k0_pay2 (F := Ideal) x y g s c = modul (k0_pay1 x y) (invRms (squares (k0_pay1 x y))) g s c := rfl

theorem squares_at (o : FVec Ideal S512x1024 .f32) (r : Fin 512) : squares o (ix2 r 0) = ∑ x : Fin 1024, o (ix2 r x) * o (ix2 r x) := by pointwise [squares]

theorem invRms_at (q : FVec Ideal S512x1 .f32) (r : Fin 512) : invRms q (ix2 r 0)
    = Ideal.rsqrt (Ideal.div (q (ix2 r 0)) (Ideal.ofBits .f32 0x44800000#32) + Ideal.ofBits .f32 0x358637BD#32) := by pointwise [invRms]

theorem modul_at (o : FVec Ideal S512x1024 .f32) (q : FVec Ideal S512x1 .f32) (g : FVec Ideal S1x1024 .f32) (s c : FVec Ideal S1x1x1024 .f32) (r : Fin 512) (e : Fin 1024) :
    modul o q g s c (ix2 r e) = o (ix2 r e) * q (ix2 r 0) * (g (ix2 0 e) * (1 + c (ix3 0 0 e))) + s (ix3 0 0 e) := by pointwise [modul]

/-- The row after the block, normalized. -/
theorem pay2_at (x y : Vec Ideal S512x1024 .f32) (g : Vec Ideal S1x1024 .f32) (s c : Vec Ideal S1x1x1024 .f32) (r : Fin 512) (e : Fin 1024) : k0_pay2 (F := Ideal) x y g s c (ix2 r e)
      = modulated (fun e => k0_pay1 (F := Ideal) x y (ix2 r e)) (fun e => g (ix2 0 e)) (fun e => c (ix3 0 0 e)) (fun e => s (ix3 0 0 e)) e := by
  rw [pay2_eq, modul_at, invRms_at, squares_at]
  rfl

/-! ## The two stored blocks -/

theorem zero2 : (![0, 0] : Fin 2 → ℕ) = 0 := funext (Fin.forall_fin_two.mpr ⟨rfl, rfl⟩)
theorem zero3 : (![0, 0, 0] : Fin 3 → ℕ) = 0 := funext (Fin.forall_fin_succ.mpr ⟨rfl, Fin.forall_fin_two.mpr ⟨rfl, rfl⟩⟩)

section
variable (i : grid0.Coords) (x0 x1 x2 : Vec Ideal S512x512 .bf16) (x3 x4 : Vec Ideal S8x512 .bf16) (x5 : Vec Ideal S3x512 .f32) (x6 : Vec Ideal S1024x1024 .bf16) (x7 : Vec Ideal S512x1024 .f32)
  (x8 : Vec Ideal S1x1x1024 .f32) (x9 : Vec Ideal S1x1024 .f32) (x10 x11 : Vec Ideal S1x1x1024 .f32)

/-- The row before row r of the block, of the block and the rows before it. -/
def rowBefore (r l : Fin 512) : EReal := if r.val = 0 then (if (i 0).val % 4 = 0 then 0 else x3 (ix2 7 l)) else x2 (ix2 ⟨(r.val + 511) % 512, by omega⟩ l)

/-- The row after it. -/
def rowAfter (r l : Fin 512) : EReal := if r.val = 511 then (if (i 0).val % 4 = 3 then 0 else x4 (ix2 0 l)) else x2 (ix2 ⟨(r.val + 1) % 512, by omega⟩ l)

/-- The projected rows of the block times the gate. -/
theorem pay8_at (r : Fin 512) (e : Fin 1024) : k0_pay8 (F := Ideal) i x0 x1 x2 x3 x4 x5 x6 x7 x8 x9 x10 x11 (ix2 r e)
    = x8 (ix3 0 0 e) * projected (fun q => x0 (ix2 r q)) (fun q => x1 (ix2 r q))
        (fun l => rowBefore i x2 x3 r l * x5 (ix2 0 l) + x2 (ix2 r l) * x5 (ix2 1 l) + rowAfter i x2 x4 r l * x5 (ix2 2 l)) (fun q => x6 (ix2 q e)) := by
  have e0 : View.ld (Val := Elt Ideal) (e' := .bf16) x0 r0_0 = x0 := View.ld_unit_zero zero2 _ x0
  have e1 : View.ld (Val := Elt Ideal) (e' := .bf16) x1 r0_0 = x1 := View.ld_unit_zero zero2 _ x1
  have e2 : View.ld (Val := Elt Ideal) (e' := .bf16) x2 r0_0 = x2 := View.ld_unit_zero zero2 _ x2
  have e5 : View.ld (Val := Elt Ideal) (e' := .f32) x5 r0_3 = x5 := View.ld_unit_zero zero2 _ x5
  have e8 : View.ld (Val := Elt Ideal) (e' := .f32) x8 r0_7 = x8 := View.ld_unit_zero zero3 _ x8
  have e3 : ∀ l, View.ld (Val := Elt Ideal) (e' := .bf16) x3 r0_1 (ix2 0 l) = x3 (ix2 7 l) := fun l => View.ld_unit_apply_of x3 _ _ _ _ _ fun a => match a with
    | ⟨0, _⟩ => rfl
    | ⟨1, _⟩ => (Nat.zero_add _).symm
  have e4 : ∀ l, View.ld (Val := Elt Ideal) (e' := .bf16) x4 r0_2 (ix2 0 l) = x4 (ix2 0 l) := fun l => View.ld_unit_apply_of x4 _ _ _ _ _ fun a => match a with
    | ⟨0, _⟩ => rfl
    | ⟨1, _⟩ => (Nat.zero_add _).symm
  have e6 : ∀ q : Fin 512, View.ld (Val := Elt Ideal) (e' := .bf16) x6 r0_4 (ix2 q e) = x6 (ix2 ⟨q.val, by omega⟩ e) := fun q => View.ld_unit_apply_of x6 _ _ _ _ _ fun a => match a with
    | ⟨0, _⟩ => (Nat.zero_add _).symm
    | ⟨1, _⟩ => (Nat.zero_add _).symm
  have e7 : ∀ q : Fin 512, View.ld (Val := Elt Ideal) (e' := .bf16) x6 r0_5 (ix2 q e) = x6 (ix2 ⟨512 + q.val, by omega⟩ e) := fun q => View.ld_unit_apply_of x6 _ _ _ _ _ fun a => match a with
    | ⟨0, _⟩ => rfl
    | ⟨1, _⟩ => (Nat.zero_add _).symm
  unfold k0_pay8
  rw [e0, e1, e2, e5, e8]
  refine (congrFun (pay7_eq _ _ _ _ _ _ _ _ _) (ix2 r e)).trans ?_
  rw [scaled_at, half_at, half_at]
  unfold projected rowBefore rowAfter
  refine congrArg (x8 (ix3 0 0 e) * ·) (congrArg₂ (· + ·) (Finset.sum_congr rfl fun q _ => congrArg (x0 (ix2 r q) * ·) (e6 q)) (Finset.sum_congr rfl fun q _ => congrArg₂ (· * ·) ?_ (e7 q)))
  rw [gate_at, taps_at, before_at, after_at, pay3_at, pay3_at, pay3_at, pay4_at, pay5_at, e3, e4]

/-- The first block that a point stores. -/
theorem out12_eq : out0_12 (F := Ideal) i x0 x1 x2 x3 x4 x5 x6 x7 x8 x9 x10 x11 = k0_pay1 x7 (k0_pay8 i x0 x1 x2 x3 x4 x5 x6 x7 x8 x9 x10 x11) := by
  have e7 : View.ld (Val := Elt Ideal) (e' := .f32) x7 r0_6 = x7 := View.ld_unit_zero zero2 _ x7
  unfold out0_12
  rw [e7]
  exact View.canon_cons_unit_zero zero2 _ _ _

/-- The second. -/
theorem out13_eq : out0_13 (F := Ideal) i x0 x1 x2 x3 x4 x5 x6 x7 x8 x9 x10 x11 = k0_pay2 x7 (k0_pay8 i x0 x1 x2 x3 x4 x5 x6 x7 x8 x9 x10 x11) x9 x10 x11 := by
  have e7 : View.ld (Val := Elt Ideal) (e' := .f32) x7 r0_6 = x7 := View.ld_unit_zero zero2 _ x7
  have e9 : View.ld (Val := Elt Ideal) (e' := .f32) x9 r0_8 = x9 := View.ld_unit_zero zero2 _ x9
  have e10 : View.ld (Val := Elt Ideal) (e' := .f32) x10 r0_7 = x10 := View.ld_unit_zero zero3 _ x10
  have e11 : View.ld (Val := Elt Ideal) (e' := .f32) x11 r0_7 = x11 := View.ld_unit_zero zero3 _ x11
  unfold out0_13
  rw [e7, e9, e10, e11]
  exact View.canon_cons_unit_zero zero2 _ _ _

end

end Cert.Proof.OutprojBody

end
-- ==== Proof.OutprojRun.lean ====
/- The output projection's result arrays at an index, as functions of its argument arrays. -/
module

public import proofs.«01_k».proof.Proof.Gen.OutprojKernelIdeal.Value
public import proofs.«01_k».proof.Proof.OutprojBody
public import Idealize.ShloMosaic.Lib.VecWindow

@[expose] public section

set_option maxRecDepth 16384

noncomputable section

namespace Cert.Proof.OutprojRun

open Idealize.ShloMosaic Idealize.ShloMosaic.TcCoe Idealize.SL.Sem
open Cert.OutprojKernelIdeal Cert.OutprojKernelIdeal.Gen Cert.OutprojKernelIdeal.Value Cert.Proof.FfnMath Cert.Proof.OutprojMath Cert.Proof.OutprojBody

variable (m : (ℓ : Loc nD τ sig) → Buf (Elt Ideal) ℓ)

/-- The grid has 32 points. -/
theorem points (t : Fin cfg0.N) : t.val < 32 := t.isLt

/-- A row of the block of a point, among all rows. -/
def row (t : Fin cfg0.N) (r : Fin 512) : Fin 16384 := ⟨t.val * 512 + r.val, by have := points t; omega⟩

/-- The batch of a point. -/
def batch (t : Fin cfg0.N) : Fin 8 := ⟨t.val / 4, by have := points t; omega⟩

/-- A point is its own coordinate. -/
theorem coord : ∀ t : Fin cfg0.N, (grid0.coords t 0).val = t.val := (by decide +kernel : ∀ t : Fin grid0.N, _)

/-! The block of each window at a grid point: rows `t`, of batch `t / 4`; the eight rows before the block and the eight after it. -/

theorem at_a : ∀ t : Fin cfg0.N, win0_0.index t (0 : Fin 2) = t.val ∧ win0_0.index t (1 : Fin 2) = 0 := (by decide +kernel : ∀ t : Fin grid0.N, _)
theorem at_gb : ∀ t : Fin cfg0.N, win0_1.index t (0 : Fin 2) = t.val ∧ win0_1.index t (1 : Fin 2) = 0 := (by decide +kernel : ∀ t : Fin grid0.N, _)
theorem at_z : ∀ t : Fin cfg0.N, win0_2.index t (0 : Fin 2) = t.val ∧ win0_2.index t (1 : Fin 2) = 0 := (by decide +kernel : ∀ t : Fin grid0.N, _)
theorem at_k : ∀ t : Fin cfg0.N, win0_5.index t (0 : Fin 2) = 0 ∧ win0_5.index t (1 : Fin 2) = 0 := (by decide +kernel : ∀ t : Fin grid0.N, _)
theorem at_w : ∀ t : Fin cfg0.N, win0_6.index t (0 : Fin 2) = 0 ∧ win0_6.index t (1 : Fin 2) = 0 := (by decide +kernel : ∀ t : Fin grid0.N, _)
theorem at_x : ∀ t : Fin cfg0.N, win0_7.index t (0 : Fin 2) = t.val ∧ win0_7.index t (1 : Fin 2) = 0 := (by decide +kernel : ∀ t : Fin grid0.N, _)
theorem at_g : ∀ t : Fin cfg0.N, win0_9.index t (0 : Fin 2) = 0 ∧ win0_9.index t (1 : Fin 2) = 0 := (by decide +kernel : ∀ t : Fin grid0.N, _)
theorem at_out : ∀ t : Fin cfg0.N, win0_12.index t (0 : Fin 2) = t.val ∧ win0_12.index t (1 : Fin 2) = 0 := (by decide +kernel : ∀ t : Fin grid0.N, _)
theorem at_outm : ∀ t : Fin cfg0.N, win0_13.index t (0 : Fin 2) = t.val ∧ win0_13.index t (1 : Fin 2) = 0 := (by decide +kernel : ∀ t : Fin grid0.N, _)
theorem at_prev : ∀ t : Fin cfg0.N, win0_3.index t (0 : Fin 2) = t.val * 64 - 1 ∧ win0_3.index t (1 : Fin 2) = 0 := (by decide +kernel : ∀ t : Fin grid0.N, _)
theorem at_next : ∀ t : Fin cfg0.N, win0_4.index t (0 : Fin 2) = min (t.val * 64 + 64) 2047 ∧ win0_4.index t (1 : Fin 2) = 0 := (by decide +kernel : ∀ t : Fin grid0.N, _)
theorem at_gm : ∀ t : Fin cfg0.N, win0_8.index t (0 : Fin 3) = t.val / 4 ∧ win0_8.index t (1 : Fin 3) = 0 ∧ win0_8.index t (2 : Fin 3) = 0 := (by decide +kernel : ∀ t : Fin grid0.N, _)
theorem at_sh : ∀ t : Fin cfg0.N, win0_10.index t (0 : Fin 3) = t.val / 4 ∧ win0_10.index t (1 : Fin 3) = 0 ∧ win0_10.index t (2 : Fin 3) = 0 := (by decide +kernel : ∀ t : Fin grid0.N, _)
theorem at_sc : ∀ t : Fin cfg0.N, win0_11.index t (0 : Fin 3) = t.val / 4 ∧ win0_11.index t (1 : Fin 3) = 0 ∧ win0_11.index t (2 : Fin 3) = 0 := (by decide +kernel : ∀ t : Fin grid0.N, _)

/-! Each block at an index, of the whole array -/

theorem a_at (c : Dev nD) (t : Fin cfg0.N) (r : Fin 512) (e : Fin 512) : iblk m c 0 t (ix2 r e) = V m c main_arg0 (ix2 (row t r) e) := by
  obtain ⟨e0, e1⟩ := at_a t
  show V m c main_arg0 (((cfg0.win 0).blk t).view.emb (ix2 r e)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 512 + 1 * e.val = e.val; omega

theorem gb_at (c : Dev nD) (t : Fin cfg0.N) (r : Fin 512) (e : Fin 512) : iblk m c 1 t (ix2 r e) = V m c main_arg1 (ix2 (row t r) e) := by
  obtain ⟨e0, e1⟩ := at_gb t
  show V m c main_arg1 (((cfg0.win 1).blk t).view.emb (ix2 r e)) = _
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 512 + 1 * e.val = e.val; omega

theorem z_at (c : Dev nD) (t : Fin cfg0.N) (r : Fin 512) (e : Fin 512) : iblk m c 2 t (ix2 r e) = V m c main_arg2 (ix2 (row t r) e) := by
  obtain ⟨e0, e1⟩ := at_z t
  show V m c main_arg2 (((cfg0.win 2).blk t).view.emb (ix2 r e)) = _
  refine congrArg _ (funext fun a => Fin.ext ?_)
  match a with
  | ⟨0, _⟩ => show win0_2.index t (0 : Fin 2) * 512 + 1 * r.val = t.val * 512 + r.val; omega
  | ⟨1, _⟩ => show win0_2.index t (1 : Fin 2) * 512 + 1 * e.val = e.val; omega

theorem k_at (c : Dev nD) (t : Fin cfg0.N) (r : Fin 3) (e : Fin 512) : iblk m c 5 t (ix2 r e) = V m c main_arg3 (ix2 r e) := by
  obtain ⟨e0, e1⟩ := at_k t
  show V m c main_arg3 (((cfg0.win 5).blk t).view.emb (ix2 r e)) = _
  refine congrArg _ (funext fun a => Fin.ext ?_)
  match a with
  | ⟨0, _⟩ => show win0_5.index t (0 : Fin 2) * 3 + 1 * r.val = r.val; omega
  | ⟨1, _⟩ => show win0_5.index t (1 : Fin 2) * 512 + 1 * e.val = e.val; omega

theorem w_at (c : Dev nD) (t : Fin cfg0.N) (r : Fin 1024) (e : Fin 1024) : iblk m c 6 t (ix2 r e) = V m c main_arg4 (ix2 r e) := by
  obtain ⟨e0, e1⟩ := at_w t
  show V m c main_arg4 (((cfg0.win 6).blk t).view.emb (ix2 r e)) = _
  refine congrArg _ (funext fun a => Fin.ext ?_)
  match a with
  | ⟨0, _⟩ => show win0_6.index t (0 : Fin 2) * 1024 + 1 * r.val = r.val; omega
  | ⟨1, _⟩ => show win0_6.index t (1 : Fin 2) * 1024 + 1 * e.val = e.val; omega

theorem x_at (c : Dev nD) (t : Fin cfg0.N) (r : Fin 512) (e : Fin 1024) : iblk m c 7 t (ix2 r e) = V m c main_arg5 (ix2 (row t r) e) := by
  obtain ⟨e0, e1⟩ := at_x t
  show V m c main_arg5 (((cfg0.win 7).blk t).view.emb (ix2 r e)) = _
  refine congrArg _ (funext fun a => Fin.ext ?_)
  match a with
  | ⟨0, _⟩ => show win0_7.index t (0 : Fin 2) * 512 + 1 * r.val = t.val * 512 + r.val; omega
  | ⟨1, _⟩ => show win0_7.index t (1 : Fin 2) * 1024 + 1 * e.val = e.val; omega

theorem g_at (c : Dev nD) (t : Fin cfg0.N) (r : Fin 1) (e : Fin 1024) : iblk m c 9 t (ix2 r e) = V m c main_arg7 (ix2 r e) := by
  obtain ⟨e0, e1⟩ := at_g t
  show V m c main_arg7 (((cfg0.win 9).blk t).view.emb (ix2 r e)) = _
  refine congrArg _ (funext fun a => Fin.ext ?_)
  match a with
  | ⟨0, _⟩ => show win0_9.index t (0 : Fin 2) * 1 + 1 * r.val = r.val; omega
  | ⟨1, _⟩ => show win0_9.index t (1 : Fin 2) * 1024 + 1 * e.val = e.val; omega

/-- The row before a block that does not begin the array. -/
theorem prev_at (c : Dev nD) (t : Fin cfg0.N) (ht : t.val ≠ 0) (e : Fin 512) : iblk m c 3 t (ix2 7 e) = V m c main_arg2 (ix2 ⟨t.val * 512 - 1, by have := points t; omega⟩ e) := by
  obtain ⟨e0, e1⟩ := at_prev t
  show V m c main_arg2 (((cfg0.win 3).blk t).view.emb (ix2 7 e)) = _
  refine congrArg _ (funext fun a => Fin.ext ?_)
  match a with
  | ⟨0, _⟩ => show win0_3.index t (0 : Fin 2) * 8 + 1 * 7 = t.val * 512 - 1; omega
  | ⟨1, _⟩ => show win0_3.index t (1 : Fin 2) * 512 + 1 * e.val = e.val; omega

/-- The row after a block that does not end it. -/
theorem next_at (c : Dev nD) (t : Fin cfg0.N) (ht : t.val < 31) (e : Fin 512) : iblk m c 4 t (ix2 0 e) = V m c main_arg2 (ix2 ⟨t.val * 512 + 512, by omega⟩ e) := by
  obtain ⟨e0, e1⟩ := at_next t
  show V m c main_arg2 (((cfg0.win 4).blk t).view.emb (ix2 0 e)) = _
  refine congrArg _ (funext fun a => Fin.ext ?_)
  match a with
  | ⟨0, _⟩ => show win0_4.index t (0 : Fin 2) * 8 + 1 * 0 = t.val * 512 + 512; omega
  | ⟨1, _⟩ => show win0_4.index t (1 : Fin 2) * 512 + 1 * e.val = e.val; omega

theorem gm_at (c : Dev nD) (t : Fin cfg0.N) (e : Fin 1024) : iblk m c 8 t (ix3 0 0 e) = V m c main_arg6 (ix3 (batch t) 0 e) := by
  obtain ⟨e0, e1, e2⟩ := at_gm t
  show V m c main_arg6 (((cfg0.win 8).blk t).view.emb (ix3 0 0 e)) = _
  refine congrArg _ (funext fun a => Fin.ext ?_)
  match a with
  | ⟨0, _⟩ => show win0_8.index t (0 : Fin 3) * 1 + 1 * 0 = t.val / 4; omega
  | ⟨1, _⟩ => show win0_8.index t (1 : Fin 3) * 1 + 1 * 0 = 0; omega
  | ⟨2, _⟩ => show win0_8.index t (2 : Fin 3) * 1024 + 1 * e.val = e.val; omega

theorem sh_at (c : Dev nD) (t : Fin cfg0.N) (e : Fin 1024) : iblk m c 10 t (ix3 0 0 e) = V m c main_arg8 (ix3 (batch t) 0 e) := by
  obtain ⟨e0, e1, e2⟩ := at_sh t
  show V m c main_arg8 (((cfg0.win 10).blk t).view.emb (ix3 0 0 e)) = _
  refine congrArg _ (funext fun a => Fin.ext ?_)
  match a with
  | ⟨0, _⟩ => show win0_10.index t (0 : Fin 3) * 1 + 1 * 0 = t.val / 4; omega
  | ⟨1, _⟩ => show win0_10.index t (1 : Fin 3) * 1 + 1 * 0 = 0; omega
  | ⟨2, _⟩ => show win0_10.index t (2 : Fin 3) * 1024 + 1 * e.val = e.val; omega

theorem sc_at (c : Dev nD) (t : Fin cfg0.N) (e : Fin 1024) : iblk m c 11 t (ix3 0 0 e) = V m c main_arg9 (ix3 (batch t) 0 e) := by
  obtain ⟨e0, e1, e2⟩ := at_sc t
  show V m c main_arg9 (((cfg0.win 11).blk t).view.emb (ix3 0 0 e)) = _
  refine congrArg _ (funext fun a => Fin.ext ?_)
  match a with
  | ⟨0, _⟩ => show win0_11.index t (0 : Fin 3) * 1 + 1 * 0 = t.val / 4; omega
  | ⟨1, _⟩ => show win0_11.index t (1 : Fin 3) * 1 + 1 * 0 = 0; omega
  | ⟨2, _⟩ => show win0_11.index t (2 : Fin 3) * 1024 + 1 * e.val = e.val; omega

theorem out_at (t : Fin cfg0.N) (r : Fin 512) (e : Fin 1024) : ((cfg0.win 12).blk t).view.emb (ix2 r e) = ix2 (row t r) e := by
  obtain ⟨e0, e1⟩ := at_out t
  refine funext fun a => Fin.ext ?_
  match a with
  | ⟨0, _⟩ => show win0_12.index t (0 : Fin 2) * 512 + 1 * r.val = t.val * 512 + r.val; omega
  | ⟨1, _⟩ => show win0_12.index t (1 : Fin 2) * 1024 + 1 * e.val = e.val; omega

theorem outm_at (t : Fin cfg0.N) (r : Fin 512) (e : Fin 1024) : ((cfg0.win 13).blk t).view.emb (ix2 r e) = ix2 (row t r) e := by
  obtain ⟨e0, e1⟩ := at_outm t
  refine funext fun a => Fin.ext ?_
  match a with
  | ⟨0, _⟩ => show win0_13.index t (0 : Fin 2) * 512 + 1 * r.val = t.val * 512 + r.val; omega
  | ⟨1, _⟩ => show win0_13.index t (1 : Fin 2) * 1024 + 1 * e.val = e.val; omega

/-- The row before a row of the block is the row before it among all rows. -/
theorem before_row (c : Dev nD) (t : Fin cfg0.N) (r l : Fin 512) : rowBefore (grid0.coords t) (iblk m c 2 t) (iblk m c 3 t) r l = earlier (fun p l => V m c main_arg2 (ix2 p l)) (row t r) l := by
  have ht := points t
  unfold rowBefore earlier
  rw [coord t]
  by_cases hr : r.val = 0
  · rw [if_pos hr]
    by_cases h4 : t.val % 4 = 0
    · rw [if_pos h4, if_pos (by show (t.val * 512 + r.val) % 2048 = 0; omega)]
    · rw [if_neg h4, if_neg (by show ¬ (t.val * 512 + r.val) % 2048 = 0; omega), prev_at m c t (by omega)]
      exact congrArg (fun p => V m c main_arg2 (ix2 p l)) (Fin.ext (by show t.val * 512 - 1 = t.val * 512 + r.val - 1; omega))
  · rw [if_neg hr, if_neg (by show ¬ (t.val * 512 + r.val) % 2048 = 0; omega), z_at]
    exact congrArg (fun p => V m c main_arg2 (ix2 p l)) (Fin.ext (by show t.val * 512 + (r.val + 511) % 512 = t.val * 512 + r.val - 1; omega))

/-- And so is the row after it. -/
theorem after_row (c : Dev nD) (t : Fin cfg0.N) (r l : Fin 512) : rowAfter (grid0.coords t) (iblk m c 2 t) (iblk m c 4 t) r l = later (fun p l => V m c main_arg2 (ix2 p l)) (row t r) l := by
  have ht := points t
  unfold rowAfter later
  rw [coord t]
  by_cases hr : r.val = 511
  · rw [if_pos hr]
    by_cases h4 : t.val % 4 = 3
    · rw [if_pos h4, if_pos (by show (t.val * 512 + r.val) % 2048 = 2047; omega)]
    · rw [if_neg h4, if_neg (by show ¬ (t.val * 512 + r.val) % 2048 = 2047; omega), next_at m c t (by omega)]
      exact congrArg (fun p => V m c main_arg2 (ix2 p l)) (Fin.ext (by show t.val * 512 + 512 = (t.val * 512 + r.val + 1) % 16384; omega))
  · rw [if_neg hr, if_neg (by show ¬ (t.val * 512 + r.val) % 2048 = 2047; omega), z_at]
    exact congrArg (fun p => V m c main_arg2 (ix2 p l)) (Fin.ext (by show t.val * 512 + (r.val + 1) % 512 = (t.val * 512 + r.val + 1) % 16384; omega))

/-- The row after the projection, of the argument arrays. -/
def rowOut (c : Dev nD) (t : Fin cfg0.N) (r : Fin 512) (e : Fin 1024) : EReal :=
  added (fun e => V m c main_arg5 (ix2 (row t r) e)) (fun e => V m c main_arg6 (ix3 (batch t) 0 e))
    (fun e => projected (fun q => V m c main_arg0 (ix2 (row t r) q)) (fun q => V m c main_arg1 (ix2 (row t r) q))
      (mixed (fun p l => V m c main_arg2 (ix2 p l)) (fun n l => V m c main_arg3 (ix2 n l)) (row t r)) (fun q => V m c main_arg4 (ix2 q e))) e

/-- The row that a point stores is the row after the projection. -/
theorem stored_row (c : Dev nD) (t : Fin cfg0.N) (r : Fin 512) (e : Fin 1024) :
    k0_pay1 (F := Ideal) (iblk m c 7 t) (k0_pay8 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 r e) = rowOut m c t r e := by
  refine (pay1_at _ _ r e).trans (congrArg₂ (· + ·) (x_at m c t r e) ((pay8_at (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r e).trans (congrArg₂ (· * ·) (gm_at m c t e) ?_)))
  refine projected_congr (a_at m c t r) (gb_at m c t r) (fun l => ?_) (fun q => w_at m c t q e)
  exact congrArg₂ (· + ·) (congrArg₂ (· + ·) (congrArg₂ (· * ·) (before_row m c t r l) (k_at m c t 0 l)) (congrArg₂ (· * ·) (z_at m c t r l) (k_at m c t 1 l)))
    (congrArg₂ (· * ·) (after_row m c t r l) (k_at m c t 2 l))

/-- The first result array in the block of a point. -/
theorem block_h (c : Dev nD) (t : Fin cfg0.N) (r : Fin 512) (e : Fin 1024) : (dats m 0 c).arrAt 12 cfg0.N (ix2 (row t r) e) = rowOut m c t r e := by
  have h := congrFun (blocks12 m c t (flush0_12 t)) (ix2 r e)
  rw [flushed12, out12_eq] at h
  rw [← out_at]
  exact h.trans (stored_row m c t r e)

/-- The second result array in the block of a point. -/
theorem block_m (c : Dev nD) (t : Fin cfg0.N) (r : Fin 512) (e : Fin 1024) : (dats m 0 c).arrAt 13 cfg0.N (ix2 (row t r) e)
    = modulated (rowOut m c t r) (fun e => V m c main_arg7 (ix2 0 e)) (fun e => V m c main_arg9 (ix3 (batch t) 0 e)) (fun e => V m c main_arg8 (ix3 (batch t) 0 e)) e := by
  have h := congrFun (blocks13 m c t (flush0_13 t)) (ix2 r e)
  rw [flushed13, out13_eq] at h
  rw [← outm_at]
  exact h.trans ((pay2_at _ _ _ _ _ r e).trans (modulated_congr (stored_row m c t r) (g_at m c t 0) (sc_at m c t) (sh_at m c t) e))

end Cert.Proof.OutprojRun

end
-- ==== Proof.OutprojRef.lean ====
/- What the reference of the output projection computes, at an index. -/
module

public import proofs.«01_k».proof.Proof.Gen.OutprojReferenceIdeal.Read
public import proofs.«01_k».proof.Proof.OutprojMath
public import Idealize.ShloMosaic.Lib.KernelVsHost
public import Idealize.ShloMosaic.Lib.Pointwise

@[expose] public section

set_option maxRecDepth 16384

noncomputable section

namespace Cert.Proof.OutprojRef

open Idealize.ShloMosaic Idealize.ShloMosaic.TcCoe Idealize.SL.Sem
open Cert.OutprojReferenceIdeal Cert.OutprojReferenceIdeal.Gen Cert.OutprojReferenceIdeal.Read Cert.Proof.FfnMath Cert.Proof.OutprojMath

variable (a0 gb z : FVec Ideal S16384x512 .bf16) (k : FVec Ideal S3x512 .f32) (w : FVec Ideal S1024x1024 .bf16)
  (x : FVec Ideal S16384x1024 .f32) (gm : FVec Ideal S8x1x1024 .f32) (g : FVec Ideal S1x1024 .f32) (sh sc : FVec Ideal S8x1x1024 .f32)

/-- Row s of batch b among all rows. -/
def flat (b : Fin 8) (s : Fin 2048) : Fin 16384 := ⟨b.val * 2048 + s.val, by omega⟩

/-- A row of a batch with a row of zeros on either side. -/
theorem inside (b : Fin 8) (s : Fin 2048) (l : Fin 512) (n : Fin 2050) (h : n.val = 1 + s.val) : val_main_v2 (F := Ideal) z (ix3 b n l) = z (ix2 (flat b s) l) := by
  unfold val_main_v2
  refine (pad_apply_of_inside ![0, 1, 0] ![0, 1, 0] ![0, 0, 0] (val_main_v1 (F := Ideal) z) (val_main_call0_v0 (F := Ideal)) pads_S8x2048x512_S8x2050x512_000_110_000 h_S_ (ix3 b n l) (ix3 b s l)
    (fun a => ?_)).trans ?_
  · match a with
    | ⟨0, _⟩ => show b.val = 0 + b.val * 1; omega
    | ⟨1, _⟩ => show n.val = 1 + s.val * 1; omega
    | ⟨2, _⟩ => show l.val = 0 + l.val * 1; omega
  · rw [val_main_v1_apply]
    refine congrArg z (funext fun a => Fin.ext ?_)
    match a with
    | ⟨0, _⟩ => show ((b.val * 2048 + s.val) * 512 + l.val) / 512 = b.val * 2048 + s.val; omega
    | ⟨1, _⟩ => show ((b.val * 2048 + s.val) * 512 + l.val) % 512 = l.val; omega

/-- The rows of zeros. -/
theorem outside (b : Fin 8) (l : Fin 512) (n : Fin 2050) (h : n.val = 0 ∨ n.val = 2049) : val_main_v2 (F := Ideal) z (ix3 b n l) = 0 := by
  unfold val_main_v2
  refine (pad_apply_of_not_inside ![0, 1, 0] ![0, 1, 0] ![0, 0, 0] (val_main_v1 (F := Ideal) z) (val_main_call0_v0 (F := Ideal)) pads_S8x2048x512_S8x2050x512_000_110_000 h_S_ (ix3 b n l) 1
    (fun hh => ?_)).trans ?_
  · have h1 : 1 ≤ n.val := hh.1
    have h2 : (n.val - 1) / 1 < 2048 := hh.2.2
    omega
  · show (((0#32).toInt : ℝ) : EReal) = 0
    simp

theorem tap0 (b : Fin 8) (s : Fin 2048) (l : Fin 512) : val_main_v7 (F := Ideal) k (ix3 b s l) = k (ix2 0 l) := by
  rw [val_main_v7_apply, val_main_v6_apply, val_main_v5_apply, val_main_v4_apply]
  refine congrArg k (funext fun a => Fin.ext ?_)
  match a with
  | ⟨0, _⟩ => rfl
  | ⟨1, _⟩ => exact Nat.mod_eq_of_lt l.isLt

theorem tap1 (b : Fin 8) (s : Fin 2048) (l : Fin 512) : val_main_v13 (F := Ideal) k (ix3 b s l) = k (ix2 1 l) := by
  rw [val_main_v13_apply, val_main_v12_apply, val_main_v11_apply, val_main_v10_apply]
  refine congrArg k (funext fun a => Fin.ext ?_)
  match a with
  | ⟨0, _⟩ => rfl
  | ⟨1, _⟩ => exact Nat.mod_eq_of_lt l.isLt

theorem tap2 (b : Fin 8) (s : Fin 2048) (l : Fin 512) : val_main_v20 (F := Ideal) k (ix3 b s l) = k (ix2 2 l) := by
  rw [val_main_v20_apply, val_main_v19_apply, val_main_v18_apply, val_main_v17_apply]
  refine congrArg k (funext fun a => Fin.ext ?_)
  match a with
  | ⟨0, _⟩ => rfl
  | ⟨1, _⟩ => exact Nat.mod_eq_of_lt l.isLt

theorem before_lane (b : Fin 8) (s : Fin 2048) (l : Fin 512) : val_main_v3 (F := Ideal) z (ix3 b s l) = earlier (fun p l => z (ix2 p l)) (flat b s) l := by
  have e : idx_main_v3 (ix3 b s l) = ix3 b (⟨s.val, by omega⟩ : Fin 2050) l := funext fun a => match a with
    | ⟨0, _⟩ => rfl
    | ⟨1, _⟩ => rfl
    | ⟨2, _⟩ => rfl
  rw [val_main_v3_apply, e]
  unfold earlier
  by_cases h : s.val = 0
  · rw [if_pos (by show (b.val * 2048 + s.val) % 2048 = 0; omega)]
    exact outside z b l _ (Or.inl h)
  · rw [if_neg (by show ¬ (b.val * 2048 + s.val) % 2048 = 0; omega)]
    refine (inside z b ⟨s.val - 1, by omega⟩ l _ (by show s.val = 1 + (s.val - 1); omega)).trans ?_
    exact congrArg (fun p => z (ix2 p l)) (Fin.ext (by show b.val * 2048 + (s.val - 1) = b.val * 2048 + s.val - 1; omega))

theorem own_lane (b : Fin 8) (s : Fin 2048) (l : Fin 512) : val_main_v9 (F := Ideal) z (ix3 b s l) = z (ix2 (flat b s) l) := by
  have e : idx_main_v9 (ix3 b s l) = ix3 b (⟨1 + s.val, by omega⟩ : Fin 2050) l := funext fun a => match a with
    | ⟨0, _⟩ => rfl
    | ⟨1, _⟩ => rfl
    | ⟨2, _⟩ => rfl
  rw [val_main_v9_apply, e]
  exact inside z b s l _ rfl

theorem after_lane (b : Fin 8) (s : Fin 2048) (l : Fin 512) : val_main_v16 (F := Ideal) z (ix3 b s l) = later (fun p l => z (ix2 p l)) (flat b s) l := by
  have e : idx_main_v16 (ix3 b s l) = ix3 b (⟨2 + s.val, by omega⟩ : Fin 2050) l := funext fun a => match a with
    | ⟨0, _⟩ => rfl
    | ⟨1, _⟩ => rfl
    | ⟨2, _⟩ => rfl
  rw [val_main_v16_apply, e]
  unfold later
  by_cases h : s.val = 2047
  · rw [if_pos (by show (b.val * 2048 + s.val) % 2048 = 2047; omega)]
    exact outside z b l _ (Or.inr (by show 2 + s.val = 2049; omega))
  · rw [if_neg (by show ¬ (b.val * 2048 + s.val) % 2048 = 2047; omega)]
    refine (inside z b ⟨s.val + 1, by omega⟩ l _ (by show 2 + s.val = 1 + (s.val + 1); omega)).trans ?_
    exact congrArg (fun p => z (ix2 p l)) (Fin.ext (by show b.val * 2048 + (s.val + 1) = (b.val * 2048 + s.val + 1) % 16384; omega))

/-- The three rows around a row, each times its taps. -/
theorem mixed_lane (b : Fin 8) (s : Fin 2048) (l : Fin 512) : val_main_v22 (F := Ideal) z k (ix3 b s l) = mixed (fun p l => z (ix2 p l)) (fun n l => k (ix2 n l)) (flat b s) l := by
  rw [val_main_v22_apply, val_main_v15_apply, val_main_v8_apply, val_main_v14_apply, val_main_v21_apply, tap0, tap1, tap2, before_lane, own_lane, after_lane]
  rfl

/-- The gated lanes. -/
theorem gated_lane (b : Fin 8) (s : Fin 2048) (l : Fin 512) : val_main_v26 (F := Ideal) gb z k (ix2 (flat b s) l)
    = gb (ix2 (flat b s) l) * mixed (fun p l => z (ix2 p l)) (fun n l => k (ix2 n l)) (flat b s) l := by
  rw [val_main_v26_apply, val_main_v25_apply, val_main_v24_apply]
  refine congrArg₂ (· * ·) rfl ((congrArg _ (funext fun a => Fin.ext ?_)).trans (mixed_lane z k b s l))
  match a with
  | ⟨0, _⟩ => show ((b.val * 2048 + s.val) * 512 + l.val) / 1048576 = b.val; omega
  | ⟨1, _⟩ => show ((b.val * 2048 + s.val) * 512 + l.val) / 512 % 2048 = s.val; omega
  | ⟨2, _⟩ => show ((b.val * 2048 + s.val) * 512 + l.val) % 512 = l.val; omega

/-- Attention's lanes come first. -/
theorem left_lane (p : Fin 16384) (q : Fin 512) : val_main_v27 (F := Ideal) a0 gb z k (ix2 p (⟨q.val, by omega⟩ : Fin 1024)) = a0 (ix2 p q) := by
  unfold val_main_v27
  exact concatenate_apply_piece 1 [⟨S16384x512, (val_main_v23 (F := Ideal) a0)⟩, ⟨S16384x512, (val_main_v26 (F := Ideal) gb z k)⟩] concatenates_S16384x512_S16384x512_S16384x1024_d1
    (ix2 p _) 0 (Nat.le_of_ble_eq_true rfl) S16384x512 (val_main_v23 (F := Ideal) a0) rfl rfl 0 rfl (ix2 p q) (fun b hb => match b with
      | ⟨0, _⟩ => rfl
      | ⟨1, _⟩ => absurd rfl hb) (Nat.zero_add q.val)

/-- The gated lanes come after them. -/
theorem right_lane (p : Fin 16384) (q : Fin 512) : val_main_v27 (F := Ideal) a0 gb z k (ix2 p (⟨512 + q.val, by omega⟩ : Fin 1024)) = val_main_v26 (F := Ideal) gb z k (ix2 p q) := by
  unfold val_main_v27
  exact concatenate_apply_piece 1 [⟨S16384x512, (val_main_v23 (F := Ideal) a0)⟩, ⟨S16384x512, (val_main_v26 (F := Ideal) gb z k)⟩] concatenates_S16384x512_S16384x512_S16384x1024_d1
    (ix2 p _) 1 (Nat.le_of_ble_eq_true rfl) S16384x512 (val_main_v26 (F := Ideal) gb z k) rfl rfl 512 rfl (ix2 p q) (fun b hb => match b with
      | ⟨0, _⟩ => rfl
      | ⟨1, _⟩ => absurd rfl hb) rfl

/-- An output lane of a row. -/
theorem projected_lane (b : Fin 8) (s : Fin 2048) (e : Fin 1024) : val_main_v29 (F := Ideal) a0 gb z k w (ix2 (flat b s) e)
    = projected (fun q => a0 (ix2 (flat b s) q)) (fun q => gb (ix2 (flat b s) q)) (mixed (fun p l => z (ix2 p l)) (fun n l => k (ix2 n l)) (flat b s)) (fun q => w (ix2 q e)) := by
  have hl : ∀ q, lidx_main_v29 (ix2 (flat b s) e) q = ix2 (flat b s) q := fun q => funext fun a => match a with
    | ⟨0, _⟩ => rfl
    | ⟨1, _⟩ => rfl
  have hr : ∀ q, ridx_main_v29 (ix2 (flat b s) e) q = ix2 q e := fun q => funext fun a => match a with
    | ⟨0, _⟩ => rfl
    | ⟨1, _⟩ => rfl
  rw [val_main_v29_apply]
  refine (Fin.sum_univ_add (a := 512) (b := 512) (fun q : Fin (512 + 512) => val_main_v27 (F := Ideal) a0 gb z k (lidx_main_v29 (ix2 (flat b s) e) q) * val_main_v28 (F := Ideal) w (ridx_main_v29 (ix2 (flat b s) e) q))).trans ?_
  unfold projected
  refine congrArg₂ (· + ·) (Finset.sum_congr rfl fun q _ => ?_) (Finset.sum_congr rfl fun q _ => ?_)
  · rw [hl, hr, val_main_v28_apply]
    exact congrArg₂ (· * ·) (left_lane a0 gb z k (flat b s) q) rfl
  · rw [hl, hr, val_main_v28_apply]
    exact congrArg₂ (· * ·) ((right_lane a0 gb z k (flat b s) q).trans (gated_lane gb z k b s q)) rfl

/-- Where the rows of a batch lie in the array of all rows. -/
theorem row_idx (b : Fin 8) (s : Fin 2048) (e : Fin 1024) : idx_main_v30 (ix3 b s e) = ix2 (flat b s) e := by
  refine funext fun a => Fin.ext ?_
  match a with
  | ⟨0, _⟩ => show ((b.val * 2048 + s.val) * 1024 + e.val) / 1024 = b.val * 2048 + s.val; omega
  | ⟨1, _⟩ => show ((b.val * 2048 + s.val) * 1024 + e.val) % 1024 = e.val; omega

/-- The row after the projection. -/
theorem added_lane (b : Fin 8) (s : Fin 2048) (e : Fin 1024) : val_main_v34 (F := Ideal) a0 gb z k w x gm (ix3 b s e)
    = added (fun e => x (ix2 (flat b s) e)) (fun e => gm (ix3 b 0 e))
        (fun e => projected (fun q => a0 (ix2 (flat b s) q)) (fun q => gb (ix2 (flat b s) q)) (mixed (fun p l => z (ix2 p l)) (fun n l => k (ix2 n l)) (flat b s)) (fun q => w (ix2 q e))) e := by
  rw [val_main_v34_apply, val_main_v33_apply, val_main_v32_apply, val_main_v31_apply, val_main_v30_apply]
  refine congrArg₂ (· + ·) (congrArg x (row_idx b s e)) (congrArg₂ (· * ·) (congrArg gm (funext fun a => ?_)) ?_)
  · match a with
    | ⟨0, _⟩ => rfl
    | ⟨1, _⟩ => rfl
    | ⟨2, _⟩ => rfl
  · exact (congrArg _ (row_idx b s e)).trans (projected_lane a0 gb z k w b s e)

/-- The sum of squares of a row. -/
theorem squares_lane (b : Fin 8) (s : Fin 2048) : val_main_v36 (F := Ideal) a0 gb z k w x gm (ix2 b s)
    = ∑ y : Fin 1024, val_main_v34 (F := Ideal) a0 gb z k w x gm (ix3 b s y) * val_main_v34 (F := Ideal) a0 gb z k w x gm (ix3 b s y) := by
  rw [val_main_v36_apply, show val_main_cst (F := Ideal) _ = 0 by pointwise [val_main_cst], zero_add]
  refine Finset.sum_congr rfl fun y _ => ?_
  rw [val_main_v35_apply, show idx_main_v36 (ix2 b s) y = ix3 b s y from funext fun a => match a with
    | ⟨0, _⟩ => rfl
    | ⟨1, _⟩ => rfl
    | ⟨2, _⟩ => rfl]
  rfl

/-- One over the root of a row's mean square. -/
theorem rms_lane (b : Fin 8) (s : Fin 2048) (e : Fin 1024) : val_main_v43 (F := Ideal) a0 gb z k w x gm (ix3 b s e)
    = inverseRms (fun y => val_main_v34 (F := Ideal) a0 gb z k w x gm (ix3 b s y)) := by
  rw [val_main_v43_apply, val_main_v42_apply, val_main_v41_apply, val_main_v40_apply, val_main_v39_apply, val_main_v38_apply, val_main_v37_apply]
  unfold inverseRms
  rw [← squares_lane]
  refine congrArg Ideal.rsqrt (congrArg₂ (· + ·) (congrArg₂ Ideal.div (congrArg _ (funext fun a => ?_)) ?_) ?_)
  · match a with
    | ⟨0, _⟩ => rfl
    | ⟨1, _⟩ => rfl
  · rfl
  · rfl

/-- The row after the projection, normalized, scaled and shifted. -/
theorem modulated_lane (b : Fin 8) (s : Fin 2048) (e : Fin 1024) : val_main_v54 (F := Ideal) a0 gb z k w x gm g sh sc (ix3 b s e)
    = modulated (fun y => val_main_v34 (F := Ideal) a0 gb z k w x gm (ix3 b s y)) (fun y => g (ix2 0 y)) (fun y => sc (ix3 b 0 y)) (fun y => sh (ix3 b 0 y)) e := by
  rw [val_main_v54_apply, val_main_v53_apply, val_main_v52_apply, val_main_v51_apply, val_main_v50_apply, val_main_v49_apply, val_main_v48_apply,
    val_main_v47_apply, val_main_v46_apply, val_main_v45_apply, val_main_v44_apply, rms_lane,
    show val_main_cst_2 (F := Ideal) _ = 1 by pointwise [val_main_cst_2]]
  unfold modulated
  rw [← mul_assoc]
  refine congrArg₂ (· + ·) (congrArg₂ (· * ·) (congrArg₂ (· * ·) rfl (congrArg g (funext fun a => ?_))) (congrArg₂ (· + ·) rfl (congrArg sc (funext fun a => ?_))))
    (congrArg sh (funext fun a => ?_))
  · match a with
    | ⟨0, _⟩ => exact Subsingleton.elim (α := Fin 1) _ _
    | ⟨1, _⟩ => exact Fin.ext (Nat.mod_eq_of_lt e.isLt)
  · match a with
    | ⟨0, _⟩ => rfl
    | ⟨1, _⟩ => rfl
    | ⟨2, _⟩ => rfl
  · match a with
    | ⟨0, _⟩ => rfl
    | ⟨1, _⟩ => rfl
    | ⟨2, _⟩ => rfl

/-- Which row of which batch a row of the array of all rows is. -/
theorem unrow_idx (b : Fin 8) (s : Fin 2048) (e : Fin 1024) : idx_main_v55 (ix2 (flat b s) e) = ix3 b s e := by
  refine funext fun a => Fin.ext ?_
  match a with
  | ⟨0, _⟩ => show ((b.val * 2048 + s.val) * 1024 + e.val) / 2097152 = b.val; omega
  | ⟨1, _⟩ => show ((b.val * 2048 + s.val) * 1024 + e.val) / 1024 % 2048 = s.val; omega
  | ⟨2, _⟩ => show ((b.val * 2048 + s.val) * 1024 + e.val) % 1024 = e.val; omega

/-- The first result at a row and a lane. -/
theorem result_h (b : Fin 8) (s : Fin 2048) (e : Fin 1024) : val_main_v55 (F := Ideal) a0 gb z k w x gm (ix2 (flat b s) e)
    = val_main_v34 (F := Ideal) a0 gb z k w x gm (ix3 b s e) := by
  rw [val_main_v55_apply]
  exact congrArg _ (unrow_idx b s e)

/-- The second result at a row and a lane. -/
theorem result_m (b : Fin 8) (s : Fin 2048) (e : Fin 1024) : val_main_v57 (F := Ideal) a0 gb z k w x gm g sh sc (ix2 (flat b s) e)
    = val_main_v54 (F := Ideal) a0 gb z k w x gm g sh sc (ix3 b s e) := by
  rw [val_main_v57_apply, val_main_v56_apply]
  exact congrArg (val_main_v54 (F := Ideal) a0 gb z k w x gm g sh sc) (unrow_idx b s e)

end Cert.Proof.OutprojRef

end
-- ==== Proof.OutprojClaim.lean ====
/- The claims of the attention's output projection: that it runs, and that it computes its reference. -/
module

public import proofs.«01_k».proof.Defs
public import proofs.«01_k».proof.Proof.Gen.OutprojKernel.Frame
public import proofs.«01_k».proof.Proof.Gen.OutprojKernelIdeal.Value
public import proofs.«01_k».proof.Proof.Gen.OutprojReferenceIdeal.Run
public import proofs.«01_k».proof.Proof.Gen.OutprojReferenceIdeal.Read
public import proofs.«01_k».proof.Proof.OutprojRun
public import proofs.«01_k».proof.Proof.OutprojRef
public import Idealize.ShloMosaic.Lib.Claim

@[expose] public section

set_option maxRecDepth 16384

noncomputable section

namespace Cert.Proof.OutprojClaim

open Idealize.ShloMosaic Idealize.ShloMosaic.TcCoe Idealize.SL.Sem

/-- The attention's output projection as it is run, at the bit-exact numbers. -/
theorem kernel : Cert.quiescent_OutprojKernel (hOutprojKernel := Cert.OutprojKernel.Gen.facts) := fun m ρ _ => Cert.OutprojKernel.Gen.frame m ρ

/-- It runs at the ideal numbers. -/
theorem ideal : Cert.quiescent_OutprojKernelIdeal (hOutprojKernelIdeal := Cert.OutprojKernelIdeal.Gen.facts) := fun m ρ _ => Cert.OutprojKernelIdeal.Gen.frame m ρ

/-- The reference runs. -/
theorem reference : Cert.quiescent_OutprojReferenceIdeal (hOutprojReferenceIdeal := Cert.OutprojReferenceIdeal.Gen.facts) := by
  intro m ρ _
  exact (θ_run Cert.OutprojReferenceIdeal.defs _ _).mono (fun r h => ⟨fun c => (h c).2.2, sem_eq_zero_of_no_sems (by decide) r.2⟩)
    (Cert.OutprojReferenceIdeal.Value.run m ρ)

section
open Cert.OutprojKernelIdeal Cert.OutprojKernelIdeal.Gen

variable (m : (ℓ : Loc nD τ sig) → Buf (Elt Ideal) ℓ) (c : Dev nD)

/-- Every row is one of a batch's, and one of a point's block. -/
theorem rows (p : Fin 16384) : ∃ (t : Fin cfg0.N) (r : Fin 512) (s : Fin 2048), OutprojRun.row t r = p ∧ OutprojRef.flat (OutprojRun.batch t) s = p := by
  have hp := p.isLt
  refine ⟨⟨p.val / 512, (by omega : p.val / 512 < 32)⟩, ⟨p.val % 512, by omega⟩, ⟨p.val % 2048, by omega⟩, Fin.ext ?_, Fin.ext ?_⟩
  · show p.val / 512 * 512 + p.val % 512 = p.val; omega
  · show p.val / 512 / 4 * 2048 + p.val % 2048 = p.val; omega

/-- The reference's row after the projection is the kernel's. -/
theorem same_row (t : Fin cfg0.N) (r : Fin 512) (s : Fin 2048) (h : OutprojRun.row t r = OutprojRef.flat (OutprojRun.batch t) s) (e : Fin 1024) :
    Cert.OutprojReferenceIdeal.Read.val_main_v34 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (ix3 (OutprojRun.batch t) s e) = OutprojRun.rowOut m c t r e := by
  refine (OutprojRef.added_lane _ _ _ _ _ _ _ (OutprojRun.batch t) s e).trans ?_
  rw [← h]
  rfl

/-- The first result. -/
theorem first : Cert.OutprojReferenceIdeal.Read.val_main_v55 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) = (dats m 0 c).arrAt 12 cfg0.N := by
  funext i
  obtain ⟨p, e, rfl⟩ : ∃ p e, i = ix2 p e := ⟨i 0, i 1, (ix2_eta i).symm⟩
  obtain ⟨t, r, s, hr, hs⟩ := rows p
  refine Eq.trans ?_ ((OutprojRun.block_h m c t r e).symm.trans (congrArg (fun p => (dats m 0 c).arrAt 12 cfg0.N (ix2 p e)) hr))
  refine Eq.trans (congrArg (fun p => Cert.OutprojReferenceIdeal.Read.val_main_v55 (F := Ideal) _ _ _ _ _ _ _ (ix2 p e)) hs.symm) ?_
  exact (OutprojRef.result_h _ _ _ _ _ _ _ (OutprojRun.batch t) s e).trans (same_row m c t r s (hr.trans hs.symm) e)

/-- The second result. -/
theorem second : Cert.OutprojReferenceIdeal.Read.val_main_v57 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) = (dats m 0 c).arrAt 13 cfg0.N := by
  funext i
  obtain ⟨p, e, rfl⟩ : ∃ p e, i = ix2 p e := ⟨i 0, i 1, (ix2_eta i).symm⟩
  obtain ⟨t, r, s, hr, hs⟩ := rows p
  refine Eq.trans ?_ ((OutprojRun.block_m m c t r e).symm.trans (congrArg (fun p => (dats m 0 c).arrAt 13 cfg0.N (ix2 p e)) hr))
  refine Eq.trans (congrArg (fun p => Cert.OutprojReferenceIdeal.Read.val_main_v57 (F := Ideal) _ _ _ _ _ _ _ _ _ _ (ix2 p e)) hs.symm) ?_
  refine (OutprojRef.result_m _ _ _ _ _ _ _ _ _ _ (OutprojRun.batch t) s e).trans ((OutprojRef.modulated_lane _ _ _ _ _ _ _ _ _ _ (OutprojRun.batch t) s e).trans ?_)
  exact FfnMath.modulated_congr (same_row m c t r s (hr.trans hs.symm)) (fun _ => rfl) (fun _ => rfl) (fun _ => rfl) e

end

/-- The output projection computes its reference, both results. -/
theorem value : Cert.algebraic_OutprojKernelIdeal_OutprojReferenceIdeal (hOutprojKernelIdeal := Cert.OutprojKernelIdeal.Gen.facts)
    (hOutprojReferenceIdeal := Cert.OutprojReferenceIdeal.Gen.facts) := by
  intro m g m' g' _ hagree
  refine ⟨fun c => (Cert.OutprojKernelIdeal.Gen.dats m 0 c).arrAt 12 Cert.OutprojKernelIdeal.cfg0.N, fun c => (Cert.OutprojKernelIdeal.Gen.dats m 0 c).arrAt 13 Cert.OutprojKernelIdeal.cfg0.N,
    Cert.OutprojKernelIdeal.Value.run_blocks m g, ?_⟩
  refine (θ_run Cert.OutprojReferenceIdeal.defs _ _).mono (fun r h c => ?_) (Cert.OutprojReferenceIdeal.Value.run m' g')
  obtain ⟨h0, h1, h2, h3, h4, h5, h6, h7, h8, h9⟩ := hagree c
  refine ⟨(h c).1.trans ?_, (h c).2.1.trans ?_, (h c).2.2⟩
  · refine (Cert.OutprojReferenceIdeal.Read.val_main_v55_eq (m' (c.tc.loc Cert.OutprojReferenceIdeal.main_arg0)) (m' (c.tc.loc Cert.OutprojReferenceIdeal.main_arg1)) (m' (c.tc.loc Cert.OutprojReferenceIdeal.main_arg2)) (m' (c.tc.loc Cert.OutprojReferenceIdeal.main_arg3)) (m' (c.tc.loc Cert.OutprojReferenceIdeal.main_arg4)) (m' (c.tc.loc Cert.OutprojReferenceIdeal.main_arg5)) (m' (c.tc.loc Cert.OutprojReferenceIdeal.main_arg6))).trans ?_
    show Cert.OutprojReferenceIdeal.Read.val_main_v55 (F := Ideal) (m' (c.tc.loc Cert.OutprojReferenceIdeal.main_arg0)) (m' (c.tc.loc Cert.OutprojReferenceIdeal.main_arg1)) (m' (c.tc.loc Cert.OutprojReferenceIdeal.main_arg2)) (m' (c.tc.loc Cert.OutprojReferenceIdeal.main_arg3)) (m' (c.tc.loc Cert.OutprojReferenceIdeal.main_arg4)) (m' (c.tc.loc Cert.OutprojReferenceIdeal.main_arg5)) (m' (c.tc.loc Cert.OutprojReferenceIdeal.main_arg6)) = _
    rw [h0, h1, h2, h3, h4, h5, h6]
    exact first m c
  · refine (Cert.OutprojReferenceIdeal.Read.val_main_v57_eq m' c).trans ?_
    show Cert.OutprojReferenceIdeal.Read.val_main_v57 (F := Ideal) (m' (c.tc.loc Cert.OutprojReferenceIdeal.main_arg0)) (m' (c.tc.loc Cert.OutprojReferenceIdeal.main_arg1)) (m' (c.tc.loc Cert.OutprojReferenceIdeal.main_arg2)) (m' (c.tc.loc Cert.OutprojReferenceIdeal.main_arg3)) (m' (c.tc.loc Cert.OutprojReferenceIdeal.main_arg4)) (m' (c.tc.loc Cert.OutprojReferenceIdeal.main_arg5)) (m' (c.tc.loc Cert.OutprojReferenceIdeal.main_arg6)) (m' (c.tc.loc Cert.OutprojReferenceIdeal.main_arg7)) (m' (c.tc.loc Cert.OutprojReferenceIdeal.main_arg8)) (m' (c.tc.loc Cert.OutprojReferenceIdeal.main_arg9)) = _
    rw [h0, h1, h2, h3, h4, h5, h6, h7, h8, h9]
    exact second m c

end Cert.Proof.OutprojClaim

end
-- ==== Proof.lean ====
module

public import proofs.«01_k».proof.Proof.AttnClaim
public import proofs.«01_k».proof.Proof.MoeClaim
public import proofs.«01_k».proof.Proof.FfnClaim
public import proofs.«01_k».proof.Proof.InprojClaim
public import proofs.«01_k».proof.Proof.SguClaim
public import proofs.«01_k».proof.Proof.OutprojClaim

@[expose] public section

noncomputable section

namespace Cert.Proof

/-- All the claims, of the modules under Proof/. -/
theorem claim : Cert.Claim := ⟨Cert.Kernel.Gen.facts, Cert.KernelIdeal.Gen.facts, Cert.ReferenceIdeal.Gen.facts,
  Cert.MoeKernel.Gen.facts, Cert.MoeKernelIdeal.Gen.facts, Cert.MoeReferenceIdeal.Gen.facts,
  Cert.FfnKernel.Gen.facts, Cert.FfnKernelIdeal.Gen.facts, Cert.FfnReferenceIdeal.Gen.facts,
  Cert.InprojKernel.Gen.facts, Cert.InprojKernelIdeal.Gen.facts, Cert.InprojReferenceIdeal.Gen.facts,
  Cert.SguKernel.Gen.facts, Cert.SguKernelIdeal.Gen.facts, Cert.SguReferenceIdeal.Gen.facts,
  Cert.OutprojKernel.Gen.facts, Cert.OutprojKernelIdeal.Gen.facts, Cert.OutprojReferenceIdeal.Gen.facts,
  Cert.Pre_finite.Gen.facts, Cert.Pre_tables_in_range.Gen.facts, Cert.Pre_tables_of_heads.Gen.facts, Cert.On_rows_in_use.Gen.facts,
  AttnClaim.kernel, AttnClaim.ideal, AttnClaim.ideal_finite, AttnClaim.reference, AttnClaim.reference_finite,
  MoeClaim.kernel, MoeClaim.ideal, MoeClaim.reference, MoeClaim.reference_in_range,
  FfnClaim.kernel, FfnClaim.ideal, FfnClaim.reference,
  InprojClaim.kernel, InprojClaim.ideal, InprojClaim.ideal_tables, InprojClaim.reference, InprojClaim.reference_tables,
  SguClaim.kernel, SguClaim.ideal, SguClaim.reference,
  OutprojClaim.kernel, OutprojClaim.ideal, OutprojClaim.reference,
  trivial, AttnClaim.value, trivial, MoeClaim.value, trivial, FfnClaim.value,
  trivial, InprojClaim.value, trivial, SguClaim.value, trivial, OutprojClaim.value⟩

end Cert.Proof

end
